-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.2 = (fun _ => 1#1)

def Pre_XattnKernel (m : (ℓ : Loc Cert.XattnKernel.nD Cert.XattnKernel.τ Cert.XattnKernel.sig) → Buf (Elt Bits) ℓ) : Prop :=
  True

def Pre_XattnKernelIdeal (m : (ℓ : Loc Cert.XattnKernelIdeal.nD Cert.XattnKernelIdeal.τ Cert.XattnKernelIdeal.sig) → Buf (Elt Ideal) ℓ) : Prop :=
  True

def Pre_XattnKernelIdeal_xattn_finite [hPre_xattn_finite : Cert.Pre_xattn_finite.Facts] (m : (ℓ : Loc Cert.XattnKernelIdeal.nD Cert.XattnKernelIdeal.τ Cert.XattnKernelIdeal.sig) → Buf (Elt Ideal) ℓ) : Prop :=
  ∀ c : Dev Cert.XattnKernelIdeal.nD,
    (Cert.Pre_xattn_finite.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5))).1 = (fun _ => 1#1)
    ∧ (Cert.Pre_xattn_finite.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5))).2.1 = (fun _ => 1#1)
    ∧ (Cert.Pre_xattn_finite.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5))).2.2.1 = (fun _ => 1#1)
    ∧ (Cert.Pre_xattn_finite.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5))).2.2.2.1 = (fun _ => 1#1)
    ∧ (Cert.Pre_xattn_finite.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5))).2.2.2.2 = (fun _ => 1#1)

def Pre_XattnReferenceIdeal (m : (ℓ : Loc Cert.XattnReferenceIdeal.nD Cert.XattnReferenceIdeal.τ Cert.XattnReferenceIdeal.sig) → Buf (Elt Ideal) ℓ) : Prop :=
  True

def Pre_XattnReferenceIdeal_xattn_finite [hPre_xattn_finite : Cert.Pre_xattn_finite.Facts] (m : (ℓ : Loc Cert.XattnReferenceIdeal.nD Cert.XattnReferenceIdeal.τ Cert.XattnReferenceIdeal.sig) → Buf (Elt Ideal) ℓ) : Prop :=
  ∀ c : Dev Cert.XattnReferenceIdeal.nD,
    (Cert.Pre_xattn_finite.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5))).1 = (fun _ => 1#1)
    ∧ (Cert.Pre_xattn_finite.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5))).2.1 = (fun _ => 1#1)
    ∧ (Cert.Pre_xattn_finite.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5))).2.2.1 = (fun _ => 1#1)
    ∧ (Cert.Pre_xattn_finite.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5))).2.2.2.1 = (fun _ => 1#1)
    ∧ (Cert.Pre_xattn_finite.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5))).2.2.2.2 = (fun _ => 1#1)

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_QueryKernel (m : (ℓ : Loc Cert.QueryKernel.nD Cert.QueryKernel.τ Cert.QueryKernel.sig) → Buf (Elt Bits) ℓ) : Prop :=
  True

def Pre_QueryKernelIdeal (m : (ℓ : Loc Cert.QueryKernelIdeal.nD Cert.QueryKernelIdeal.τ Cert.QueryKernelIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_PairKernel (m : (ℓ : Loc Cert.PairKernel.nD Cert.PairKernel.τ Cert.PairKernel.sig) → Buf (Elt Bits) ℓ) : Prop :=
  True

def Pre_PairKernelIdeal (m : (ℓ : Loc Cert.PairKernelIdeal.nD Cert.PairKernelIdeal.τ Cert.PairKernelIdeal.sig) → Buf (Elt Ideal) ℓ) : Prop :=
  True

def Pre_PairReferenceIdeal (m : (ℓ : Loc Cert.PairReferenceIdeal.nD Cert.PairReferenceIdeal.τ Cert.PairReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_XoKernel (m : (ℓ : Loc Cert.XoKernel.nD Cert.XoKernel.τ Cert.XoKernel.sig) → Buf (Elt Bits) ℓ) : Prop :=
  True

def Pre_XoKernelIdeal (m : (ℓ : Loc Cert.XoKernelIdeal.nD Cert.XoKernelIdeal.τ Cert.XoKernelIdeal.sig) → Buf (Elt Ideal) ℓ) : Prop :=
  True

def Pre_XoReferenceIdeal (m : (ℓ : Loc Cert.XoReferenceIdeal.nD Cert.XoReferenceIdeal.τ Cert.XoReferenceIdeal.sig) → Buf (Elt Ideal) ℓ) : Prop :=
  True

def Pre_RowsKernel (m : (ℓ : Loc Cert.RowsKernel.nD Cert.RowsKernel.τ Cert.RowsKernel.sig) → Buf (Elt Bits) ℓ) : Prop :=
  True

def Pre_RowsKernelIdeal (m : (ℓ : Loc Cert.RowsKernelIdeal.nD Cert.RowsKernelIdeal.τ Cert.RowsKernelIdeal.sig) → Buf (Elt Ideal) ℓ) : Prop :=
  True

def Pre_RowsReferenceIdeal (m : (ℓ : Loc Cert.RowsReferenceIdeal.nD Cert.RowsReferenceIdeal.τ Cert.RowsReferenceIdeal.sig) → Buf (Elt Ideal) ℓ) : Prop :=
  True

def Pre_JoinKernel (m : (ℓ : Loc Cert.JoinKernel.nD Cert.JoinKernel.τ Cert.JoinKernel.sig) → Buf (Elt Bits) ℓ) : Prop :=
  True

def Pre_JoinKernelIdeal (m : (ℓ : Loc Cert.JoinKernelIdeal.nD Cert.JoinKernelIdeal.τ Cert.JoinKernelIdeal.sig) → Buf (Elt Ideal) ℓ) : Prop :=
  True

def Pre_JoinReferenceIdeal (m : (ℓ : Loc Cert.JoinReferenceIdeal.nD Cert.JoinReferenceIdeal.τ Cert.JoinReferenceIdeal.sig) → Buf (Elt Ideal) ℓ) : Prop :=
  True

def Pre_SquareKernel (m : (ℓ : Loc Cert.SquareKernel.nD Cert.SquareKernel.τ Cert.SquareKernel.sig) → Buf (Elt Bits) ℓ) : Prop :=
  True

def Pre_SquareKernelIdeal (m : (ℓ : Loc Cert.SquareKernelIdeal.nD Cert.SquareKernelIdeal.τ Cert.SquareKernelIdeal.sig) → Buf (Elt Ideal) ℓ) : Prop :=
  True

def Pre_SquareReferenceIdeal (m : (ℓ : Loc Cert.SquareReferenceIdeal.nD Cert.SquareReferenceIdeal.τ Cert.SquareReferenceIdeal.sig) → Buf (Elt Ideal) ℓ) : Prop :=
  True

def Pre_WideKernel (m : (ℓ : Loc Cert.WideKernel.nD Cert.WideKernel.τ Cert.WideKernel.sig) → Buf (Elt Bits) ℓ) : Prop :=
  True

def Pre_WideKernelIdeal (m : (ℓ : Loc Cert.WideKernelIdeal.nD Cert.WideKernelIdeal.τ Cert.WideKernelIdeal.sig) → Buf (Elt Ideal) ℓ) : Prop :=
  True

def Pre_WideReferenceIdeal (m : (ℓ : Loc Cert.WideReferenceIdeal.nD Cert.WideReferenceIdeal.τ Cert.WideReferenceIdeal.sig) → Buf (Elt Ideal) ℓ) : Prop :=
  True

def Pre_InStepKernel (m : (ℓ : Loc Cert.InStepKernel.nD Cert.InStepKernel.τ Cert.InStepKernel.sig) → Buf (Elt Bits) ℓ) : Prop :=
  True

def Pre_InStepKernelIdeal (m : (ℓ : Loc Cert.InStepKernelIdeal.nD Cert.InStepKernelIdeal.τ Cert.InStepKernelIdeal.sig) → Buf (Elt Ideal) ℓ) : Prop :=
  True

def Pre_InStepReferenceIdeal (m : (ℓ : Loc Cert.InStepReferenceIdeal.nD Cert.InStepReferenceIdeal.τ Cert.InStepReferenceIdeal.sig) → Buf (Elt Ideal) ℓ) : Prop :=
  True

def Pre_FfnStepKernel (m : (ℓ : Loc Cert.FfnStepKernel.nD Cert.FfnStepKernel.τ Cert.FfnStepKernel.sig) → Buf (Elt Bits) ℓ) : Prop :=
  True

def Pre_FfnStepKernelIdeal (m : (ℓ : Loc Cert.FfnStepKernelIdeal.nD Cert.FfnStepKernelIdeal.τ Cert.FfnStepKernelIdeal.sig) → Buf (Elt Ideal) ℓ) : Prop :=
  True

def Pre_FfnStepReferenceIdeal (m : (ℓ : Loc Cert.FfnStepReferenceIdeal.nD Cert.FfnStepReferenceIdeal.τ Cert.FfnStepReferenceIdeal.sig) → Buf (Elt Ideal) ℓ) : Prop :=
  True

def Pre_BranchKernel (m : (ℓ : Loc Cert.BranchKernel.nD Cert.BranchKernel.τ Cert.BranchKernel.sig) → Buf (Elt Bits) ℓ) : Prop :=
  True

def Pre_BranchKernelIdeal (m : (ℓ : Loc Cert.BranchKernelIdeal.nD Cert.BranchKernelIdeal.τ Cert.BranchKernelIdeal.sig) → Buf (Elt Ideal) ℓ) : Prop :=
  True

def Pre_BranchReferenceIdeal (m : (ℓ : Loc Cert.BranchReferenceIdeal.nD Cert.BranchReferenceIdeal.τ Cert.BranchReferenceIdeal.sig) → Buf (Elt Ideal) ℓ) : Prop :=
  True

def Pre_KeysKernel (m : (ℓ : Loc Cert.KeysKernel.nD Cert.KeysKernel.τ Cert.KeysKernel.sig) → Buf (Elt Bits) ℓ) : Prop :=
  True

def Pre_KeysKernelIdeal (m : (ℓ : Loc Cert.KeysKernelIdeal.nD Cert.KeysKernelIdeal.τ Cert.KeysKernelIdeal.sig) → Buf (Elt Ideal) ℓ) : Prop :=
  True

def Pre_KeysReferenceIdeal (m : (ℓ : Loc Cert.KeysReferenceIdeal.nD Cert.KeysReferenceIdeal.τ Cert.KeysReferenceIdeal.sig) → Buf (Elt Ideal) ℓ) : Prop :=
  True

def Pre_CrossKernel (m : (ℓ : Loc Cert.CrossKernel.nD Cert.CrossKernel.τ Cert.CrossKernel.sig) → Buf (Elt Bits) ℓ) : Prop :=
  True

def Pre_CrossKernelIdeal (m : (ℓ : Loc Cert.CrossKernelIdeal.nD Cert.CrossKernelIdeal.τ Cert.CrossKernelIdeal.sig) → Buf (Elt Ideal) ℓ) : Prop :=
  True

def Pre_CrossReferenceIdeal (m : (ℓ : Loc Cert.CrossReferenceIdeal.nD Cert.CrossReferenceIdeal.τ Cert.CrossReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_MemoryKernel (m : (ℓ : Loc Cert.MemoryKernel.nD Cert.MemoryKernel.τ Cert.MemoryKernel.sig) → Buf (Elt Bits) ℓ) : Prop :=
  True

def Pre_MemoryKernelIdeal (m : (ℓ : Loc Cert.MemoryKernelIdeal.nD Cert.MemoryKernelIdeal.τ Cert.MemoryKernelIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_RecallKernel (m : (ℓ : Loc Cert.RecallKernel.nD Cert.RecallKernel.τ Cert.RecallKernel.sig) → Buf (Elt Bits) ℓ) : Prop :=
  True

def Pre_RecallKernelIdeal (m : (ℓ : Loc Cert.RecallKernelIdeal.nD Cert.RecallKernelIdeal.τ Cert.RecallKernelIdeal.sig) → Buf (Elt Ideal) ℓ) : Prop :=
  True

def Pre_RecallReferenceIdeal (m : (ℓ : Loc Cert.RecallReferenceIdeal.nD Cert.RecallReferenceIdeal.τ Cert.RecallReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6)
      ∧ r.2.mem ((c.tc : Thread Cert.InKernel.nD Cert.InKernel.τ).loc Cert.InKernel.main_arg7) = m ((c.tc : Thread Cert.InKernel.nD Cert.InKernel.τ).loc Cert.InKernel.main_arg7)
      ∧ r.2.mem ((c.tc : Thread Cert.InKernel.nD Cert.InKernel.τ).loc Cert.InKernel.main_arg8) = m ((c.tc : Thread Cert.InKernel.nD Cert.InKernel.τ).loc Cert.InKernel.main_arg8))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
      ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7)
      ∧ r.2.mem ((c.tc : Thread Cert.InReferenceIdeal.nD Cert.InReferenceIdeal.τ).loc Cert.InReferenceIdeal.main_arg8) = m ((c.tc : Thread Cert.InReferenceIdeal.nD Cert.InReferenceIdeal.τ).loc Cert.InReferenceIdeal.main_arg8))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_XattnKernel [hXattnKernel : Cert.XattnKernel.Facts] : Prop :=
  ∀ (m : (ℓ : Loc Cert.XattnKernel.nD Cert.XattnKernel.τ Cert.XattnKernel.sig) → Buf (Elt Bits) ℓ) (g : Dev Cert.XattnKernel.nD → PrngReg), Pre_XattnKernel m →
    θ_run (Cert.XattnKernel.defs (F := Bits)) (onTc (τ := Cert.XattnKernel.τ) (Cert.XattnKernel.main (F := Bits))) ⟨m, fun _ => 0, g⟩ (fun r => (∀ c : Dev Cert.XattnKernel.nD,
      r.2.mem ((c.tc : Thread Cert.XattnKernel.nD Cert.XattnKernel.τ).loc Cert.XattnKernel.main_arg0) = m ((c.tc : Thread Cert.XattnKernel.nD Cert.XattnKernel.τ).loc Cert.XattnKernel.main_arg0)
      ∧ r.2.mem ((c.tc : Thread Cert.XattnKernel.nD Cert.XattnKernel.τ).loc Cert.XattnKernel.main_arg1) = m ((c.tc : Thread Cert.XattnKernel.nD Cert.XattnKernel.τ).loc Cert.XattnKernel.main_arg1)
      ∧ r.2.mem ((c.tc : Thread Cert.XattnKernel.nD Cert.XattnKernel.τ).loc Cert.XattnKernel.main_arg2) = m ((c.tc : Thread Cert.XattnKernel.nD Cert.XattnKernel.τ).loc Cert.XattnKernel.main_arg2)
      ∧ r.2.mem ((c.tc : Thread Cert.XattnKernel.nD Cert.XattnKernel.τ).loc Cert.XattnKernel.main_arg3) = m ((c.tc : Thread Cert.XattnKernel.nD Cert.XattnKernel.τ).loc Cert.XattnKernel.main_arg3)
      ∧ r.2.mem ((c.tc : Thread Cert.XattnKernel.nD Cert.XattnKernel.τ).loc Cert.XattnKernel.main_arg4) = m ((c.tc : Thread Cert.XattnKernel.nD Cert.XattnKernel.τ).loc Cert.XattnKernel.main_arg4)
      ∧ r.2.mem ((c.tc : Thread Cert.XattnKernel.nD Cert.XattnKernel.τ).loc Cert.XattnKernel.main_arg5) = m ((c.tc : Thread Cert.XattnKernel.nD Cert.XattnKernel.τ).loc Cert.XattnKernel.main_arg5))
      ∧ r.2.sem = fun _ => 0)

def quiescent_XattnKernelIdeal [hXattnKernelIdeal : Cert.XattnKernelIdeal.Facts] : Prop :=
  ∀ (m : (ℓ : Loc Cert.XattnKernelIdeal.nD Cert.XattnKernelIdeal.τ Cert.XattnKernelIdeal.sig) → Buf (Elt Ideal) ℓ) (g : Dev Cert.XattnKernelIdeal.nD → PrngReg), Pre_XattnKernelIdeal m →
    θ_run (Cert.XattnKernelIdeal.defs (F := Ideal)) (onTc (τ := Cert.XattnKernelIdeal.τ) (Cert.XattnKernelIdeal.main (F := Ideal))) ⟨m, fun _ => 0, g⟩ (fun r => (∀ c : Dev Cert.XattnKernelIdeal.nD,
      r.2.mem ((c.tc : Thread Cert.XattnKernelIdeal.nD Cert.XattnKernelIdeal.τ).loc Cert.XattnKernelIdeal.main_arg0) = m ((c.tc : Thread Cert.XattnKernelIdeal.nD Cert.XattnKernelIdeal.τ).loc Cert.XattnKernelIdeal.main_arg0)
      ∧ r.2.mem ((c.tc : Thread Cert.XattnKernelIdeal.nD Cert.XattnKernelIdeal.τ).loc Cert.XattnKernelIdeal.main_arg1) = m ((c.tc : Thread Cert.XattnKernelIdeal.nD Cert.XattnKernelIdeal.τ).loc Cert.XattnKernelIdeal.main_arg1)
      ∧ r.2.mem ((c.tc : Thread Cert.XattnKernelIdeal.nD Cert.XattnKernelIdeal.τ).loc Cert.XattnKernelIdeal.main_arg2) = m ((c.tc : Thread Cert.XattnKernelIdeal.nD Cert.XattnKernelIdeal.τ).loc Cert.XattnKernelIdeal.main_arg2)
      ∧ r.2.mem ((c.tc : Thread Cert.XattnKernelIdeal.nD Cert.XattnKernelIdeal.τ).loc Cert.XattnKernelIdeal.main_arg3) = m ((c.tc : Thread Cert.XattnKernelIdeal.nD Cert.XattnKernelIdeal.τ).loc Cert.XattnKernelIdeal.main_arg3)
      ∧ r.2.mem ((c.tc : Thread Cert.XattnKernelIdeal.nD Cert.XattnKernelIdeal.τ).loc Cert.XattnKernelIdeal.main_arg4) = m ((c.tc : Thread Cert.XattnKernelIdeal.nD Cert.XattnKernelIdeal.τ).loc Cert.XattnKernelIdeal.main_arg4)
      ∧ r.2.mem ((c.tc : Thread Cert.XattnKernelIdeal.nD Cert.XattnKernelIdeal.τ).loc Cert.XattnKernelIdeal.main_arg5) = m ((c.tc : Thread Cert.XattnKernelIdeal.nD Cert.XattnKernelIdeal.τ).loc Cert.XattnKernelIdeal.main_arg5))
      ∧ r.2.sem = fun _ => 0)

def quiescent_XattnKernelIdeal_pre_xattn_finite [hXattnKernelIdeal : Cert.XattnKernelIdeal.Facts] [hPre_xattn_finite : Cert.Pre_xattn_finite.Facts] : Prop :=
  ∀ (m : (ℓ : Loc Cert.XattnKernelIdeal.nD Cert.XattnKernelIdeal.τ Cert.XattnKernelIdeal.sig) → Buf (Elt Ideal) ℓ) (g : Dev Cert.XattnKernelIdeal.nD → PrngReg), Pre_XattnKernelIdeal_xattn_finite m →
    θ_run (Cert.XattnKernelIdeal.defs (F := Ideal)) (onTc (τ := Cert.XattnKernelIdeal.τ) (Cert.XattnKernelIdeal.main (F := Ideal))) ⟨m, fun _ => 0, g⟩ (fun r => (∀ c : Dev Cert.XattnKernelIdeal.nD,
      r.2.mem ((c.tc : Thread Cert.XattnKernelIdeal.nD Cert.XattnKernelIdeal.τ).loc Cert.XattnKernelIdeal.main_arg0) = m ((c.tc : Thread Cert.XattnKernelIdeal.nD Cert.XattnKernelIdeal.τ).loc Cert.XattnKernelIdeal.main_arg0)
      ∧ r.2.mem ((c.tc : Thread Cert.XattnKernelIdeal.nD Cert.XattnKernelIdeal.τ).loc Cert.XattnKernelIdeal.main_arg1) = m ((c.tc : Thread Cert.XattnKernelIdeal.nD Cert.XattnKernelIdeal.τ).loc Cert.XattnKernelIdeal.main_arg1)
      ∧ r.2.mem ((c.tc : Thread Cert.XattnKernelIdeal.nD Cert.XattnKernelIdeal.τ).loc Cert.XattnKernelIdeal.main_arg2) = m ((c.tc : Thread Cert.XattnKernelIdeal.nD Cert.XattnKernelIdeal.τ).loc Cert.XattnKernelIdeal.main_arg2)
      ∧ r.2.mem ((c.tc : Thread Cert.XattnKernelIdeal.nD Cert.XattnKernelIdeal.τ).loc Cert.XattnKernelIdeal.main_arg3) = m ((c.tc : Thread Cert.XattnKernelIdeal.nD Cert.XattnKernelIdeal.τ).loc Cert.XattnKernelIdeal.main_arg3)
      ∧ r.2.mem ((c.tc : Thread Cert.XattnKernelIdeal.nD Cert.XattnKernelIdeal.τ).loc Cert.XattnKernelIdeal.main_arg4) = m ((c.tc : Thread Cert.XattnKernelIdeal.nD Cert.XattnKernelIdeal.τ).loc Cert.XattnKernelIdeal.main_arg4)
      ∧ r.2.mem ((c.tc : Thread Cert.XattnKernelIdeal.nD Cert.XattnKernelIdeal.τ).loc Cert.XattnKernelIdeal.main_arg5) = m ((c.tc : Thread Cert.XattnKernelIdeal.nD Cert.XattnKernelIdeal.τ).loc Cert.XattnKernelIdeal.main_arg5))
      ∧ r.2.sem = fun _ => 0)

def quiescent_XattnReferenceIdeal [hXattnReferenceIdeal : Cert.XattnReferenceIdeal.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2)
      ∧ r.2.mem ((c.tc : Thread Cert.XattnReferenceIdeal.nD Cert.XattnReferenceIdeal.τ).loc Cert.XattnReferenceIdeal.main_arg3) = m ((c.tc : Thread Cert.XattnReferenceIdeal.nD Cert.XattnReferenceIdeal.τ).loc Cert.XattnReferenceIdeal.main_arg3)
      ∧ r.2.mem ((c.tc : Thread Cert.XattnReferenceIdeal.nD Cert.XattnReferenceIdeal.τ).loc Cert.XattnReferenceIdeal.main_arg4) = m ((c.tc : Thread Cert.XattnReferenceIdeal.nD Cert.XattnReferenceIdeal.τ).loc Cert.XattnReferenceIdeal.main_arg4)
      ∧ r.2.mem ((c.tc : Thread Cert.XattnReferenceIdeal.nD Cert.XattnReferenceIdeal.τ).loc Cert.XattnReferenceIdeal.main_arg5) = m ((c.tc : Thread Cert.XattnReferenceIdeal.nD Cert.XattnReferenceIdeal.τ).loc Cert.XattnReferenceIdeal.main_arg5))
      ∧ r.2.sem = fun _ => 0)

def quiescent_XattnReferenceIdeal_pre_xattn_finite [hXattnReferenceIdeal : Cert.XattnReferenceIdeal.Facts] [hPre_xattn_finite : Cert.Pre_xattn_finite.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal_xattn_finite m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2)
      ∧ r.2.mem ((c.tc : Thread Cert.XattnReferenceIdeal.nD Cert.XattnReferenceIdeal.τ).loc Cert.XattnReferenceIdeal.main_arg3) = m ((c.tc : Thread Cert.XattnReferenceIdeal.nD Cert.XattnReferenceIdeal.τ).loc Cert.XattnReferenceIdeal.main_arg3)
      ∧ r.2.mem ((c.tc : Thread Cert.XattnReferenceIdeal.nD Cert.XattnReferenceIdeal.τ).loc Cert.XattnReferenceIdeal.main_arg4) = m ((c.tc : Thread Cert.XattnReferenceIdeal.nD Cert.XattnReferenceIdeal.τ).loc Cert.XattnReferenceIdeal.main_arg4)
      ∧ r.2.mem ((c.tc : Thread Cert.XattnReferenceIdeal.nD Cert.XattnReferenceIdeal.τ).loc Cert.XattnReferenceIdeal.main_arg5) = m ((c.tc : Thread Cert.XattnReferenceIdeal.nD Cert.XattnReferenceIdeal.τ).loc Cert.XattnReferenceIdeal.main_arg5))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_QueryKernel [hQueryKernel : Cert.QueryKernel.Facts] : Prop :=
  ∀ (m : (ℓ : Loc Cert.QueryKernel.nD Cert.QueryKernel.τ Cert.QueryKernel.sig) → Buf (Elt Bits) ℓ) (g : Dev Cert.QueryKernel.nD → PrngReg), Pre_QueryKernel m →
    θ_run (Cert.QueryKernel.defs (F := Bits)) (onTc (τ := Cert.QueryKernel.τ) (Cert.QueryKernel.main (F := Bits))) ⟨m, fun _ => 0, g⟩ (fun r => (∀ c : Dev Cert.QueryKernel.nD,
      r.2.mem ((c.tc : Thread Cert.QueryKernel.nD Cert.QueryKernel.τ).loc Cert.QueryKernel.main_arg0) = m ((c.tc : Thread Cert.QueryKernel.nD Cert.QueryKernel.τ).loc Cert.QueryKernel.main_arg0)
      ∧ r.2.mem ((c.tc : Thread Cert.QueryKernel.nD Cert.QueryKernel.τ).loc Cert.QueryKernel.main_arg1) = m ((c.tc : Thread Cert.QueryKernel.nD Cert.QueryKernel.τ).loc Cert.QueryKernel.main_arg1))
      ∧ r.2.sem = fun _ => 0)

def quiescent_QueryKernelIdeal [hQueryKernelIdeal : Cert.QueryKernelIdeal.Facts] : Prop :=
  ∀ (m : (ℓ : Loc Cert.QueryKernelIdeal.nD Cert.QueryKernelIdeal.τ Cert.QueryKernelIdeal.sig) → Buf (Elt Ideal) ℓ) (g : Dev Cert.QueryKernelIdeal.nD → PrngReg), Pre_QueryKernelIdeal m →
    θ_run (Cert.QueryKernelIdeal.defs (F := Ideal)) (onTc (τ := Cert.QueryKernelIdeal.τ) (Cert.QueryKernelIdeal.main (F := Ideal))) ⟨m, fun _ => 0, g⟩ (fun r => (∀ c : Dev Cert.QueryKernelIdeal.nD,
      r.2.mem ((c.tc : Thread Cert.QueryKernelIdeal.nD Cert.QueryKernelIdeal.τ).loc Cert.QueryKernelIdeal.main_arg0) = m ((c.tc : Thread Cert.QueryKernelIdeal.nD Cert.QueryKernelIdeal.τ).loc Cert.QueryKernelIdeal.main_arg0)
      ∧ r.2.mem ((c.tc : Thread Cert.QueryKernelIdeal.nD Cert.QueryKernelIdeal.τ).loc Cert.QueryKernelIdeal.main_arg1) = m ((c.tc : Thread Cert.QueryKernelIdeal.nD Cert.QueryKernelIdeal.τ).loc Cert.QueryKernelIdeal.main_arg1))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1))
      ∧ r.2.sem = fun _ => 0)

def quiescent_PairKernel [hPairKernel : Cert.PairKernel.Facts] : Prop :=
  ∀ (m : (ℓ : Loc Cert.PairKernel.nD Cert.PairKernel.τ Cert.PairKernel.sig) → Buf (Elt Bits) ℓ) (g : Dev Cert.PairKernel.nD → PrngReg), Pre_PairKernel m →
    θ_run (Cert.PairKernel.defs (F := Bits)) (onTc (τ := Cert.PairKernel.τ) (Cert.PairKernel.main (F := Bits))) ⟨m, fun _ => 0, g⟩ (fun r => (∀ c : Dev Cert.PairKernel.nD,
      r.2.mem ((c.tc : Thread Cert.PairKernel.nD Cert.PairKernel.τ).loc Cert.PairKernel.main_arg0) = m ((c.tc : Thread Cert.PairKernel.nD Cert.PairKernel.τ).loc Cert.PairKernel.main_arg0)
      ∧ r.2.mem ((c.tc : Thread Cert.PairKernel.nD Cert.PairKernel.τ).loc Cert.PairKernel.main_arg1) = m ((c.tc : Thread Cert.PairKernel.nD Cert.PairKernel.τ).loc Cert.PairKernel.main_arg1)
      ∧ r.2.mem ((c.tc : Thread Cert.PairKernel.nD Cert.PairKernel.τ).loc Cert.PairKernel.main_arg2) = m ((c.tc : Thread Cert.PairKernel.nD Cert.PairKernel.τ).loc Cert.PairKernel.main_arg2)
      ∧ r.2.mem ((c.tc : Thread Cert.PairKernel.nD Cert.PairKernel.τ).loc Cert.PairKernel.main_arg3) = m ((c.tc : Thread Cert.PairKernel.nD Cert.PairKernel.τ).loc Cert.PairKernel.main_arg3))
      ∧ r.2.sem = fun _ => 0)

def quiescent_PairKernelIdeal [hPairKernelIdeal : Cert.PairKernelIdeal.Facts] : Prop :=
  ∀ (m : (ℓ : Loc Cert.PairKernelIdeal.nD Cert.PairKernelIdeal.τ Cert.PairKernelIdeal.sig) → Buf (Elt Ideal) ℓ) (g : Dev Cert.PairKernelIdeal.nD → PrngReg), Pre_PairKernelIdeal m →
    θ_run (Cert.PairKernelIdeal.defs (F := Ideal)) (onTc (τ := Cert.PairKernelIdeal.τ) (Cert.PairKernelIdeal.main (F := Ideal))) ⟨m, fun _ => 0, g⟩ (fun r => (∀ c : Dev Cert.PairKernelIdeal.nD,
      r.2.mem ((c.tc : Thread Cert.PairKernelIdeal.nD Cert.PairKernelIdeal.τ).loc Cert.PairKernelIdeal.main_arg0) = m ((c.tc : Thread Cert.PairKernelIdeal.nD Cert.PairKernelIdeal.τ).loc Cert.PairKernelIdeal.main_arg0)
      ∧ r.2.mem ((c.tc : Thread Cert.PairKernelIdeal.nD Cert.PairKernelIdeal.τ).loc Cert.PairKernelIdeal.main_arg1) = m ((c.tc : Thread Cert.PairKernelIdeal.nD Cert.PairKernelIdeal.τ).loc Cert.PairKernelIdeal.main_arg1)
      ∧ r.2.mem ((c.tc : Thread Cert.PairKernelIdeal.nD Cert.PairKernelIdeal.τ).loc Cert.PairKernelIdeal.main_arg2) = m ((c.tc : Thread Cert.PairKernelIdeal.nD Cert.PairKernelIdeal.τ).loc Cert.PairKernelIdeal.main_arg2)
      ∧ r.2.mem ((c.tc : Thread Cert.PairKernelIdeal.nD Cert.PairKernelIdeal.τ).loc Cert.PairKernelIdeal.main_arg3) = m ((c.tc : Thread Cert.PairKernelIdeal.nD Cert.PairKernelIdeal.τ).loc Cert.PairKernelIdeal.main_arg3))
      ∧ r.2.sem = fun _ => 0)

def quiescent_PairReferenceIdeal [hPairReferenceIdeal : Cert.PairReferenceIdeal.Facts] : Prop :=
  ∀ (m : (ℓ : Loc Cert.PairReferenceIdeal.nD Cert.PairReferenceIdeal.τ Cert.PairReferenceIdeal.sig) → Buf (Elt Ideal) ℓ) (g : Dev Cert.PairReferenceIdeal.nD → PrngReg), Pre_PairReferenceIdeal m →
    θ_run (Cert.PairReferenceIdeal.defs (F := Ideal)) (onTc (τ := Cert.PairReferenceIdeal.τ) (Cert.PairReferenceIdeal.main (F := Ideal))) ⟨m, fun _ => 0, g⟩ (fun r => (∀ c : Dev Cert.PairReferenceIdeal.nD,
      r.2.mem ((c.tc : Thread Cert.PairReferenceIdeal.nD Cert.PairReferenceIdeal.τ).loc Cert.PairReferenceIdeal.main_arg0) = m ((c.tc : Thread Cert.PairReferenceIdeal.nD Cert.PairReferenceIdeal.τ).loc Cert.PairReferenceIdeal.main_arg0)
      ∧ r.2.mem ((c.tc : Thread Cert.PairReferenceIdeal.nD Cert.PairReferenceIdeal.τ).loc Cert.PairReferenceIdeal.main_arg1) = m ((c.tc : Thread Cert.PairReferenceIdeal.nD Cert.PairReferenceIdeal.τ).loc Cert.PairReferenceIdeal.main_arg1)
      ∧ r.2.mem ((c.tc : Thread Cert.PairReferenceIdeal.nD Cert.PairReferenceIdeal.τ).loc Cert.PairReferenceIdeal.main_arg2) = m ((c.tc : Thread Cert.PairReferenceIdeal.nD Cert.PairReferenceIdeal.τ).loc Cert.PairReferenceIdeal.main_arg2)
      ∧ r.2.mem ((c.tc : Thread Cert.PairReferenceIdeal.nD Cert.PairReferenceIdeal.τ).loc Cert.PairReferenceIdeal.main_arg3) = m ((c.tc : Thread Cert.PairReferenceIdeal.nD Cert.PairReferenceIdeal.τ).loc Cert.PairReferenceIdeal.main_arg3))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_XoKernel [hXoKernel : Cert.XoKernel.Facts] : Prop :=
  ∀ (m : (ℓ : Loc Cert.XoKernel.nD Cert.XoKernel.τ Cert.XoKernel.sig) → Buf (Elt Bits) ℓ) (g : Dev Cert.XoKernel.nD → PrngReg), Pre_XoKernel m →
    θ_run (Cert.XoKernel.defs (F := Bits)) (onTc (τ := Cert.XoKernel.τ) (Cert.XoKernel.main (F := Bits))) ⟨m, fun _ => 0, g⟩ (fun r => (∀ c : Dev Cert.XoKernel.nD,
      r.2.mem ((c.tc : Thread Cert.XoKernel.nD Cert.XoKernel.τ).loc Cert.XoKernel.main_arg0) = m ((c.tc : Thread Cert.XoKernel.nD Cert.XoKernel.τ).loc Cert.XoKernel.main_arg0)
      ∧ r.2.mem ((c.tc : Thread Cert.XoKernel.nD Cert.XoKernel.τ).loc Cert.XoKernel.main_arg1) = m ((c.tc : Thread Cert.XoKernel.nD Cert.XoKernel.τ).loc Cert.XoKernel.main_arg1))
      ∧ r.2.sem = fun _ => 0)

def quiescent_XoKernelIdeal [hXoKernelIdeal : Cert.XoKernelIdeal.Facts] : Prop :=
  ∀ (m : (ℓ : Loc Cert.XoKernelIdeal.nD Cert.XoKernelIdeal.τ Cert.XoKernelIdeal.sig) → Buf (Elt Ideal) ℓ) (g : Dev Cert.XoKernelIdeal.nD → PrngReg), Pre_XoKernelIdeal m →
    θ_run (Cert.XoKernelIdeal.defs (F := Ideal)) (onTc (τ := Cert.XoKernelIdeal.τ) (Cert.XoKernelIdeal.main (F := Ideal))) ⟨m, fun _ => 0, g⟩ (fun r => (∀ c : Dev Cert.XoKernelIdeal.nD,
      r.2.mem ((c.tc : Thread Cert.XoKernelIdeal.nD Cert.XoKernelIdeal.τ).loc Cert.XoKernelIdeal.main_arg0) = m ((c.tc : Thread Cert.XoKernelIdeal.nD Cert.XoKernelIdeal.τ).loc Cert.XoKernelIdeal.main_arg0)
      ∧ r.2.mem ((c.tc : Thread Cert.XoKernelIdeal.nD Cert.XoKernelIdeal.τ).loc Cert.XoKernelIdeal.main_arg1) = m ((c.tc : Thread Cert.XoKernelIdeal.nD Cert.XoKernelIdeal.τ).loc Cert.XoKernelIdeal.main_arg1))
      ∧ r.2.sem = fun _ => 0)

def quiescent_XoReferenceIdeal [hXoReferenceIdeal : Cert.XoReferenceIdeal.Facts] : Prop :=
  ∀ (m : (ℓ : Loc Cert.XoReferenceIdeal.nD Cert.XoReferenceIdeal.τ Cert.XoReferenceIdeal.sig) → Buf (Elt Ideal) ℓ) (g : Dev Cert.XoReferenceIdeal.nD → PrngReg), Pre_XoReferenceIdeal m →
    θ_run (Cert.XoReferenceIdeal.defs (F := Ideal)) (onTc (τ := Cert.XoReferenceIdeal.τ) (Cert.XoReferenceIdeal.main (F := Ideal))) ⟨m, fun _ => 0, g⟩ (fun r => (∀ c : Dev Cert.XoReferenceIdeal.nD,
      r.2.mem ((c.tc : Thread Cert.XoReferenceIdeal.nD Cert.XoReferenceIdeal.τ).loc Cert.XoReferenceIdeal.main_arg0) = m ((c.tc : Thread Cert.XoReferenceIdeal.nD Cert.XoReferenceIdeal.τ).loc Cert.XoReferenceIdeal.main_arg0)
      ∧ r.2.mem ((c.tc : Thread Cert.XoReferenceIdeal.nD Cert.XoReferenceIdeal.τ).loc Cert.XoReferenceIdeal.main_arg1) = m ((c.tc : Thread Cert.XoReferenceIdeal.nD Cert.XoReferenceIdeal.τ).loc Cert.XoReferenceIdeal.main_arg1))
      ∧ r.2.sem = fun _ => 0)

def quiescent_RowsKernel [hRowsKernel : Cert.RowsKernel.Facts] : Prop :=
  ∀ (m : (ℓ : Loc Cert.RowsKernel.nD Cert.RowsKernel.τ Cert.RowsKernel.sig) → Buf (Elt Bits) ℓ) (g : Dev Cert.RowsKernel.nD → PrngReg), Pre_RowsKernel m →
    θ_run (Cert.RowsKernel.defs (F := Bits)) (onTc (τ := Cert.RowsKernel.τ) (Cert.RowsKernel.main (F := Bits))) ⟨m, fun _ => 0, g⟩ (fun r => (∀ c : Dev Cert.RowsKernel.nD,
      r.2.mem ((c.tc : Thread Cert.RowsKernel.nD Cert.RowsKernel.τ).loc Cert.RowsKernel.main_arg0) = m ((c.tc : Thread Cert.RowsKernel.nD Cert.RowsKernel.τ).loc Cert.RowsKernel.main_arg0)
      ∧ r.2.mem ((c.tc : Thread Cert.RowsKernel.nD Cert.RowsKernel.τ).loc Cert.RowsKernel.main_arg1) = m ((c.tc : Thread Cert.RowsKernel.nD Cert.RowsKernel.τ).loc Cert.RowsKernel.main_arg1))
      ∧ r.2.sem = fun _ => 0)

def quiescent_RowsKernelIdeal [hRowsKernelIdeal : Cert.RowsKernelIdeal.Facts] : Prop :=
  ∀ (m : (ℓ : Loc Cert.RowsKernelIdeal.nD Cert.RowsKernelIdeal.τ Cert.RowsKernelIdeal.sig) → Buf (Elt Ideal) ℓ) (g : Dev Cert.RowsKernelIdeal.nD → PrngReg), Pre_RowsKernelIdeal m →
    θ_run (Cert.RowsKernelIdeal.defs (F := Ideal)) (onTc (τ := Cert.RowsKernelIdeal.τ) (Cert.RowsKernelIdeal.main (F := Ideal))) ⟨m, fun _ => 0, g⟩ (fun r => (∀ c : Dev Cert.RowsKernelIdeal.nD,
      r.2.mem ((c.tc : Thread Cert.RowsKernelIdeal.nD Cert.RowsKernelIdeal.τ).loc Cert.RowsKernelIdeal.main_arg0) = m ((c.tc : Thread Cert.RowsKernelIdeal.nD Cert.RowsKernelIdeal.τ).loc Cert.RowsKernelIdeal.main_arg0)
      ∧ r.2.mem ((c.tc : Thread Cert.RowsKernelIdeal.nD Cert.RowsKernelIdeal.τ).loc Cert.RowsKernelIdeal.main_arg1) = m ((c.tc : Thread Cert.RowsKernelIdeal.nD Cert.RowsKernelIdeal.τ).loc Cert.RowsKernelIdeal.main_arg1))
      ∧ r.2.sem = fun _ => 0)

def quiescent_RowsReferenceIdeal [hRowsReferenceIdeal : Cert.RowsReferenceIdeal.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1))
      ∧ r.2.sem = fun _ => 0)

def quiescent_JoinKernel [hJoinKernel : Cert.JoinKernel.Facts] : Prop :=
  ∀ (m : (ℓ : Loc Cert.JoinKernel.nD Cert.JoinKernel.τ Cert.JoinKernel.sig) → Buf (Elt Bits) ℓ) (g : Dev Cert.JoinKernel.nD → PrngReg), Pre_JoinKernel m →
    θ_run (Cert.JoinKernel.defs (F := Bits)) (onTc (τ := Cert.JoinKernel.τ) (Cert.JoinKernel.main (F := Bits))) ⟨m, fun _ => 0, g⟩ (fun r => (∀ c : Dev Cert.JoinKernel.nD,
      r.2.mem ((c.tc : Thread Cert.JoinKernel.nD Cert.JoinKernel.τ).loc Cert.JoinKernel.main_arg0) = m ((c.tc : Thread Cert.JoinKernel.nD Cert.JoinKernel.τ).loc Cert.JoinKernel.main_arg0)
      ∧ r.2.mem ((c.tc : Thread Cert.JoinKernel.nD Cert.JoinKernel.τ).loc Cert.JoinKernel.main_arg1) = m ((c.tc : Thread Cert.JoinKernel.nD Cert.JoinKernel.τ).loc Cert.JoinKernel.main_arg1)
      ∧ r.2.mem ((c.tc : Thread Cert.JoinKernel.nD Cert.JoinKernel.τ).loc Cert.JoinKernel.main_arg2) = m ((c.tc : Thread Cert.JoinKernel.nD Cert.JoinKernel.τ).loc Cert.JoinKernel.main_arg2)
      ∧ r.2.mem ((c.tc : Thread Cert.JoinKernel.nD Cert.JoinKernel.τ).loc Cert.JoinKernel.main_arg3) = m ((c.tc : Thread Cert.JoinKernel.nD Cert.JoinKernel.τ).loc Cert.JoinKernel.main_arg3)
      ∧ r.2.mem ((c.tc : Thread Cert.JoinKernel.nD Cert.JoinKernel.τ).loc Cert.JoinKernel.main_arg4) = m ((c.tc : Thread Cert.JoinKernel.nD Cert.JoinKernel.τ).loc Cert.JoinKernel.main_arg4)
      ∧ r.2.mem ((c.tc : Thread Cert.JoinKernel.nD Cert.JoinKernel.τ).loc Cert.JoinKernel.main_arg5) = m ((c.tc : Thread Cert.JoinKernel.nD Cert.JoinKernel.τ).loc Cert.JoinKernel.main_arg5)
      ∧ r.2.mem ((c.tc : Thread Cert.JoinKernel.nD Cert.JoinKernel.τ).loc Cert.JoinKernel.main_arg6) = m ((c.tc : Thread Cert.JoinKernel.nD Cert.JoinKernel.τ).loc Cert.JoinKernel.main_arg6))
      ∧ r.2.sem = fun _ => 0)

def quiescent_JoinKernelIdeal [hJoinKernelIdeal : Cert.JoinKernelIdeal.Facts] : Prop :=
  ∀ (m : (ℓ : Loc Cert.JoinKernelIdeal.nD Cert.JoinKernelIdeal.τ Cert.JoinKernelIdeal.sig) → Buf (Elt Ideal) ℓ) (g : Dev Cert.JoinKernelIdeal.nD → PrngReg), Pre_JoinKernelIdeal m →
    θ_run (Cert.JoinKernelIdeal.defs (F := Ideal)) (onTc (τ := Cert.JoinKernelIdeal.τ) (Cert.JoinKernelIdeal.main (F := Ideal))) ⟨m, fun _ => 0, g⟩ (fun r => (∀ c : Dev Cert.JoinKernelIdeal.nD,
      r.2.mem ((c.tc : Thread Cert.JoinKernelIdeal.nD Cert.JoinKernelIdeal.τ).loc Cert.JoinKernelIdeal.main_arg0) = m ((c.tc : Thread Cert.JoinKernelIdeal.nD Cert.JoinKernelIdeal.τ).loc Cert.JoinKernelIdeal.main_arg0)
      ∧ r.2.mem ((c.tc : Thread Cert.JoinKernelIdeal.nD Cert.JoinKernelIdeal.τ).loc Cert.JoinKernelIdeal.main_arg1) = m ((c.tc : Thread Cert.JoinKernelIdeal.nD Cert.JoinKernelIdeal.τ).loc Cert.JoinKernelIdeal.main_arg1)
      ∧ r.2.mem ((c.tc : Thread Cert.JoinKernelIdeal.nD Cert.JoinKernelIdeal.τ).loc Cert.JoinKernelIdeal.main_arg2) = m ((c.tc : Thread Cert.JoinKernelIdeal.nD Cert.JoinKernelIdeal.τ).loc Cert.JoinKernelIdeal.main_arg2)
      ∧ r.2.mem ((c.tc : Thread Cert.JoinKernelIdeal.nD Cert.JoinKernelIdeal.τ).loc Cert.JoinKernelIdeal.main_arg3) = m ((c.tc : Thread Cert.JoinKernelIdeal.nD Cert.JoinKernelIdeal.τ).loc Cert.JoinKernelIdeal.main_arg3)
      ∧ r.2.mem ((c.tc : Thread Cert.JoinKernelIdeal.nD Cert.JoinKernelIdeal.τ).loc Cert.JoinKernelIdeal.main_arg4) = m ((c.tc : Thread Cert.JoinKernelIdeal.nD Cert.JoinKernelIdeal.τ).loc Cert.JoinKernelIdeal.main_arg4)
      ∧ r.2.mem ((c.tc : Thread Cert.JoinKernelIdeal.nD Cert.JoinKernelIdeal.τ).loc Cert.JoinKernelIdeal.main_arg5) = m ((c.tc : Thread Cert.JoinKernelIdeal.nD Cert.JoinKernelIdeal.τ).loc Cert.JoinKernelIdeal.main_arg5)
      ∧ r.2.mem ((c.tc : Thread Cert.JoinKernelIdeal.nD Cert.JoinKernelIdeal.τ).loc Cert.JoinKernelIdeal.main_arg6) = m ((c.tc : Thread Cert.JoinKernelIdeal.nD Cert.JoinKernelIdeal.τ).loc Cert.JoinKernelIdeal.main_arg6))
      ∧ r.2.sem = fun _ => 0)

def quiescent_JoinReferenceIdeal [hJoinReferenceIdeal : Cert.JoinReferenceIdeal.Facts] : Prop :=
  ∀ (m : (ℓ : Loc Cert.JoinReferenceIdeal.nD Cert.JoinReferenceIdeal.τ Cert.JoinReferenceIdeal.sig) → Buf (Elt Ideal) ℓ) (g : Dev Cert.JoinReferenceIdeal.nD → PrngReg), Pre_JoinReferenceIdeal m →
    θ_run (Cert.JoinReferenceIdeal.defs (F := Ideal)) (onTc (τ := Cert.JoinReferenceIdeal.τ) (Cert.JoinReferenceIdeal.main (F := Ideal))) ⟨m, fun _ => 0, g⟩ (fun r => (∀ c : Dev Cert.JoinReferenceIdeal.nD,
      r.2.mem ((c.tc : Thread Cert.JoinReferenceIdeal.nD Cert.JoinReferenceIdeal.τ).loc Cert.JoinReferenceIdeal.main_arg0) = m ((c.tc : Thread Cert.JoinReferenceIdeal.nD Cert.JoinReferenceIdeal.τ).loc Cert.JoinReferenceIdeal.main_arg0)
      ∧ r.2.mem ((c.tc : Thread Cert.JoinReferenceIdeal.nD Cert.JoinReferenceIdeal.τ).loc Cert.JoinReferenceIdeal.main_arg1) = m ((c.tc : Thread Cert.JoinReferenceIdeal.nD Cert.JoinReferenceIdeal.τ).loc Cert.JoinReferenceIdeal.main_arg1)
      ∧ r.2.mem ((c.tc : Thread Cert.JoinReferenceIdeal.nD Cert.JoinReferenceIdeal.τ).loc Cert.JoinReferenceIdeal.main_arg2) = m ((c.tc : Thread Cert.JoinReferenceIdeal.nD Cert.JoinReferenceIdeal.τ).loc Cert.JoinReferenceIdeal.main_arg2)
      ∧ r.2.mem ((c.tc : Thread Cert.JoinReferenceIdeal.nD Cert.JoinReferenceIdeal.τ).loc Cert.JoinReferenceIdeal.main_arg3) = m ((c.tc : Thread Cert.JoinReferenceIdeal.nD Cert.JoinReferenceIdeal.τ).loc Cert.JoinReferenceIdeal.main_arg3)
      ∧ r.2.mem ((c.tc : Thread Cert.JoinReferenceIdeal.nD Cert.JoinReferenceIdeal.τ).loc Cert.JoinReferenceIdeal.main_arg4) = m ((c.tc : Thread Cert.JoinReferenceIdeal.nD Cert.JoinReferenceIdeal.τ).loc Cert.JoinReferenceIdeal.main_arg4)
      ∧ r.2.mem ((c.tc : Thread Cert.JoinReferenceIdeal.nD Cert.JoinReferenceIdeal.τ).loc Cert.JoinReferenceIdeal.main_arg5) = m ((c.tc : Thread Cert.JoinReferenceIdeal.nD Cert.JoinReferenceIdeal.τ).loc Cert.JoinReferenceIdeal.main_arg5)
      ∧ r.2.mem ((c.tc : Thread Cert.JoinReferenceIdeal.nD Cert.JoinReferenceIdeal.τ).loc Cert.JoinReferenceIdeal.main_arg6) = m ((c.tc : Thread Cert.JoinReferenceIdeal.nD Cert.JoinReferenceIdeal.τ).loc Cert.JoinReferenceIdeal.main_arg6))
      ∧ r.2.sem = fun _ => 0)

def quiescent_SquareKernel [hSquareKernel : Cert.SquareKernel.Facts] : Prop :=
  ∀ (m : (ℓ : Loc Cert.SquareKernel.nD Cert.SquareKernel.τ Cert.SquareKernel.sig) → Buf (Elt Bits) ℓ) (g : Dev Cert.SquareKernel.nD → PrngReg), Pre_SquareKernel m →
    θ_run (Cert.SquareKernel.defs (F := Bits)) (onTc (τ := Cert.SquareKernel.τ) (Cert.SquareKernel.main (F := Bits))) ⟨m, fun _ => 0, g⟩ (fun r => (∀ c : Dev Cert.SquareKernel.nD,
      r.2.mem ((c.tc : Thread Cert.SquareKernel.nD Cert.SquareKernel.τ).loc Cert.SquareKernel.main_arg0) = m ((c.tc : Thread Cert.SquareKernel.nD Cert.SquareKernel.τ).loc Cert.SquareKernel.main_arg0)
      ∧ r.2.mem ((c.tc : Thread Cert.SquareKernel.nD Cert.SquareKernel.τ).loc Cert.SquareKernel.main_arg1) = m ((c.tc : Thread Cert.SquareKernel.nD Cert.SquareKernel.τ).loc Cert.SquareKernel.main_arg1)
      ∧ r.2.mem ((c.tc : Thread Cert.SquareKernel.nD Cert.SquareKernel.τ).loc Cert.SquareKernel.main_arg2) = m ((c.tc : Thread Cert.SquareKernel.nD Cert.SquareKernel.τ).loc Cert.SquareKernel.main_arg2)
      ∧ r.2.mem ((c.tc : Thread Cert.SquareKernel.nD Cert.SquareKernel.τ).loc Cert.SquareKernel.main_arg3) = m ((c.tc : Thread Cert.SquareKernel.nD Cert.SquareKernel.τ).loc Cert.SquareKernel.main_arg3))
      ∧ r.2.sem = fun _ => 0)

def quiescent_SquareKernelIdeal [hSquareKernelIdeal : Cert.SquareKernelIdeal.Facts] : Prop :=
  ∀ (m : (ℓ : Loc Cert.SquareKernelIdeal.nD Cert.SquareKernelIdeal.τ Cert.SquareKernelIdeal.sig) → Buf (Elt Ideal) ℓ) (g : Dev Cert.SquareKernelIdeal.nD → PrngReg), Pre_SquareKernelIdeal m →
    θ_run (Cert.SquareKernelIdeal.defs (F := Ideal)) (onTc (τ := Cert.SquareKernelIdeal.τ) (Cert.SquareKernelIdeal.main (F := Ideal))) ⟨m, fun _ => 0, g⟩ (fun r => (∀ c : Dev Cert.SquareKernelIdeal.nD,
      r.2.mem ((c.tc : Thread Cert.SquareKernelIdeal.nD Cert.SquareKernelIdeal.τ).loc Cert.SquareKernelIdeal.main_arg0) = m ((c.tc : Thread Cert.SquareKernelIdeal.nD Cert.SquareKernelIdeal.τ).loc Cert.SquareKernelIdeal.main_arg0)
      ∧ r.2.mem ((c.tc : Thread Cert.SquareKernelIdeal.nD Cert.SquareKernelIdeal.τ).loc Cert.SquareKernelIdeal.main_arg1) = m ((c.tc : Thread Cert.SquareKernelIdeal.nD Cert.SquareKernelIdeal.τ).loc Cert.SquareKernelIdeal.main_arg1)
      ∧ r.2.mem ((c.tc : Thread Cert.SquareKernelIdeal.nD Cert.SquareKernelIdeal.τ).loc Cert.SquareKernelIdeal.main_arg2) = m ((c.tc : Thread Cert.SquareKernelIdeal.nD Cert.SquareKernelIdeal.τ).loc Cert.SquareKernelIdeal.main_arg2)
      ∧ r.2.mem ((c.tc : Thread Cert.SquareKernelIdeal.nD Cert.SquareKernelIdeal.τ).loc Cert.SquareKernelIdeal.main_arg3) = m ((c.tc : Thread Cert.SquareKernelIdeal.nD Cert.SquareKernelIdeal.τ).loc Cert.SquareKernelIdeal.main_arg3))
      ∧ r.2.sem = fun _ => 0)

def quiescent_SquareReferenceIdeal [hSquareReferenceIdeal : Cert.SquareReferenceIdeal.Facts] : Prop :=
  ∀ (m : (ℓ : Loc Cert.SquareReferenceIdeal.nD Cert.SquareReferenceIdeal.τ Cert.SquareReferenceIdeal.sig) → Buf (Elt Ideal) ℓ) (g : Dev Cert.SquareReferenceIdeal.nD → PrngReg), Pre_SquareReferenceIdeal m →
    θ_run (Cert.SquareReferenceIdeal.defs (F := Ideal)) (onTc (τ := Cert.SquareReferenceIdeal.τ) (Cert.SquareReferenceIdeal.main (F := Ideal))) ⟨m, fun _ => 0, g⟩ (fun r => (∀ c : Dev Cert.SquareReferenceIdeal.nD,
      r.2.mem ((c.tc : Thread Cert.SquareReferenceIdeal.nD Cert.SquareReferenceIdeal.τ).loc Cert.SquareReferenceIdeal.main_arg0) = m ((c.tc : Thread Cert.SquareReferenceIdeal.nD Cert.SquareReferenceIdeal.τ).loc Cert.SquareReferenceIdeal.main_arg0)
      ∧ r.2.mem ((c.tc : Thread Cert.SquareReferenceIdeal.nD Cert.SquareReferenceIdeal.τ).loc Cert.SquareReferenceIdeal.main_arg1) = m ((c.tc : Thread Cert.SquareReferenceIdeal.nD Cert.SquareReferenceIdeal.τ).loc Cert.SquareReferenceIdeal.main_arg1)
      ∧ r.2.mem ((c.tc : Thread Cert.SquareReferenceIdeal.nD Cert.SquareReferenceIdeal.τ).loc Cert.SquareReferenceIdeal.main_arg2) = m ((c.tc : Thread Cert.SquareReferenceIdeal.nD Cert.SquareReferenceIdeal.τ).loc Cert.SquareReferenceIdeal.main_arg2)
      ∧ r.2.mem ((c.tc : Thread Cert.SquareReferenceIdeal.nD Cert.SquareReferenceIdeal.τ).loc Cert.SquareReferenceIdeal.main_arg3) = m ((c.tc : Thread Cert.SquareReferenceIdeal.nD Cert.SquareReferenceIdeal.τ).loc Cert.SquareReferenceIdeal.main_arg3))
      ∧ r.2.sem = fun _ => 0)

def quiescent_WideKernel [hWideKernel : Cert.WideKernel.Facts] : Prop :=
  ∀ (m : (ℓ : Loc Cert.WideKernel.nD Cert.WideKernel.τ Cert.WideKernel.sig) → Buf (Elt Bits) ℓ) (g : Dev Cert.WideKernel.nD → PrngReg), Pre_WideKernel m →
    θ_run (Cert.WideKernel.defs (F := Bits)) (onTc (τ := Cert.WideKernel.τ) (Cert.WideKernel.main (F := Bits))) ⟨m, fun _ => 0, g⟩ (fun r => (∀ c : Dev Cert.WideKernel.nD,
      r.2.mem ((c.tc : Thread Cert.WideKernel.nD Cert.WideKernel.τ).loc Cert.WideKernel.main_arg0) = m ((c.tc : Thread Cert.WideKernel.nD Cert.WideKernel.τ).loc Cert.WideKernel.main_arg0)
      ∧ r.2.mem ((c.tc : Thread Cert.WideKernel.nD Cert.WideKernel.τ).loc Cert.WideKernel.main_arg1) = m ((c.tc : Thread Cert.WideKernel.nD Cert.WideKernel.τ).loc Cert.WideKernel.main_arg1)
      ∧ r.2.mem ((c.tc : Thread Cert.WideKernel.nD Cert.WideKernel.τ).loc Cert.WideKernel.main_arg2) = m ((c.tc : Thread Cert.WideKernel.nD Cert.WideKernel.τ).loc Cert.WideKernel.main_arg2)
      ∧ r.2.mem ((c.tc : Thread Cert.WideKernel.nD Cert.WideKernel.τ).loc Cert.WideKernel.main_arg3) = m ((c.tc : Thread Cert.WideKernel.nD Cert.WideKernel.τ).loc Cert.WideKernel.main_arg3))
      ∧ r.2.sem = fun _ => 0)

def quiescent_WideKernelIdeal [hWideKernelIdeal : Cert.WideKernelIdeal.Facts] : Prop :=
  ∀ (m : (ℓ : Loc Cert.WideKernelIdeal.nD Cert.WideKernelIdeal.τ Cert.WideKernelIdeal.sig) → Buf (Elt Ideal) ℓ) (g : Dev Cert.WideKernelIdeal.nD → PrngReg), Pre_WideKernelIdeal m →
    θ_run (Cert.WideKernelIdeal.defs (F := Ideal)) (onTc (τ := Cert.WideKernelIdeal.τ) (Cert.WideKernelIdeal.main (F := Ideal))) ⟨m, fun _ => 0, g⟩ (fun r => (∀ c : Dev Cert.WideKernelIdeal.nD,
      r.2.mem ((c.tc : Thread Cert.WideKernelIdeal.nD Cert.WideKernelIdeal.τ).loc Cert.WideKernelIdeal.main_arg0) = m ((c.tc : Thread Cert.WideKernelIdeal.nD Cert.WideKernelIdeal.τ).loc Cert.WideKernelIdeal.main_arg0)
      ∧ r.2.mem ((c.tc : Thread Cert.WideKernelIdeal.nD Cert.WideKernelIdeal.τ).loc Cert.WideKernelIdeal.main_arg1) = m ((c.tc : Thread Cert.WideKernelIdeal.nD Cert.WideKernelIdeal.τ).loc Cert.WideKernelIdeal.main_arg1)
      ∧ r.2.mem ((c.tc : Thread Cert.WideKernelIdeal.nD Cert.WideKernelIdeal.τ).loc Cert.WideKernelIdeal.main_arg2) = m ((c.tc : Thread Cert.WideKernelIdeal.nD Cert.WideKernelIdeal.τ).loc Cert.WideKernelIdeal.main_arg2)
      ∧ r.2.mem ((c.tc : Thread Cert.WideKernelIdeal.nD Cert.WideKernelIdeal.τ).loc Cert.WideKernelIdeal.main_arg3) = m ((c.tc : Thread Cert.WideKernelIdeal.nD Cert.WideKernelIdeal.τ).loc Cert.WideKernelIdeal.main_arg3))
      ∧ r.2.sem = fun _ => 0)

def quiescent_WideReferenceIdeal [hWideReferenceIdeal : Cert.WideReferenceIdeal.Facts] : Prop :=
  ∀ (m : (ℓ : Loc Cert.WideReferenceIdeal.nD Cert.WideReferenceIdeal.τ Cert.WideReferenceIdeal.sig) → Buf (Elt Ideal) ℓ) (g : Dev Cert.WideReferenceIdeal.nD → PrngReg), Pre_WideReferenceIdeal m →
    θ_run (Cert.WideReferenceIdeal.defs (F := Ideal)) (onTc (τ := Cert.WideReferenceIdeal.τ) (Cert.WideReferenceIdeal.main (F := Ideal))) ⟨m, fun _ => 0, g⟩ (fun r => (∀ c : Dev Cert.WideReferenceIdeal.nD,
      r.2.mem ((c.tc : Thread Cert.WideReferenceIdeal.nD Cert.WideReferenceIdeal.τ).loc Cert.WideReferenceIdeal.main_arg0) = m ((c.tc : Thread Cert.WideReferenceIdeal.nD Cert.WideReferenceIdeal.τ).loc Cert.WideReferenceIdeal.main_arg0)
      ∧ r.2.mem ((c.tc : Thread Cert.WideReferenceIdeal.nD Cert.WideReferenceIdeal.τ).loc Cert.WideReferenceIdeal.main_arg1) = m ((c.tc : Thread Cert.WideReferenceIdeal.nD Cert.WideReferenceIdeal.τ).loc Cert.WideReferenceIdeal.main_arg1)
      ∧ r.2.mem ((c.tc : Thread Cert.WideReferenceIdeal.nD Cert.WideReferenceIdeal.τ).loc Cert.WideReferenceIdeal.main_arg2) = m ((c.tc : Thread Cert.WideReferenceIdeal.nD Cert.WideReferenceIdeal.τ).loc Cert.WideReferenceIdeal.main_arg2)
      ∧ r.2.mem ((c.tc : Thread Cert.WideReferenceIdeal.nD Cert.WideReferenceIdeal.τ).loc Cert.WideReferenceIdeal.main_arg3) = m ((c.tc : Thread Cert.WideReferenceIdeal.nD Cert.WideReferenceIdeal.τ).loc Cert.WideReferenceIdeal.main_arg3))
      ∧ r.2.sem = fun _ => 0)

def quiescent_InStepKernel [hInStepKernel : Cert.InStepKernel.Facts] : Prop :=
  ∀ (m : (ℓ : Loc Cert.InStepKernel.nD Cert.InStepKernel.τ Cert.InStepKernel.sig) → Buf (Elt Bits) ℓ) (g : Dev Cert.InStepKernel.nD → PrngReg), Pre_InStepKernel m →
    θ_run (Cert.InStepKernel.defs (F := Bits)) (onTc (τ := Cert.InStepKernel.τ) (Cert.InStepKernel.main (F := Bits))) ⟨m, fun _ => 0, g⟩ (fun r => (∀ c : Dev Cert.InStepKernel.nD,
      r.2.mem ((c.tc : Thread Cert.InStepKernel.nD Cert.InStepKernel.τ).loc Cert.InStepKernel.main_arg0) = m ((c.tc : Thread Cert.InStepKernel.nD Cert.InStepKernel.τ).loc Cert.InStepKernel.main_arg0)
      ∧ r.2.mem ((c.tc : Thread Cert.InStepKernel.nD Cert.InStepKernel.τ).loc Cert.InStepKernel.main_arg1) = m ((c.tc : Thread Cert.InStepKernel.nD Cert.InStepKernel.τ).loc Cert.InStepKernel.main_arg1)
      ∧ r.2.mem ((c.tc : Thread Cert.InStepKernel.nD Cert.InStepKernel.τ).loc Cert.InStepKernel.main_arg2) = m ((c.tc : Thread Cert.InStepKernel.nD Cert.InStepKernel.τ).loc Cert.InStepKernel.main_arg2)
      ∧ r.2.mem ((c.tc : Thread Cert.InStepKernel.nD Cert.InStepKernel.τ).loc Cert.InStepKernel.main_arg3) = m ((c.tc : Thread Cert.InStepKernel.nD Cert.InStepKernel.τ).loc Cert.InStepKernel.main_arg3))
      ∧ r.2.sem = fun _ => 0)

def quiescent_InStepKernelIdeal [hInStepKernelIdeal : Cert.InStepKernelIdeal.Facts] : Prop :=
  ∀ (m : (ℓ : Loc Cert.InStepKernelIdeal.nD Cert.InStepKernelIdeal.τ Cert.InStepKernelIdeal.sig) → Buf (Elt Ideal) ℓ) (g : Dev Cert.InStepKernelIdeal.nD → PrngReg), Pre_InStepKernelIdeal m →
    θ_run (Cert.InStepKernelIdeal.defs (F := Ideal)) (onTc (τ := Cert.InStepKernelIdeal.τ) (Cert.InStepKernelIdeal.main (F := Ideal))) ⟨m, fun _ => 0, g⟩ (fun r => (∀ c : Dev Cert.InStepKernelIdeal.nD,
      r.2.mem ((c.tc : Thread Cert.InStepKernelIdeal.nD Cert.InStepKernelIdeal.τ).loc Cert.InStepKernelIdeal.main_arg0) = m ((c.tc : Thread Cert.InStepKernelIdeal.nD Cert.InStepKernelIdeal.τ).loc Cert.InStepKernelIdeal.main_arg0)
      ∧ r.2.mem ((c.tc : Thread Cert.InStepKernelIdeal.nD Cert.InStepKernelIdeal.τ).loc Cert.InStepKernelIdeal.main_arg1) = m ((c.tc : Thread Cert.InStepKernelIdeal.nD Cert.InStepKernelIdeal.τ).loc Cert.InStepKernelIdeal.main_arg1)
      ∧ r.2.mem ((c.tc : Thread Cert.InStepKernelIdeal.nD Cert.InStepKernelIdeal.τ).loc Cert.InStepKernelIdeal.main_arg2) = m ((c.tc : Thread Cert.InStepKernelIdeal.nD Cert.InStepKernelIdeal.τ).loc Cert.InStepKernelIdeal.main_arg2)
      ∧ r.2.mem ((c.tc : Thread Cert.InStepKernelIdeal.nD Cert.InStepKernelIdeal.τ).loc Cert.InStepKernelIdeal.main_arg3) = m ((c.tc : Thread Cert.InStepKernelIdeal.nD Cert.InStepKernelIdeal.τ).loc Cert.InStepKernelIdeal.main_arg3))
      ∧ r.2.sem = fun _ => 0)

def quiescent_InStepReferenceIdeal [hInStepReferenceIdeal : Cert.InStepReferenceIdeal.Facts] : Prop :=
  ∀ (m : (ℓ : Loc Cert.InStepReferenceIdeal.nD Cert.InStepReferenceIdeal.τ Cert.InStepReferenceIdeal.sig) → Buf (Elt Ideal) ℓ) (g : Dev Cert.InStepReferenceIdeal.nD → PrngReg), Pre_InStepReferenceIdeal m →
    θ_run (Cert.InStepReferenceIdeal.defs (F := Ideal)) (onTc (τ := Cert.InStepReferenceIdeal.τ) (Cert.InStepReferenceIdeal.main (F := Ideal))) ⟨m, fun _ => 0, g⟩ (fun r => (∀ c : Dev Cert.InStepReferenceIdeal.nD,
      r.2.mem ((c.tc : Thread Cert.InStepReferenceIdeal.nD Cert.InStepReferenceIdeal.τ).loc Cert.InStepReferenceIdeal.main_arg0) = m ((c.tc : Thread Cert.InStepReferenceIdeal.nD Cert.InStepReferenceIdeal.τ).loc Cert.InStepReferenceIdeal.main_arg0)
      ∧ r.2.mem ((c.tc : Thread Cert.InStepReferenceIdeal.nD Cert.InStepReferenceIdeal.τ).loc Cert.InStepReferenceIdeal.main_arg1) = m ((c.tc : Thread Cert.InStepReferenceIdeal.nD Cert.InStepReferenceIdeal.τ).loc Cert.InStepReferenceIdeal.main_arg1)
      ∧ r.2.mem ((c.tc : Thread Cert.InStepReferenceIdeal.nD Cert.InStepReferenceIdeal.τ).loc Cert.InStepReferenceIdeal.main_arg2) = m ((c.tc : Thread Cert.InStepReferenceIdeal.nD Cert.InStepReferenceIdeal.τ).loc Cert.InStepReferenceIdeal.main_arg2)
      ∧ r.2.mem ((c.tc : Thread Cert.InStepReferenceIdeal.nD Cert.InStepReferenceIdeal.τ).loc Cert.InStepReferenceIdeal.main_arg3) = m ((c.tc : Thread Cert.InStepReferenceIdeal.nD Cert.InStepReferenceIdeal.τ).loc Cert.InStepReferenceIdeal.main_arg3))
      ∧ r.2.sem = fun _ => 0)

def quiescent_FfnStepKernel [hFfnStepKernel : Cert.FfnStepKernel.Facts] : Prop :=
  ∀ (m : (ℓ : Loc Cert.FfnStepKernel.nD Cert.FfnStepKernel.τ Cert.FfnStepKernel.sig) → Buf (Elt Bits) ℓ) (g : Dev Cert.FfnStepKernel.nD → PrngReg), Pre_FfnStepKernel m →
    θ_run (Cert.FfnStepKernel.defs (F := Bits)) (onTc (τ := Cert.FfnStepKernel.τ) (Cert.FfnStepKernel.main (F := Bits))) ⟨m, fun _ => 0, g⟩ (fun r => (∀ c : Dev Cert.FfnStepKernel.nD,
      r.2.mem ((c.tc : Thread Cert.FfnStepKernel.nD Cert.FfnStepKernel.τ).loc Cert.FfnStepKernel.main_arg0) = m ((c.tc : Thread Cert.FfnStepKernel.nD Cert.FfnStepKernel.τ).loc Cert.FfnStepKernel.main_arg0)
      ∧ r.2.mem ((c.tc : Thread Cert.FfnStepKernel.nD Cert.FfnStepKernel.τ).loc Cert.FfnStepKernel.main_arg1) = m ((c.tc : Thread Cert.FfnStepKernel.nD Cert.FfnStepKernel.τ).loc Cert.FfnStepKernel.main_arg1)
      ∧ r.2.mem ((c.tc : Thread Cert.FfnStepKernel.nD Cert.FfnStepKernel.τ).loc Cert.FfnStepKernel.main_arg2) = m ((c.tc : Thread Cert.FfnStepKernel.nD Cert.FfnStepKernel.τ).loc Cert.FfnStepKernel.main_arg2)
      ∧ r.2.mem ((c.tc : Thread Cert.FfnStepKernel.nD Cert.FfnStepKernel.τ).loc Cert.FfnStepKernel.main_arg3) = m ((c.tc : Thread Cert.FfnStepKernel.nD Cert.FfnStepKernel.τ).loc Cert.FfnStepKernel.main_arg3))
      ∧ r.2.sem = fun _ => 0)

def quiescent_FfnStepKernelIdeal [hFfnStepKernelIdeal : Cert.FfnStepKernelIdeal.Facts] : Prop :=
  ∀ (m : (ℓ : Loc Cert.FfnStepKernelIdeal.nD Cert.FfnStepKernelIdeal.τ Cert.FfnStepKernelIdeal.sig) → Buf (Elt Ideal) ℓ) (g : Dev Cert.FfnStepKernelIdeal.nD → PrngReg), Pre_FfnStepKernelIdeal m →
    θ_run (Cert.FfnStepKernelIdeal.defs (F := Ideal)) (onTc (τ := Cert.FfnStepKernelIdeal.τ) (Cert.FfnStepKernelIdeal.main (F := Ideal))) ⟨m, fun _ => 0, g⟩ (fun r => (∀ c : Dev Cert.FfnStepKernelIdeal.nD,
      r.2.mem ((c.tc : Thread Cert.FfnStepKernelIdeal.nD Cert.FfnStepKernelIdeal.τ).loc Cert.FfnStepKernelIdeal.main_arg0) = m ((c.tc : Thread Cert.FfnStepKernelIdeal.nD Cert.FfnStepKernelIdeal.τ).loc Cert.FfnStepKernelIdeal.main_arg0)
      ∧ r.2.mem ((c.tc : Thread Cert.FfnStepKernelIdeal.nD Cert.FfnStepKernelIdeal.τ).loc Cert.FfnStepKernelIdeal.main_arg1) = m ((c.tc : Thread Cert.FfnStepKernelIdeal.nD Cert.FfnStepKernelIdeal.τ).loc Cert.FfnStepKernelIdeal.main_arg1)
      ∧ r.2.mem ((c.tc : Thread Cert.FfnStepKernelIdeal.nD Cert.FfnStepKernelIdeal.τ).loc Cert.FfnStepKernelIdeal.main_arg2) = m ((c.tc : Thread Cert.FfnStepKernelIdeal.nD Cert.FfnStepKernelIdeal.τ).loc Cert.FfnStepKernelIdeal.main_arg2)
      ∧ r.2.mem ((c.tc : Thread Cert.FfnStepKernelIdeal.nD Cert.FfnStepKernelIdeal.τ).loc Cert.FfnStepKernelIdeal.main_arg3) = m ((c.tc : Thread Cert.FfnStepKernelIdeal.nD Cert.FfnStepKernelIdeal.τ).loc Cert.FfnStepKernelIdeal.main_arg3))
      ∧ r.2.sem = fun _ => 0)

def quiescent_FfnStepReferenceIdeal [hFfnStepReferenceIdeal : Cert.FfnStepReferenceIdeal.Facts] : Prop :=
  ∀ (m : (ℓ : Loc Cert.FfnStepReferenceIdeal.nD Cert.FfnStepReferenceIdeal.τ Cert.FfnStepReferenceIdeal.sig) → Buf (Elt Ideal) ℓ) (g : Dev Cert.FfnStepReferenceIdeal.nD → PrngReg), Pre_FfnStepReferenceIdeal m →
    θ_run (Cert.FfnStepReferenceIdeal.defs (F := Ideal)) (onTc (τ := Cert.FfnStepReferenceIdeal.τ) (Cert.FfnStepReferenceIdeal.main (F := Ideal))) ⟨m, fun _ => 0, g⟩ (fun r => (∀ c : Dev Cert.FfnStepReferenceIdeal.nD,
      r.2.mem ((c.tc : Thread Cert.FfnStepReferenceIdeal.nD Cert.FfnStepReferenceIdeal.τ).loc Cert.FfnStepReferenceIdeal.main_arg0) = m ((c.tc : Thread Cert.FfnStepReferenceIdeal.nD Cert.FfnStepReferenceIdeal.τ).loc Cert.FfnStepReferenceIdeal.main_arg0)
      ∧ r.2.mem ((c.tc : Thread Cert.FfnStepReferenceIdeal.nD Cert.FfnStepReferenceIdeal.τ).loc Cert.FfnStepReferenceIdeal.main_arg1) = m ((c.tc : Thread Cert.FfnStepReferenceIdeal.nD Cert.FfnStepReferenceIdeal.τ).loc Cert.FfnStepReferenceIdeal.main_arg1)
      ∧ r.2.mem ((c.tc : Thread Cert.FfnStepReferenceIdeal.nD Cert.FfnStepReferenceIdeal.τ).loc Cert.FfnStepReferenceIdeal.main_arg2) = m ((c.tc : Thread Cert.FfnStepReferenceIdeal.nD Cert.FfnStepReferenceIdeal.τ).loc Cert.FfnStepReferenceIdeal.main_arg2)
      ∧ r.2.mem ((c.tc : Thread Cert.FfnStepReferenceIdeal.nD Cert.FfnStepReferenceIdeal.τ).loc Cert.FfnStepReferenceIdeal.main_arg3) = m ((c.tc : Thread Cert.FfnStepReferenceIdeal.nD Cert.FfnStepReferenceIdeal.τ).loc Cert.FfnStepReferenceIdeal.main_arg3))
      ∧ r.2.sem = fun _ => 0)

def quiescent_BranchKernel [hBranchKernel : Cert.BranchKernel.Facts] : Prop :=
  ∀ (m : (ℓ : Loc Cert.BranchKernel.nD Cert.BranchKernel.τ Cert.BranchKernel.sig) → Buf (Elt Bits) ℓ) (g : Dev Cert.BranchKernel.nD → PrngReg), Pre_BranchKernel m →
    θ_run (Cert.BranchKernel.defs (F := Bits)) (onTc (τ := Cert.BranchKernel.τ) (Cert.BranchKernel.main (F := Bits))) ⟨m, fun _ => 0, g⟩ (fun r => (∀ c : Dev Cert.BranchKernel.nD,
      r.2.mem ((c.tc : Thread Cert.BranchKernel.nD Cert.BranchKernel.τ).loc Cert.BranchKernel.main_arg0) = m ((c.tc : Thread Cert.BranchKernel.nD Cert.BranchKernel.τ).loc Cert.BranchKernel.main_arg0)
      ∧ r.2.mem ((c.tc : Thread Cert.BranchKernel.nD Cert.BranchKernel.τ).loc Cert.BranchKernel.main_arg1) = m ((c.tc : Thread Cert.BranchKernel.nD Cert.BranchKernel.τ).loc Cert.BranchKernel.main_arg1)
      ∧ r.2.mem ((c.tc : Thread Cert.BranchKernel.nD Cert.BranchKernel.τ).loc Cert.BranchKernel.main_arg2) = m ((c.tc : Thread Cert.BranchKernel.nD Cert.BranchKernel.τ).loc Cert.BranchKernel.main_arg2)
      ∧ r.2.mem ((c.tc : Thread Cert.BranchKernel.nD Cert.BranchKernel.τ).loc Cert.BranchKernel.main_arg3) = m ((c.tc : Thread Cert.BranchKernel.nD Cert.BranchKernel.τ).loc Cert.BranchKernel.main_arg3))
      ∧ r.2.sem = fun _ => 0)

def quiescent_BranchKernelIdeal [hBranchKernelIdeal : Cert.BranchKernelIdeal.Facts] : Prop :=
  ∀ (m : (ℓ : Loc Cert.BranchKernelIdeal.nD Cert.BranchKernelIdeal.τ Cert.BranchKernelIdeal.sig) → Buf (Elt Ideal) ℓ) (g : Dev Cert.BranchKernelIdeal.nD → PrngReg), Pre_BranchKernelIdeal m →
    θ_run (Cert.BranchKernelIdeal.defs (F := Ideal)) (onTc (τ := Cert.BranchKernelIdeal.τ) (Cert.BranchKernelIdeal.main (F := Ideal))) ⟨m, fun _ => 0, g⟩ (fun r => (∀ c : Dev Cert.BranchKernelIdeal.nD,
      r.2.mem ((c.tc : Thread Cert.BranchKernelIdeal.nD Cert.BranchKernelIdeal.τ).loc Cert.BranchKernelIdeal.main_arg0) = m ((c.tc : Thread Cert.BranchKernelIdeal.nD Cert.BranchKernelIdeal.τ).loc Cert.BranchKernelIdeal.main_arg0)
      ∧ r.2.mem ((c.tc : Thread Cert.BranchKernelIdeal.nD Cert.BranchKernelIdeal.τ).loc Cert.BranchKernelIdeal.main_arg1) = m ((c.tc : Thread Cert.BranchKernelIdeal.nD Cert.BranchKernelIdeal.τ).loc Cert.BranchKernelIdeal.main_arg1)
      ∧ r.2.mem ((c.tc : Thread Cert.BranchKernelIdeal.nD Cert.BranchKernelIdeal.τ).loc Cert.BranchKernelIdeal.main_arg2) = m ((c.tc : Thread Cert.BranchKernelIdeal.nD Cert.BranchKernelIdeal.τ).loc Cert.BranchKernelIdeal.main_arg2)
      ∧ r.2.mem ((c.tc : Thread Cert.BranchKernelIdeal.nD Cert.BranchKernelIdeal.τ).loc Cert.BranchKernelIdeal.main_arg3) = m ((c.tc : Thread Cert.BranchKernelIdeal.nD Cert.BranchKernelIdeal.τ).loc Cert.BranchKernelIdeal.main_arg3))
      ∧ r.2.sem = fun _ => 0)

def quiescent_BranchReferenceIdeal [hBranchReferenceIdeal : Cert.BranchReferenceIdeal.Facts] : Prop :=
  ∀ (m : (ℓ : Loc Cert.BranchReferenceIdeal.nD Cert.BranchReferenceIdeal.τ Cert.BranchReferenceIdeal.sig) → Buf (Elt Ideal) ℓ) (g : Dev Cert.BranchReferenceIdeal.nD → PrngReg), Pre_BranchReferenceIdeal m →
    θ_run (Cert.BranchReferenceIdeal.defs (F := Ideal)) (onTc (τ := Cert.BranchReferenceIdeal.τ) (Cert.BranchReferenceIdeal.main (F := Ideal))) ⟨m, fun _ => 0, g⟩ (fun r => (∀ c : Dev Cert.BranchReferenceIdeal.nD,
      r.2.mem ((c.tc : Thread Cert.BranchReferenceIdeal.nD Cert.BranchReferenceIdeal.τ).loc Cert.BranchReferenceIdeal.main_arg0) = m ((c.tc : Thread Cert.BranchReferenceIdeal.nD Cert.BranchReferenceIdeal.τ).loc Cert.BranchReferenceIdeal.main_arg0)
      ∧ r.2.mem ((c.tc : Thread Cert.BranchReferenceIdeal.nD Cert.BranchReferenceIdeal.τ).loc Cert.BranchReferenceIdeal.main_arg1) = m ((c.tc : Thread Cert.BranchReferenceIdeal.nD Cert.BranchReferenceIdeal.τ).loc Cert.BranchReferenceIdeal.main_arg1)
      ∧ r.2.mem ((c.tc : Thread Cert.BranchReferenceIdeal.nD Cert.BranchReferenceIdeal.τ).loc Cert.BranchReferenceIdeal.main_arg2) = m ((c.tc : Thread Cert.BranchReferenceIdeal.nD Cert.BranchReferenceIdeal.τ).loc Cert.BranchReferenceIdeal.main_arg2)
      ∧ r.2.mem ((c.tc : Thread Cert.BranchReferenceIdeal.nD Cert.BranchReferenceIdeal.τ).loc Cert.BranchReferenceIdeal.main_arg3) = m ((c.tc : Thread Cert.BranchReferenceIdeal.nD Cert.BranchReferenceIdeal.τ).loc Cert.BranchReferenceIdeal.main_arg3))
      ∧ r.2.sem = fun _ => 0)

def quiescent_KeysKernel [hKeysKernel : Cert.KeysKernel.Facts] : Prop :=
  ∀ (m : (ℓ : Loc Cert.KeysKernel.nD Cert.KeysKernel.τ Cert.KeysKernel.sig) → Buf (Elt Bits) ℓ) (g : Dev Cert.KeysKernel.nD → PrngReg), Pre_KeysKernel m →
    θ_run (Cert.KeysKernel.defs (F := Bits)) (onTc (τ := Cert.KeysKernel.τ) (Cert.KeysKernel.main (F := Bits))) ⟨m, fun _ => 0, g⟩ (fun r => (∀ c : Dev Cert.KeysKernel.nD,
      r.2.mem ((c.tc : Thread Cert.KeysKernel.nD Cert.KeysKernel.τ).loc Cert.KeysKernel.main_arg0) = m ((c.tc : Thread Cert.KeysKernel.nD Cert.KeysKernel.τ).loc Cert.KeysKernel.main_arg0)
      ∧ r.2.mem ((c.tc : Thread Cert.KeysKernel.nD Cert.KeysKernel.τ).loc Cert.KeysKernel.main_arg1) = m ((c.tc : Thread Cert.KeysKernel.nD Cert.KeysKernel.τ).loc Cert.KeysKernel.main_arg1)
      ∧ r.2.mem ((c.tc : Thread Cert.KeysKernel.nD Cert.KeysKernel.τ).loc Cert.KeysKernel.main_arg2) = m ((c.tc : Thread Cert.KeysKernel.nD Cert.KeysKernel.τ).loc Cert.KeysKernel.main_arg2)
      ∧ r.2.mem ((c.tc : Thread Cert.KeysKernel.nD Cert.KeysKernel.τ).loc Cert.KeysKernel.main_arg3) = m ((c.tc : Thread Cert.KeysKernel.nD Cert.KeysKernel.τ).loc Cert.KeysKernel.main_arg3))
      ∧ r.2.sem = fun _ => 0)

def quiescent_KeysKernelIdeal [hKeysKernelIdeal : Cert.KeysKernelIdeal.Facts] : Prop :=
  ∀ (m : (ℓ : Loc Cert.KeysKernelIdeal.nD Cert.KeysKernelIdeal.τ Cert.KeysKernelIdeal.sig) → Buf (Elt Ideal) ℓ) (g : Dev Cert.KeysKernelIdeal.nD → PrngReg), Pre_KeysKernelIdeal m →
    θ_run (Cert.KeysKernelIdeal.defs (F := Ideal)) (onTc (τ := Cert.KeysKernelIdeal.τ) (Cert.KeysKernelIdeal.main (F := Ideal))) ⟨m, fun _ => 0, g⟩ (fun r => (∀ c : Dev Cert.KeysKernelIdeal.nD,
      r.2.mem ((c.tc : Thread Cert.KeysKernelIdeal.nD Cert.KeysKernelIdeal.τ).loc Cert.KeysKernelIdeal.main_arg0) = m ((c.tc : Thread Cert.KeysKernelIdeal.nD Cert.KeysKernelIdeal.τ).loc Cert.KeysKernelIdeal.main_arg0)
      ∧ r.2.mem ((c.tc : Thread Cert.KeysKernelIdeal.nD Cert.KeysKernelIdeal.τ).loc Cert.KeysKernelIdeal.main_arg1) = m ((c.tc : Thread Cert.KeysKernelIdeal.nD Cert.KeysKernelIdeal.τ).loc Cert.KeysKernelIdeal.main_arg1)
      ∧ r.2.mem ((c.tc : Thread Cert.KeysKernelIdeal.nD Cert.KeysKernelIdeal.τ).loc Cert.KeysKernelIdeal.main_arg2) = m ((c.tc : Thread Cert.KeysKernelIdeal.nD Cert.KeysKernelIdeal.τ).loc Cert.KeysKernelIdeal.main_arg2)
      ∧ r.2.mem ((c.tc : Thread Cert.KeysKernelIdeal.nD Cert.KeysKernelIdeal.τ).loc Cert.KeysKernelIdeal.main_arg3) = m ((c.tc : Thread Cert.KeysKernelIdeal.nD Cert.KeysKernelIdeal.τ).loc Cert.KeysKernelIdeal.main_arg3))
      ∧ r.2.sem = fun _ => 0)

def quiescent_KeysReferenceIdeal [hKeysReferenceIdeal : Cert.KeysReferenceIdeal.Facts] : Prop :=
  ∀ (m : (ℓ : Loc Cert.KeysReferenceIdeal.nD Cert.KeysReferenceIdeal.τ Cert.KeysReferenceIdeal.sig) → Buf (Elt Ideal) ℓ) (g : Dev Cert.KeysReferenceIdeal.nD → PrngReg), Pre_KeysReferenceIdeal m →
    θ_run (Cert.KeysReferenceIdeal.defs (F := Ideal)) (onTc (τ := Cert.KeysReferenceIdeal.τ) (Cert.KeysReferenceIdeal.main (F := Ideal))) ⟨m, fun _ => 0, g⟩ (fun r => (∀ c : Dev Cert.KeysReferenceIdeal.nD,
      r.2.mem ((c.tc : Thread Cert.KeysReferenceIdeal.nD Cert.KeysReferenceIdeal.τ).loc Cert.KeysReferenceIdeal.main_arg0) = m ((c.tc : Thread Cert.KeysReferenceIdeal.nD Cert.KeysReferenceIdeal.τ).loc Cert.KeysReferenceIdeal.main_arg0)
      ∧ r.2.mem ((c.tc : Thread Cert.KeysReferenceIdeal.nD Cert.KeysReferenceIdeal.τ).loc Cert.KeysReferenceIdeal.main_arg1) = m ((c.tc : Thread Cert.KeysReferenceIdeal.nD Cert.KeysReferenceIdeal.τ).loc Cert.KeysReferenceIdeal.main_arg1)
      ∧ r.2.mem ((c.tc : Thread Cert.KeysReferenceIdeal.nD Cert.KeysReferenceIdeal.τ).loc Cert.KeysReferenceIdeal.main_arg2) = m ((c.tc : Thread Cert.KeysReferenceIdeal.nD Cert.KeysReferenceIdeal.τ).loc Cert.KeysReferenceIdeal.main_arg2)
      ∧ r.2.mem ((c.tc : Thread Cert.KeysReferenceIdeal.nD Cert.KeysReferenceIdeal.τ).loc Cert.KeysReferenceIdeal.main_arg3) = m ((c.tc : Thread Cert.KeysReferenceIdeal.nD Cert.KeysReferenceIdeal.τ).loc Cert.KeysReferenceIdeal.main_arg3))
      ∧ r.2.sem = fun _ => 0)

def quiescent_CrossKernel [hCrossKernel : Cert.CrossKernel.Facts] : Prop :=
  ∀ (m : (ℓ : Loc Cert.CrossKernel.nD Cert.CrossKernel.τ Cert.CrossKernel.sig) → Buf (Elt Bits) ℓ) (g : Dev Cert.CrossKernel.nD → PrngReg), Pre_CrossKernel m →
    θ_run (Cert.CrossKernel.defs (F := Bits)) (onTc (τ := Cert.CrossKernel.τ) (Cert.CrossKernel.main (F := Bits))) ⟨m, fun _ => 0, g⟩ (fun r => (∀ c : Dev Cert.CrossKernel.nD,
      r.2.mem ((c.tc : Thread Cert.CrossKernel.nD Cert.CrossKernel.τ).loc Cert.CrossKernel.main_arg0) = m ((c.tc : Thread Cert.CrossKernel.nD Cert.CrossKernel.τ).loc Cert.CrossKernel.main_arg0)
      ∧ r.2.mem ((c.tc : Thread Cert.CrossKernel.nD Cert.CrossKernel.τ).loc Cert.CrossKernel.main_arg1) = m ((c.tc : Thread Cert.CrossKernel.nD Cert.CrossKernel.τ).loc Cert.CrossKernel.main_arg1)
      ∧ r.2.mem ((c.tc : Thread Cert.CrossKernel.nD Cert.CrossKernel.τ).loc Cert.CrossKernel.main_arg2) = m ((c.tc : Thread Cert.CrossKernel.nD Cert.CrossKernel.τ).loc Cert.CrossKernel.main_arg2)
      ∧ r.2.mem ((c.tc : Thread Cert.CrossKernel.nD Cert.CrossKernel.τ).loc Cert.CrossKernel.main_arg3) = m ((c.tc : Thread Cert.CrossKernel.nD Cert.CrossKernel.τ).loc Cert.CrossKernel.main_arg3)
      ∧ r.2.mem ((c.tc : Thread Cert.CrossKernel.nD Cert.CrossKernel.τ).loc Cert.CrossKernel.main_arg4) = m ((c.tc : Thread Cert.CrossKernel.nD Cert.CrossKernel.τ).loc Cert.CrossKernel.main_arg4))
      ∧ r.2.sem = fun _ => 0)

def quiescent_CrossKernelIdeal [hCrossKernelIdeal : Cert.CrossKernelIdeal.Facts] : Prop :=
  ∀ (m : (ℓ : Loc Cert.CrossKernelIdeal.nD Cert.CrossKernelIdeal.τ Cert.CrossKernelIdeal.sig) → Buf (Elt Ideal) ℓ) (g : Dev Cert.CrossKernelIdeal.nD → PrngReg), Pre_CrossKernelIdeal m →
    θ_run (Cert.CrossKernelIdeal.defs (F := Ideal)) (onTc (τ := Cert.CrossKernelIdeal.τ) (Cert.CrossKernelIdeal.main (F := Ideal))) ⟨m, fun _ => 0, g⟩ (fun r => (∀ c : Dev Cert.CrossKernelIdeal.nD,
      r.2.mem ((c.tc : Thread Cert.CrossKernelIdeal.nD Cert.CrossKernelIdeal.τ).loc Cert.CrossKernelIdeal.main_arg0) = m ((c.tc : Thread Cert.CrossKernelIdeal.nD Cert.CrossKernelIdeal.τ).loc Cert.CrossKernelIdeal.main_arg0)
      ∧ r.2.mem ((c.tc : Thread Cert.CrossKernelIdeal.nD Cert.CrossKernelIdeal.τ).loc Cert.CrossKernelIdeal.main_arg1) = m ((c.tc : Thread Cert.CrossKernelIdeal.nD Cert.CrossKernelIdeal.τ).loc Cert.CrossKernelIdeal.main_arg1)
      ∧ r.2.mem ((c.tc : Thread Cert.CrossKernelIdeal.nD Cert.CrossKernelIdeal.τ).loc Cert.CrossKernelIdeal.main_arg2) = m ((c.tc : Thread Cert.CrossKernelIdeal.nD Cert.CrossKernelIdeal.τ).loc Cert.CrossKernelIdeal.main_arg2)
      ∧ r.2.mem ((c.tc : Thread Cert.CrossKernelIdeal.nD Cert.CrossKernelIdeal.τ).loc Cert.CrossKernelIdeal.main_arg3) = m ((c.tc : Thread Cert.CrossKernelIdeal.nD Cert.CrossKernelIdeal.τ).loc Cert.CrossKernelIdeal.main_arg3)
      ∧ r.2.mem ((c.tc : Thread Cert.CrossKernelIdeal.nD Cert.CrossKernelIdeal.τ).loc Cert.CrossKernelIdeal.main_arg4) = m ((c.tc : Thread Cert.CrossKernelIdeal.nD Cert.CrossKernelIdeal.τ).loc Cert.CrossKernelIdeal.main_arg4))
      ∧ r.2.sem = fun _ => 0)

def quiescent_CrossReferenceIdeal [hCrossReferenceIdeal : Cert.CrossReferenceIdeal.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2)
      ∧ r.2.mem ((c.tc : Thread Cert.CrossReferenceIdeal.nD Cert.CrossReferenceIdeal.τ).loc Cert.CrossReferenceIdeal.main_arg3) = m ((c.tc : Thread Cert.CrossReferenceIdeal.nD Cert.CrossReferenceIdeal.τ).loc Cert.CrossReferenceIdeal.main_arg3)
      ∧ r.2.mem ((c.tc : Thread Cert.CrossReferenceIdeal.nD Cert.CrossReferenceIdeal.τ).loc Cert.CrossReferenceIdeal.main_arg4) = m ((c.tc : Thread Cert.CrossReferenceIdeal.nD Cert.CrossReferenceIdeal.τ).loc Cert.CrossReferenceIdeal.main_arg4))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4)
      ∧ r.2.mem ((c.tc : Thread Cert.LossKernel.nD Cert.LossKernel.τ).loc Cert.LossKernel.main_arg5) = m ((c.tc : Thread Cert.LossKernel.nD Cert.LossKernel.τ).loc Cert.LossKernel.main_arg5))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_MemoryKernel [hMemoryKernel : Cert.MemoryKernel.Facts] : Prop :=
  ∀ (m : (ℓ : Loc Cert.MemoryKernel.nD Cert.MemoryKernel.τ Cert.MemoryKernel.sig) → Buf (Elt Bits) ℓ) (g : Dev Cert.MemoryKernel.nD → PrngReg), Pre_MemoryKernel m →
    θ_run (Cert.MemoryKernel.defs (F := Bits)) (onTc (τ := Cert.MemoryKernel.τ) (Cert.MemoryKernel.main (F := Bits))) ⟨m, fun _ => 0, g⟩ (fun r => (∀ c : Dev Cert.MemoryKernel.nD,
      r.2.mem ((c.tc : Thread Cert.MemoryKernel.nD Cert.MemoryKernel.τ).loc Cert.MemoryKernel.main_arg0) = m ((c.tc : Thread Cert.MemoryKernel.nD Cert.MemoryKernel.τ).loc Cert.MemoryKernel.main_arg0)
      ∧ r.2.mem ((c.tc : Thread Cert.MemoryKernel.nD Cert.MemoryKernel.τ).loc Cert.MemoryKernel.main_arg1) = m ((c.tc : Thread Cert.MemoryKernel.nD Cert.MemoryKernel.τ).loc Cert.MemoryKernel.main_arg1)
      ∧ r.2.mem ((c.tc : Thread Cert.MemoryKernel.nD Cert.MemoryKernel.τ).loc Cert.MemoryKernel.main_arg2) = m ((c.tc : Thread Cert.MemoryKernel.nD Cert.MemoryKernel.τ).loc Cert.MemoryKernel.main_arg2))
      ∧ r.2.sem = fun _ => 0)

def quiescent_MemoryKernelIdeal [hMemoryKernelIdeal : Cert.MemoryKernelIdeal.Facts] : Prop :=
  ∀ (m : (ℓ : Loc Cert.MemoryKernelIdeal.nD Cert.MemoryKernelIdeal.τ Cert.MemoryKernelIdeal.sig) → Buf (Elt Ideal) ℓ) (g : Dev Cert.MemoryKernelIdeal.nD → PrngReg), Pre_MemoryKernelIdeal m →
    θ_run (Cert.MemoryKernelIdeal.defs (F := Ideal)) (onTc (τ := Cert.MemoryKernelIdeal.τ) (Cert.MemoryKernelIdeal.main (F := Ideal))) ⟨m, fun _ => 0, g⟩ (fun r => (∀ c : Dev Cert.MemoryKernelIdeal.nD,
      r.2.mem ((c.tc : Thread Cert.MemoryKernelIdeal.nD Cert.MemoryKernelIdeal.τ).loc Cert.MemoryKernelIdeal.main_arg0) = m ((c.tc : Thread Cert.MemoryKernelIdeal.nD Cert.MemoryKernelIdeal.τ).loc Cert.MemoryKernelIdeal.main_arg0)
      ∧ r.2.mem ((c.tc : Thread Cert.MemoryKernelIdeal.nD Cert.MemoryKernelIdeal.τ).loc Cert.MemoryKernelIdeal.main_arg1) = m ((c.tc : Thread Cert.MemoryKernelIdeal.nD Cert.MemoryKernelIdeal.τ).loc Cert.MemoryKernelIdeal.main_arg1)
      ∧ r.2.mem ((c.tc : Thread Cert.MemoryKernelIdeal.nD Cert.MemoryKernelIdeal.τ).loc Cert.MemoryKernelIdeal.main_arg2) = m ((c.tc : Thread Cert.MemoryKernelIdeal.nD Cert.MemoryKernelIdeal.τ).loc Cert.MemoryKernelIdeal.main_arg2))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2))
      ∧ r.2.sem = fun _ => 0)

def quiescent_RecallKernel [hRecallKernel : Cert.RecallKernel.Facts] : Prop :=
  ∀ (m : (ℓ : Loc Cert.RecallKernel.nD Cert.RecallKernel.τ Cert.RecallKernel.sig) → Buf (Elt Bits) ℓ) (g : Dev Cert.RecallKernel.nD → PrngReg), Pre_RecallKernel m →
    θ_run (Cert.RecallKernel.defs (F := Bits)) (onTc (τ := Cert.RecallKernel.τ) (Cert.RecallKernel.main (F := Bits))) ⟨m, fun _ => 0, g⟩ (fun r => (∀ c : Dev Cert.RecallKernel.nD,
      r.2.mem ((c.tc : Thread Cert.RecallKernel.nD Cert.RecallKernel.τ).loc Cert.RecallKernel.main_arg0) = m ((c.tc : Thread Cert.RecallKernel.nD Cert.RecallKernel.τ).loc Cert.RecallKernel.main_arg0)
      ∧ r.2.mem ((c.tc : Thread Cert.RecallKernel.nD Cert.RecallKernel.τ).loc Cert.RecallKernel.main_arg1) = m ((c.tc : Thread Cert.RecallKernel.nD Cert.RecallKernel.τ).loc Cert.RecallKernel.main_arg1)
      ∧ r.2.mem ((c.tc : Thread Cert.RecallKernel.nD Cert.RecallKernel.τ).loc Cert.RecallKernel.main_arg2) = m ((c.tc : Thread Cert.RecallKernel.nD Cert.RecallKernel.τ).loc Cert.RecallKernel.main_arg2)
      ∧ r.2.mem ((c.tc : Thread Cert.RecallKernel.nD Cert.RecallKernel.τ).loc Cert.RecallKernel.main_arg3) = m ((c.tc : Thread Cert.RecallKernel.nD Cert.RecallKernel.τ).loc Cert.RecallKernel.main_arg3))
      ∧ r.2.sem = fun _ => 0)

def quiescent_RecallKernelIdeal [hRecallKernelIdeal : Cert.RecallKernelIdeal.Facts] : Prop :=
  ∀ (m : (ℓ : Loc Cert.RecallKernelIdeal.nD Cert.RecallKernelIdeal.τ Cert.RecallKernelIdeal.sig) → Buf (Elt Ideal) ℓ) (g : Dev Cert.RecallKernelIdeal.nD → PrngReg), Pre_RecallKernelIdeal m →
    θ_run (Cert.RecallKernelIdeal.defs (F := Ideal)) (onTc (τ := Cert.RecallKernelIdeal.τ) (Cert.RecallKernelIdeal.main (F := Ideal))) ⟨m, fun _ => 0, g⟩ (fun r => (∀ c : Dev Cert.RecallKernelIdeal.nD,
      r.2.mem ((c.tc : Thread Cert.RecallKernelIdeal.nD Cert.RecallKernelIdeal.τ).loc Cert.RecallKernelIdeal.main_arg0) = m ((c.tc : Thread Cert.RecallKernelIdeal.nD Cert.RecallKernelIdeal.τ).loc Cert.RecallKernelIdeal.main_arg0)
      ∧ r.2.mem ((c.tc : Thread Cert.RecallKernelIdeal.nD Cert.RecallKernelIdeal.τ).loc Cert.RecallKernelIdeal.main_arg1) = m ((c.tc : Thread Cert.RecallKernelIdeal.nD Cert.RecallKernelIdeal.τ).loc Cert.RecallKernelIdeal.main_arg1)
      ∧ r.2.mem ((c.tc : Thread Cert.RecallKernelIdeal.nD Cert.RecallKernelIdeal.τ).loc Cert.RecallKernelIdeal.main_arg2) = m ((c.tc : Thread Cert.RecallKernelIdeal.nD Cert.RecallKernelIdeal.τ).loc Cert.RecallKernelIdeal.main_arg2)
      ∧ r.2.mem ((c.tc : Thread Cert.RecallKernelIdeal.nD Cert.RecallKernelIdeal.τ).loc Cert.RecallKernelIdeal.main_arg3) = m ((c.tc : Thread Cert.RecallKernelIdeal.nD Cert.RecallKernelIdeal.τ).loc Cert.RecallKernelIdeal.main_arg3))
      ∧ r.2.sem = fun _ => 0)

def quiescent_RecallReferenceIdeal [hRecallReferenceIdeal : Cert.RecallReferenceIdeal.Facts] : Prop :=
  ∀ (m : (ℓ : Loc Cert.RecallReferenceIdeal.nD Cert.RecallReferenceIdeal.τ Cert.RecallReferenceIdeal.sig) → Buf (Elt Ideal) ℓ) (g : Dev Cert.RecallReferenceIdeal.nD → PrngReg), Pre_RecallReferenceIdeal m →
    θ_run (Cert.RecallReferenceIdeal.defs (F := Ideal)) (onTc (τ := Cert.RecallReferenceIdeal.τ) (Cert.RecallReferenceIdeal.main (F := Ideal))) ⟨m, fun _ => 0, g⟩ (fun r => (∀ c : Dev Cert.RecallReferenceIdeal.nD,
      r.2.mem ((c.tc : Thread Cert.RecallReferenceIdeal.nD Cert.RecallReferenceIdeal.τ).loc Cert.RecallReferenceIdeal.main_arg0) = m ((c.tc : Thread Cert.RecallReferenceIdeal.nD Cert.RecallReferenceIdeal.τ).loc Cert.RecallReferenceIdeal.main_arg0)
      ∧ r.2.mem ((c.tc : Thread Cert.RecallReferenceIdeal.nD Cert.RecallReferenceIdeal.τ).loc Cert.RecallReferenceIdeal.main_arg1) = m ((c.tc : Thread Cert.RecallReferenceIdeal.nD Cert.RecallReferenceIdeal.τ).loc Cert.RecallReferenceIdeal.main_arg1)
      ∧ r.2.mem ((c.tc : Thread Cert.RecallReferenceIdeal.nD Cert.RecallReferenceIdeal.τ).loc Cert.RecallReferenceIdeal.main_arg2) = m ((c.tc : Thread Cert.RecallReferenceIdeal.nD Cert.RecallReferenceIdeal.τ).loc Cert.RecallReferenceIdeal.main_arg2)
      ∧ r.2.mem ((c.tc : Thread Cert.RecallReferenceIdeal.nD Cert.RecallReferenceIdeal.τ).loc Cert.RecallReferenceIdeal.main_arg3) = m ((c.tc : Thread Cert.RecallReferenceIdeal.nD Cert.RecallReferenceIdeal.τ).loc Cert.RecallReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_v42) = v4 c
          ∧ r.2.mem ((c.tc : Thread Cert.ReferenceIdeal.nD Cert.ReferenceIdeal.τ).loc Cert.ReferenceIdeal.main_v44) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)
      ∧ m' ((c.tc : Thread Cert.InReferenceIdeal.nD Cert.InReferenceIdeal.τ).loc Cert.InReferenceIdeal.main_arg7) = m ((c.tc : Thread Cert.InKernelIdeal.nD Cert.InKernelIdeal.τ).loc Cert.InKernelIdeal.main_arg7)
      ∧ m' ((c.tc : Thread Cert.InReferenceIdeal.nD Cert.InReferenceIdeal.τ).loc Cert.InReferenceIdeal.main_arg8) = m ((c.tc : Thread Cert.InKernelIdeal.nD Cert.InKernelIdeal.τ).loc Cert.InKernelIdeal.main_arg8)) →
    ∃ (v0 : (c : Dev Cert.InKernelIdeal.nD) → Buf (Elt Ideal) ((c.tc : Thread Cert.InKernelIdeal.nD Cert.InKernelIdeal.τ).loc Cert.InKernelIdeal.main_v3_0)) (v1 : (c : Dev Cert.InKernelIdeal.nD) → Buf (Elt Ideal) ((c.tc : Thread Cert.InKernelIdeal.nD Cert.InKernelIdeal.τ).loc Cert.InKernelIdeal.main_v3_1)) (v2 : (c : Dev Cert.InKernelIdeal.nD) → Buf (Elt Ideal) ((c.tc : Thread Cert.InKernelIdeal.nD Cert.InKernelIdeal.τ).loc Cert.InKernelIdeal.main_v3_2)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v3_0) = v0 c
          ∧ r.2.mem ((c.tc : Thread Cert.InKernelIdeal.nD Cert.InKernelIdeal.τ).loc Cert.InKernelIdeal.main_v3_1) = v1 c
          ∧ r.2.mem ((c.tc : Thread Cert.InKernelIdeal.nD Cert.InKernelIdeal.τ).loc Cert.InKernelIdeal.main_v3_2) = v2 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
          ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
          ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v60) = v0 c
          ∧ r.2.mem ((c.tc : Thread Cert.InReferenceIdeal.nD Cert.InReferenceIdeal.τ).loc Cert.InReferenceIdeal.main_v61) = v1 c
          ∧ r.2.mem ((c.tc : Thread Cert.InReferenceIdeal.nD Cert.InReferenceIdeal.τ).loc Cert.InReferenceIdeal.main_v62) = v2 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7)
          ∧ r.2.mem ((c.tc : Thread Cert.InReferenceIdeal.nD Cert.InReferenceIdeal.τ).loc Cert.InReferenceIdeal.main_arg8) = m' ((c.tc : Thread Cert.InReferenceIdeal.nD Cert.InReferenceIdeal.τ).loc Cert.InReferenceIdeal.main_arg8))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v19_0)) (v1 : (c : Dev Cert.FfnKernelIdeal.nD) → Buf (Elt Ideal) ((c.tc : Thread Cert.FfnKernelIdeal.nD Cert.FfnKernelIdeal.τ).loc Cert.FfnKernelIdeal.main_v19_1)) (v2 : (c : Dev Cert.FfnKernelIdeal.nD) → Buf (Elt Ideal) ((c.tc : Thread Cert.FfnKernelIdeal.nD Cert.FfnKernelIdeal.τ).loc Cert.FfnKernelIdeal.main_v19_2)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v19_0) = v0 c
          ∧ r.2.mem ((c.tc : Thread Cert.FfnKernelIdeal.nD Cert.FfnKernelIdeal.τ).loc Cert.FfnKernelIdeal.main_v19_1) = v1 c
          ∧ r.2.mem ((c.tc : Thread Cert.FfnKernelIdeal.nD Cert.FfnKernelIdeal.τ).loc Cert.FfnKernelIdeal.main_v19_2) = v2 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v48) = v0 c
          ∧ r.2.mem ((c.tc : Thread Cert.FfnReferenceIdeal.nD Cert.FfnReferenceIdeal.τ).loc Cert.FfnReferenceIdeal.main_v49) = v1 c
          ∧ r.2.mem ((c.tc : Thread Cert.FfnReferenceIdeal.nD Cert.FfnReferenceIdeal.τ).loc Cert.FfnReferenceIdeal.main_v50) = v2 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_XattnKernel_XattnKernelIdeal : Prop :=
  True

def algebraic_XattnKernelIdeal_XattnReferenceIdeal_pre_xattn_finite [hXattnKernelIdeal : Cert.XattnKernelIdeal.Facts] [hXattnReferenceIdeal : Cert.XattnReferenceIdeal.Facts] [hPre_xattn_finite : Cert.Pre_xattn_finite.Facts] : Prop :=
  ∀ (m : (ℓ : Loc Cert.XattnKernelIdeal.nD Cert.XattnKernelIdeal.τ Cert.XattnKernelIdeal.sig) → Buf (Elt Ideal) ℓ) (g : Dev Cert.XattnKernelIdeal.nD → PrngReg)
    (m' : (ℓ : Loc Cert.XattnReferenceIdeal.nD Cert.XattnReferenceIdeal.τ Cert.XattnReferenceIdeal.sig) → Buf (Elt Ideal) ℓ) (g' : Dev Cert.XattnReferenceIdeal.nD → PrngReg), Pre_XattnKernelIdeal_xattn_finite m →
    (∀ c : Dev Cert.XattnKernelIdeal.nD,
      m' ((c.tc : Thread Cert.XattnReferenceIdeal.nD Cert.XattnReferenceIdeal.τ).loc Cert.XattnReferenceIdeal.main_arg0) = m ((c.tc : Thread Cert.XattnKernelIdeal.nD Cert.XattnKernelIdeal.τ).loc Cert.XattnKernelIdeal.main_arg0)
      ∧ m' ((c.tc : Thread Cert.XattnReferenceIdeal.nD Cert.XattnReferenceIdeal.τ).loc Cert.XattnReferenceIdeal.main_arg1) = m ((c.tc : Thread Cert.XattnKernelIdeal.nD Cert.XattnKernelIdeal.τ).loc Cert.XattnKernelIdeal.main_arg1)
      ∧ m' ((c.tc : Thread Cert.XattnReferenceIdeal.nD Cert.XattnReferenceIdeal.τ).loc Cert.XattnReferenceIdeal.main_arg2) = m ((c.tc : Thread Cert.XattnKernelIdeal.nD Cert.XattnKernelIdeal.τ).loc Cert.XattnKernelIdeal.main_arg2)
      ∧ m' ((c.tc : Thread Cert.XattnReferenceIdeal.nD Cert.XattnReferenceIdeal.τ).loc Cert.XattnReferenceIdeal.main_arg3) = m ((c.tc : Thread Cert.XattnKernelIdeal.nD Cert.XattnKernelIdeal.τ).loc Cert.XattnKernelIdeal.main_arg3)
      ∧ m' ((c.tc : Thread Cert.XattnReferenceIdeal.nD Cert.XattnReferenceIdeal.τ).loc Cert.XattnReferenceIdeal.main_arg4) = m ((c.tc : Thread Cert.XattnKernelIdeal.nD Cert.XattnKernelIdeal.τ).loc Cert.XattnKernelIdeal.main_arg4)
      ∧ m' ((c.tc : Thread Cert.XattnReferenceIdeal.nD Cert.XattnReferenceIdeal.τ).loc Cert.XattnReferenceIdeal.main_arg5) = m ((c.tc : Thread Cert.XattnKernelIdeal.nD Cert.XattnKernelIdeal.τ).loc Cert.XattnKernelIdeal.main_arg5)) →
    ∃ (v0 : (c : Dev Cert.XattnKernelIdeal.nD) → Buf (Elt Ideal) ((c.tc : Thread Cert.XattnKernelIdeal.nD Cert.XattnKernelIdeal.τ).loc Cert.XattnKernelIdeal.main_v20_0)) (v1 : (c : Dev Cert.XattnKernelIdeal.nD) → Buf (Elt Ideal) ((c.tc : Thread Cert.XattnKernelIdeal.nD Cert.XattnKernelIdeal.τ).loc Cert.XattnKernelIdeal.main_v20_1)) (v2 : (c : Dev Cert.XattnKernelIdeal.nD) → Buf (Elt Ideal) ((c.tc : Thread Cert.XattnKernelIdeal.nD Cert.XattnKernelIdeal.τ).loc Cert.XattnKernelIdeal.main_v20_2)) (v3 : (c : Dev Cert.XattnKernelIdeal.nD) → Buf (Elt Ideal) ((c.tc : Thread Cert.XattnKernelIdeal.nD Cert.XattnKernelIdeal.τ).loc Cert.XattnKernelIdeal.main_v20_3)),
      θ_run (Cert.XattnKernelIdeal.defs (F := Ideal)) (onTc (τ := Cert.XattnKernelIdeal.τ) (Cert.XattnKernelIdeal.main (F := Ideal))) ⟨m, fun _ => 0, g⟩ (fun r => ∀ c : Dev Cert.XattnKernelIdeal.nD,
          r.2.mem ((c.tc : Thread Cert.XattnKernelIdeal.nD Cert.XattnKernelIdeal.τ).loc Cert.XattnKernelIdeal.main_v20_0) = v0 c
          ∧ r.2.mem ((c.tc : Thread Cert.XattnKernelIdeal.nD Cert.XattnKernelIdeal.τ).loc Cert.XattnKernelIdeal.main_v20_1) = v1 c
          ∧ r.2.mem ((c.tc : Thread Cert.XattnKernelIdeal.nD Cert.XattnKernelIdeal.τ).loc Cert.XattnKernelIdeal.main_v20_2) = v2 c
          ∧ r.2.mem ((c.tc : Thread Cert.XattnKernelIdeal.nD Cert.XattnKernelIdeal.τ).loc Cert.XattnKernelIdeal.main_v20_3) = v3 c
          ∧ r.2.mem ((c.tc : Thread Cert.XattnKernelIdeal.nD Cert.XattnKernelIdeal.τ).loc Cert.XattnKernelIdeal.main_arg0) = m ((c.tc : Thread Cert.XattnKernelIdeal.nD Cert.XattnKernelIdeal.τ).loc Cert.XattnKernelIdeal.main_arg0)
          ∧ r.2.mem ((c.tc : Thread Cert.XattnKernelIdeal.nD Cert.XattnKernelIdeal.τ).loc Cert.XattnKernelIdeal.main_arg1) = m ((c.tc : Thread Cert.XattnKernelIdeal.nD Cert.XattnKernelIdeal.τ).loc Cert.XattnKernelIdeal.main_arg1)
          ∧ r.2.mem ((c.tc : Thread Cert.XattnKernelIdeal.nD Cert.XattnKernelIdeal.τ).loc Cert.XattnKernelIdeal.main_arg2) = m ((c.tc : Thread Cert.XattnKernelIdeal.nD Cert.XattnKernelIdeal.τ).loc Cert.XattnKernelIdeal.main_arg2)
          ∧ r.2.mem ((c.tc : Thread Cert.XattnKernelIdeal.nD Cert.XattnKernelIdeal.τ).loc Cert.XattnKernelIdeal.main_arg3) = m ((c.tc : Thread Cert.XattnKernelIdeal.nD Cert.XattnKernelIdeal.τ).loc Cert.XattnKernelIdeal.main_arg3)
          ∧ r.2.mem ((c.tc : Thread Cert.XattnKernelIdeal.nD Cert.XattnKernelIdeal.τ).loc Cert.XattnKernelIdeal.main_arg4) = m ((c.tc : Thread Cert.XattnKernelIdeal.nD Cert.XattnKernelIdeal.τ).loc Cert.XattnKernelIdeal.main_arg4)
          ∧ r.2.mem ((c.tc : Thread Cert.XattnKernelIdeal.nD Cert.XattnKernelIdeal.τ).loc Cert.XattnKernelIdeal.main_arg5) = m ((c.tc : Thread Cert.XattnKernelIdeal.nD Cert.XattnKernelIdeal.τ).loc Cert.XattnKernelIdeal.main_arg5))
      ∧ θ_run (Cert.XattnReferenceIdeal.defs (F := Ideal)) (onTc (τ := Cert.XattnReferenceIdeal.τ) (Cert.XattnReferenceIdeal.main (F := Ideal))) ⟨m', fun _ => 0, g'⟩ (fun r => ∀ c : Dev Cert.XattnReferenceIdeal.nD,
          r.2.mem ((c.tc : Thread Cert.XattnReferenceIdeal.nD Cert.XattnReferenceIdeal.τ).loc Cert.XattnReferenceIdeal.main_v107) = v0 c
          ∧ r.2.mem ((c.tc : Thread Cert.XattnReferenceIdeal.nD Cert.XattnReferenceIdeal.τ).loc Cert.XattnReferenceIdeal.main_v108) = v1 c
          ∧ r.2.mem ((c.tc : Thread Cert.XattnReferenceIdeal.nD Cert.XattnReferenceIdeal.τ).loc Cert.XattnReferenceIdeal.main_v82) = v2 c
          ∧ r.2.mem ((c.tc : Thread Cert.XattnReferenceIdeal.nD Cert.XattnReferenceIdeal.τ).loc Cert.XattnReferenceIdeal.main_v109) = v3 c
          ∧ r.2.mem ((c.tc : Thread Cert.XattnReferenceIdeal.nD Cert.XattnReferenceIdeal.τ).loc Cert.XattnReferenceIdeal.main_arg0) = m' ((c.tc : Thread Cert.XattnReferenceIdeal.nD Cert.XattnReferenceIdeal.τ).loc Cert.XattnReferenceIdeal.main_arg0)
          ∧ r.2.mem ((c.tc : Thread Cert.XattnReferenceIdeal.nD Cert.XattnReferenceIdeal.τ).loc Cert.XattnReferenceIdeal.main_arg1) = m' ((c.tc : Thread Cert.XattnReferenceIdeal.nD Cert.XattnReferenceIdeal.τ).loc Cert.XattnReferenceIdeal.main_arg1)
          ∧ r.2.mem ((c.tc : Thread Cert.XattnReferenceIdeal.nD Cert.XattnReferenceIdeal.τ).loc Cert.XattnReferenceIdeal.main_arg2) = m' ((c.tc : Thread Cert.XattnReferenceIdeal.nD Cert.XattnReferenceIdeal.τ).loc Cert.XattnReferenceIdeal.main_arg2)
          ∧ r.2.mem ((c.tc : Thread Cert.XattnReferenceIdeal.nD Cert.XattnReferenceIdeal.τ).loc Cert.XattnReferenceIdeal.main_arg3) = m' ((c.tc : Thread Cert.XattnReferenceIdeal.nD Cert.XattnReferenceIdeal.τ).loc Cert.XattnReferenceIdeal.main_arg3)
          ∧ r.2.mem ((c.tc : Thread Cert.XattnReferenceIdeal.nD Cert.XattnReferenceIdeal.τ).loc Cert.XattnReferenceIdeal.main_arg4) = m' ((c.tc : Thread Cert.XattnReferenceIdeal.nD Cert.XattnReferenceIdeal.τ).loc Cert.XattnReferenceIdeal.main_arg4)
          ∧ r.2.mem ((c.tc : Thread Cert.XattnReferenceIdeal.nD Cert.XattnReferenceIdeal.τ).loc Cert.XattnReferenceIdeal.main_arg5) = m' ((c.tc : Thread Cert.XattnReferenceIdeal.nD Cert.XattnReferenceIdeal.τ).loc Cert.XattnReferenceIdeal.main_arg5))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v5) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v0)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v7) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)) →
    ∃ (v0 : (c : Dev Cert.OutKernelIdeal.nD) → Buf (Elt Ideal) ((c.tc : Thread Cert.OutKernelIdeal.nD Cert.OutKernelIdeal.τ).loc Cert.OutKernelIdeal.main_v0)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v0) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v5) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_QueryKernel_QueryKernelIdeal : Prop :=
  True

def algebraic_QueryKernelIdeal_QueryReferenceIdeal [hQueryKernelIdeal : Cert.QueryKernelIdeal.Facts] [hQueryReferenceIdeal : Cert.QueryReferenceIdeal.Facts] : Prop :=
  ∀ (m : (ℓ : Loc Cert.QueryKernelIdeal.nD Cert.QueryKernelIdeal.τ Cert.QueryKernelIdeal.sig) → Buf (Elt Ideal) ℓ) (g : Dev Cert.QueryKernelIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryKernelIdeal m →
    (∀ c : Dev Cert.QueryKernelIdeal.nD,
      m' ((c.tc : Thread Cert.QueryReferenceIdeal.nD Cert.QueryReferenceIdeal.τ).loc Cert.QueryReferenceIdeal.main_arg0) = m ((c.tc : Thread Cert.QueryKernelIdeal.nD Cert.QueryKernelIdeal.τ).loc Cert.QueryKernelIdeal.main_arg0)
      ∧ m' ((c.tc : Thread Cert.QueryReferenceIdeal.nD Cert.QueryReferenceIdeal.τ).loc Cert.QueryReferenceIdeal.main_arg1) = m ((c.tc : Thread Cert.QueryKernelIdeal.nD Cert.QueryKernelIdeal.τ).loc Cert.QueryKernelIdeal.main_arg1)) →
    ∃ (v0 : (c : Dev Cert.QueryKernelIdeal.nD) → Buf (Elt Ideal) ((c.tc : Thread Cert.QueryKernelIdeal.nD Cert.QueryKernelIdeal.τ).loc Cert.QueryKernelIdeal.main_v0)),
      θ_run (Cert.QueryKernelIdeal.defs (F := Ideal)) (onTc (τ := Cert.QueryKernelIdeal.τ) (Cert.QueryKernelIdeal.main (F := Ideal))) ⟨m, fun _ => 0, g⟩ (fun r => ∀ c : Dev Cert.QueryKernelIdeal.nD,
          r.2.mem ((c.tc : Thread Cert.QueryKernelIdeal.nD Cert.QueryKernelIdeal.τ).loc Cert.QueryKernelIdeal.main_v0) = v0 c
          ∧ r.2.mem ((c.tc : Thread Cert.QueryKernelIdeal.nD Cert.QueryKernelIdeal.τ).loc Cert.QueryKernelIdeal.main_arg0) = m ((c.tc : Thread Cert.QueryKernelIdeal.nD Cert.QueryKernelIdeal.τ).loc Cert.QueryKernelIdeal.main_arg0)
          ∧ r.2.mem ((c.tc : Thread Cert.QueryKernelIdeal.nD Cert.QueryKernelIdeal.τ).loc Cert.QueryKernelIdeal.main_arg1) = m ((c.tc : Thread Cert.QueryKernelIdeal.nD Cert.QueryKernelIdeal.τ).loc Cert.QueryKernelIdeal.main_arg1))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v6) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1))

def preserves_PairKernel_PairKernelIdeal : Prop :=
  True

def algebraic_PairKernelIdeal_PairReferenceIdeal [hPairKernelIdeal : Cert.PairKernelIdeal.Facts] [hPairReferenceIdeal : Cert.PairReferenceIdeal.Facts] : Prop :=
  ∀ (m : (ℓ : Loc Cert.PairKernelIdeal.nD Cert.PairKernelIdeal.τ Cert.PairKernelIdeal.sig) → Buf (Elt Ideal) ℓ) (g : Dev Cert.PairKernelIdeal.nD → PrngReg)
    (m' : (ℓ : Loc Cert.PairReferenceIdeal.nD Cert.PairReferenceIdeal.τ Cert.PairReferenceIdeal.sig) → Buf (Elt Ideal) ℓ) (g' : Dev Cert.PairReferenceIdeal.nD → PrngReg), Pre_PairKernelIdeal m →
    (∀ c : Dev Cert.PairKernelIdeal.nD,
      m' ((c.tc : Thread Cert.PairReferenceIdeal.nD Cert.PairReferenceIdeal.τ).loc Cert.PairReferenceIdeal.main_arg0) = m ((c.tc : Thread Cert.PairKernelIdeal.nD Cert.PairKernelIdeal.τ).loc Cert.PairKernelIdeal.main_arg0)
      ∧ m' ((c.tc : Thread Cert.PairReferenceIdeal.nD Cert.PairReferenceIdeal.τ).loc Cert.PairReferenceIdeal.main_arg1) = m ((c.tc : Thread Cert.PairKernelIdeal.nD Cert.PairKernelIdeal.τ).loc Cert.PairKernelIdeal.main_arg1)
      ∧ m' ((c.tc : Thread Cert.PairReferenceIdeal.nD Cert.PairReferenceIdeal.τ).loc Cert.PairReferenceIdeal.main_arg2) = m ((c.tc : Thread Cert.PairKernelIdeal.nD Cert.PairKernelIdeal.τ).loc Cert.PairKernelIdeal.main_arg2)
      ∧ m' ((c.tc : Thread Cert.PairReferenceIdeal.nD Cert.PairReferenceIdeal.τ).loc Cert.PairReferenceIdeal.main_arg3) = m ((c.tc : Thread Cert.PairKernelIdeal.nD Cert.PairKernelIdeal.τ).loc Cert.PairKernelIdeal.main_arg3)) →
    ∃ (v0 : (c : Dev Cert.PairKernelIdeal.nD) → Buf (Elt Ideal) ((c.tc : Thread Cert.PairKernelIdeal.nD Cert.PairKernelIdeal.τ).loc Cert.PairKernelIdeal.main_v0_0)) (v1 : (c : Dev Cert.PairKernelIdeal.nD) → Buf (Elt Ideal) ((c.tc : Thread Cert.PairKernelIdeal.nD Cert.PairKernelIdeal.τ).loc Cert.PairKernelIdeal.main_v0_1)),
      θ_run (Cert.PairKernelIdeal.defs (F := Ideal)) (onTc (τ := Cert.PairKernelIdeal.τ) (Cert.PairKernelIdeal.main (F := Ideal))) ⟨m, fun _ => 0, g⟩ (fun r => ∀ c : Dev Cert.PairKernelIdeal.nD,
          r.2.mem ((c.tc : Thread Cert.PairKernelIdeal.nD Cert.PairKernelIdeal.τ).loc Cert.PairKernelIdeal.main_v0_0) = v0 c
          ∧ r.2.mem ((c.tc : Thread Cert.PairKernelIdeal.nD Cert.PairKernelIdeal.τ).loc Cert.PairKernelIdeal.main_v0_1) = v1 c
          ∧ r.2.mem ((c.tc : Thread Cert.PairKernelIdeal.nD Cert.PairKernelIdeal.τ).loc Cert.PairKernelIdeal.main_arg0) = m ((c.tc : Thread Cert.PairKernelIdeal.nD Cert.PairKernelIdeal.τ).loc Cert.PairKernelIdeal.main_arg0)
          ∧ r.2.mem ((c.tc : Thread Cert.PairKernelIdeal.nD Cert.PairKernelIdeal.τ).loc Cert.PairKernelIdeal.main_arg1) = m ((c.tc : Thread Cert.PairKernelIdeal.nD Cert.PairKernelIdeal.τ).loc Cert.PairKernelIdeal.main_arg1)
          ∧ r.2.mem ((c.tc : Thread Cert.PairKernelIdeal.nD Cert.PairKernelIdeal.τ).loc Cert.PairKernelIdeal.main_arg2) = m ((c.tc : Thread Cert.PairKernelIdeal.nD Cert.PairKernelIdeal.τ).loc Cert.PairKernelIdeal.main_arg2)
          ∧ r.2.mem ((c.tc : Thread Cert.PairKernelIdeal.nD Cert.PairKernelIdeal.τ).loc Cert.PairKernelIdeal.main_arg3) = m ((c.tc : Thread Cert.PairKernelIdeal.nD Cert.PairKernelIdeal.τ).loc Cert.PairKernelIdeal.main_arg3))
      ∧ θ_run (Cert.PairReferenceIdeal.defs (F := Ideal)) (onTc (τ := Cert.PairReferenceIdeal.τ) (Cert.PairReferenceIdeal.main (F := Ideal))) ⟨m', fun _ => 0, g'⟩ (fun r => ∀ c : Dev Cert.PairReferenceIdeal.nD,
          r.2.mem ((c.tc : Thread Cert.PairReferenceIdeal.nD Cert.PairReferenceIdeal.τ).loc Cert.PairReferenceIdeal.main_v7) = v0 c
          ∧ r.2.mem ((c.tc : Thread Cert.PairReferenceIdeal.nD Cert.PairReferenceIdeal.τ).loc Cert.PairReferenceIdeal.main_v15) = v1 c
          ∧ r.2.mem ((c.tc : Thread Cert.PairReferenceIdeal.nD Cert.PairReferenceIdeal.τ).loc Cert.PairReferenceIdeal.main_arg0) = m' ((c.tc : Thread Cert.PairReferenceIdeal.nD Cert.PairReferenceIdeal.τ).loc Cert.PairReferenceIdeal.main_arg0)
          ∧ r.2.mem ((c.tc : Thread Cert.PairReferenceIdeal.nD Cert.PairReferenceIdeal.τ).loc Cert.PairReferenceIdeal.main_arg1) = m' ((c.tc : Thread Cert.PairReferenceIdeal.nD Cert.PairReferenceIdeal.τ).loc Cert.PairReferenceIdeal.main_arg1)
          ∧ r.2.mem ((c.tc : Thread Cert.PairReferenceIdeal.nD Cert.PairReferenceIdeal.τ).loc Cert.PairReferenceIdeal.main_arg2) = m' ((c.tc : Thread Cert.PairReferenceIdeal.nD Cert.PairReferenceIdeal.τ).loc Cert.PairReferenceIdeal.main_arg2)
          ∧ r.2.mem ((c.tc : Thread Cert.PairReferenceIdeal.nD Cert.PairReferenceIdeal.τ).loc Cert.PairReferenceIdeal.main_arg3) = m' ((c.tc : Thread Cert.PairReferenceIdeal.nD Cert.PairReferenceIdeal.τ).loc Cert.PairReferenceIdeal.main_arg3))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v0)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v0) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v7) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_XoKernel_XoKernelIdeal : Prop :=
  True

def algebraic_XoKernelIdeal_XoReferenceIdeal [hXoKernelIdeal : Cert.XoKernelIdeal.Facts] [hXoReferenceIdeal : Cert.XoReferenceIdeal.Facts] : Prop :=
  ∀ (m : (ℓ : Loc Cert.XoKernelIdeal.nD Cert.XoKernelIdeal.τ Cert.XoKernelIdeal.sig) → Buf (Elt Ideal) ℓ) (g : Dev Cert.XoKernelIdeal.nD → PrngReg)
    (m' : (ℓ : Loc Cert.XoReferenceIdeal.nD Cert.XoReferenceIdeal.τ Cert.XoReferenceIdeal.sig) → Buf (Elt Ideal) ℓ) (g' : Dev Cert.XoReferenceIdeal.nD → PrngReg), Pre_XoKernelIdeal m →
    (∀ c : Dev Cert.XoKernelIdeal.nD,
      m' ((c.tc : Thread Cert.XoReferenceIdeal.nD Cert.XoReferenceIdeal.τ).loc Cert.XoReferenceIdeal.main_arg0) = m ((c.tc : Thread Cert.XoKernelIdeal.nD Cert.XoKernelIdeal.τ).loc Cert.XoKernelIdeal.main_arg0)
      ∧ m' ((c.tc : Thread Cert.XoReferenceIdeal.nD Cert.XoReferenceIdeal.τ).loc Cert.XoReferenceIdeal.main_arg1) = m ((c.tc : Thread Cert.XoKernelIdeal.nD Cert.XoKernelIdeal.τ).loc Cert.XoKernelIdeal.main_arg1)) →
    ∃ (v0 : (c : Dev Cert.XoKernelIdeal.nD) → Buf (Elt Ideal) ((c.tc : Thread Cert.XoKernelIdeal.nD Cert.XoKernelIdeal.τ).loc Cert.XoKernelIdeal.main_v0)),
      θ_run (Cert.XoKernelIdeal.defs (F := Ideal)) (onTc (τ := Cert.XoKernelIdeal.τ) (Cert.XoKernelIdeal.main (F := Ideal))) ⟨m, fun _ => 0, g⟩ (fun r => ∀ c : Dev Cert.XoKernelIdeal.nD,
          r.2.mem ((c.tc : Thread Cert.XoKernelIdeal.nD Cert.XoKernelIdeal.τ).loc Cert.XoKernelIdeal.main_v0) = v0 c
          ∧ r.2.mem ((c.tc : Thread Cert.XoKernelIdeal.nD Cert.XoKernelIdeal.τ).loc Cert.XoKernelIdeal.main_arg0) = m ((c.tc : Thread Cert.XoKernelIdeal.nD Cert.XoKernelIdeal.τ).loc Cert.XoKernelIdeal.main_arg0)
          ∧ r.2.mem ((c.tc : Thread Cert.XoKernelIdeal.nD Cert.XoKernelIdeal.τ).loc Cert.XoKernelIdeal.main_arg1) = m ((c.tc : Thread Cert.XoKernelIdeal.nD Cert.XoKernelIdeal.τ).loc Cert.XoKernelIdeal.main_arg1))
      ∧ θ_run (Cert.XoReferenceIdeal.defs (F := Ideal)) (onTc (τ := Cert.XoReferenceIdeal.τ) (Cert.XoReferenceIdeal.main (F := Ideal))) ⟨m', fun _ => 0, g'⟩ (fun r => ∀ c : Dev Cert.XoReferenceIdeal.nD,
          r.2.mem ((c.tc : Thread Cert.XoReferenceIdeal.nD Cert.XoReferenceIdeal.τ).loc Cert.XoReferenceIdeal.main_v5) = v0 c
          ∧ r.2.mem ((c.tc : Thread Cert.XoReferenceIdeal.nD Cert.XoReferenceIdeal.τ).loc Cert.XoReferenceIdeal.main_arg0) = m' ((c.tc : Thread Cert.XoReferenceIdeal.nD Cert.XoReferenceIdeal.τ).loc Cert.XoReferenceIdeal.main_arg0)
          ∧ r.2.mem ((c.tc : Thread Cert.XoReferenceIdeal.nD Cert.XoReferenceIdeal.τ).loc Cert.XoReferenceIdeal.main_arg1) = m' ((c.tc : Thread Cert.XoReferenceIdeal.nD Cert.XoReferenceIdeal.τ).loc Cert.XoReferenceIdeal.main_arg1))

def preserves_RowsKernel_RowsKernelIdeal : Prop :=
  True

def algebraic_RowsKernelIdeal_RowsReferenceIdeal [hRowsKernelIdeal : Cert.RowsKernelIdeal.Facts] [hRowsReferenceIdeal : Cert.RowsReferenceIdeal.Facts] : Prop :=
  ∀ (m : (ℓ : Loc Cert.RowsKernelIdeal.nD Cert.RowsKernelIdeal.τ Cert.RowsKernelIdeal.sig) → Buf (Elt Ideal) ℓ) (g : Dev Cert.RowsKernelIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsKernelIdeal m →
    (∀ c : Dev Cert.RowsKernelIdeal.nD,
      m' ((c.tc : Thread Cert.RowsReferenceIdeal.nD Cert.RowsReferenceIdeal.τ).loc Cert.RowsReferenceIdeal.main_arg0) = m ((c.tc : Thread Cert.RowsKernelIdeal.nD Cert.RowsKernelIdeal.τ).loc Cert.RowsKernelIdeal.main_arg0)
      ∧ m' ((c.tc : Thread Cert.RowsReferenceIdeal.nD Cert.RowsReferenceIdeal.τ).loc Cert.RowsReferenceIdeal.main_arg1) = m ((c.tc : Thread Cert.RowsKernelIdeal.nD Cert.RowsKernelIdeal.τ).loc Cert.RowsKernelIdeal.main_arg1)) →
    ∃ (v0 : (c : Dev Cert.RowsKernelIdeal.nD) → Buf (Elt Ideal) ((c.tc : Thread Cert.RowsKernelIdeal.nD Cert.RowsKernelIdeal.τ).loc Cert.RowsKernelIdeal.main_v2_0)) (v1 : (c : Dev Cert.RowsKernelIdeal.nD) → Buf (Elt Ideal) ((c.tc : Thread Cert.RowsKernelIdeal.nD Cert.RowsKernelIdeal.τ).loc Cert.RowsKernelIdeal.main_v2_1)) (v2 : (c : Dev Cert.RowsKernelIdeal.nD) → Buf (Elt Ideal) ((c.tc : Thread Cert.RowsKernelIdeal.nD Cert.RowsKernelIdeal.τ).loc Cert.RowsKernelIdeal.main_v2_2)),
      θ_run (Cert.RowsKernelIdeal.defs (F := Ideal)) (onTc (τ := Cert.RowsKernelIdeal.τ) (Cert.RowsKernelIdeal.main (F := Ideal))) ⟨m, fun _ => 0, g⟩ (fun r => ∀ c : Dev Cert.RowsKernelIdeal.nD,
          r.2.mem ((c.tc : Thread Cert.RowsKernelIdeal.nD Cert.RowsKernelIdeal.τ).loc Cert.RowsKernelIdeal.main_v2_0) = v0 c
          ∧ r.2.mem ((c.tc : Thread Cert.RowsKernelIdeal.nD Cert.RowsKernelIdeal.τ).loc Cert.RowsKernelIdeal.main_v2_1) = v1 c
          ∧ r.2.mem ((c.tc : Thread Cert.RowsKernelIdeal.nD Cert.RowsKernelIdeal.τ).loc Cert.RowsKernelIdeal.main_v2_2) = v2 c
          ∧ r.2.mem ((c.tc : Thread Cert.RowsKernelIdeal.nD Cert.RowsKernelIdeal.τ).loc Cert.RowsKernelIdeal.main_arg0) = m ((c.tc : Thread Cert.RowsKernelIdeal.nD Cert.RowsKernelIdeal.τ).loc Cert.RowsKernelIdeal.main_arg0)
          ∧ r.2.mem ((c.tc : Thread Cert.RowsKernelIdeal.nD Cert.RowsKernelIdeal.τ).loc Cert.RowsKernelIdeal.main_arg1) = m ((c.tc : Thread Cert.RowsKernelIdeal.nD Cert.RowsKernelIdeal.τ).loc Cert.RowsKernelIdeal.main_arg1))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_v12) = v0 c
          ∧ r.2.mem ((c.tc : Thread Cert.RowsReferenceIdeal.nD Cert.RowsReferenceIdeal.τ).loc Cert.RowsReferenceIdeal.main_v14) = v1 c
          ∧ r.2.mem ((c.tc : Thread Cert.RowsReferenceIdeal.nD Cert.RowsReferenceIdeal.τ).loc Cert.RowsReferenceIdeal.main_v16) = v2 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0)
          ∧ r.2.mem ((c.tc : Thread Cert.RowsReferenceIdeal.nD Cert.RowsReferenceIdeal.τ).loc Cert.RowsReferenceIdeal.main_arg1) = m' ((c.tc : Thread Cert.RowsReferenceIdeal.nD Cert.RowsReferenceIdeal.τ).loc Cert.RowsReferenceIdeal.main_arg1))

def preserves_JoinKernel_JoinKernelIdeal : Prop :=
  True

def algebraic_JoinKernelIdeal_JoinReferenceIdeal [hJoinKernelIdeal : Cert.JoinKernelIdeal.Facts] [hJoinReferenceIdeal : Cert.JoinReferenceIdeal.Facts] : Prop :=
  ∀ (m : (ℓ : Loc Cert.JoinKernelIdeal.nD Cert.JoinKernelIdeal.τ Cert.JoinKernelIdeal.sig) → Buf (Elt Ideal) ℓ) (g : Dev Cert.JoinKernelIdeal.nD → PrngReg)
    (m' : (ℓ : Loc Cert.JoinReferenceIdeal.nD Cert.JoinReferenceIdeal.τ Cert.JoinReferenceIdeal.sig) → Buf (Elt Ideal) ℓ) (g' : Dev Cert.JoinReferenceIdeal.nD → PrngReg), Pre_JoinKernelIdeal m →
    (∀ c : Dev Cert.JoinKernelIdeal.nD,
      m' ((c.tc : Thread Cert.JoinReferenceIdeal.nD Cert.JoinReferenceIdeal.τ).loc Cert.JoinReferenceIdeal.main_arg0) = m ((c.tc : Thread Cert.JoinKernelIdeal.nD Cert.JoinKernelIdeal.τ).loc Cert.JoinKernelIdeal.main_arg0)
      ∧ m' ((c.tc : Thread Cert.JoinReferenceIdeal.nD Cert.JoinReferenceIdeal.τ).loc Cert.JoinReferenceIdeal.main_arg1) = m ((c.tc : Thread Cert.JoinKernelIdeal.nD Cert.JoinKernelIdeal.τ).loc Cert.JoinKernelIdeal.main_arg1)
      ∧ m' ((c.tc : Thread Cert.JoinReferenceIdeal.nD Cert.JoinReferenceIdeal.τ).loc Cert.JoinReferenceIdeal.main_arg2) = m ((c.tc : Thread Cert.JoinKernelIdeal.nD Cert.JoinKernelIdeal.τ).loc Cert.JoinKernelIdeal.main_arg2)
      ∧ m' ((c.tc : Thread Cert.JoinReferenceIdeal.nD Cert.JoinReferenceIdeal.τ).loc Cert.JoinReferenceIdeal.main_arg3) = m ((c.tc : Thread Cert.JoinKernelIdeal.nD Cert.JoinKernelIdeal.τ).loc Cert.JoinKernelIdeal.main_arg3)
      ∧ m' ((c.tc : Thread Cert.JoinReferenceIdeal.nD Cert.JoinReferenceIdeal.τ).loc Cert.JoinReferenceIdeal.main_arg4) = m ((c.tc : Thread Cert.JoinKernelIdeal.nD Cert.JoinKernelIdeal.τ).loc Cert.JoinKernelIdeal.main_arg4)
      ∧ m' ((c.tc : Thread Cert.JoinReferenceIdeal.nD Cert.JoinReferenceIdeal.τ).loc Cert.JoinReferenceIdeal.main_arg5) = m ((c.tc : Thread Cert.JoinKernelIdeal.nD Cert.JoinKernelIdeal.τ).loc Cert.JoinKernelIdeal.main_arg5)
      ∧ m' ((c.tc : Thread Cert.JoinReferenceIdeal.nD Cert.JoinReferenceIdeal.τ).loc Cert.JoinReferenceIdeal.main_arg6) = m ((c.tc : Thread Cert.JoinKernelIdeal.nD Cert.JoinKernelIdeal.τ).loc Cert.JoinKernelIdeal.main_arg6)) →
    ∃ (v0 : (c : Dev Cert.JoinKernelIdeal.nD) → Buf (Elt Ideal) ((c.tc : Thread Cert.JoinKernelIdeal.nD Cert.JoinKernelIdeal.τ).loc Cert.JoinKernelIdeal.main_v5)),
      θ_run (Cert.JoinKernelIdeal.defs (F := Ideal)) (onTc (τ := Cert.JoinKernelIdeal.τ) (Cert.JoinKernelIdeal.main (F := Ideal))) ⟨m, fun _ => 0, g⟩ (fun r => ∀ c : Dev Cert.JoinKernelIdeal.nD,
          r.2.mem ((c.tc : Thread Cert.JoinKernelIdeal.nD Cert.JoinKernelIdeal.τ).loc Cert.JoinKernelIdeal.main_v5) = v0 c
          ∧ r.2.mem ((c.tc : Thread Cert.JoinKernelIdeal.nD Cert.JoinKernelIdeal.τ).loc Cert.JoinKernelIdeal.main_arg0) = m ((c.tc : Thread Cert.JoinKernelIdeal.nD Cert.JoinKernelIdeal.τ).loc Cert.JoinKernelIdeal.main_arg0)
          ∧ r.2.mem ((c.tc : Thread Cert.JoinKernelIdeal.nD Cert.JoinKernelIdeal.τ).loc Cert.JoinKernelIdeal.main_arg1) = m ((c.tc : Thread Cert.JoinKernelIdeal.nD Cert.JoinKernelIdeal.τ).loc Cert.JoinKernelIdeal.main_arg1)
          ∧ r.2.mem ((c.tc : Thread Cert.JoinKernelIdeal.nD Cert.JoinKernelIdeal.τ).loc Cert.JoinKernelIdeal.main_arg2) = m ((c.tc : Thread Cert.JoinKernelIdeal.nD Cert.JoinKernelIdeal.τ).loc Cert.JoinKernelIdeal.main_arg2)
          ∧ r.2.mem ((c.tc : Thread Cert.JoinKernelIdeal.nD Cert.JoinKernelIdeal.τ).loc Cert.JoinKernelIdeal.main_arg3) = m ((c.tc : Thread Cert.JoinKernelIdeal.nD Cert.JoinKernelIdeal.τ).loc Cert.JoinKernelIdeal.main_arg3)
          ∧ r.2.mem ((c.tc : Thread Cert.JoinKernelIdeal.nD Cert.JoinKernelIdeal.τ).loc Cert.JoinKernelIdeal.main_arg4) = m ((c.tc : Thread Cert.JoinKernelIdeal.nD Cert.JoinKernelIdeal.τ).loc Cert.JoinKernelIdeal.main_arg4)
          ∧ r.2.mem ((c.tc : Thread Cert.JoinKernelIdeal.nD Cert.JoinKernelIdeal.τ).loc Cert.JoinKernelIdeal.main_arg5) = m ((c.tc : Thread Cert.JoinKernelIdeal.nD Cert.JoinKernelIdeal.τ).loc Cert.JoinKernelIdeal.main_arg5)
          ∧ r.2.mem ((c.tc : Thread Cert.JoinKernelIdeal.nD Cert.JoinKernelIdeal.τ).loc Cert.JoinKernelIdeal.main_arg6) = m ((c.tc : Thread Cert.JoinKernelIdeal.nD Cert.JoinKernelIdeal.τ).loc Cert.JoinKernelIdeal.main_arg6))
      ∧ θ_run (Cert.JoinReferenceIdeal.defs (F := Ideal)) (onTc (τ := Cert.JoinReferenceIdeal.τ) (Cert.JoinReferenceIdeal.main (F := Ideal))) ⟨m', fun _ => 0, g'⟩ (fun r => ∀ c : Dev Cert.JoinReferenceIdeal.nD,
          r.2.mem ((c.tc : Thread Cert.JoinReferenceIdeal.nD Cert.JoinReferenceIdeal.τ).loc Cert.JoinReferenceIdeal.main_v23) = v0 c
          ∧ r.2.mem ((c.tc : Thread Cert.JoinReferenceIdeal.nD Cert.JoinReferenceIdeal.τ).loc Cert.JoinReferenceIdeal.main_arg0) = m' ((c.tc : Thread Cert.JoinReferenceIdeal.nD Cert.JoinReferenceIdeal.τ).loc Cert.JoinReferenceIdeal.main_arg0)
          ∧ r.2.mem ((c.tc : Thread Cert.JoinReferenceIdeal.nD Cert.JoinReferenceIdeal.τ).loc Cert.JoinReferenceIdeal.main_arg1) = m' ((c.tc : Thread Cert.JoinReferenceIdeal.nD Cert.JoinReferenceIdeal.τ).loc Cert.JoinReferenceIdeal.main_arg1)
          ∧ r.2.mem ((c.tc : Thread Cert.JoinReferenceIdeal.nD Cert.JoinReferenceIdeal.τ).loc Cert.JoinReferenceIdeal.main_arg2) = m' ((c.tc : Thread Cert.JoinReferenceIdeal.nD Cert.JoinReferenceIdeal.τ).loc Cert.JoinReferenceIdeal.main_arg2)
          ∧ r.2.mem ((c.tc : Thread Cert.JoinReferenceIdeal.nD Cert.JoinReferenceIdeal.τ).loc Cert.JoinReferenceIdeal.main_arg3) = m' ((c.tc : Thread Cert.JoinReferenceIdeal.nD Cert.JoinReferenceIdeal.τ).loc Cert.JoinReferenceIdeal.main_arg3)
          ∧ r.2.mem ((c.tc : Thread Cert.JoinReferenceIdeal.nD Cert.JoinReferenceIdeal.τ).loc Cert.JoinReferenceIdeal.main_arg4) = m' ((c.tc : Thread Cert.JoinReferenceIdeal.nD Cert.JoinReferenceIdeal.τ).loc Cert.JoinReferenceIdeal.main_arg4)
          ∧ r.2.mem ((c.tc : Thread Cert.JoinReferenceIdeal.nD Cert.JoinReferenceIdeal.τ).loc Cert.JoinReferenceIdeal.main_arg5) = m' ((c.tc : Thread Cert.JoinReferenceIdeal.nD Cert.JoinReferenceIdeal.τ).loc Cert.JoinReferenceIdeal.main_arg5)
          ∧ r.2.mem ((c.tc : Thread Cert.JoinReferenceIdeal.nD Cert.JoinReferenceIdeal.τ).loc Cert.JoinReferenceIdeal.main_arg6) = m' ((c.tc : Thread Cert.JoinReferenceIdeal.nD Cert.JoinReferenceIdeal.τ).loc Cert.JoinReferenceIdeal.main_arg6))

def preserves_SquareKernel_SquareKernelIdeal : Prop :=
  True

def algebraic_SquareKernelIdeal_SquareReferenceIdeal [hSquareKernelIdeal : Cert.SquareKernelIdeal.Facts] [hSquareReferenceIdeal : Cert.SquareReferenceIdeal.Facts] : Prop :=
  ∀ (m : (ℓ : Loc Cert.SquareKernelIdeal.nD Cert.SquareKernelIdeal.τ Cert.SquareKernelIdeal.sig) → Buf (Elt Ideal) ℓ) (g : Dev Cert.SquareKernelIdeal.nD → PrngReg)
    (m' : (ℓ : Loc Cert.SquareReferenceIdeal.nD Cert.SquareReferenceIdeal.τ Cert.SquareReferenceIdeal.sig) → Buf (Elt Ideal) ℓ) (g' : Dev Cert.SquareReferenceIdeal.nD → PrngReg), Pre_SquareKernelIdeal m →
    (∀ c : Dev Cert.SquareKernelIdeal.nD,
      m' ((c.tc : Thread Cert.SquareReferenceIdeal.nD Cert.SquareReferenceIdeal.τ).loc Cert.SquareReferenceIdeal.main_arg0) = m ((c.tc : Thread Cert.SquareKernelIdeal.nD Cert.SquareKernelIdeal.τ).loc Cert.SquareKernelIdeal.main_arg0)
      ∧ m' ((c.tc : Thread Cert.SquareReferenceIdeal.nD Cert.SquareReferenceIdeal.τ).loc Cert.SquareReferenceIdeal.main_arg1) = m ((c.tc : Thread Cert.SquareKernelIdeal.nD Cert.SquareKernelIdeal.τ).loc Cert.SquareKernelIdeal.main_arg1)
      ∧ m' ((c.tc : Thread Cert.SquareReferenceIdeal.nD Cert.SquareReferenceIdeal.τ).loc Cert.SquareReferenceIdeal.main_arg2) = m ((c.tc : Thread Cert.SquareKernelIdeal.nD Cert.SquareKernelIdeal.τ).loc Cert.SquareKernelIdeal.main_arg2)
      ∧ m' ((c.tc : Thread Cert.SquareReferenceIdeal.nD Cert.SquareReferenceIdeal.τ).loc Cert.SquareReferenceIdeal.main_arg3) = m ((c.tc : Thread Cert.SquareKernelIdeal.nD Cert.SquareKernelIdeal.τ).loc Cert.SquareKernelIdeal.main_arg3)) →
    ∃ (v0 : (c : Dev Cert.SquareKernelIdeal.nD) → Buf (Elt Ideal) ((c.tc : Thread Cert.SquareKernelIdeal.nD Cert.SquareKernelIdeal.τ).loc Cert.SquareKernelIdeal.main_v0_0)) (v1 : (c : Dev Cert.SquareKernelIdeal.nD) → Buf (Elt Ideal) ((c.tc : Thread Cert.SquareKernelIdeal.nD Cert.SquareKernelIdeal.τ).loc Cert.SquareKernelIdeal.main_v0_1)) (v2 : (c : Dev Cert.SquareKernelIdeal.nD) → Buf (Elt Ideal) ((c.tc : Thread Cert.SquareKernelIdeal.nD Cert.SquareKernelIdeal.τ).loc Cert.SquareKernelIdeal.main_v0_2)) (v3 : (c : Dev Cert.SquareKernelIdeal.nD) → Buf (Elt Ideal) ((c.tc : Thread Cert.SquareKernelIdeal.nD Cert.SquareKernelIdeal.τ).loc Cert.SquareKernelIdeal.main_v0_3)),
      θ_run (Cert.SquareKernelIdeal.defs (F := Ideal)) (onTc (τ := Cert.SquareKernelIdeal.τ) (Cert.SquareKernelIdeal.main (F := Ideal))) ⟨m, fun _ => 0, g⟩ (fun r => ∀ c : Dev Cert.SquareKernelIdeal.nD,
          r.2.mem ((c.tc : Thread Cert.SquareKernelIdeal.nD Cert.SquareKernelIdeal.τ).loc Cert.SquareKernelIdeal.main_v0_0) = v0 c
          ∧ r.2.mem ((c.tc : Thread Cert.SquareKernelIdeal.nD Cert.SquareKernelIdeal.τ).loc Cert.SquareKernelIdeal.main_v0_1) = v1 c
          ∧ r.2.mem ((c.tc : Thread Cert.SquareKernelIdeal.nD Cert.SquareKernelIdeal.τ).loc Cert.SquareKernelIdeal.main_v0_2) = v2 c
          ∧ r.2.mem ((c.tc : Thread Cert.SquareKernelIdeal.nD Cert.SquareKernelIdeal.τ).loc Cert.SquareKernelIdeal.main_v0_3) = v3 c
          ∧ r.2.mem ((c.tc : Thread Cert.SquareKernelIdeal.nD Cert.SquareKernelIdeal.τ).loc Cert.SquareKernelIdeal.main_arg0) = m ((c.tc : Thread Cert.SquareKernelIdeal.nD Cert.SquareKernelIdeal.τ).loc Cert.SquareKernelIdeal.main_arg0)
          ∧ r.2.mem ((c.tc : Thread Cert.SquareKernelIdeal.nD Cert.SquareKernelIdeal.τ).loc Cert.SquareKernelIdeal.main_arg1) = m ((c.tc : Thread Cert.SquareKernelIdeal.nD Cert.SquareKernelIdeal.τ).loc Cert.SquareKernelIdeal.main_arg1)
          ∧ r.2.mem ((c.tc : Thread Cert.SquareKernelIdeal.nD Cert.SquareKernelIdeal.τ).loc Cert.SquareKernelIdeal.main_arg2) = m ((c.tc : Thread Cert.SquareKernelIdeal.nD Cert.SquareKernelIdeal.τ).loc Cert.SquareKernelIdeal.main_arg2)
          ∧ r.2.mem ((c.tc : Thread Cert.SquareKernelIdeal.nD Cert.SquareKernelIdeal.τ).loc Cert.SquareKernelIdeal.main_arg3) = m ((c.tc : Thread Cert.SquareKernelIdeal.nD Cert.SquareKernelIdeal.τ).loc Cert.SquareKernelIdeal.main_arg3))
      ∧ θ_run (Cert.SquareReferenceIdeal.defs (F := Ideal)) (onTc (τ := Cert.SquareReferenceIdeal.τ) (Cert.SquareReferenceIdeal.main (F := Ideal))) ⟨m', fun _ => 0, g'⟩ (fun r => ∀ c : Dev Cert.SquareReferenceIdeal.nD,
          r.2.mem ((c.tc : Thread Cert.SquareReferenceIdeal.nD Cert.SquareReferenceIdeal.τ).loc Cert.SquareReferenceIdeal.main_v1) = v0 c
          ∧ r.2.mem ((c.tc : Thread Cert.SquareReferenceIdeal.nD Cert.SquareReferenceIdeal.τ).loc Cert.SquareReferenceIdeal.main_v25) = v1 c
          ∧ r.2.mem ((c.tc : Thread Cert.SquareReferenceIdeal.nD Cert.SquareReferenceIdeal.τ).loc Cert.SquareReferenceIdeal.main_v6) = v2 c
          ∧ r.2.mem ((c.tc : Thread Cert.SquareReferenceIdeal.nD Cert.SquareReferenceIdeal.τ).loc Cert.SquareReferenceIdeal.main_v12) = v3 c
          ∧ r.2.mem ((c.tc : Thread Cert.SquareReferenceIdeal.nD Cert.SquareReferenceIdeal.τ).loc Cert.SquareReferenceIdeal.main_arg0) = m' ((c.tc : Thread Cert.SquareReferenceIdeal.nD Cert.SquareReferenceIdeal.τ).loc Cert.SquareReferenceIdeal.main_arg0)
          ∧ r.2.mem ((c.tc : Thread Cert.SquareReferenceIdeal.nD Cert.SquareReferenceIdeal.τ).loc Cert.SquareReferenceIdeal.main_arg1) = m' ((c.tc : Thread Cert.SquareReferenceIdeal.nD Cert.SquareReferenceIdeal.τ).loc Cert.SquareReferenceIdeal.main_arg1)
          ∧ r.2.mem ((c.tc : Thread Cert.SquareReferenceIdeal.nD Cert.SquareReferenceIdeal.τ).loc Cert.SquareReferenceIdeal.main_arg2) = m' ((c.tc : Thread Cert.SquareReferenceIdeal.nD Cert.SquareReferenceIdeal.τ).loc Cert.SquareReferenceIdeal.main_arg2)
          ∧ r.2.mem ((c.tc : Thread Cert.SquareReferenceIdeal.nD Cert.SquareReferenceIdeal.τ).loc Cert.SquareReferenceIdeal.main_arg3) = m' ((c.tc : Thread Cert.SquareReferenceIdeal.nD Cert.SquareReferenceIdeal.τ).loc Cert.SquareReferenceIdeal.main_arg3))

def preserves_WideKernel_WideKernelIdeal : Prop :=
  True

def algebraic_WideKernelIdeal_WideReferenceIdeal [hWideKernelIdeal : Cert.WideKernelIdeal.Facts] [hWideReferenceIdeal : Cert.WideReferenceIdeal.Facts] : Prop :=
  ∀ (m : (ℓ : Loc Cert.WideKernelIdeal.nD Cert.WideKernelIdeal.τ Cert.WideKernelIdeal.sig) → Buf (Elt Ideal) ℓ) (g : Dev Cert.WideKernelIdeal.nD → PrngReg)
    (m' : (ℓ : Loc Cert.WideReferenceIdeal.nD Cert.WideReferenceIdeal.τ Cert.WideReferenceIdeal.sig) → Buf (Elt Ideal) ℓ) (g' : Dev Cert.WideReferenceIdeal.nD → PrngReg), Pre_WideKernelIdeal m →
    (∀ c : Dev Cert.WideKernelIdeal.nD,
      m' ((c.tc : Thread Cert.WideReferenceIdeal.nD Cert.WideReferenceIdeal.τ).loc Cert.WideReferenceIdeal.main_arg0) = m ((c.tc : Thread Cert.WideKernelIdeal.nD Cert.WideKernelIdeal.τ).loc Cert.WideKernelIdeal.main_arg0)
      ∧ m' ((c.tc : Thread Cert.WideReferenceIdeal.nD Cert.WideReferenceIdeal.τ).loc Cert.WideReferenceIdeal.main_arg1) = m ((c.tc : Thread Cert.WideKernelIdeal.nD Cert.WideKernelIdeal.τ).loc Cert.WideKernelIdeal.main_arg1)
      ∧ m' ((c.tc : Thread Cert.WideReferenceIdeal.nD Cert.WideReferenceIdeal.τ).loc Cert.WideReferenceIdeal.main_arg2) = m ((c.tc : Thread Cert.WideKernelIdeal.nD Cert.WideKernelIdeal.τ).loc Cert.WideKernelIdeal.main_arg2)
      ∧ m' ((c.tc : Thread Cert.WideReferenceIdeal.nD Cert.WideReferenceIdeal.τ).loc Cert.WideReferenceIdeal.main_arg3) = m ((c.tc : Thread Cert.WideKernelIdeal.nD Cert.WideKernelIdeal.τ).loc Cert.WideKernelIdeal.main_arg3)) →
    ∃ (v0 : (c : Dev Cert.WideKernelIdeal.nD) → Buf (Elt Ideal) ((c.tc : Thread Cert.WideKernelIdeal.nD Cert.WideKernelIdeal.τ).loc Cert.WideKernelIdeal.main_v0_0)) (v1 : (c : Dev Cert.WideKernelIdeal.nD) → Buf (Elt Ideal) ((c.tc : Thread Cert.WideKernelIdeal.nD Cert.WideKernelIdeal.τ).loc Cert.WideKernelIdeal.main_v0_1)) (v2 : (c : Dev Cert.WideKernelIdeal.nD) → Buf (Elt Ideal) ((c.tc : Thread Cert.WideKernelIdeal.nD Cert.WideKernelIdeal.τ).loc Cert.WideKernelIdeal.main_v0_2)) (v3 : (c : Dev Cert.WideKernelIdeal.nD) → Buf (Elt Ideal) ((c.tc : Thread Cert.WideKernelIdeal.nD Cert.WideKernelIdeal.τ).loc Cert.WideKernelIdeal.main_v0_3)),
      θ_run (Cert.WideKernelIdeal.defs (F := Ideal)) (onTc (τ := Cert.WideKernelIdeal.τ) (Cert.WideKernelIdeal.main (F := Ideal))) ⟨m, fun _ => 0, g⟩ (fun r => ∀ c : Dev Cert.WideKernelIdeal.nD,
          r.2.mem ((c.tc : Thread Cert.WideKernelIdeal.nD Cert.WideKernelIdeal.τ).loc Cert.WideKernelIdeal.main_v0_0) = v0 c
          ∧ r.2.mem ((c.tc : Thread Cert.WideKernelIdeal.nD Cert.WideKernelIdeal.τ).loc Cert.WideKernelIdeal.main_v0_1) = v1 c
          ∧ r.2.mem ((c.tc : Thread Cert.WideKernelIdeal.nD Cert.WideKernelIdeal.τ).loc Cert.WideKernelIdeal.main_v0_2) = v2 c
          ∧ r.2.mem ((c.tc : Thread Cert.WideKernelIdeal.nD Cert.WideKernelIdeal.τ).loc Cert.WideKernelIdeal.main_v0_3) = v3 c
          ∧ r.2.mem ((c.tc : Thread Cert.WideKernelIdeal.nD Cert.WideKernelIdeal.τ).loc Cert.WideKernelIdeal.main_arg0) = m ((c.tc : Thread Cert.WideKernelIdeal.nD Cert.WideKernelIdeal.τ).loc Cert.WideKernelIdeal.main_arg0)
          ∧ r.2.mem ((c.tc : Thread Cert.WideKernelIdeal.nD Cert.WideKernelIdeal.τ).loc Cert.WideKernelIdeal.main_arg1) = m ((c.tc : Thread Cert.WideKernelIdeal.nD Cert.WideKernelIdeal.τ).loc Cert.WideKernelIdeal.main_arg1)
          ∧ r.2.mem ((c.tc : Thread Cert.WideKernelIdeal.nD Cert.WideKernelIdeal.τ).loc Cert.WideKernelIdeal.main_arg2) = m ((c.tc : Thread Cert.WideKernelIdeal.nD Cert.WideKernelIdeal.τ).loc Cert.WideKernelIdeal.main_arg2)
          ∧ r.2.mem ((c.tc : Thread Cert.WideKernelIdeal.nD Cert.WideKernelIdeal.τ).loc Cert.WideKernelIdeal.main_arg3) = m ((c.tc : Thread Cert.WideKernelIdeal.nD Cert.WideKernelIdeal.τ).loc Cert.WideKernelIdeal.main_arg3))
      ∧ θ_run (Cert.WideReferenceIdeal.defs (F := Ideal)) (onTc (τ := Cert.WideReferenceIdeal.τ) (Cert.WideReferenceIdeal.main (F := Ideal))) ⟨m', fun _ => 0, g'⟩ (fun r => ∀ c : Dev Cert.WideReferenceIdeal.nD,
          r.2.mem ((c.tc : Thread Cert.WideReferenceIdeal.nD Cert.WideReferenceIdeal.τ).loc Cert.WideReferenceIdeal.main_v1) = v0 c
          ∧ r.2.mem ((c.tc : Thread Cert.WideReferenceIdeal.nD Cert.WideReferenceIdeal.τ).loc Cert.WideReferenceIdeal.main_v25) = v1 c
          ∧ r.2.mem ((c.tc : Thread Cert.WideReferenceIdeal.nD Cert.WideReferenceIdeal.τ).loc Cert.WideReferenceIdeal.main_v6) = v2 c
          ∧ r.2.mem ((c.tc : Thread Cert.WideReferenceIdeal.nD Cert.WideReferenceIdeal.τ).loc Cert.WideReferenceIdeal.main_v12) = v3 c
          ∧ r.2.mem ((c.tc : Thread Cert.WideReferenceIdeal.nD Cert.WideReferenceIdeal.τ).loc Cert.WideReferenceIdeal.main_arg0) = m' ((c.tc : Thread Cert.WideReferenceIdeal.nD Cert.WideReferenceIdeal.τ).loc Cert.WideReferenceIdeal.main_arg0)
          ∧ r.2.mem ((c.tc : Thread Cert.WideReferenceIdeal.nD Cert.WideReferenceIdeal.τ).loc Cert.WideReferenceIdeal.main_arg1) = m' ((c.tc : Thread Cert.WideReferenceIdeal.nD Cert.WideReferenceIdeal.τ).loc Cert.WideReferenceIdeal.main_arg1)
          ∧ r.2.mem ((c.tc : Thread Cert.WideReferenceIdeal.nD Cert.WideReferenceIdeal.τ).loc Cert.WideReferenceIdeal.main_arg2) = m' ((c.tc : Thread Cert.WideReferenceIdeal.nD Cert.WideReferenceIdeal.τ).loc Cert.WideReferenceIdeal.main_arg2)
          ∧ r.2.mem ((c.tc : Thread Cert.WideReferenceIdeal.nD Cert.WideReferenceIdeal.τ).loc Cert.WideReferenceIdeal.main_arg3) = m' ((c.tc : Thread Cert.WideReferenceIdeal.nD Cert.WideReferenceIdeal.τ).loc Cert.WideReferenceIdeal.main_arg3))

def preserves_InStepKernel_InStepKernelIdeal : Prop :=
  True

def algebraic_InStepKernelIdeal_InStepReferenceIdeal [hInStepKernelIdeal : Cert.InStepKernelIdeal.Facts] [hInStepReferenceIdeal : Cert.InStepReferenceIdeal.Facts] : Prop :=
  ∀ (m : (ℓ : Loc Cert.InStepKernelIdeal.nD Cert.InStepKernelIdeal.τ Cert.InStepKernelIdeal.sig) → Buf (Elt Ideal) ℓ) (g : Dev Cert.InStepKernelIdeal.nD → PrngReg)
    (m' : (ℓ : Loc Cert.InStepReferenceIdeal.nD Cert.InStepReferenceIdeal.τ Cert.InStepReferenceIdeal.sig) → Buf (Elt Ideal) ℓ) (g' : Dev Cert.InStepReferenceIdeal.nD → PrngReg), Pre_InStepKernelIdeal m →
    (∀ c : Dev Cert.InStepKernelIdeal.nD,
      m' ((c.tc : Thread Cert.InStepReferenceIdeal.nD Cert.InStepReferenceIdeal.τ).loc Cert.InStepReferenceIdeal.main_arg0) = m ((c.tc : Thread Cert.InStepKernelIdeal.nD Cert.InStepKernelIdeal.τ).loc Cert.InStepKernelIdeal.main_arg0)
      ∧ m' ((c.tc : Thread Cert.InStepReferenceIdeal.nD Cert.InStepReferenceIdeal.τ).loc Cert.InStepReferenceIdeal.main_arg1) = m ((c.tc : Thread Cert.InStepKernelIdeal.nD Cert.InStepKernelIdeal.τ).loc Cert.InStepKernelIdeal.main_arg1)
      ∧ m' ((c.tc : Thread Cert.InStepReferenceIdeal.nD Cert.InStepReferenceIdeal.τ).loc Cert.InStepReferenceIdeal.main_arg2) = m ((c.tc : Thread Cert.InStepKernelIdeal.nD Cert.InStepKernelIdeal.τ).loc Cert.InStepKernelIdeal.main_arg2)
      ∧ m' ((c.tc : Thread Cert.InStepReferenceIdeal.nD Cert.InStepReferenceIdeal.τ).loc Cert.InStepReferenceIdeal.main_arg3) = m ((c.tc : Thread Cert.InStepKernelIdeal.nD Cert.InStepKernelIdeal.τ).loc Cert.InStepKernelIdeal.main_arg3)) →
    ∃ (v0 : (c : Dev Cert.InStepKernelIdeal.nD) → Buf (Elt Ideal) ((c.tc : Thread Cert.InStepKernelIdeal.nD Cert.InStepKernelIdeal.τ).loc Cert.InStepKernelIdeal.main_v3_0)) (v1 : (c : Dev Cert.InStepKernelIdeal.nD) → Buf (Elt Ideal) ((c.tc : Thread Cert.InStepKernelIdeal.nD Cert.InStepKernelIdeal.τ).loc Cert.InStepKernelIdeal.main_v3_1)) (v2 : (c : Dev Cert.InStepKernelIdeal.nD) → Buf (Elt Ideal) ((c.tc : Thread Cert.InStepKernelIdeal.nD Cert.InStepKernelIdeal.τ).loc Cert.InStepKernelIdeal.main_v3_2)) (v3 : (c : Dev Cert.InStepKernelIdeal.nD) → Buf (Elt Ideal) ((c.tc : Thread Cert.InStepKernelIdeal.nD Cert.InStepKernelIdeal.τ).loc Cert.InStepKernelIdeal.main_v3_3)),
      θ_run (Cert.InStepKernelIdeal.defs (F := Ideal)) (onTc (τ := Cert.InStepKernelIdeal.τ) (Cert.InStepKernelIdeal.main (F := Ideal))) ⟨m, fun _ => 0, g⟩ (fun r => ∀ c : Dev Cert.InStepKernelIdeal.nD,
          r.2.mem ((c.tc : Thread Cert.InStepKernelIdeal.nD Cert.InStepKernelIdeal.τ).loc Cert.InStepKernelIdeal.main_v3_0) = v0 c
          ∧ r.2.mem ((c.tc : Thread Cert.InStepKernelIdeal.nD Cert.InStepKernelIdeal.τ).loc Cert.InStepKernelIdeal.main_v3_1) = v1 c
          ∧ r.2.mem ((c.tc : Thread Cert.InStepKernelIdeal.nD Cert.InStepKernelIdeal.τ).loc Cert.InStepKernelIdeal.main_v3_2) = v2 c
          ∧ r.2.mem ((c.tc : Thread Cert.InStepKernelIdeal.nD Cert.InStepKernelIdeal.τ).loc Cert.InStepKernelIdeal.main_v3_3) = v3 c
          ∧ r.2.mem ((c.tc : Thread Cert.InStepKernelIdeal.nD Cert.InStepKernelIdeal.τ).loc Cert.InStepKernelIdeal.main_arg0) = m ((c.tc : Thread Cert.InStepKernelIdeal.nD Cert.InStepKernelIdeal.τ).loc Cert.InStepKernelIdeal.main_arg0)
          ∧ r.2.mem ((c.tc : Thread Cert.InStepKernelIdeal.nD Cert.InStepKernelIdeal.τ).loc Cert.InStepKernelIdeal.main_arg1) = m ((c.tc : Thread Cert.InStepKernelIdeal.nD Cert.InStepKernelIdeal.τ).loc Cert.InStepKernelIdeal.main_arg1)
          ∧ r.2.mem ((c.tc : Thread Cert.InStepKernelIdeal.nD Cert.InStepKernelIdeal.τ).loc Cert.InStepKernelIdeal.main_arg2) = m ((c.tc : Thread Cert.InStepKernelIdeal.nD Cert.InStepKernelIdeal.τ).loc Cert.InStepKernelIdeal.main_arg2)
          ∧ r.2.mem ((c.tc : Thread Cert.InStepKernelIdeal.nD Cert.InStepKernelIdeal.τ).loc Cert.InStepKernelIdeal.main_arg3) = m ((c.tc : Thread Cert.InStepKernelIdeal.nD Cert.InStepKernelIdeal.τ).loc Cert.InStepKernelIdeal.main_arg3))
      ∧ θ_run (Cert.InStepReferenceIdeal.defs (F := Ideal)) (onTc (τ := Cert.InStepReferenceIdeal.τ) (Cert.InStepReferenceIdeal.main (F := Ideal))) ⟨m', fun _ => 0, g'⟩ (fun r => ∀ c : Dev Cert.InStepReferenceIdeal.nD,
          r.2.mem ((c.tc : Thread Cert.InStepReferenceIdeal.nD Cert.InStepReferenceIdeal.τ).loc Cert.InStepReferenceIdeal.main_v4) = v0 c
          ∧ r.2.mem ((c.tc : Thread Cert.InStepReferenceIdeal.nD Cert.InStepReferenceIdeal.τ).loc Cert.InStepReferenceIdeal.main_v28) = v1 c
          ∧ r.2.mem ((c.tc : Thread Cert.InStepReferenceIdeal.nD Cert.InStepReferenceIdeal.τ).loc Cert.InStepReferenceIdeal.main_v9) = v2 c
          ∧ r.2.mem ((c.tc : Thread Cert.InStepReferenceIdeal.nD Cert.InStepReferenceIdeal.τ).loc Cert.InStepReferenceIdeal.main_v15) = v3 c
          ∧ r.2.mem ((c.tc : Thread Cert.InStepReferenceIdeal.nD Cert.InStepReferenceIdeal.τ).loc Cert.InStepReferenceIdeal.main_arg0) = m' ((c.tc : Thread Cert.InStepReferenceIdeal.nD Cert.InStepReferenceIdeal.τ).loc Cert.InStepReferenceIdeal.main_arg0)
          ∧ r.2.mem ((c.tc : Thread Cert.InStepReferenceIdeal.nD Cert.InStepReferenceIdeal.τ).loc Cert.InStepReferenceIdeal.main_arg1) = m' ((c.tc : Thread Cert.InStepReferenceIdeal.nD Cert.InStepReferenceIdeal.τ).loc Cert.InStepReferenceIdeal.main_arg1)
          ∧ r.2.mem ((c.tc : Thread Cert.InStepReferenceIdeal.nD Cert.InStepReferenceIdeal.τ).loc Cert.InStepReferenceIdeal.main_arg2) = m' ((c.tc : Thread Cert.InStepReferenceIdeal.nD Cert.InStepReferenceIdeal.τ).loc Cert.InStepReferenceIdeal.main_arg2)
          ∧ r.2.mem ((c.tc : Thread Cert.InStepReferenceIdeal.nD Cert.InStepReferenceIdeal.τ).loc Cert.InStepReferenceIdeal.main_arg3) = m' ((c.tc : Thread Cert.InStepReferenceIdeal.nD Cert.InStepReferenceIdeal.τ).loc Cert.InStepReferenceIdeal.main_arg3))

def preserves_FfnStepKernel_FfnStepKernelIdeal : Prop :=
  True

def algebraic_FfnStepKernelIdeal_FfnStepReferenceIdeal [hFfnStepKernelIdeal : Cert.FfnStepKernelIdeal.Facts] [hFfnStepReferenceIdeal : Cert.FfnStepReferenceIdeal.Facts] : Prop :=
  ∀ (m : (ℓ : Loc Cert.FfnStepKernelIdeal.nD Cert.FfnStepKernelIdeal.τ Cert.FfnStepKernelIdeal.sig) → Buf (Elt Ideal) ℓ) (g : Dev Cert.FfnStepKernelIdeal.nD → PrngReg)
    (m' : (ℓ : Loc Cert.FfnStepReferenceIdeal.nD Cert.FfnStepReferenceIdeal.τ Cert.FfnStepReferenceIdeal.sig) → Buf (Elt Ideal) ℓ) (g' : Dev Cert.FfnStepReferenceIdeal.nD → PrngReg), Pre_FfnStepKernelIdeal m →
    (∀ c : Dev Cert.FfnStepKernelIdeal.nD,
      m' ((c.tc : Thread Cert.FfnStepReferenceIdeal.nD Cert.FfnStepReferenceIdeal.τ).loc Cert.FfnStepReferenceIdeal.main_arg0) = m ((c.tc : Thread Cert.FfnStepKernelIdeal.nD Cert.FfnStepKernelIdeal.τ).loc Cert.FfnStepKernelIdeal.main_arg0)
      ∧ m' ((c.tc : Thread Cert.FfnStepReferenceIdeal.nD Cert.FfnStepReferenceIdeal.τ).loc Cert.FfnStepReferenceIdeal.main_arg1) = m ((c.tc : Thread Cert.FfnStepKernelIdeal.nD Cert.FfnStepKernelIdeal.τ).loc Cert.FfnStepKernelIdeal.main_arg1)
      ∧ m' ((c.tc : Thread Cert.FfnStepReferenceIdeal.nD Cert.FfnStepReferenceIdeal.τ).loc Cert.FfnStepReferenceIdeal.main_arg2) = m ((c.tc : Thread Cert.FfnStepKernelIdeal.nD Cert.FfnStepKernelIdeal.τ).loc Cert.FfnStepKernelIdeal.main_arg2)
      ∧ m' ((c.tc : Thread Cert.FfnStepReferenceIdeal.nD Cert.FfnStepReferenceIdeal.τ).loc Cert.FfnStepReferenceIdeal.main_arg3) = m ((c.tc : Thread Cert.FfnStepKernelIdeal.nD Cert.FfnStepKernelIdeal.τ).loc Cert.FfnStepKernelIdeal.main_arg3)) →
    ∃ (v0 : (c : Dev Cert.FfnStepKernelIdeal.nD) → Buf (Elt Ideal) ((c.tc : Thread Cert.FfnStepKernelIdeal.nD Cert.FfnStepKernelIdeal.τ).loc Cert.FfnStepKernelIdeal.main_v3_0)) (v1 : (c : Dev Cert.FfnStepKernelIdeal.nD) → Buf (Elt Ideal) ((c.tc : Thread Cert.FfnStepKernelIdeal.nD Cert.FfnStepKernelIdeal.τ).loc Cert.FfnStepKernelIdeal.main_v3_1)) (v2 : (c : Dev Cert.FfnStepKernelIdeal.nD) → Buf (Elt Ideal) ((c.tc : Thread Cert.FfnStepKernelIdeal.nD Cert.FfnStepKernelIdeal.τ).loc Cert.FfnStepKernelIdeal.main_v3_2)) (v3 : (c : Dev Cert.FfnStepKernelIdeal.nD) → Buf (Elt Ideal) ((c.tc : Thread Cert.FfnStepKernelIdeal.nD Cert.FfnStepKernelIdeal.τ).loc Cert.FfnStepKernelIdeal.main_v3_3)),
      θ_run (Cert.FfnStepKernelIdeal.defs (F := Ideal)) (onTc (τ := Cert.FfnStepKernelIdeal.τ) (Cert.FfnStepKernelIdeal.main (F := Ideal))) ⟨m, fun _ => 0, g⟩ (fun r => ∀ c : Dev Cert.FfnStepKernelIdeal.nD,
          r.2.mem ((c.tc : Thread Cert.FfnStepKernelIdeal.nD Cert.FfnStepKernelIdeal.τ).loc Cert.FfnStepKernelIdeal.main_v3_0) = v0 c
          ∧ r.2.mem ((c.tc : Thread Cert.FfnStepKernelIdeal.nD Cert.FfnStepKernelIdeal.τ).loc Cert.FfnStepKernelIdeal.main_v3_1) = v1 c
          ∧ r.2.mem ((c.tc : Thread Cert.FfnStepKernelIdeal.nD Cert.FfnStepKernelIdeal.τ).loc Cert.FfnStepKernelIdeal.main_v3_2) = v2 c
          ∧ r.2.mem ((c.tc : Thread Cert.FfnStepKernelIdeal.nD Cert.FfnStepKernelIdeal.τ).loc Cert.FfnStepKernelIdeal.main_v3_3) = v3 c
          ∧ r.2.mem ((c.tc : Thread Cert.FfnStepKernelIdeal.nD Cert.FfnStepKernelIdeal.τ).loc Cert.FfnStepKernelIdeal.main_arg0) = m ((c.tc : Thread Cert.FfnStepKernelIdeal.nD Cert.FfnStepKernelIdeal.τ).loc Cert.FfnStepKernelIdeal.main_arg0)
          ∧ r.2.mem ((c.tc : Thread Cert.FfnStepKernelIdeal.nD Cert.FfnStepKernelIdeal.τ).loc Cert.FfnStepKernelIdeal.main_arg1) = m ((c.tc : Thread Cert.FfnStepKernelIdeal.nD Cert.FfnStepKernelIdeal.τ).loc Cert.FfnStepKernelIdeal.main_arg1)
          ∧ r.2.mem ((c.tc : Thread Cert.FfnStepKernelIdeal.nD Cert.FfnStepKernelIdeal.τ).loc Cert.FfnStepKernelIdeal.main_arg2) = m ((c.tc : Thread Cert.FfnStepKernelIdeal.nD Cert.FfnStepKernelIdeal.τ).loc Cert.FfnStepKernelIdeal.main_arg2)
          ∧ r.2.mem ((c.tc : Thread Cert.FfnStepKernelIdeal.nD Cert.FfnStepKernelIdeal.τ).loc Cert.FfnStepKernelIdeal.main_arg3) = m ((c.tc : Thread Cert.FfnStepKernelIdeal.nD Cert.FfnStepKernelIdeal.τ).loc Cert.FfnStepKernelIdeal.main_arg3))
      ∧ θ_run (Cert.FfnStepReferenceIdeal.defs (F := Ideal)) (onTc (τ := Cert.FfnStepReferenceIdeal.τ) (Cert.FfnStepReferenceIdeal.main (F := Ideal))) ⟨m', fun _ => 0, g'⟩ (fun r => ∀ c : Dev Cert.FfnStepReferenceIdeal.nD,
          r.2.mem ((c.tc : Thread Cert.FfnStepReferenceIdeal.nD Cert.FfnStepReferenceIdeal.τ).loc Cert.FfnStepReferenceIdeal.main_v4) = v0 c
          ∧ r.2.mem ((c.tc : Thread Cert.FfnStepReferenceIdeal.nD Cert.FfnStepReferenceIdeal.τ).loc Cert.FfnStepReferenceIdeal.main_v28) = v1 c
          ∧ r.2.mem ((c.tc : Thread Cert.FfnStepReferenceIdeal.nD Cert.FfnStepReferenceIdeal.τ).loc Cert.FfnStepReferenceIdeal.main_v9) = v2 c
          ∧ r.2.mem ((c.tc : Thread Cert.FfnStepReferenceIdeal.nD Cert.FfnStepReferenceIdeal.τ).loc Cert.FfnStepReferenceIdeal.main_v15) = v3 c
          ∧ r.2.mem ((c.tc : Thread Cert.FfnStepReferenceIdeal.nD Cert.FfnStepReferenceIdeal.τ).loc Cert.FfnStepReferenceIdeal.main_arg0) = m' ((c.tc : Thread Cert.FfnStepReferenceIdeal.nD Cert.FfnStepReferenceIdeal.τ).loc Cert.FfnStepReferenceIdeal.main_arg0)
          ∧ r.2.mem ((c.tc : Thread Cert.FfnStepReferenceIdeal.nD Cert.FfnStepReferenceIdeal.τ).loc Cert.FfnStepReferenceIdeal.main_arg1) = m' ((c.tc : Thread Cert.FfnStepReferenceIdeal.nD Cert.FfnStepReferenceIdeal.τ).loc Cert.FfnStepReferenceIdeal.main_arg1)
          ∧ r.2.mem ((c.tc : Thread Cert.FfnStepReferenceIdeal.nD Cert.FfnStepReferenceIdeal.τ).loc Cert.FfnStepReferenceIdeal.main_arg2) = m' ((c.tc : Thread Cert.FfnStepReferenceIdeal.nD Cert.FfnStepReferenceIdeal.τ).loc Cert.FfnStepReferenceIdeal.main_arg2)
          ∧ r.2.mem ((c.tc : Thread Cert.FfnStepReferenceIdeal.nD Cert.FfnStepReferenceIdeal.τ).loc Cert.FfnStepReferenceIdeal.main_arg3) = m' ((c.tc : Thread Cert.FfnStepReferenceIdeal.nD Cert.FfnStepReferenceIdeal.τ).loc Cert.FfnStepReferenceIdeal.main_arg3))

def preserves_BranchKernel_BranchKernelIdeal : Prop :=
  True

def algebraic_BranchKernelIdeal_BranchReferenceIdeal [hBranchKernelIdeal : Cert.BranchKernelIdeal.Facts] [hBranchReferenceIdeal : Cert.BranchReferenceIdeal.Facts] : Prop :=
  ∀ (m : (ℓ : Loc Cert.BranchKernelIdeal.nD Cert.BranchKernelIdeal.τ Cert.BranchKernelIdeal.sig) → Buf (Elt Ideal) ℓ) (g : Dev Cert.BranchKernelIdeal.nD → PrngReg)
    (m' : (ℓ : Loc Cert.BranchReferenceIdeal.nD Cert.BranchReferenceIdeal.τ Cert.BranchReferenceIdeal.sig) → Buf (Elt Ideal) ℓ) (g' : Dev Cert.BranchReferenceIdeal.nD → PrngReg), Pre_BranchKernelIdeal m →
    (∀ c : Dev Cert.BranchKernelIdeal.nD,
      m' ((c.tc : Thread Cert.BranchReferenceIdeal.nD Cert.BranchReferenceIdeal.τ).loc Cert.BranchReferenceIdeal.main_arg0) = m ((c.tc : Thread Cert.BranchKernelIdeal.nD Cert.BranchKernelIdeal.τ).loc Cert.BranchKernelIdeal.main_arg0)
      ∧ m' ((c.tc : Thread Cert.BranchReferenceIdeal.nD Cert.BranchReferenceIdeal.τ).loc Cert.BranchReferenceIdeal.main_arg1) = m ((c.tc : Thread Cert.BranchKernelIdeal.nD Cert.BranchKernelIdeal.τ).loc Cert.BranchKernelIdeal.main_arg1)
      ∧ m' ((c.tc : Thread Cert.BranchReferenceIdeal.nD Cert.BranchReferenceIdeal.τ).loc Cert.BranchReferenceIdeal.main_arg2) = m ((c.tc : Thread Cert.BranchKernelIdeal.nD Cert.BranchKernelIdeal.τ).loc Cert.BranchKernelIdeal.main_arg2)
      ∧ m' ((c.tc : Thread Cert.BranchReferenceIdeal.nD Cert.BranchReferenceIdeal.τ).loc Cert.BranchReferenceIdeal.main_arg3) = m ((c.tc : Thread Cert.BranchKernelIdeal.nD Cert.BranchKernelIdeal.τ).loc Cert.BranchKernelIdeal.main_arg3)) →
    ∃ (v0 : (c : Dev Cert.BranchKernelIdeal.nD) → Buf (Elt Ideal) ((c.tc : Thread Cert.BranchKernelIdeal.nD Cert.BranchKernelIdeal.τ).loc Cert.BranchKernelIdeal.main_v0_0)) (v1 : (c : Dev Cert.BranchKernelIdeal.nD) → Buf (Elt Ideal) ((c.tc : Thread Cert.BranchKernelIdeal.nD Cert.BranchKernelIdeal.τ).loc Cert.BranchKernelIdeal.main_v0_1)) (v2 : (c : Dev Cert.BranchKernelIdeal.nD) → Buf (Elt Ideal) ((c.tc : Thread Cert.BranchKernelIdeal.nD Cert.BranchKernelIdeal.τ).loc Cert.BranchKernelIdeal.main_v0_2)) (v3 : (c : Dev Cert.BranchKernelIdeal.nD) → Buf (Elt Ideal) ((c.tc : Thread Cert.BranchKernelIdeal.nD Cert.BranchKernelIdeal.τ).loc Cert.BranchKernelIdeal.main_v0_3)),
      θ_run (Cert.BranchKernelIdeal.defs (F := Ideal)) (onTc (τ := Cert.BranchKernelIdeal.τ) (Cert.BranchKernelIdeal.main (F := Ideal))) ⟨m, fun _ => 0, g⟩ (fun r => ∀ c : Dev Cert.BranchKernelIdeal.nD,
          r.2.mem ((c.tc : Thread Cert.BranchKernelIdeal.nD Cert.BranchKernelIdeal.τ).loc Cert.BranchKernelIdeal.main_v0_0) = v0 c
          ∧ r.2.mem ((c.tc : Thread Cert.BranchKernelIdeal.nD Cert.BranchKernelIdeal.τ).loc Cert.BranchKernelIdeal.main_v0_1) = v1 c
          ∧ r.2.mem ((c.tc : Thread Cert.BranchKernelIdeal.nD Cert.BranchKernelIdeal.τ).loc Cert.BranchKernelIdeal.main_v0_2) = v2 c
          ∧ r.2.mem ((c.tc : Thread Cert.BranchKernelIdeal.nD Cert.BranchKernelIdeal.τ).loc Cert.BranchKernelIdeal.main_v0_3) = v3 c
          ∧ r.2.mem ((c.tc : Thread Cert.BranchKernelIdeal.nD Cert.BranchKernelIdeal.τ).loc Cert.BranchKernelIdeal.main_arg0) = m ((c.tc : Thread Cert.BranchKernelIdeal.nD Cert.BranchKernelIdeal.τ).loc Cert.BranchKernelIdeal.main_arg0)
          ∧ r.2.mem ((c.tc : Thread Cert.BranchKernelIdeal.nD Cert.BranchKernelIdeal.τ).loc Cert.BranchKernelIdeal.main_arg1) = m ((c.tc : Thread Cert.BranchKernelIdeal.nD Cert.BranchKernelIdeal.τ).loc Cert.BranchKernelIdeal.main_arg1)
          ∧ r.2.mem ((c.tc : Thread Cert.BranchKernelIdeal.nD Cert.BranchKernelIdeal.τ).loc Cert.BranchKernelIdeal.main_arg2) = m ((c.tc : Thread Cert.BranchKernelIdeal.nD Cert.BranchKernelIdeal.τ).loc Cert.BranchKernelIdeal.main_arg2)
          ∧ r.2.mem ((c.tc : Thread Cert.BranchKernelIdeal.nD Cert.BranchKernelIdeal.τ).loc Cert.BranchKernelIdeal.main_arg3) = m ((c.tc : Thread Cert.BranchKernelIdeal.nD Cert.BranchKernelIdeal.τ).loc Cert.BranchKernelIdeal.main_arg3))
      ∧ θ_run (Cert.BranchReferenceIdeal.defs (F := Ideal)) (onTc (τ := Cert.BranchReferenceIdeal.τ) (Cert.BranchReferenceIdeal.main (F := Ideal))) ⟨m', fun _ => 0, g'⟩ (fun r => ∀ c : Dev Cert.BranchReferenceIdeal.nD,
          r.2.mem ((c.tc : Thread Cert.BranchReferenceIdeal.nD Cert.BranchReferenceIdeal.τ).loc Cert.BranchReferenceIdeal.main_v2) = v0 c
          ∧ r.2.mem ((c.tc : Thread Cert.BranchReferenceIdeal.nD Cert.BranchReferenceIdeal.τ).loc Cert.BranchReferenceIdeal.main_v26) = v1 c
          ∧ r.2.mem ((c.tc : Thread Cert.BranchReferenceIdeal.nD Cert.BranchReferenceIdeal.τ).loc Cert.BranchReferenceIdeal.main_v7) = v2 c
          ∧ r.2.mem ((c.tc : Thread Cert.BranchReferenceIdeal.nD Cert.BranchReferenceIdeal.τ).loc Cert.BranchReferenceIdeal.main_v13) = v3 c
          ∧ r.2.mem ((c.tc : Thread Cert.BranchReferenceIdeal.nD Cert.BranchReferenceIdeal.τ).loc Cert.BranchReferenceIdeal.main_arg0) = m' ((c.tc : Thread Cert.BranchReferenceIdeal.nD Cert.BranchReferenceIdeal.τ).loc Cert.BranchReferenceIdeal.main_arg0)
          ∧ r.2.mem ((c.tc : Thread Cert.BranchReferenceIdeal.nD Cert.BranchReferenceIdeal.τ).loc Cert.BranchReferenceIdeal.main_arg1) = m' ((c.tc : Thread Cert.BranchReferenceIdeal.nD Cert.BranchReferenceIdeal.τ).loc Cert.BranchReferenceIdeal.main_arg1)
          ∧ r.2.mem ((c.tc : Thread Cert.BranchReferenceIdeal.nD Cert.BranchReferenceIdeal.τ).loc Cert.BranchReferenceIdeal.main_arg2) = m' ((c.tc : Thread Cert.BranchReferenceIdeal.nD Cert.BranchReferenceIdeal.τ).loc Cert.BranchReferenceIdeal.main_arg2)
          ∧ r.2.mem ((c.tc : Thread Cert.BranchReferenceIdeal.nD Cert.BranchReferenceIdeal.τ).loc Cert.BranchReferenceIdeal.main_arg3) = m' ((c.tc : Thread Cert.BranchReferenceIdeal.nD Cert.BranchReferenceIdeal.τ).loc Cert.BranchReferenceIdeal.main_arg3))

def preserves_KeysKernel_KeysKernelIdeal : Prop :=
  True

def algebraic_KeysKernelIdeal_KeysReferenceIdeal [hKeysKernelIdeal : Cert.KeysKernelIdeal.Facts] [hKeysReferenceIdeal : Cert.KeysReferenceIdeal.Facts] : Prop :=
  ∀ (m : (ℓ : Loc Cert.KeysKernelIdeal.nD Cert.KeysKernelIdeal.τ Cert.KeysKernelIdeal.sig) → Buf (Elt Ideal) ℓ) (g : Dev Cert.KeysKernelIdeal.nD → PrngReg)
    (m' : (ℓ : Loc Cert.KeysReferenceIdeal.nD Cert.KeysReferenceIdeal.τ Cert.KeysReferenceIdeal.sig) → Buf (Elt Ideal) ℓ) (g' : Dev Cert.KeysReferenceIdeal.nD → PrngReg), Pre_KeysKernelIdeal m →
    (∀ c : Dev Cert.KeysKernelIdeal.nD,
      m' ((c.tc : Thread Cert.KeysReferenceIdeal.nD Cert.KeysReferenceIdeal.τ).loc Cert.KeysReferenceIdeal.main_arg0) = m ((c.tc : Thread Cert.KeysKernelIdeal.nD Cert.KeysKernelIdeal.τ).loc Cert.KeysKernelIdeal.main_arg0)
      ∧ m' ((c.tc : Thread Cert.KeysReferenceIdeal.nD Cert.KeysReferenceIdeal.τ).loc Cert.KeysReferenceIdeal.main_arg1) = m ((c.tc : Thread Cert.KeysKernelIdeal.nD Cert.KeysKernelIdeal.τ).loc Cert.KeysKernelIdeal.main_arg1)
      ∧ m' ((c.tc : Thread Cert.KeysReferenceIdeal.nD Cert.KeysReferenceIdeal.τ).loc Cert.KeysReferenceIdeal.main_arg2) = m ((c.tc : Thread Cert.KeysKernelIdeal.nD Cert.KeysKernelIdeal.τ).loc Cert.KeysKernelIdeal.main_arg2)
      ∧ m' ((c.tc : Thread Cert.KeysReferenceIdeal.nD Cert.KeysReferenceIdeal.τ).loc Cert.KeysReferenceIdeal.main_arg3) = m ((c.tc : Thread Cert.KeysKernelIdeal.nD Cert.KeysKernelIdeal.τ).loc Cert.KeysKernelIdeal.main_arg3)) →
    ∃ (v0 : (c : Dev Cert.KeysKernelIdeal.nD) → Buf (Elt Ideal) ((c.tc : Thread Cert.KeysKernelIdeal.nD Cert.KeysKernelIdeal.τ).loc Cert.KeysKernelIdeal.main_v0_0)) (v1 : (c : Dev Cert.KeysKernelIdeal.nD) → Buf (Elt Ideal) ((c.tc : Thread Cert.KeysKernelIdeal.nD Cert.KeysKernelIdeal.τ).loc Cert.KeysKernelIdeal.main_v0_1)) (v2 : (c : Dev Cert.KeysKernelIdeal.nD) → Buf (Elt Ideal) ((c.tc : Thread Cert.KeysKernelIdeal.nD Cert.KeysKernelIdeal.τ).loc Cert.KeysKernelIdeal.main_v0_2)) (v3 : (c : Dev Cert.KeysKernelIdeal.nD) → Buf (Elt Ideal) ((c.tc : Thread Cert.KeysKernelIdeal.nD Cert.KeysKernelIdeal.τ).loc Cert.KeysKernelIdeal.main_v0_3)),
      θ_run (Cert.KeysKernelIdeal.defs (F := Ideal)) (onTc (τ := Cert.KeysKernelIdeal.τ) (Cert.KeysKernelIdeal.main (F := Ideal))) ⟨m, fun _ => 0, g⟩ (fun r => ∀ c : Dev Cert.KeysKernelIdeal.nD,
          r.2.mem ((c.tc : Thread Cert.KeysKernelIdeal.nD Cert.KeysKernelIdeal.τ).loc Cert.KeysKernelIdeal.main_v0_0) = v0 c
          ∧ r.2.mem ((c.tc : Thread Cert.KeysKernelIdeal.nD Cert.KeysKernelIdeal.τ).loc Cert.KeysKernelIdeal.main_v0_1) = v1 c
          ∧ r.2.mem ((c.tc : Thread Cert.KeysKernelIdeal.nD Cert.KeysKernelIdeal.τ).loc Cert.KeysKernelIdeal.main_v0_2) = v2 c
          ∧ r.2.mem ((c.tc : Thread Cert.KeysKernelIdeal.nD Cert.KeysKernelIdeal.τ).loc Cert.KeysKernelIdeal.main_v0_3) = v3 c
          ∧ r.2.mem ((c.tc : Thread Cert.KeysKernelIdeal.nD Cert.KeysKernelIdeal.τ).loc Cert.KeysKernelIdeal.main_arg0) = m ((c.tc : Thread Cert.KeysKernelIdeal.nD Cert.KeysKernelIdeal.τ).loc Cert.KeysKernelIdeal.main_arg0)
          ∧ r.2.mem ((c.tc : Thread Cert.KeysKernelIdeal.nD Cert.KeysKernelIdeal.τ).loc Cert.KeysKernelIdeal.main_arg1) = m ((c.tc : Thread Cert.KeysKernelIdeal.nD Cert.KeysKernelIdeal.τ).loc Cert.KeysKernelIdeal.main_arg1)
          ∧ r.2.mem ((c.tc : Thread Cert.KeysKernelIdeal.nD Cert.KeysKernelIdeal.τ).loc Cert.KeysKernelIdeal.main_arg2) = m ((c.tc : Thread Cert.KeysKernelIdeal.nD Cert.KeysKernelIdeal.τ).loc Cert.KeysKernelIdeal.main_arg2)
          ∧ r.2.mem ((c.tc : Thread Cert.KeysKernelIdeal.nD Cert.KeysKernelIdeal.τ).loc Cert.KeysKernelIdeal.main_arg3) = m ((c.tc : Thread Cert.KeysKernelIdeal.nD Cert.KeysKernelIdeal.τ).loc Cert.KeysKernelIdeal.main_arg3))
      ∧ θ_run (Cert.KeysReferenceIdeal.defs (F := Ideal)) (onTc (τ := Cert.KeysReferenceIdeal.τ) (Cert.KeysReferenceIdeal.main (F := Ideal))) ⟨m', fun _ => 0, g'⟩ (fun r => ∀ c : Dev Cert.KeysReferenceIdeal.nD,
          r.2.mem ((c.tc : Thread Cert.KeysReferenceIdeal.nD Cert.KeysReferenceIdeal.τ).loc Cert.KeysReferenceIdeal.main_v2) = v0 c
          ∧ r.2.mem ((c.tc : Thread Cert.KeysReferenceIdeal.nD Cert.KeysReferenceIdeal.τ).loc Cert.KeysReferenceIdeal.main_v26) = v1 c
          ∧ r.2.mem ((c.tc : Thread Cert.KeysReferenceIdeal.nD Cert.KeysReferenceIdeal.τ).loc Cert.KeysReferenceIdeal.main_v7) = v2 c
          ∧ r.2.mem ((c.tc : Thread Cert.KeysReferenceIdeal.nD Cert.KeysReferenceIdeal.τ).loc Cert.KeysReferenceIdeal.main_v13) = v3 c
          ∧ r.2.mem ((c.tc : Thread Cert.KeysReferenceIdeal.nD Cert.KeysReferenceIdeal.τ).loc Cert.KeysReferenceIdeal.main_arg0) = m' ((c.tc : Thread Cert.KeysReferenceIdeal.nD Cert.KeysReferenceIdeal.τ).loc Cert.KeysReferenceIdeal.main_arg0)
          ∧ r.2.mem ((c.tc : Thread Cert.KeysReferenceIdeal.nD Cert.KeysReferenceIdeal.τ).loc Cert.KeysReferenceIdeal.main_arg1) = m' ((c.tc : Thread Cert.KeysReferenceIdeal.nD Cert.KeysReferenceIdeal.τ).loc Cert.KeysReferenceIdeal.main_arg1)
          ∧ r.2.mem ((c.tc : Thread Cert.KeysReferenceIdeal.nD Cert.KeysReferenceIdeal.τ).loc Cert.KeysReferenceIdeal.main_arg2) = m' ((c.tc : Thread Cert.KeysReferenceIdeal.nD Cert.KeysReferenceIdeal.τ).loc Cert.KeysReferenceIdeal.main_arg2)
          ∧ r.2.mem ((c.tc : Thread Cert.KeysReferenceIdeal.nD Cert.KeysReferenceIdeal.τ).loc Cert.KeysReferenceIdeal.main_arg3) = m' ((c.tc : Thread Cert.KeysReferenceIdeal.nD Cert.KeysReferenceIdeal.τ).loc Cert.KeysReferenceIdeal.main_arg3))

def preserves_CrossKernel_CrossKernelIdeal : Prop :=
  True

def algebraic_CrossKernelIdeal_CrossReferenceIdeal [hCrossKernelIdeal : Cert.CrossKernelIdeal.Facts] [hCrossReferenceIdeal : Cert.CrossReferenceIdeal.Facts] : Prop :=
  ∀ (m : (ℓ : Loc Cert.CrossKernelIdeal.nD Cert.CrossKernelIdeal.τ Cert.CrossKernelIdeal.sig) → Buf (Elt Ideal) ℓ) (g : Dev Cert.CrossKernelIdeal.nD → PrngReg)
    (m' : (ℓ : Loc Cert.CrossReferenceIdeal.nD Cert.CrossReferenceIdeal.τ Cert.CrossReferenceIdeal.sig) → Buf (Elt Ideal) ℓ) (g' : Dev Cert.CrossReferenceIdeal.nD → PrngReg), Pre_CrossKernelIdeal m →
    (∀ c : Dev Cert.CrossKernelIdeal.nD,
      m' ((c.tc : Thread Cert.CrossReferenceIdeal.nD Cert.CrossReferenceIdeal.τ).loc Cert.CrossReferenceIdeal.main_arg0) = m ((c.tc : Thread Cert.CrossKernelIdeal.nD Cert.CrossKernelIdeal.τ).loc Cert.CrossKernelIdeal.main_arg0)
      ∧ m' ((c.tc : Thread Cert.CrossReferenceIdeal.nD Cert.CrossReferenceIdeal.τ).loc Cert.CrossReferenceIdeal.main_arg1) = m ((c.tc : Thread Cert.CrossKernelIdeal.nD Cert.CrossKernelIdeal.τ).loc Cert.CrossKernelIdeal.main_arg1)
      ∧ m' ((c.tc : Thread Cert.CrossReferenceIdeal.nD Cert.CrossReferenceIdeal.τ).loc Cert.CrossReferenceIdeal.main_arg2) = m ((c.tc : Thread Cert.CrossKernelIdeal.nD Cert.CrossKernelIdeal.τ).loc Cert.CrossKernelIdeal.main_arg2)
      ∧ m' ((c.tc : Thread Cert.CrossReferenceIdeal.nD Cert.CrossReferenceIdeal.τ).loc Cert.CrossReferenceIdeal.main_arg3) = m ((c.tc : Thread Cert.CrossKernelIdeal.nD Cert.CrossKernelIdeal.τ).loc Cert.CrossKernelIdeal.main_arg3)
      ∧ m' ((c.tc : Thread Cert.CrossReferenceIdeal.nD Cert.CrossReferenceIdeal.τ).loc Cert.CrossReferenceIdeal.main_arg4) = m ((c.tc : Thread Cert.CrossKernelIdeal.nD Cert.CrossKernelIdeal.τ).loc Cert.CrossKernelIdeal.main_arg4)) →
    ∃ (v0 : (c : Dev Cert.CrossKernelIdeal.nD) → Buf (Elt Ideal) ((c.tc : Thread Cert.CrossKernelIdeal.nD Cert.CrossKernelIdeal.τ).loc Cert.CrossKernelIdeal.main_v2_0)) (v1 : (c : Dev Cert.CrossKernelIdeal.nD) → Buf (Elt Ideal) ((c.tc : Thread Cert.CrossKernelIdeal.nD Cert.CrossKernelIdeal.τ).loc Cert.CrossKernelIdeal.main_v2_1)) (v2 : (c : Dev Cert.CrossKernelIdeal.nD) → Buf (Elt Ideal) ((c.tc : Thread Cert.CrossKernelIdeal.nD Cert.CrossKernelIdeal.τ).loc Cert.CrossKernelIdeal.main_v2_2)) (v3 : (c : Dev Cert.CrossKernelIdeal.nD) → Buf (Elt Ideal) ((c.tc : Thread Cert.CrossKernelIdeal.nD Cert.CrossKernelIdeal.τ).loc Cert.CrossKernelIdeal.main_v2_3)),
      θ_run (Cert.CrossKernelIdeal.defs (F := Ideal)) (onTc (τ := Cert.CrossKernelIdeal.τ) (Cert.CrossKernelIdeal.main (F := Ideal))) ⟨m, fun _ => 0, g⟩ (fun r => ∀ c : Dev Cert.CrossKernelIdeal.nD,
          r.2.mem ((c.tc : Thread Cert.CrossKernelIdeal.nD Cert.CrossKernelIdeal.τ).loc Cert.CrossKernelIdeal.main_v2_0) = v0 c
          ∧ r.2.mem ((c.tc : Thread Cert.CrossKernelIdeal.nD Cert.CrossKernelIdeal.τ).loc Cert.CrossKernelIdeal.main_v2_1) = v1 c
          ∧ r.2.mem ((c.tc : Thread Cert.CrossKernelIdeal.nD Cert.CrossKernelIdeal.τ).loc Cert.CrossKernelIdeal.main_v2_2) = v2 c
          ∧ r.2.mem ((c.tc : Thread Cert.CrossKernelIdeal.nD Cert.CrossKernelIdeal.τ).loc Cert.CrossKernelIdeal.main_v2_3) = v3 c
          ∧ r.2.mem ((c.tc : Thread Cert.CrossKernelIdeal.nD Cert.CrossKernelIdeal.τ).loc Cert.CrossKernelIdeal.main_arg0) = m ((c.tc : Thread Cert.CrossKernelIdeal.nD Cert.CrossKernelIdeal.τ).loc Cert.CrossKernelIdeal.main_arg0)
          ∧ r.2.mem ((c.tc : Thread Cert.CrossKernelIdeal.nD Cert.CrossKernelIdeal.τ).loc Cert.CrossKernelIdeal.main_arg1) = m ((c.tc : Thread Cert.CrossKernelIdeal.nD Cert.CrossKernelIdeal.τ).loc Cert.CrossKernelIdeal.main_arg1)
          ∧ r.2.mem ((c.tc : Thread Cert.CrossKernelIdeal.nD Cert.CrossKernelIdeal.τ).loc Cert.CrossKernelIdeal.main_arg2) = m ((c.tc : Thread Cert.CrossKernelIdeal.nD Cert.CrossKernelIdeal.τ).loc Cert.CrossKernelIdeal.main_arg2)
          ∧ r.2.mem ((c.tc : Thread Cert.CrossKernelIdeal.nD Cert.CrossKernelIdeal.τ).loc Cert.CrossKernelIdeal.main_arg3) = m ((c.tc : Thread Cert.CrossKernelIdeal.nD Cert.CrossKernelIdeal.τ).loc Cert.CrossKernelIdeal.main_arg3)
          ∧ r.2.mem ((c.tc : Thread Cert.CrossKernelIdeal.nD Cert.CrossKernelIdeal.τ).loc Cert.CrossKernelIdeal.main_arg4) = m ((c.tc : Thread Cert.CrossKernelIdeal.nD Cert.CrossKernelIdeal.τ).loc Cert.CrossKernelIdeal.main_arg4))
      ∧ θ_run (Cert.CrossReferenceIdeal.defs (F := Ideal)) (onTc (τ := Cert.CrossReferenceIdeal.τ) (Cert.CrossReferenceIdeal.main (F := Ideal))) ⟨m', fun _ => 0, g'⟩ (fun r => ∀ c : Dev Cert.CrossReferenceIdeal.nD,
          r.2.mem ((c.tc : Thread Cert.CrossReferenceIdeal.nD Cert.CrossReferenceIdeal.τ).loc Cert.CrossReferenceIdeal.main_v43) = v0 c
          ∧ r.2.mem ((c.tc : Thread Cert.CrossReferenceIdeal.nD Cert.CrossReferenceIdeal.τ).loc Cert.CrossReferenceIdeal.main_v12) = v1 c
          ∧ r.2.mem ((c.tc : Thread Cert.CrossReferenceIdeal.nD Cert.CrossReferenceIdeal.τ).loc Cert.CrossReferenceIdeal.main_v17) = v2 c
          ∧ r.2.mem ((c.tc : Thread Cert.CrossReferenceIdeal.nD Cert.CrossReferenceIdeal.τ).loc Cert.CrossReferenceIdeal.main_v40) = v3 c
          ∧ r.2.mem ((c.tc : Thread Cert.CrossReferenceIdeal.nD Cert.CrossReferenceIdeal.τ).loc Cert.CrossReferenceIdeal.main_arg0) = m' ((c.tc : Thread Cert.CrossReferenceIdeal.nD Cert.CrossReferenceIdeal.τ).loc Cert.CrossReferenceIdeal.main_arg0)
          ∧ r.2.mem ((c.tc : Thread Cert.CrossReferenceIdeal.nD Cert.CrossReferenceIdeal.τ).loc Cert.CrossReferenceIdeal.main_arg1) = m' ((c.tc : Thread Cert.CrossReferenceIdeal.nD Cert.CrossReferenceIdeal.τ).loc Cert.CrossReferenceIdeal.main_arg1)
          ∧ r.2.mem ((c.tc : Thread Cert.CrossReferenceIdeal.nD Cert.CrossReferenceIdeal.τ).loc Cert.CrossReferenceIdeal.main_arg2) = m' ((c.tc : Thread Cert.CrossReferenceIdeal.nD Cert.CrossReferenceIdeal.τ).loc Cert.CrossReferenceIdeal.main_arg2)
          ∧ r.2.mem ((c.tc : Thread Cert.CrossReferenceIdeal.nD Cert.CrossReferenceIdeal.τ).loc Cert.CrossReferenceIdeal.main_arg3) = m' ((c.tc : Thread Cert.CrossReferenceIdeal.nD Cert.CrossReferenceIdeal.τ).loc Cert.CrossReferenceIdeal.main_arg3)
          ∧ r.2.mem ((c.tc : Thread Cert.CrossReferenceIdeal.nD Cert.CrossReferenceIdeal.τ).loc Cert.CrossReferenceIdeal.main_arg4) = m' ((c.tc : Thread Cert.CrossReferenceIdeal.nD Cert.CrossReferenceIdeal.τ).loc Cert.CrossReferenceIdeal.main_arg4))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)
      ∧ m' ((c.tc : Thread Cert.LossReferenceIdeal.nD Cert.LossReferenceIdeal.τ).loc Cert.LossReferenceIdeal.main_arg5) = m ((c.tc : Thread Cert.LossKernelIdeal.nD Cert.LossKernelIdeal.τ).loc Cert.LossKernelIdeal.main_arg5)) →
    ∃ (v0 : (c : Dev Cert.LossKernelIdeal.nD) → Buf (Elt Ideal) ((c.tc : Thread Cert.LossKernelIdeal.nD Cert.LossKernelIdeal.τ).loc Cert.LossKernelIdeal.main_v5_0)) (v1 : (c : Dev Cert.LossKernelIdeal.nD) → Buf (Elt Ideal) ((c.tc : Thread Cert.LossKernelIdeal.nD Cert.LossKernelIdeal.τ).loc Cert.LossKernelIdeal.main_v5_1)) (v2 : (c : Dev Cert.LossKernelIdeal.nD) → Buf (Elt Ideal) ((c.tc : Thread Cert.LossKernelIdeal.nD Cert.LossKernelIdeal.τ).loc Cert.LossKernelIdeal.main_v5_2)) (v3 : (c : Dev Cert.LossKernelIdeal.nD) → Buf (Elt Ideal) ((c.tc : Thread Cert.LossKernelIdeal.nD Cert.LossKernelIdeal.τ).loc Cert.LossKernelIdeal.main_v5_3)) (v4 : (c : Dev Cert.LossKernelIdeal.nD) → Buf (Elt Ideal) ((c.tc : Thread Cert.LossKernelIdeal.nD Cert.LossKernelIdeal.τ).loc Cert.LossKernelIdeal.main_v5_4)) (v5 : (c : Dev Cert.LossKernelIdeal.nD) → Buf (Elt Ideal) ((c.tc : Thread Cert.LossKernelIdeal.nD Cert.LossKernelIdeal.τ).loc Cert.LossKernelIdeal.main_v5_5)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v5_0) = v0 c
          ∧ r.2.mem ((c.tc : Thread Cert.LossKernelIdeal.nD Cert.LossKernelIdeal.τ).loc Cert.LossKernelIdeal.main_v5_1) = v1 c
          ∧ r.2.mem ((c.tc : Thread Cert.LossKernelIdeal.nD Cert.LossKernelIdeal.τ).loc Cert.LossKernelIdeal.main_v5_2) = v2 c
          ∧ r.2.mem ((c.tc : Thread Cert.LossKernelIdeal.nD Cert.LossKernelIdeal.τ).loc Cert.LossKernelIdeal.main_v5_3) = v3 c
          ∧ r.2.mem ((c.tc : Thread Cert.LossKernelIdeal.nD Cert.LossKernelIdeal.τ).loc Cert.LossKernelIdeal.main_v5_4) = v4 c
          ∧ r.2.mem ((c.tc : Thread Cert.LossKernelIdeal.nD Cert.LossKernelIdeal.τ).loc Cert.LossKernelIdeal.main_v5_5) = v5 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
          ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v70) = v0 c
          ∧ r.2.mem ((c.tc : Thread Cert.LossReferenceIdeal.nD Cert.LossReferenceIdeal.τ).loc Cert.LossReferenceIdeal.main_v71) = v1 c
          ∧ r.2.mem ((c.tc : Thread Cert.LossReferenceIdeal.nD Cert.LossReferenceIdeal.τ).loc Cert.LossReferenceIdeal.main_v72) = v2 c
          ∧ r.2.mem ((c.tc : Thread Cert.LossReferenceIdeal.nD Cert.LossReferenceIdeal.τ).loc Cert.LossReferenceIdeal.main_v73) = v3 c
          ∧ r.2.mem ((c.tc : Thread Cert.LossReferenceIdeal.nD Cert.LossReferenceIdeal.τ).loc Cert.LossReferenceIdeal.main_v74) = v4 c
          ∧ r.2.mem ((c.tc : Thread Cert.LossReferenceIdeal.nD Cert.LossReferenceIdeal.τ).loc Cert.LossReferenceIdeal.main_v75) = v5 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4)
          ∧ r.2.mem ((c.tc : Thread Cert.LossReferenceIdeal.nD Cert.LossReferenceIdeal.τ).loc Cert.LossReferenceIdeal.main_arg5) = m' ((c.tc : Thread Cert.LossReferenceIdeal.nD Cert.LossReferenceIdeal.τ).loc Cert.LossReferenceIdeal.main_arg5))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v1) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_MemoryKernel_MemoryKernelIdeal : Prop :=
  True

def algebraic_MemoryKernelIdeal_MemoryReferenceIdeal [hMemoryKernelIdeal : Cert.MemoryKernelIdeal.Facts] [hMemoryReferenceIdeal : Cert.MemoryReferenceIdeal.Facts] : Prop :=
  ∀ (m : (ℓ : Loc Cert.MemoryKernelIdeal.nD Cert.MemoryKernelIdeal.τ Cert.MemoryKernelIdeal.sig) → Buf (Elt Ideal) ℓ) (g : Dev Cert.MemoryKernelIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryKernelIdeal m →
    (∀ c : Dev Cert.MemoryKernelIdeal.nD,
      m' ((c.tc : Thread Cert.MemoryReferenceIdeal.nD Cert.MemoryReferenceIdeal.τ).loc Cert.MemoryReferenceIdeal.main_arg0) = m ((c.tc : Thread Cert.MemoryKernelIdeal.nD Cert.MemoryKernelIdeal.τ).loc Cert.MemoryKernelIdeal.main_arg0)
      ∧ m' ((c.tc : Thread Cert.MemoryReferenceIdeal.nD Cert.MemoryReferenceIdeal.τ).loc Cert.MemoryReferenceIdeal.main_arg1) = m ((c.tc : Thread Cert.MemoryKernelIdeal.nD Cert.MemoryKernelIdeal.τ).loc Cert.MemoryKernelIdeal.main_arg1)
      ∧ m' ((c.tc : Thread Cert.MemoryReferenceIdeal.nD Cert.MemoryReferenceIdeal.τ).loc Cert.MemoryReferenceIdeal.main_arg2) = m ((c.tc : Thread Cert.MemoryKernelIdeal.nD Cert.MemoryKernelIdeal.τ).loc Cert.MemoryKernelIdeal.main_arg2)) →
    ∃ (v0 : (c : Dev Cert.MemoryKernelIdeal.nD) → Buf (Elt Ideal) ((c.tc : Thread Cert.MemoryKernelIdeal.nD Cert.MemoryKernelIdeal.τ).loc Cert.MemoryKernelIdeal.main_v3_0)) (v1 : (c : Dev Cert.MemoryKernelIdeal.nD) → Buf (Elt Ideal) ((c.tc : Thread Cert.MemoryKernelIdeal.nD Cert.MemoryKernelIdeal.τ).loc Cert.MemoryKernelIdeal.main_v3_1)),
      θ_run (Cert.MemoryKernelIdeal.defs (F := Ideal)) (onTc (τ := Cert.MemoryKernelIdeal.τ) (Cert.MemoryKernelIdeal.main (F := Ideal))) ⟨m, fun _ => 0, g⟩ (fun r => ∀ c : Dev Cert.MemoryKernelIdeal.nD,
          r.2.mem ((c.tc : Thread Cert.MemoryKernelIdeal.nD Cert.MemoryKernelIdeal.τ).loc Cert.MemoryKernelIdeal.main_v3_0) = v0 c
          ∧ r.2.mem ((c.tc : Thread Cert.MemoryKernelIdeal.nD Cert.MemoryKernelIdeal.τ).loc Cert.MemoryKernelIdeal.main_v3_1) = v1 c
          ∧ r.2.mem ((c.tc : Thread Cert.MemoryKernelIdeal.nD Cert.MemoryKernelIdeal.τ).loc Cert.MemoryKernelIdeal.main_arg0) = m ((c.tc : Thread Cert.MemoryKernelIdeal.nD Cert.MemoryKernelIdeal.τ).loc Cert.MemoryKernelIdeal.main_arg0)
          ∧ r.2.mem ((c.tc : Thread Cert.MemoryKernelIdeal.nD Cert.MemoryKernelIdeal.τ).loc Cert.MemoryKernelIdeal.main_arg1) = m ((c.tc : Thread Cert.MemoryKernelIdeal.nD Cert.MemoryKernelIdeal.τ).loc Cert.MemoryKernelIdeal.main_arg1)
          ∧ r.2.mem ((c.tc : Thread Cert.MemoryKernelIdeal.nD Cert.MemoryKernelIdeal.τ).loc Cert.MemoryKernelIdeal.main_arg2) = m ((c.tc : Thread Cert.MemoryKernelIdeal.nD Cert.MemoryKernelIdeal.τ).loc Cert.MemoryKernelIdeal.main_arg2))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v14) = v0 c
          ∧ r.2.mem ((c.tc : Thread Cert.MemoryReferenceIdeal.nD Cert.MemoryReferenceIdeal.τ).loc Cert.MemoryReferenceIdeal.main_v15) = v1 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2))

def preserves_RecallKernel_RecallKernelIdeal : Prop :=
  True

def algebraic_RecallKernelIdeal_RecallReferenceIdeal [hRecallKernelIdeal : Cert.RecallKernelIdeal.Facts] [hRecallReferenceIdeal : Cert.RecallReferenceIdeal.Facts] : Prop :=
  ∀ (m : (ℓ : Loc Cert.RecallKernelIdeal.nD Cert.RecallKernelIdeal.τ Cert.RecallKernelIdeal.sig) → Buf (Elt Ideal) ℓ) (g : Dev Cert.RecallKernelIdeal.nD → PrngReg)
    (m' : (ℓ : Loc Cert.RecallReferenceIdeal.nD Cert.RecallReferenceIdeal.τ Cert.RecallReferenceIdeal.sig) → Buf (Elt Ideal) ℓ) (g' : Dev Cert.RecallReferenceIdeal.nD → PrngReg), Pre_RecallKernelIdeal m →
    (∀ c : Dev Cert.RecallKernelIdeal.nD,
      m' ((c.tc : Thread Cert.RecallReferenceIdeal.nD Cert.RecallReferenceIdeal.τ).loc Cert.RecallReferenceIdeal.main_arg0) = m ((c.tc : Thread Cert.RecallKernelIdeal.nD Cert.RecallKernelIdeal.τ).loc Cert.RecallKernelIdeal.main_arg0)
      ∧ m' ((c.tc : Thread Cert.RecallReferenceIdeal.nD Cert.RecallReferenceIdeal.τ).loc Cert.RecallReferenceIdeal.main_arg1) = m ((c.tc : Thread Cert.RecallKernelIdeal.nD Cert.RecallKernelIdeal.τ).loc Cert.RecallKernelIdeal.main_arg1)
      ∧ m' ((c.tc : Thread Cert.RecallReferenceIdeal.nD Cert.RecallReferenceIdeal.τ).loc Cert.RecallReferenceIdeal.main_arg2) = m ((c.tc : Thread Cert.RecallKernelIdeal.nD Cert.RecallKernelIdeal.τ).loc Cert.RecallKernelIdeal.main_arg2)
      ∧ m' ((c.tc : Thread Cert.RecallReferenceIdeal.nD Cert.RecallReferenceIdeal.τ).loc Cert.RecallReferenceIdeal.main_arg3) = m ((c.tc : Thread Cert.RecallKernelIdeal.nD Cert.RecallKernelIdeal.τ).loc Cert.RecallKernelIdeal.main_arg3)) →
    ∃ (v0 : (c : Dev Cert.RecallKernelIdeal.nD) → Buf (Elt Ideal) ((c.tc : Thread Cert.RecallKernelIdeal.nD Cert.RecallKernelIdeal.τ).loc Cert.RecallKernelIdeal.main_v17_0)) (v1 : (c : Dev Cert.RecallKernelIdeal.nD) → Buf (Elt Ideal) ((c.tc : Thread Cert.RecallKernelIdeal.nD Cert.RecallKernelIdeal.τ).loc Cert.RecallKernelIdeal.main_v17_1)),
      θ_run (Cert.RecallKernelIdeal.defs (F := Ideal)) (onTc (τ := Cert.RecallKernelIdeal.τ) (Cert.RecallKernelIdeal.main (F := Ideal))) ⟨m, fun _ => 0, g⟩ (fun r => ∀ c : Dev Cert.RecallKernelIdeal.nD,
          r.2.mem ((c.tc : Thread Cert.RecallKernelIdeal.nD Cert.RecallKernelIdeal.τ).loc Cert.RecallKernelIdeal.main_v17_0) = v0 c
          ∧ r.2.mem ((c.tc : Thread Cert.RecallKernelIdeal.nD Cert.RecallKernelIdeal.τ).loc Cert.RecallKernelIdeal.main_v17_1) = v1 c
          ∧ r.2.mem ((c.tc : Thread Cert.RecallKernelIdeal.nD Cert.RecallKernelIdeal.τ).loc Cert.RecallKernelIdeal.main_arg0) = m ((c.tc : Thread Cert.RecallKernelIdeal.nD Cert.RecallKernelIdeal.τ).loc Cert.RecallKernelIdeal.main_arg0)
          ∧ r.2.mem ((c.tc : Thread Cert.RecallKernelIdeal.nD Cert.RecallKernelIdeal.τ).loc Cert.RecallKernelIdeal.main_arg1) = m ((c.tc : Thread Cert.RecallKernelIdeal.nD Cert.RecallKernelIdeal.τ).loc Cert.RecallKernelIdeal.main_arg1)
          ∧ r.2.mem ((c.tc : Thread Cert.RecallKernelIdeal.nD Cert.RecallKernelIdeal.τ).loc Cert.RecallKernelIdeal.main_arg2) = m ((c.tc : Thread Cert.RecallKernelIdeal.nD Cert.RecallKernelIdeal.τ).loc Cert.RecallKernelIdeal.main_arg2)
          ∧ r.2.mem ((c.tc : Thread Cert.RecallKernelIdeal.nD Cert.RecallKernelIdeal.τ).loc Cert.RecallKernelIdeal.main_arg3) = m ((c.tc : Thread Cert.RecallKernelIdeal.nD Cert.RecallKernelIdeal.τ).loc Cert.RecallKernelIdeal.main_arg3))
      ∧ θ_run (Cert.RecallReferenceIdeal.defs (F := Ideal)) (onTc (τ := Cert.RecallReferenceIdeal.τ) (Cert.RecallReferenceIdeal.main (F := Ideal))) ⟨m', fun _ => 0, g'⟩ (fun r => ∀ c : Dev Cert.RecallReferenceIdeal.nD,
          r.2.mem ((c.tc : Thread Cert.RecallReferenceIdeal.nD Cert.RecallReferenceIdeal.τ).loc Cert.RecallReferenceIdeal.main_v22) = v0 c
          ∧ r.2.mem ((c.tc : Thread Cert.RecallReferenceIdeal.nD Cert.RecallReferenceIdeal.τ).loc Cert.RecallReferenceIdeal.main_v23) = v1 c
          ∧ r.2.mem ((c.tc : Thread Cert.RecallReferenceIdeal.nD Cert.RecallReferenceIdeal.τ).loc Cert.RecallReferenceIdeal.main_arg0) = m' ((c.tc : Thread Cert.RecallReferenceIdeal.nD Cert.RecallReferenceIdeal.τ).loc Cert.RecallReferenceIdeal.main_arg0)
          ∧ r.2.mem ((c.tc : Thread Cert.RecallReferenceIdeal.nD Cert.RecallReferenceIdeal.τ).loc Cert.RecallReferenceIdeal.main_arg1) = m' ((c.tc : Thread Cert.RecallReferenceIdeal.nD Cert.RecallReferenceIdeal.τ).loc Cert.RecallReferenceIdeal.main_arg1)
          ∧ r.2.mem ((c.tc : Thread Cert.RecallReferenceIdeal.nD Cert.RecallReferenceIdeal.τ).loc Cert.RecallReferenceIdeal.main_arg2) = m' ((c.tc : Thread Cert.RecallReferenceIdeal.nD Cert.RecallReferenceIdeal.τ).loc Cert.RecallReferenceIdeal.main_arg2)
          ∧ r.2.mem ((c.tc : Thread Cert.RecallReferenceIdeal.nD Cert.RecallReferenceIdeal.τ).loc Cert.RecallReferenceIdeal.main_arg3) = m' ((c.tc : Thread Cert.RecallReferenceIdeal.nD Cert.RecallReferenceIdeal.τ).loc Cert.RecallReferenceIdeal.main_arg3))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hFfnKernel : Cert.FfnKernel.Facts) (hFfnKernelIdeal : Cert.FfnKernelIdeal.Facts) (hFfnReferenceIdeal : Cert.FfnReferenceIdeal.Facts) (hXattnKernel : Cert.XattnKernel.Facts) (hXattnKernelIdeal : Cert.XattnKernelIdeal.Facts) (hXattnReferenceIdeal : Cert.XattnReferenceIdeal.Facts) (hDownKernel : Cert.DownKernel.Facts) (hDownKernelIdeal : Cert.DownKernelIdeal.Facts) (hDownReferenceIdeal : Cert.DownReferenceIdeal.Facts) (hUpKernel : Cert.UpKernel.Facts) (hUpKernelIdeal : Cert.UpKernelIdeal.Facts) (hUpReferenceIdeal : Cert.UpReferenceIdeal.Facts) (hOutKernel : Cert.OutKernel.Facts) (hOutKernelIdeal : Cert.OutKernelIdeal.Facts) (hOutReferenceIdeal : Cert.OutReferenceIdeal.Facts) (hQueryKernel : Cert.QueryKernel.Facts) (hQueryKernelIdeal : Cert.QueryKernelIdeal.Facts) (hQueryReferenceIdeal : Cert.QueryReferenceIdeal.Facts) (hPairKernel : Cert.PairKernel.Facts) (hPairKernelIdeal : Cert.PairKernelIdeal.Facts) (hPairReferenceIdeal : Cert.PairReferenceIdeal.Facts) (hProjKernel : Cert.ProjKernel.Facts) (hProjKernelIdeal : Cert.ProjKernelIdeal.Facts) (hProjReferenceIdeal : Cert.ProjReferenceIdeal.Facts) (hXoKernel : Cert.XoKernel.Facts) (hXoKernelIdeal : Cert.XoKernelIdeal.Facts) (hXoReferenceIdeal : Cert.XoReferenceIdeal.Facts) (hRowsKernel : Cert.RowsKernel.Facts) (hRowsKernelIdeal : Cert.RowsKernelIdeal.Facts) (hRowsReferenceIdeal : Cert.RowsReferenceIdeal.Facts) (hJoinKernel : Cert.JoinKernel.Facts) (hJoinKernelIdeal : Cert.JoinKernelIdeal.Facts) (hJoinReferenceIdeal : Cert.JoinReferenceIdeal.Facts) (hSquareKernel : Cert.SquareKernel.Facts) (hSquareKernelIdeal : Cert.SquareKernelIdeal.Facts) (hSquareReferenceIdeal : Cert.SquareReferenceIdeal.Facts) (hWideKernel : Cert.WideKernel.Facts) (hWideKernelIdeal : Cert.WideKernelIdeal.Facts) (hWideReferenceIdeal : Cert.WideReferenceIdeal.Facts) (hInStepKernel : Cert.InStepKernel.Facts) (hInStepKernelIdeal : Cert.InStepKernelIdeal.Facts) (hInStepReferenceIdeal : Cert.InStepReferenceIdeal.Facts) (hFfnStepKernel : Cert.FfnStepKernel.Facts) (hFfnStepKernelIdeal : Cert.FfnStepKernelIdeal.Facts) (hFfnStepReferenceIdeal : Cert.FfnStepReferenceIdeal.Facts) (hBranchKernel : Cert.BranchKernel.Facts) (hBranchKernelIdeal : Cert.BranchKernelIdeal.Facts) (hBranchReferenceIdeal : Cert.BranchReferenceIdeal.Facts) (hKeysKernel : Cert.KeysKernel.Facts) (hKeysKernelIdeal : Cert.KeysKernelIdeal.Facts) (hKeysReferenceIdeal : Cert.KeysReferenceIdeal.Facts) (hCrossKernel : Cert.CrossKernel.Facts) (hCrossKernelIdeal : Cert.CrossKernelIdeal.Facts) (hCrossReferenceIdeal : Cert.CrossReferenceIdeal.Facts) (hLossKernel : Cert.LossKernel.Facts) (hLossKernelIdeal : Cert.LossKernelIdeal.Facts) (hLossReferenceIdeal : Cert.LossReferenceIdeal.Facts) (hNormKernel : Cert.NormKernel.Facts) (hNormKernelIdeal : Cert.NormKernelIdeal.Facts) (hNormReferenceIdeal : Cert.NormReferenceIdeal.Facts) (hMemoryKernel : Cert.MemoryKernel.Facts) (hMemoryKernelIdeal : Cert.MemoryKernelIdeal.Facts) (hMemoryReferenceIdeal : Cert.MemoryReferenceIdeal.Facts) (hRecallKernel : Cert.RecallKernel.Facts) (hRecallKernelIdeal : Cert.RecallKernelIdeal.Facts) (hRecallReferenceIdeal : Cert.RecallReferenceIdeal.Facts) (hPre_ffn_finite : Cert.Pre_ffn_finite.Facts) (hPre_xattn_finite : Cert.Pre_xattn_finite.Facts),
    quiescent_Kernel (hKernel := hKernel)
    ∧ quiescent_KernelIdeal (hKernelIdeal := hKernelIdeal)
    ∧ quiescent_ReferenceIdeal (hReferenceIdeal := hReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_XattnKernel (hXattnKernel := hXattnKernel)
    ∧ quiescent_XattnKernelIdeal (hXattnKernelIdeal := hXattnKernelIdeal)
    ∧ quiescent_XattnKernelIdeal_pre_xattn_finite (hXattnKernelIdeal := hXattnKernelIdeal) (hPre_xattn_finite := hPre_xattn_finite)
    ∧ quiescent_XattnReferenceIdeal (hXattnReferenceIdeal := hXattnReferenceIdeal)
    ∧ quiescent_XattnReferenceIdeal_pre_xattn_finite (hXattnReferenceIdeal := hXattnReferenceIdeal) (hPre_xattn_finite := hPre_xattn_finite)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_QueryKernel (hQueryKernel := hQueryKernel)
    ∧ quiescent_QueryKernelIdeal (hQueryKernelIdeal := hQueryKernelIdeal)
    ∧ quiescent_QueryReferenceIdeal (hQueryReferenceIdeal := hQueryReferenceIdeal)
    ∧ quiescent_PairKernel (hPairKernel := hPairKernel)
    ∧ quiescent_PairKernelIdeal (hPairKernelIdeal := hPairKernelIdeal)
    ∧ quiescent_PairReferenceIdeal (hPairReferenceIdeal := hPairReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_XoKernel (hXoKernel := hXoKernel)
    ∧ quiescent_XoKernelIdeal (hXoKernelIdeal := hXoKernelIdeal)
    ∧ quiescent_XoReferenceIdeal (hXoReferenceIdeal := hXoReferenceIdeal)
    ∧ quiescent_RowsKernel (hRowsKernel := hRowsKernel)
    ∧ quiescent_RowsKernelIdeal (hRowsKernelIdeal := hRowsKernelIdeal)
    ∧ quiescent_RowsReferenceIdeal (hRowsReferenceIdeal := hRowsReferenceIdeal)
    ∧ quiescent_JoinKernel (hJoinKernel := hJoinKernel)
    ∧ quiescent_JoinKernelIdeal (hJoinKernelIdeal := hJoinKernelIdeal)
    ∧ quiescent_JoinReferenceIdeal (hJoinReferenceIdeal := hJoinReferenceIdeal)
    ∧ quiescent_SquareKernel (hSquareKernel := hSquareKernel)
    ∧ quiescent_SquareKernelIdeal (hSquareKernelIdeal := hSquareKernelIdeal)
    ∧ quiescent_SquareReferenceIdeal (hSquareReferenceIdeal := hSquareReferenceIdeal)
    ∧ quiescent_WideKernel (hWideKernel := hWideKernel)
    ∧ quiescent_WideKernelIdeal (hWideKernelIdeal := hWideKernelIdeal)
    ∧ quiescent_WideReferenceIdeal (hWideReferenceIdeal := hWideReferenceIdeal)
    ∧ quiescent_InStepKernel (hInStepKernel := hInStepKernel)
    ∧ quiescent_InStepKernelIdeal (hInStepKernelIdeal := hInStepKernelIdeal)
    ∧ quiescent_InStepReferenceIdeal (hInStepReferenceIdeal := hInStepReferenceIdeal)
    ∧ quiescent_FfnStepKernel (hFfnStepKernel := hFfnStepKernel)
    ∧ quiescent_FfnStepKernelIdeal (hFfnStepKernelIdeal := hFfnStepKernelIdeal)
    ∧ quiescent_FfnStepReferenceIdeal (hFfnStepReferenceIdeal := hFfnStepReferenceIdeal)
    ∧ quiescent_BranchKernel (hBranchKernel := hBranchKernel)
    ∧ quiescent_BranchKernelIdeal (hBranchKernelIdeal := hBranchKernelIdeal)
    ∧ quiescent_BranchReferenceIdeal (hBranchReferenceIdeal := hBranchReferenceIdeal)
    ∧ quiescent_KeysKernel (hKeysKernel := hKeysKernel)
    ∧ quiescent_KeysKernelIdeal (hKeysKernelIdeal := hKeysKernelIdeal)
    ∧ quiescent_KeysReferenceIdeal (hKeysReferenceIdeal := hKeysReferenceIdeal)
    ∧ quiescent_CrossKernel (hCrossKernel := hCrossKernel)
    ∧ quiescent_CrossKernelIdeal (hCrossKernelIdeal := hCrossKernelIdeal)
    ∧ quiescent_CrossReferenceIdeal (hCrossReferenceIdeal := hCrossReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_MemoryKernel (hMemoryKernel := hMemoryKernel)
    ∧ quiescent_MemoryKernelIdeal (hMemoryKernelIdeal := hMemoryKernelIdeal)
    ∧ quiescent_MemoryReferenceIdeal (hMemoryReferenceIdeal := hMemoryReferenceIdeal)
    ∧ quiescent_RecallKernel (hRecallKernel := hRecallKernel)
    ∧ quiescent_RecallKernelIdeal (hRecallKernelIdeal := hRecallKernelIdeal)
    ∧ quiescent_RecallReferenceIdeal (hRecallReferenceIdeal := hRecallReferenceIdeal)
    ∧ preserves_Kernel_KernelIdeal
    ∧ algebraic_KernelIdeal_ReferenceIdeal (hKernelIdeal := hKernelIdeal) (hReferenceIdeal := hReferenceIdeal)
    ∧ preserves_InKernel_InKernelIdeal
    ∧ algebraic_InKernelIdeal_InReferenceIdeal (hInKernelIdeal := hInKernelIdeal) (hInReferenceIdeal := hInReferenceIdeal)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_XattnKernel_XattnKernelIdeal
    ∧ algebraic_XattnKernelIdeal_XattnReferenceIdeal_pre_xattn_finite (hXattnKernelIdeal := hXattnKernelIdeal) (hXattnReferenceIdeal := hXattnReferenceIdeal) (hPre_xattn_finite := hPre_xattn_finite)
    ∧ preserves_DownKernel_DownKernelIdeal
    ∧ algebraic_DownKernelIdeal_DownReferenceIdeal (hDownKernelIdeal := hDownKernelIdeal) (hDownReferenceIdeal := hDownReferenceIdeal)
    ∧ preserves_UpKernel_UpKernelIdeal
    ∧ algebraic_UpKernelIdeal_UpReferenceIdeal (hUpKernelIdeal := hUpKernelIdeal) (hUpReferenceIdeal := hUpReferenceIdeal)
    ∧ preserves_OutKernel_OutKernelIdeal
    ∧ algebraic_OutKernelIdeal_OutReferenceIdeal (hOutKernelIdeal := hOutKernelIdeal) (hOutReferenceIdeal := hOutReferenceIdeal)
    ∧ preserves_QueryKernel_QueryKernelIdeal
    ∧ algebraic_QueryKernelIdeal_QueryReferenceIdeal (hQueryKernelIdeal := hQueryKernelIdeal) (hQueryReferenceIdeal := hQueryReferenceIdeal)
    ∧ preserves_PairKernel_PairKernelIdeal
    ∧ algebraic_PairKernelIdeal_PairReferenceIdeal (hPairKernelIdeal := hPairKernelIdeal) (hPairReferenceIdeal := hPairReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_XoKernel_XoKernelIdeal
    ∧ algebraic_XoKernelIdeal_XoReferenceIdeal (hXoKernelIdeal := hXoKernelIdeal) (hXoReferenceIdeal := hXoReferenceIdeal)
    ∧ preserves_RowsKernel_RowsKernelIdeal
    ∧ algebraic_RowsKernelIdeal_RowsReferenceIdeal (hRowsKernelIdeal := hRowsKernelIdeal) (hRowsReferenceIdeal := hRowsReferenceIdeal)
    ∧ preserves_JoinKernel_JoinKernelIdeal
    ∧ algebraic_JoinKernelIdeal_JoinReferenceIdeal (hJoinKernelIdeal := hJoinKernelIdeal) (hJoinReferenceIdeal := hJoinReferenceIdeal)
    ∧ preserves_SquareKernel_SquareKernelIdeal
    ∧ algebraic_SquareKernelIdeal_SquareReferenceIdeal (hSquareKernelIdeal := hSquareKernelIdeal) (hSquareReferenceIdeal := hSquareReferenceIdeal)
    ∧ preserves_WideKernel_WideKernelIdeal
    ∧ algebraic_WideKernelIdeal_WideReferenceIdeal (hWideKernelIdeal := hWideKernelIdeal) (hWideReferenceIdeal := hWideReferenceIdeal)
    ∧ preserves_InStepKernel_InStepKernelIdeal
    ∧ algebraic_InStepKernelIdeal_InStepReferenceIdeal (hInStepKernelIdeal := hInStepKernelIdeal) (hInStepReferenceIdeal := hInStepReferenceIdeal)
    ∧ preserves_FfnStepKernel_FfnStepKernelIdeal
    ∧ algebraic_FfnStepKernelIdeal_FfnStepReferenceIdeal (hFfnStepKernelIdeal := hFfnStepKernelIdeal) (hFfnStepReferenceIdeal := hFfnStepReferenceIdeal)
    ∧ preserves_BranchKernel_BranchKernelIdeal
    ∧ algebraic_BranchKernelIdeal_BranchReferenceIdeal (hBranchKernelIdeal := hBranchKernelIdeal) (hBranchReferenceIdeal := hBranchReferenceIdeal)
    ∧ preserves_KeysKernel_KeysKernelIdeal
    ∧ algebraic_KeysKernelIdeal_KeysReferenceIdeal (hKeysKernelIdeal := hKeysKernelIdeal) (hKeysReferenceIdeal := hKeysReferenceIdeal)
    ∧ preserves_CrossKernel_CrossKernelIdeal
    ∧ algebraic_CrossKernelIdeal_CrossReferenceIdeal (hCrossKernelIdeal := hCrossKernelIdeal) (hCrossReferenceIdeal := hCrossReferenceIdeal)
    ∧ preserves_LossKernel_LossKernelIdeal
    ∧ algebraic_LossKernelIdeal_LossReferenceIdeal (hLossKernelIdeal := hLossKernelIdeal) (hLossReferenceIdeal := hLossReferenceIdeal)
    ∧ preserves_NormKernel_NormKernelIdeal
    ∧ algebraic_NormKernelIdeal_NormReferenceIdeal (hNormKernelIdeal := hNormKernelIdeal) (hNormReferenceIdeal := hNormReferenceIdeal)
    ∧ preserves_MemoryKernel_MemoryKernelIdeal
    ∧ algebraic_MemoryKernelIdeal_MemoryReferenceIdeal (hMemoryKernelIdeal := hMemoryKernelIdeal) (hMemoryReferenceIdeal := hMemoryReferenceIdeal)
    ∧ preserves_RecallKernel_RecallKernelIdeal
    ∧ algebraic_RecallKernelIdeal_RecallReferenceIdeal (hRecallKernelIdeal := hRecallKernelIdeal) (hRecallReferenceIdeal := hRecallReferenceIdeal)
-- ==== Pre_ffn_finite.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn {F : FTy → Type} [FloatOps F] (main_arg0 : FVec F S8192x1024 .f32) (main_arg1 : FVec F S8192x1024 .f32) (main_arg2 : FVec F S1024 .f32) (main_arg3 : FVec F S1024x5632 .f32) (main_arg4 : FVec F S2816x1024 .f32) : IVec S_ 1 × IVec S_ 1 × IVec S_ 1 × IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x5632 .f32 := Host.absf main_arg3
  let main_cst_2 : FVec F S_ .f32 := constant S_ .f32 0x7F800000#32
  let main_v9 : FVec F S1024x5632 .f32 := broadcastInDim S1024x5632 ![] bcast_S_S1024x5632 main_cst_2
  let main_v10 : IVec S1024x5632 1 := cmpf .olt main_v8 main_v9
  let main_c_3 : IVec S_ 1 := constantI S_ 1 1#1
  let main_v11 : IVec S_ 1 := (fun x v => Host.reduce IntOp.andi x v reducesTo_S1024x5632_S_d0_1 h_S_) main_v10 main_c_3
  let main_v12 : FVec F S2816x1024 .f32 := Host.absf main_arg4
  let main_cst_4 : FVec F S_ .f32 := constant S_ .f32 0x7F800000#32
  let main_v13 : FVec F S2816x1024 .f32 := broadcastInDim S2816x1024 ![] bcast_S_S2816x1024 main_cst_4
  let main_v14 : IVec S2816x1024 1 := cmpf .olt main_v12 main_v13
  let main_c_5 : IVec S_ 1 := constantI S_ 1 1#1
  let main_v15 : IVec S_ 1 := (fun x v => Host.reduce IntOp.andi x v reducesTo_S2816x1024_S_d0_1 h_S_) main_v14 main_c_5
  (main_v3, main_v7, main_v11, main_v15)
-- ==== Pre_xattn_finite.lean ====
abbrev S8192x1024 : Shape := ⟨2, ![8192, 1024]⟩
abbrev S1024 : Shape := ⟨1, ![1024]⟩
abbrev S256x2048 : Shape := ⟨2, ![256, 2048]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S256x2048 : S_.BroadcastsInDim S256x2048 (![] : Fin 0 → Fin S256x2048.rank)
  reducesTo_S256x2048_S_d0_1 : S256x2048.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg5 : FVec F S1024x1024 .f32) (main_v3 : IVec S_ 1) (main_v7 : IVec S_ 1) (main_v12 : IVec S_ 1) (main_v15 : IVec S1024x1024 1) (main_c_5 : IVec S_ 1) : IVec S_ 1 × IVec S_ 1 × IVec S_ 1 × IVec S_ 1 × IVec S_ 1 :=
  let main_v16 : IVec S_ 1 := (fun x v => Host.reduce IntOp.andi x v reducesTo_S1024x1024_S_d0_1 h_S_) main_v15 main_c_5
  let main_v17 : FVec F S1024x1024 .f32 := Host.absf main_arg5
  let main_cst_6 : FVec F S_ .f32 := constant S_ .f32 0x7F800000#32
  let main_v18 : FVec F S1024x1024 .f32 := broadcastInDim S1024x1024 ![] bcast_S_S1024x1024 main_cst_6
  let main_v19 : IVec S1024x1024 1 := cmpf .olt main_v17 main_v18
  let main_c_7 : IVec S_ 1 := constantI S_ 1 1#1
  let main_v20 : IVec S_ 1 := (fun x v => Host.reduce IntOp.andi x v reducesTo_S1024x1024_S_d0_1 h_S_) main_v19 main_c_7
  (main_v3, main_v7, main_v12, main_v16, main_v20)

def fn {F : FTy → Type} [FloatOps F] (main_arg0 : FVec F S8192x1024 .f32) (main_arg1 : FVec F S8192x1024 .f32) (main_arg2 : FVec F S1024 .f32) (main_arg3 : FVec F S256x2048 .bf16) (main_arg4 : FVec F S1024x1024 .f32) (main_arg5 : FVec F S1024x1024 .f32) : IVec S_ 1 × IVec S_ 1 × IVec S_ 1 × IVec S_ 1 × IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S256x2048 .f32 := (extf .f32 · bitsLt_bf16_f32) main_arg3
  let main_v9 : FVec F S256x2048 .f32 := Host.absf main_v8
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v9 main_v10
  let main_c_3 : IVec S_ 1 := constantI S_ 1 1#1
  let main_v12 : IVec S_ 1 := (fun x v => Host.reduce IntOp.andi x v reducesTo_S256x2048_S_d0_1 h_S_) main_v11 main_c_3
  let main_v13 : FVec F S1024x1024 .f32 := Host.absf main_arg4
  let main_cst_4 : FVec F S_ .f32 := constant S_ .f32 0x7F800000#32
  let main_v14 : FVec F S1024x1024 .f32 := broadcastInDim S1024x1024 ![] bcast_S_S1024x1024 main_cst_4
  let main_v15 : IVec S1024x1024 1 := cmpf .olt main_v13 main_v14
  let main_c_5 : IVec S_ 1 := constantI S_ 1 1#1
  fn_part1 (F := F) main_arg5 main_v3 main_v7 main_v12 main_v15 main_c_5
-- ==== Kernel.lean ====
abbrev S8192x1024 : Shape := ⟨2, ![8192, 1024]⟩
abbrev S8192x512 : Shape := ⟨2, ![8192, 512]⟩
abbrev S8192x2048 : Shape := ⟨2, ![8192, 2048]⟩
abbrev S512x1024 : Shape := ⟨2, ![512, 1024]⟩
abbrev S1024x1024 : Shape := ⟨2, ![1024, 1024]⟩
abbrev S1024x512 : Shape := ⟨2, ![1024, 512]⟩
abbrev S512x512 : Shape := ⟨2, ![512, 512]⟩
abbrev S512x2048 : Shape := ⟨2, ![512, 2048]⟩

abbrev nBuf : Space → Nat
  | .hbm => 18
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x2048, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024x512, .f32⟩
  | .hbm, ⟨8, _⟩ => ⟨S1024x512, .bf16⟩
  | .hbm, ⟨9, _⟩ => ⟨S1024x512, .f32⟩
  | .hbm, ⟨10, _⟩ => ⟨S1024x512, .bf16⟩
  | .hbm, ⟨11, _⟩ => ⟨S1024x1024, .bf16⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S8192x512, .bf16⟩
  | .hbm, ⟨16, _⟩ => ⟨S8192x512, .bf16⟩
  | .hbm, ⟨17, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x2048, .bf16⟩
  | .local _ .vmem, ⟨22, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S8192x1024 : Shape := ⟨2, ![8192, 1024]⟩
abbrev S8192x512 : Shape := ⟨2, ![8192, 512]⟩
abbrev S8192x2048 : Shape := ⟨2, ![8192, 2048]⟩
abbrev S512x1024 : Shape := ⟨2, ![512, 1024]⟩
abbrev S1024x1024 : Shape := ⟨2, ![1024, 1024]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x2048, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8192x512, .f32⟩
  | .hbm, ⟨8, _⟩ => ⟨S8192x512, .f32⟩
  | .hbm, ⟨9, _⟩ => ⟨S8192x2048, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x512, .f32⟩
  | .hbm, ⟨50, _⟩ => ⟨S8192x512, .f32⟩
  | .hbm, ⟨51, _⟩ => ⟨S8192x1024, .bf16⟩
  | .hbm, ⟨52, _⟩ => ⟨S8192x1024, .bf16⟩
  | .hbm, ⟨53, _⟩ => ⟨S8192x1024, .bf16⟩
  | .hbm, ⟨54, _⟩ => ⟨S8192x512, .bf16⟩
  | .hbm, ⟨55, _⟩ => ⟨S8192x512, .bf16⟩
  | .hbm, ⟨56, _⟩ => ⟨S8192x2048, .f32⟩
  | .hbm, ⟨57, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== InKernel.lean ====
abbrev S8192x512 : Shape := ⟨2, ![8192, 512]⟩
abbrev S8704x512 : Shape := ⟨2, ![8704, 512]⟩
abbrev S8192x1024 : Shape := ⟨2, ![8192, 1024]⟩
abbrev S8192x2048 : Shape := ⟨2, ![8192, 2048]⟩
abbrev S1024 : Shape := ⟨1, ![1024]⟩
abbrev S1024x4608 : Shape := ⟨2, ![1024, 4608]⟩
abbrev S1x1024 : Shape := ⟨2, ![1, 1024]⟩
abbrev S4608x1024 : Shape := ⟨2, ![4608, 1024]⟩
abbrev S8192x4608 : Shape := ⟨2, ![8192, 4608]⟩
abbrev S512x512 : Shape := ⟨2, ![512, 512]⟩
abbrev S512x1024 : Shape := ⟨2, ![512, 1024]⟩
abbrev S512x2048 : Shape := ⟨2, ![512, 2048]⟩
abbrev S512x4608 : Shape := ⟨2, ![512, 4608]⟩
abbrev S512 : Shape := ⟨1, ![512]⟩
abbrev S512x1 : Shape := ⟨2, ![512, 1]⟩

abbrev nBuf : Space → Nat
  | .hbm => 15
  | .vmem => 21
  | .smem => 0
  | _ => 0

abbrev bufTy : (tb : Table) → Fin (tcTables nBuf tb) → BufTy
  | .hbm, ⟨0, _⟩ => ⟨S8192x512, .bf16⟩
  | .hbm, ⟨1, _⟩ => ⟨S8704x512, .f32⟩
  | .hbm, ⟨2, _⟩ => ⟨S8704x512, .f32⟩
  | .hbm, ⟨3, _⟩ => ⟨S8192x1024, .bf16⟩
  | .hbm, ⟨4, _⟩ => ⟨S8192x2048, .bf16⟩
  | .hbm, ⟨5, _⟩ => ⟨S8192x1024, .f32⟩
  | .hbm, ⟨6, _⟩ => ⟨S8192x1024, .f32⟩
  | .hbm, ⟨7, _⟩ => ⟨S1024, .f32⟩
  | .hbm, ⟨8, _⟩ => ⟨S1024x4608, .f32⟩
  | .hbm, ⟨9, _⟩ => ⟨S1x1024, .f32⟩
  | .hbm, ⟨10, _⟩ => ⟨S4608x1024, .f32⟩
  | .hbm, ⟨11, _⟩ => ⟨S4608x1024, .bf16⟩
  | .hbm, ⟨12, _⟩ => ⟨S8192x1024, .f32⟩
  | .hbm, ⟨13, _⟩ => ⟨S8192x4608, .bf16⟩
  | .hbm, ⟨14, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S512x2048, .bf16⟩
  | .local _ .vmem, ⟨9, _⟩ => ⟨S512x2048, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S4608x1024, .bf16⟩
  | .local _ .vmem, ⟨16, _⟩ => ⟨S512x1024, .f32⟩
  | .local _ .vmem, ⟨17, _⟩ => ⟨S512x1024, .f32⟩
  | .local _ .vmem, ⟨18, _⟩ => ⟨S512x4608, .bf16⟩
  | .local _ .vmem, ⟨19, _⟩ => ⟨S512x4608, .bf16⟩
  | .local _ .vmem, ⟨20, _⟩ => ⟨S1x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4608x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x4608 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InReferenceIdeal.lean ====
abbrev S8192x512 : Shape := ⟨2, ![8192, 512]⟩
abbrev S8704x512 : Shape := ⟨2, ![8704, 512]⟩
abbrev S8192x1024 : Shape := ⟨2, ![8192, 1024]⟩
abbrev S8192x2048 : Shape := ⟨2, ![8192, 2048]⟩
abbrev S1024 : Shape := ⟨1, ![1024]⟩
abbrev S1024x4608 : Shape := ⟨2, ![1024, 4608]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4608 : Shape := ⟨2, ![8192, 4608]⟩
abbrev S512x512 : Shape := ⟨2, ![512, 512]⟩

abbrev nBuf : Space → Nat
  | .hbm => 86
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8704x512, .f32⟩
  | .hbm, ⟨2, _⟩ => ⟨S8704x512, .f32⟩
  | .hbm, ⟨3, _⟩ => ⟨S8192x1024, .bf16⟩
  | .hbm, ⟨4, _⟩ => ⟨S8192x2048, .bf16⟩
  | .hbm, ⟨5, _⟩ => ⟨S8192x1024, .f32⟩
  | .hbm, ⟨6, _⟩ => ⟨S8192x1024, .f32⟩
  | .hbm, ⟨7, _⟩ => ⟨S1024, .f32⟩
  | .hbm, ⟨8, _⟩ => ⟨S1024x4608, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x4608, .f32⟩
  | .hbm, ⟨30, _⟩ => ⟨S8192x512, .f32⟩
  | .hbm, ⟨31, _⟩ => ⟨S8192x1024, .f32⟩
  | .hbm, ⟨32, _⟩ => ⟨S8192x2048, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x1024, .f32⟩
  | .hbm, ⟨37, _⟩ => ⟨S8192x2048, .f32⟩
  | .hbm, ⟨38, _⟩ => ⟨S_, .f32⟩
  | .hbm, ⟨39, _⟩ => ⟨S512x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S8704x512, .f32⟩
  | .hbm, ⟨44, _⟩ => ⟨S_, .f32⟩
  | .hbm, ⟨45, _⟩ => ⟨S512x512, .f32⟩
  | .hbm, ⟨46, _⟩ => ⟨S8704x512, .f32⟩
  | .hbm, ⟨47, _⟩ => ⟨S_, .f32⟩
  | .hbm, ⟨48, _⟩ => ⟨S512x512, .f32⟩
  | .hbm, ⟨49, _⟩ => ⟨S512x512, .f32⟩
  | .hbm, ⟨50, _⟩ => ⟨S8192x512, .f32⟩
  | .hbm, ⟨51, _⟩ => ⟨S512x512, .f32⟩
  | .hbm, ⟨52, _⟩ => ⟨S8192x512, .f32⟩
  | .hbm, ⟨53, _⟩ => ⟨S_, .f32⟩
  | .hbm, ⟨54, _⟩ => ⟨S8192x512, .f32⟩
  | .hbm, ⟨55, _⟩ => ⟨S8192x512, .f32⟩
  | .hbm, ⟨56, _⟩ => ⟨S8192x4608, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x4608, .bf16⟩
  | .hbm, ⟨85, _⟩ => ⟨S1x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== FfnKernel.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S5632x1024 : Shape := ⟨2, ![5632, 1024]⟩
abbrev S256x1024 : Shape := ⟨2, ![256, 1024]⟩
abbrev S256x5632 : Shape := ⟨2, ![256, 5632]⟩
abbrev S256x256 : Shape := ⟨2, ![256, 256]⟩
abbrev S256 : Shape := ⟨1, ![256]⟩
abbrev S256x1 : Shape := ⟨2, ![256, 1]⟩

abbrev nBuf : Space → Nat
  | .hbm => 30
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S8192x5632, .bf16⟩
  | .hbm, ⟨23, _⟩ => ⟨S1x1024, .f32⟩
  | .hbm, ⟨24, _⟩ => ⟨S2816x1024, .bf16⟩
  | .hbm, ⟨25, _⟩ => ⟨S5632x1024, .f32⟩
  | .hbm, ⟨26, _⟩ => ⟨S5632x1024, .bf16⟩
  | .hbm, ⟨27, _⟩ => ⟨S8192x1024, .f32⟩
  | .hbm, ⟨28, _⟩ => ⟨S8192x5632, .bf16⟩
  | .hbm, ⟨29, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S2816x1024, .bf16⟩
  | .local _ .vmem, ⟨8, _⟩ => ⟨S5632x1024, .bf16⟩
  | .local _ .vmem, ⟨9, _⟩ => ⟨S256x1024, .f32⟩
  | .local _ .vmem, ⟨10, _⟩ => ⟨S256x1024, .f32⟩
  | .local _ .vmem, ⟨11, _⟩ => ⟨S256x5632, .bf16⟩
  | .local _ .vmem, ⟨12, _⟩ => ⟨S256x5632, .bf16⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnReferenceIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x5632, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x5632, .bf16⟩
  | .hbm, ⟨79, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩

abbrev nD : Nat := 1
abbrev τ : Topo := Topo.v7x

variable {F : FTy → Type} [FloatOps F]
-- ==== XattnKernel.lean ====
abbrev S8192x1024 : Shape := ⟨2, ![8192, 1024]⟩
abbrev S1024 : Shape := ⟨1, ![1024]⟩
abbrev S256x2048 : Shape := ⟨2, ![256, 2048]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 34
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S256x2048, .bf16⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .bf16⟩
  | .hbm, ⟨27, _⟩ => ⟨S1x1024, .f32⟩
  | .hbm, ⟨28, _⟩ => ⟨S1024x1024, .bf16⟩
  | .hbm, ⟨29, _⟩ => ⟨S1024x1024, .bf16⟩
  | .hbm, ⟨30, _⟩ => ⟨S8192x1024, .f32⟩
  | .hbm, ⟨31, _⟩ => ⟨S8192x1024, .bf16⟩
  | .hbm, ⟨32, _⟩ => ⟨S256x2048, .f32⟩
  | .hbm, ⟨33, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S256x2048, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S256x2048, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== XattnReferenceIdeal.lean ====
abbrev S8192x1024 : Shape := ⟨2, ![8192, 1024]⟩
abbrev S1024 : Shape := ⟨1, ![1024]⟩
abbrev S256x2048 : Shape := ⟨2, ![256, 2048]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4x256 : Shape := ⟨3, ![8192, 4, 256]⟩
abbrev S256x1024 : Shape := ⟨2, ![256, 1024]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 139
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S256x2048, .bf16⟩
  | 4 => ⟨S1024x1024, .f32⟩
  | 5 => ⟨S1024x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x1024, .f32⟩
  | 27 => ⟨S256x2048, .f32⟩
  | 28 => ⟨S8192x4x256, .f32⟩
  | 29 => ⟨S_, .f32⟩
  | 30 => ⟨S8192x4x256, .f32⟩
  | 31 => ⟨S8192x4x256, .f32⟩
  | 32 => ⟨S256x1024, .f32⟩
  | 33 => ⟨S256x1024, .f32⟩
  | 34 => ⟨S256x4x256, .f32⟩
  | 35 => ⟨S256x4x256, .f32⟩
  | 36 => ⟨S4x8192x256, .f32⟩
  | 37 => ⟨S_, .f32⟩
  | 38 => ⟨S4x8192, .f32⟩
  | 39 => ⟨S4x8192x1, .f32⟩
  | 40 => ⟨S4x8192x256, .f32⟩
  | 41 => ⟨S4x8192x256, .i1⟩
  | 42 => ⟨S4x8192x256, .f32⟩
  | 43 => ⟨S_, .f32⟩
  | 44 => ⟨S4x8192, .f32⟩
  | 45 => ⟨S_, .f32⟩
  | 46 => ⟨S4x8192, .f32⟩
  | 47 => ⟨S4x8192, .f32⟩
  | 48 => ⟨S_, .f32⟩
  | 49 => ⟨S4x8192, .f32⟩
  | 50 => ⟨S4x8192, .i1⟩
  | 51 => ⟨S_, .f32⟩
  | 52 => ⟨S4x8192, .f32⟩
  | 53 => ⟨S4x8192, .i1⟩
  | 54 => ⟨S_, .f32⟩
  | 55 => ⟨S4x8192, .f32⟩
  | 56 => ⟨S_, .f32⟩
  | 57 => ⟨S4x8192, .f32⟩
  | 58 => ⟨S_, .f32⟩
  | 59 => ⟨S4x8192, .f32⟩
  | 60 => ⟨S4x8192, .f32⟩
  | 61 => ⟨S4x8192, .f32⟩
  | 62 => ⟨S4x8192x1, .f32⟩
  | 63 => ⟨S4x8192x256, .f32⟩
  | 64 => ⟨S4x8192x256, .f32⟩
  | 65 => ⟨S4x8192x256, .f32⟩
  | 66 => ⟨S_, .f32⟩
  | 67 => ⟨S4x8192, .f32⟩
  | 68 => ⟨S4x8192x1, .f32⟩
  | 69 => ⟨S4x8192x256, .f32⟩
  | 70 => ⟨S4x8192x256, .f32⟩
  | 71 => ⟨S4x8192x1, .f32⟩
  | 72 => ⟨S_, .f32⟩
  | 73 => ⟨S4x8192x1, .f32⟩
  | 74 => ⟨S4x8192x1, .f32⟩
  | 75 => ⟨S4x256x8192, .f32⟩
  | 76 => ⟨S8192x4x256, .f32⟩
  | 77 => ⟨S8192x1024, .f32⟩
  | 78 => ⟨S8192x1024, .f32⟩
  | 79 => ⟨S8192x1024, .f32⟩
  | 80 => ⟨S8192x4x256, .f32⟩
  | 81 => ⟨S4x256x8192, .f32⟩
  | 82 => ⟨S4x8192x256, .f32⟩
  | 83 => ⟨S4x256x256, .f32⟩
  | 84 => ⟨S256x4x256, .f32⟩
  | 85 => ⟨S4x8192x256, .f32⟩
  | 86 => ⟨S4x8192x256, .f32⟩
  | 87 => ⟨S4x8192x256, .f32⟩
  | 88 => ⟨S_, .f32⟩
  | 89 => ⟨S4x8192, .f32⟩
  | 90 => ⟨S4x8192x1, .f32⟩
  | 91 => ⟨S4x8192x1, .f32⟩
  | 92 => ⟨S4x8192x256, .f32⟩
  | 93 => ⟨S4x8192x256, .f32⟩
  | 94 => ⟨S_, .f32⟩
  | 95 => ⟨S4x8192, .f32⟩
  | 96 => ⟨S4x8192x256, .f32⟩
  | 97 => ⟨S4x8192x256, .f32⟩
  | 98 => ⟨S4x8192x256, .f32⟩
  | 99 => ⟨S4x256x256, .f32⟩
  | 100 => ⟨S256x4x256, .f32⟩
  | 101 => ⟨S4x8192x256, .f32⟩
  | 102 => ⟨S8192x4x256, .f32⟩
  | 103 => ⟨S256x1024, .f32⟩
  | 104 => ⟨S256x1024, .f32⟩
  | 105 => ⟨S256x2048, .f32⟩
  | 106 => ⟨S_, .f32⟩
  | 107 => ⟨S8192x4x256, .f32⟩
  | 108 => ⟨S8192x4x256, .f32⟩
  | 109 => ⟨S8192x1024, .f32⟩
  | 110 => ⟨S8192x1024, .f32⟩
  | 111 => ⟨S8192x1024, .f32⟩
  | 112 => ⟨S_, .f32⟩
  | 113 => ⟨S1024, .f32⟩
  | 114 => ⟨S1x1024, .f32⟩
  | 115 => ⟨S8192x1024, .f32⟩
  | 116 => ⟨S8192x1024, .f32⟩
  | 117 => ⟨S_, .f32⟩
  | 118 => ⟨S1024, .f32⟩
  | 119 => ⟨S8192x1024, .f32⟩
  | 120 => ⟨S_, .f32⟩
  | 121 => ⟨S8192, .f32⟩
  | 122 => ⟨S8192x1, .f32⟩
  | 123 => ⟨S8192x1024, .f32⟩
  | 124 => ⟨S8192x1024, .f32⟩
  | 125 => ⟨S8192x1, .f32⟩
  | 126 => ⟨S_, .f32⟩
  | 127 => ⟨S8192x1, .f32⟩
  | _ => ⟨S8192x1024, .f32⟩

abbrev hbmTy0_1 (i : Nat) : BufTy := match i % 128 with
  | 0 => ⟨S8192x1, .f32⟩
  | 1 => ⟨S_, .f32⟩
  | 2 => ⟨S8192, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S8192x1024, .f32⟩
  | 9 => ⟨S8192x1024, .bf16⟩
  | 10 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_15 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_16 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_17 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_18 : Ref sig .tc := ⟨.hbm, 117, rfl⟩
abbrev main_v92 : Ref sig .tc := ⟨.hbm, 118, rfl⟩
abbrev main_v93 : Ref sig .tc := ⟨.hbm, 119, rfl⟩
abbrev main_cst_19 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_20 : Ref sig .tc := ⟨.hbm, 126, rfl⟩
abbrev main_v99 : Ref sig .tc := ⟨.hbm, 127, rfl⟩
abbrev main_v100 : Ref sig .tc := ⟨.hbm, 128, rfl⟩
abbrev main_cst_21 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩

abbrev nD : Nat := 1
abbrev τ : Topo := Topo.v7x

variable {F : FTy → Type} [FloatOps F]
-- ==== DownKernel.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpKernel.lean ====
abbrev S8192x5632 : Shape := ⟨2, ![8192, 5632]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S8192x5632 : Shape := ⟨2, ![8192, 5632]⟩
abbrev S8192x1024 : Shape := ⟨2, ![8192, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | .hbm, ⟨10, _⟩ => ⟨S5632x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutKernel.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QueryKernel.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QueryReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PairKernel.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x1024, .bf16⟩
  | .hbm, ⟨3, _⟩ => ⟨S8192x512, .bf16⟩
  | .hbm, ⟨4, _⟩ => ⟨S1024x512, .bf16⟩
  | .hbm, ⟨5, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v19 : BitVec 1 := Scalar.cmpi .eq arg0 c3_i32
  let v20 : BitVec 32 := Scalar.extui v19
  let c0_i32_17 : BitVec 32 := 0#32
  let v21 : BitVec 1 := Scalar.cmpi .ne v20 c0_i32_17
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PairReferenceIdeal.lean ====
abbrev S8192x1024 : Shape := ⟨2, ![8192, 1024]⟩
abbrev S8192x512 : Shape := ⟨2, ![8192, 512]⟩
abbrev S_ : Shape := ⟨0, ![]⟩
abbrev S512x1024 : Shape := ⟨2, ![512, 1024]⟩
abbrev S1024x512 : Shape := ⟨2, ![1024, 512]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x1024, .bf16⟩
  | .hbm, ⟨3, _⟩ => ⟨S8192x512, .bf16⟩
  | .hbm, ⟨4, _⟩ => ⟨S_, .f32⟩
  | .hbm, ⟨5, _⟩ => ⟨S512x1024, .f32⟩
  | .hbm, ⟨6, _⟩ => ⟨S8192x512, .f32⟩
  | .hbm, ⟨7, _⟩ => ⟨S8192x1024, .f32⟩
  | .hbm, ⟨8, _⟩ => ⟨S8192x1024, .f32⟩
  | .hbm, ⟨9, _⟩ => ⟨S1024x512, .f32⟩
  | .hbm, ⟨10, _⟩ => ⟨S512x1024, .f32⟩
  | .hbm, ⟨11, _⟩ => ⟨S512x1024, .bf16⟩
  | .hbm, ⟨12, _⟩ => ⟨S1024x512, .bf16⟩
  | .hbm, ⟨13, _⟩ => ⟨S_, .f32⟩
  | .hbm, ⟨14, _⟩ => ⟨S512x1024, .f32⟩
  | .hbm, ⟨15, _⟩ => ⟨S8192x512, .f32⟩
  | .hbm, ⟨16, _⟩ => ⟨S8192x1024, .f32⟩
  | .hbm, ⟨17, _⟩ => ⟨S8192x1024, .f32⟩
  | .hbm, ⟨18, _⟩ => ⟨S1024x512, .f32⟩
  | .hbm, ⟨19, _⟩ => ⟨S512x1024, .f32⟩
  | .hbm, ⟨20, _⟩ => ⟨S512x1024, .bf16⟩
  | .hbm, ⟨21, _⟩ => ⟨S1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== ProjKernel.lean ====
abbrev S8192x4608 : Shape := ⟨2, ![8192, 4608]⟩
abbrev S8192x1024 : Shape := ⟨2, ![8192, 1024]⟩
abbrev S4608x1024 : Shape := ⟨2, ![4608, 1024]⟩
abbrev S2048x1152 : Shape := ⟨2, ![2048, 1152]⟩
abbrev S2048x1024 : Shape := ⟨2, ![2048, 1024]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4608, .bf16⟩
  | .hbm, ⟨1, _⟩ => ⟨S8192x1024, .bf16⟩
  | .hbm, ⟨2, _⟩ => ⟨S4608x1024, .bf16⟩
  | .local _ .vmem, ⟨0, _⟩ => ⟨S2048x1152, .bf16⟩
  | .local _ .vmem, ⟨1, _⟩ => ⟨S2048x1152, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S8192x4608 : Shape := ⟨2, ![8192, 4608]⟩
abbrev S8192x1024 : Shape := ⟨2, ![8192, 1024]⟩
abbrev S_ : Shape := ⟨0, ![]⟩
abbrev S1024x4608 : Shape := ⟨2, ![1024, 4608]⟩
abbrev S4608x1024 : Shape := ⟨2, ![4608, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S8192x1024, .bf16⟩
  | .hbm, ⟨2, _⟩ => ⟨S_, .f32⟩
  | .hbm, ⟨3, _⟩ => ⟨S1024x4608, .f32⟩
  | .hbm, ⟨4, _⟩ => ⟨S8192x1024, .f32⟩
  | .hbm, ⟨5, _⟩ => ⟨S8192x4608, .f32⟩
  | .hbm, ⟨6, _⟩ => ⟨S8192x4608, .f32⟩
  | .hbm, ⟨7, _⟩ => ⟨S4608x1024, .f32⟩
  | .hbm, ⟨8, _⟩ => ⟨S1024x4608, .f32⟩
  | .hbm, ⟨9, _⟩ => ⟨S1024x4608, .bf16⟩
  | .hbm, ⟨10, _⟩ => ⟨S4608x1024, .bf16⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== XoKernel.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XoReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== RowsKernel.lean ====
abbrev S8192x1024 : Shape := ⟨2, ![8192, 1024]⟩
abbrev S1024x4608 : Shape := ⟨2, ![1024, 4608]⟩
abbrev S4608x1024 : Shape := ⟨2, ![4608, 1024]⟩
abbrev S8192x1536 : Shape := ⟨2, ![8192, 1536]⟩
abbrev S8192x2048 : Shape := ⟨2, ![8192, 2048]⟩
abbrev S1024x1024 : Shape := ⟨2, ![1024, 1024]⟩
abbrev S1024x1536 : Shape := ⟨2, ![1024, 1536]⟩
abbrev S1024x2048 : Shape := ⟨2, ![1024, 2048]⟩
abbrev S512x1024 : Shape := ⟨2, ![512, 1024]⟩
abbrev S1024x512 : Shape := ⟨2, ![1024, 512]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1024x4608, .f32⟩
  | .hbm, ⟨2, _⟩ => ⟨S4608x1024, .f32⟩
  | .hbm, ⟨3, _⟩ => ⟨S4608x1024, .bf16⟩
  | .hbm, ⟨4, _⟩ => ⟨S8192x1536, .bf16⟩
  | .hbm, ⟨5, _⟩ => ⟨S8192x1024, .bf16⟩
  | .hbm, ⟨6, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S4608x1024, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | .local _ .vmem, ⟨8, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4608x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RowsReferenceIdeal.lean ====
abbrev S8192x1024 : Shape := ⟨2, ![8192, 1024]⟩
abbrev S1024x4608 : Shape := ⟨2, ![1024, 4608]⟩
abbrev S8192x4608 : Shape := ⟨2, ![8192, 4608]⟩
abbrev S8192x512 : Shape := ⟨2, ![8192, 512]⟩
abbrev S_ : Shape := ⟨0, ![]⟩
abbrev S8192x1536 : Shape := ⟨2, ![8192, 1536]⟩
abbrev S8192x2048 : Shape := ⟨2, ![8192, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4608, .f32⟩
  | .hbm, ⟨2, _⟩ => ⟨S8192x1024, .f32⟩
  | .hbm, ⟨3, _⟩ => ⟨S8192x4608, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x1536, .f32⟩
  | .hbm, ⟨15, _⟩ => ⟨S8192x1536, .bf16⟩
  | .hbm, ⟨16, _⟩ => ⟨S8192x1024, .f32⟩
  | .hbm, ⟨17, _⟩ => ⟨S8192x1024, .bf16⟩
  | .hbm, ⟨18, _⟩ => ⟨S8192x2048, .f32⟩
  | .hbm, ⟨19, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== JoinKernel.lean ====
abbrev S8192x1024 : Shape := ⟨2, ![8192, 1024]⟩
abbrev S8192x512 : Shape := ⟨2, ![8192, 512]⟩
abbrev S8192x2048 : Shape := ⟨2, ![8192, 2048]⟩
abbrev S512x1024 : Shape := ⟨2, ![512, 1024]⟩
abbrev S1024x1024 : Shape := ⟨2, ![1024, 1024]⟩
abbrev S1024x512 : Shape := ⟨2, ![1024, 512]⟩
abbrev S512x512 : Shape := ⟨2, ![512, 512]⟩
abbrev S512x2048 : Shape := ⟨2, ![512, 2048]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x2048, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024x512, .f32⟩
  | .hbm, ⟨8, _⟩ => ⟨S1024x512, .bf16⟩
  | .hbm, ⟨9, _⟩ => ⟨S1024x512, .f32⟩
  | .hbm, ⟨10, _⟩ => ⟨S1024x512, .bf16⟩
  | .hbm, ⟨11, _⟩ => ⟨S1024x1024, .bf16⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== JoinReferenceIdeal.lean ====
abbrev S8192x1024 : Shape := ⟨2, ![8192, 1024]⟩
abbrev S8192x512 : Shape := ⟨2, ![8192, 512]⟩
abbrev S8192x2048 : Shape := ⟨2, ![8192, 2048]⟩
abbrev S512x1024 : Shape := ⟨2, ![512, 1024]⟩
abbrev S1024x1024 : Shape := ⟨2, ![1024, 1024]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x2048, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8192x2048, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x512, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x512, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== SquareKernel.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== SquareReferenceIdeal.lean ====
abbrev S4x128x1024 : Shape := ⟨3, ![4, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== WideKernel.lean ====
abbrev S4x352x1024 : Shape := ⟨3, ![4, 352, 1024]⟩
abbrev S352x1024 : Shape := ⟨2, ![352, 1024]⟩
abbrev S1x352x1024 : Shape := ⟨3, ![1, 352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S4x352x1024, .bf16⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== WideReferenceIdeal.lean ====
abbrev S4x352x1024 : Shape := ⟨3, ![4, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S4x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== InStepKernel.lean ====
abbrev S4x576x1024 : Shape := ⟨3, ![4, 576, 1024]⟩
abbrev S1024x576 : Shape := ⟨2, ![1024, 576]⟩
abbrev S576x1024 : Shape := ⟨2, ![576, 1024]⟩
abbrev S4x192x1024 : Shape := ⟨3, ![4, 192, 1024]⟩
abbrev S192x1024 : Shape := ⟨2, ![192, 1024]⟩
abbrev S1x192x1024 : Shape := ⟨3, ![1, 192, 1024]⟩

abbrev nBuf : Space → Nat
  | .hbm => 11
  | .vmem => 16
  | .smem => 0
  | _ => 0

abbrev bufTy : (tb : Table) → Fin (tcTables nBuf tb) → BufTy
  | .hbm, ⟨0, _⟩ => ⟨S4x576x1024, .bf16⟩
  | .hbm, ⟨1, _⟩ => ⟨S1024x576, .f32⟩
  | .hbm, ⟨2, _⟩ => ⟨S1024x576, .f32⟩
  | .hbm, ⟨3, _⟩ => ⟨S1024x576, .f32⟩
  | .hbm, ⟨4, _⟩ => ⟨S576x1024, .f32⟩
  | .hbm, ⟨5, _⟩ => ⟨S576x1024, .f32⟩
  | .hbm, ⟨6, _⟩ => ⟨S576x1024, .f32⟩
  | .hbm, ⟨7, _⟩ => ⟨S576x1024, .f32⟩
  | .hbm, ⟨8, _⟩ => ⟨S576x1024, .f32⟩
  | .hbm, ⟨9, _⟩ => ⟨S576x1024, .f32⟩
  | .hbm, ⟨10, _⟩ => ⟨S576x1024, .f32⟩
  | .local _ .vmem, ⟨0, _⟩ => ⟨S4x192x1024, .bf16⟩
  | .local _ .vmem, ⟨1, _⟩ => ⟨S4x192x1024, .bf16⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | .local _ .vmem, ⟨8, _⟩ => ⟨S192x1024, .f32⟩
  | .local _ .vmem, ⟨9, _⟩ => ⟨S192x1024, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x1024, .f32⟩
  | .local _ .vmem, ⟨14, _⟩ => ⟨S192x1024, .f32⟩
  | .local _ .vmem, ⟨15, _⟩ => ⟨S192x1024, .f32⟩
  | _, _ => ⟨S4x576x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InStepReferenceIdeal.lean ====
abbrev S4x576x1024 : Shape := ⟨3, ![4, 576, 1024]⟩
abbrev S1024x576 : Shape := ⟨2, ![1024, 576]⟩
abbrev S576x1024 : Shape := ⟨2, ![576, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4x576x1024, .bf16⟩
  | .hbm, ⟨1, _⟩ => ⟨S1024x576, .f32⟩
  | .hbm, ⟨2, _⟩ => ⟨S1024x576, .f32⟩
  | .hbm, ⟨3, _⟩ => ⟨S1024x576, .f32⟩
  | .hbm, ⟨4, _⟩ => ⟨S576x1024, .f32⟩
  | .hbm, ⟨5, _⟩ => ⟨S576x1024, .f32⟩
  | .hbm, ⟨6, _⟩ => ⟨S576x1024, .f32⟩
  | .hbm, ⟨7, _⟩ => ⟨S4x576x1024, .f32⟩
  | .hbm, ⟨8, _⟩ => ⟨S_, .f32⟩
  | .hbm, ⟨9, _⟩ => ⟨S576x1024, .f32⟩
  | .hbm, ⟨10, _⟩ => ⟨S_, .f32⟩
  | .hbm, ⟨11, _⟩ => ⟨S576x1024, .f32⟩
  | .hbm, ⟨12, _⟩ => ⟨S576x1024, .f32⟩
  | .hbm, ⟨13, _⟩ => ⟨S_, .f32⟩
  | .hbm, ⟨14, _⟩ => ⟨S576x1024, .f32⟩
  | .hbm, ⟨15, _⟩ => ⟨S576x1024, .f32⟩
  | .hbm, ⟨16, _⟩ => ⟨S576x1024, .f32⟩
  | .hbm, ⟨17, _⟩ => ⟨S_, .f32⟩
  | .hbm, ⟨18, _⟩ => ⟨S576x1024, .f32⟩
  | .hbm, ⟨19, _⟩ => ⟨S576x1024, .f32⟩
  | .hbm, ⟨20, _⟩ => ⟨S576x1024, .f32⟩
  | .hbm, ⟨21, _⟩ => ⟨S_, .f32⟩
  | .hbm, ⟨22, _⟩ => ⟨S576x1024, .f32⟩
  | .hbm, ⟨23, _⟩ => ⟨S576x1024, .f32⟩
  | .hbm, ⟨24, _⟩ => ⟨S576x1024, .f32⟩
  | .hbm, ⟨25, _⟩ => ⟨S_, .f32⟩
  | .hbm, ⟨26, _⟩ => ⟨S576x1024, .f32⟩
  | .hbm, ⟨27, _⟩ => ⟨S576x1024, .f32⟩
  | .hbm, ⟨28, _⟩ => ⟨S_, .f32⟩
  | .hbm, ⟨29, _⟩ => ⟨S576x1024, .f32⟩
  | .hbm, ⟨30, _⟩ => ⟨S576x1024, .f32⟩
  | .hbm, ⟨31, _⟩ => ⟨S576x1024, .f32⟩
  | .hbm, ⟨32, _⟩ => ⟨S_, .f32⟩
  | .hbm, ⟨33, _⟩ => ⟨S576x1024, .f32⟩
  | .hbm, ⟨34, _⟩ => ⟨S576x1024, .f32⟩
  | .hbm, ⟨35, _⟩ => ⟨S576x1024, .f32⟩
  | .hbm, ⟨36, _⟩ => ⟨S_, .f32⟩
  | .hbm, ⟨37, _⟩ => ⟨S576x1024, .f32⟩
  | .hbm, ⟨38, _⟩ => ⟨S576x1024, .f32⟩
  | .hbm, ⟨39, _⟩ => ⟨S576x1024, .f32⟩
  | .hbm, ⟨40, _⟩ => ⟨S_, .f32⟩
  | .hbm, ⟨41, _⟩ => ⟨S576x1024, .f32⟩
  | .hbm, ⟨42, _⟩ => ⟨S576x1024, .f32⟩
  | _, _ => ⟨S4x576x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== FfnStepKernel.lean ====
abbrev S4x704x1024 : Shape := ⟨3, ![4, 704, 1024]⟩
abbrev S1024x704 : Shape := ⟨2, ![1024, 704]⟩
abbrev S704x1024 : Shape := ⟨2, ![704, 1024]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 11
  | .vmem => 16
  | .smem => 0
  | _ => 0

abbrev bufTy : (tb : Table) → Fin (tcTables nBuf tb) → BufTy
  | .hbm, ⟨0, _⟩ => ⟨S4x704x1024, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnStepReferenceIdeal.lean ====
abbrev S4x704x1024 : Shape := ⟨3, ![4, 704, 1024]⟩
abbrev S1024x704 : Shape := ⟨2, ![1024, 704]⟩
abbrev S704x1024 : Shape := ⟨2, ![704, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S4x704x1024, .f32⟩
  | .hbm, ⟨8, _⟩ => ⟨S_, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S_, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S_, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | .hbm, ⟨39, _⟩ => ⟨S704x1024, .f32⟩
  | .hbm, ⟨40, _⟩ => ⟨S_, .f32⟩
  | .hbm, ⟨41, _⟩ => ⟨S704x1024, .f32⟩
  | .hbm, ⟨42, _⟩ => ⟨S704x1024, .f32⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== BranchKernel.lean ====
abbrev S4x128x512 : Shape := ⟨3, ![4, 128, 512]⟩
abbrev S512x128 : Shape := ⟨2, ![512, 128]⟩
abbrev S128x128 : Shape := ⟨2, ![128, 128]⟩
abbrev S1x128x512 : Shape := ⟨3, ![1, 128, 512]⟩
abbrev S128x512 : Shape := ⟨2, ![128, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x128x512, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S4x128x512, .bf16⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S4x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== BranchReferenceIdeal.lean ====
abbrev S4x128x512 : Shape := ⟨3, ![4, 128, 512]⟩
abbrev S512x128 : Shape := ⟨2, ![512, 128]⟩
abbrev S4x512x128 : Shape := ⟨3, ![4, 512, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x128x512, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S4x512x128, .bf16⟩
  | .hbm, ⟨5, _⟩ => ⟨S4x512x128, .f32⟩
  | .hbm, ⟨6, _⟩ => ⟨S_, .f32⟩
  | .hbm, ⟨7, _⟩ => ⟨S512x128, .f32⟩
  | .hbm, ⟨8, _⟩ => ⟨S_, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S512x128, .f32⟩
  | .hbm, ⟨23, _⟩ => ⟨S_, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | .hbm, ⟨37, _⟩ => ⟨S512x128, .f32⟩
  | .hbm, ⟨38, _⟩ => ⟨S_, .f32⟩
  | .hbm, ⟨39, _⟩ => ⟨S512x128, .f32⟩
  | .hbm, ⟨40, _⟩ => ⟨S512x128, .f32⟩
  | _, _ => ⟨S4x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KeysKernel.lean ====
abbrev S4x256x1024 : Shape := ⟨3, ![4, 256, 1024]⟩
abbrev S1024x256 : Shape := ⟨2, ![1024, 256]⟩
abbrev S256x256 : Shape := ⟨2, ![256, 256]⟩
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x256x1024, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S4x256x1024, .bf16⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KeysReferenceIdeal.lean ====
abbrev S4x256x1024 : Shape := ⟨3, ![4, 256, 1024]⟩
abbrev S1024x256 : Shape := ⟨2, ![1024, 256]⟩
abbrev S4x1024x256 : Shape := ⟨3, ![4, 1024, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S4x1024x256, .bf16⟩
  | .hbm, ⟨5, _⟩ => ⟨S4x1024x256, .f32⟩
  | .hbm, ⟨6, _⟩ => ⟨S_, .f32⟩
  | .hbm, ⟨7, _⟩ => ⟨S1024x256, .f32⟩
  | .hbm, ⟨8, _⟩ => ⟨S_, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S_, .f32⟩
  | .hbm, ⟨39, _⟩ => ⟨S1024x256, .f32⟩
  | .hbm, ⟨40, _⟩ => ⟨S1024x256, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== CrossKernel.lean ====
abbrev S8192x1024 : Shape := ⟨2, ![8192, 1024]⟩
abbrev S1x1024 : Shape := ⟨2, ![1, 1024]⟩
abbrev S1024x1024 : Shape := ⟨2, ![1024, 1024]⟩
abbrev S256x2048 : Shape := ⟨2, ![256, 2048]⟩
abbrev S1024 : Shape := ⟨1, ![1024]⟩
abbrev S1024x1 : Shape := ⟨2, ![1024, 1]⟩
abbrev S1024x256 : Shape := ⟨2, ![1024, 256]⟩
abbrev S256x256 : Shape := ⟨2, ![256, 256]⟩

abbrev nBuf : Space → Nat
  | .hbm => 11
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S256x2048, .bf16⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S8192x1024, .f32⟩
  | .hbm, ⟨8, _⟩ => ⟨S8192x1024, .bf16⟩
  | .hbm, ⟨9, _⟩ => ⟨S8192x1024, .bf16⟩
  | .hbm, ⟨10, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S256x2048, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== CrossReferenceIdeal.lean ====
abbrev S8192x1024 : Shape := ⟨2, ![8192, 1024]⟩
abbrev S1x1024 : Shape := ⟨2, ![1, 1024]⟩
abbrev S1024x1024 : Shape := ⟨2, ![1024, 1024]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S256x2048, .bf16⟩
  | .hbm, ⟨4, _⟩ => ⟨S1024x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .bf16⟩
  | .hbm, ⟨27, _⟩ => ⟨S256x2048, .f32⟩
  | .hbm, ⟨28, _⟩ => ⟨S256x1024, .f32⟩
  | .hbm, ⟨29, _⟩ => ⟨S256x1024, .f32⟩
  | .hbm, ⟨30, _⟩ => ⟨S8192x1024, .f32⟩
  | .hbm, ⟨31, _⟩ => ⟨S8192x4x256, .f32⟩
  | .hbm, ⟨32, _⟩ => ⟨S256x4x256, .f32⟩
  | .hbm, ⟨33, _⟩ => ⟨S4x8192x256, .f32⟩
  | .hbm, ⟨34, _⟩ => ⟨S_, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S4x8192, .f32⟩
  | .hbm, ⟨39, _⟩ => ⟨S4x8192x1, .f32⟩
  | .hbm, ⟨40, _⟩ => ⟨S4x8192x256, .f32⟩
  | .hbm, ⟨41, _⟩ => ⟨S4x8192x256, .f32⟩
  | .hbm, ⟨42, _⟩ => ⟨S4x8192x256, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S4x8192x256, .f32⟩
  | .hbm, ⟨47, _⟩ => ⟨S4x8192x256, .f32⟩
  | .hbm, ⟨48, _⟩ => ⟨S256x4x256, .f32⟩
  | .hbm, ⟨49, _⟩ => ⟨S4x256x8192, .f32⟩
  | .hbm, ⟨50, _⟩ => ⟨S8192x4x256, .f32⟩
  | .hbm, ⟨51, _⟩ => ⟨S8192x1024, .f32⟩
  | .hbm, ⟨52, _⟩ => ⟨S8192x1024, .bf16⟩
  | .hbm, ⟨53, _⟩ => ⟨S8192x1024, .f32⟩
  | .hbm, ⟨54, _⟩ => ⟨S8192x1024, .f32⟩
  | .hbm, ⟨55, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== LossKernel.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S5632x1024 : Shape := ⟨2, ![5632, 1024]⟩
abbrev S8192x5632 : Shape := ⟨2, ![8192, 5632]⟩
abbrev S8192x2816 : Shape := ⟨2, ![8192, 2816]⟩
abbrev S8x128 : Shape := ⟨2, ![8, 128]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S256x256 : Shape := ⟨2, ![256, 256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 17
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S5632x1024, .f32⟩
  | .hbm, ⟨8, _⟩ => ⟨S5632x1024, .bf16⟩
  | .hbm, ⟨9, _⟩ => ⟨S2816x1024, .bf16⟩
  | .hbm, ⟨10, _⟩ => ⟨S1x1024, .f32⟩
  | .hbm, ⟨11, _⟩ => ⟨S8192x1024, .f32⟩
  | .hbm, ⟨12, _⟩ => ⟨S8192x5632, .bf16⟩
  | .hbm, ⟨13, _⟩ => ⟨S8192x1024, .bf16⟩
  | .hbm, ⟨14, _⟩ => ⟨S8192x2816, .bf16⟩
  | .hbm, ⟨15, _⟩ => ⟨S8x128, .f32⟩
  | .hbm, ⟨16, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S5632x1024, .bf16⟩
  | .local _ .vmem, ⟨6, _⟩ => ⟨S2816x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x5632, .bf16⟩
  | .local _ .vmem, ⟨11, _⟩ => ⟨S256x5632, .bf16⟩
  | .local _ .vmem, ⟨12, _⟩ => ⟨S256x1024, .bf16⟩
  | .local _ .vmem, ⟨13, _⟩ => ⟨S256x1024, .bf16⟩
  | .local _ .vmem, ⟨14, _⟩ => ⟨S256x2816, .bf16⟩
  | .local _ .vmem, ⟨15, _⟩ => ⟨S256x2816, .bf16⟩
  | .local _ .vmem, ⟨16, _⟩ => ⟨S8x128, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5632x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== LossReferenceIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S8x128 : Shape := ⟨2, ![8, 128]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x5632, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S8192, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x1024, .f32⟩
  | .hbm, ⟨93, _⟩ => ⟨S8192x1024, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x5632, .bf16⟩
  | .hbm, ⟨106, _⟩ => ⟨S8192x1024, .bf16⟩
  | .hbm, ⟨107, _⟩ => ⟨S8192x2816, .bf16⟩
  | .hbm, ⟨108, _⟩ => ⟨S8x128, .f32⟩
  | .hbm, ⟨109, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_cst_11 : Ref sig .tc := ⟨.hbm, 71, rfl⟩
abbrev main_cst_12 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_14 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_15 : Ref sig .tc := ⟨.hbm, 86, rfl⟩
abbrev main_v56 : Ref sig .tc := ⟨.hbm, 87, rfl⟩
abbrev main_v57 : Ref sig .tc := ⟨.hbm, 88, rfl⟩
abbrev main_cst_16 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_17 : Ref sig .tc := ⟨.hbm, 95, rfl⟩
abbrev main_v63 : Ref sig .tc := ⟨.hbm, 96, rfl⟩
abbrev main_v64 : Ref sig .tc := ⟨.hbm, 97, rfl⟩
abbrev main_cst_18 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩

abbrev nD : Nat := 1
abbrev τ : Topo := Topo.v7x

variable {F : FTy → Type} [FloatOps F]
-- ==== NormKernel.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MemoryKernel.lean ====
abbrev S256x1024 : Shape := ⟨2, ![256, 1024]⟩
abbrev S1024 : Shape := ⟨1, ![1024]⟩
abbrev S1024x2048 : Shape := ⟨2, ![1024, 2048]⟩
abbrev S1x1024 : Shape := ⟨2, ![1, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S2048x1024, .f32⟩
  | .hbm, ⟨5, _⟩ => ⟨S2048x1024, .bf16⟩
  | .hbm, ⟨6, _⟩ => ⟨S256x2048, .bf16⟩
  | .hbm, ⟨7, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S2048x1024, .bf16⟩
  | .local _ .vmem, ⟨3, _⟩ => ⟨S256x2048, .bf16⟩
  | .local _ .vmem, ⟨4, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== MemoryReferenceIdeal.lean ====
abbrev S256x1024 : Shape := ⟨2, ![256, 1024]⟩
abbrev S1024 : Shape := ⟨1, ![1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x2048 : Shape := ⟨2, ![256, 2048]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x2048, .f32⟩
  | .hbm, ⟨20, _⟩ => ⟨S256x2048, .bf16⟩
  | .hbm, ⟨21, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== RecallKernel.lean ====
abbrev S256x2048 : Shape := ⟨2, ![256, 2048]⟩
abbrev S256x1024 : Shape := ⟨2, ![256, 1024]⟩
abbrev S1024 : Shape := ⟨1, ![1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S2048x1024 : Shape := ⟨2, ![2048, 1024]⟩

abbrev nBuf : Space → Nat
  | .hbm => 26
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S1024, .f32⟩
  | .hbm, ⟨3, _⟩ => ⟨S1024x2048, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x1024, .bf16⟩
  | .hbm, ⟨21, _⟩ => ⟨S1x1024, .f32⟩
  | .hbm, ⟨22, _⟩ => ⟨S2048x1024, .f32⟩
  | .hbm, ⟨23, _⟩ => ⟨S2048x1024, .bf16⟩
  | .hbm, ⟨24, _⟩ => ⟨S2048x1024, .bf16⟩
  | .hbm, ⟨25, _⟩ => ⟨S1x1024, .f32⟩
  | .local _ .vmem, ⟨0, _⟩ => ⟨S256x2048, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RecallReferenceIdeal.lean ====
abbrev S256x2048 : Shape := ⟨2, ![256, 2048]⟩
abbrev S256x1024 : Shape := ⟨2, ![256, 1024]⟩
abbrev S1024 : Shape := ⟨1, ![1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S2048x1024 : Shape := ⟨2, ![2048, 1024]⟩

abbrev nBuf : Space → Nat
  | .hbm => 33
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S1024, .f32⟩
  | .hbm, ⟨3, _⟩ => ⟨S1024x2048, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x2048, .f32⟩
  | .hbm, ⟨21, _⟩ => ⟨S2048x1024, .f32⟩
  | .hbm, ⟨22, _⟩ => ⟨S1024x2048, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S_, .f32⟩
  | .hbm, ⟨29, _⟩ => ⟨S1024, .f32⟩
  | .hbm, ⟨30, _⟩ => ⟨S2048x1024, .f32⟩
  | .hbm, ⟨31, _⟩ => ⟨S2048x1024, .bf16⟩
  | .hbm, ⟨32, _⟩ => ⟨S1x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.Merge.lean ====
/- The gradient of the gated merge: each output array of the kernel, index by index, is the reference's. -/
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.Merge

open Cert.KernelIdeal Cert.KernelIdeal.Gen Idealize.ShloMosaic Idealize.ShloMosaic.TcCoe Idealize.SL.Sem

variable (m : (ℓ : Loc nD τ sig) → Buf (Elt Ideal) ℓ)

/-- The block index of every window at each of the sixteen grid points. -/
theorem idx : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] :=
  (by decide +kernel : ∀ t : Fin grid0.N, _)

open Cert.ReferenceIdeal.Read in
/-- The array that window 7 leaves is the reference's merged branches. -/
theorem arr7 (c : Dev nD) :
    (dats m 0 c).arrAt 7 cfg0.N = Cert.ReferenceIdeal.Read.val_main_v38 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 7 _ (by decide +kernel) fun t hf y => ?_
  blk_simp
  rw [after0_7]
  frame_out
  idx_vars y
  unfold_payloads
  pointwise [val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_cst_2, val_main_v19, val_main_v20, val_main_cst_3, val_main_v21, val_main_v22, val_main_cst_4, val_main_v23, val_main_v24, val_main_v25, val_main_v26, val_main_v27, val_main_v29, val_main_v30, val_main_v31, val_main_v32, val_main_v33, val_main_v34, val_main_v35, val_main_v36, val_main_v37, val_main_v38, val_main_v39, val_main_v40, val_main_v41, val_main_v42]
  simp only [zero_sub]
  blk_point [iblk, V, idx t]

open Cert.ReferenceIdeal.Read in
/-- The array that window 8 leaves is the reference's gradient of the attention branch. -/
theorem arr8 (c : Dev nD) :
    (dats m 0 c).arrAt 8 cfg0.N = Cert.ReferenceIdeal.Read.val_main_v39 (F := Ideal) (m ((c.tc : Thread nD τ).loc main_arg0)) (m ((c.tc : Thread nD τ).loc main_arg3)) (m ((c.tc : Thread nD τ).loc main_arg6)) := by
  refine (dats m 0 c).arrAt_eq_of_covers 8 _ (by decide +kernel) fun t hf y => ?_
  blk_simp
  rw [after0_8]
  frame_out
  idx_vars y
  unfold_payloads
  pointwise [val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_cst_2, val_main_v19, val_main_v20, val_main_cst_3, val_main_v21, val_main_v22, val_main_cst_4, val_main_v23, val_main_v24, val_main_v25, val_main_v26, val_main_v27, val_main_v29, val_main_v30, val_main_v31, val_main_v32, val_main_v33, val_main_v34, val_main_v35, val_main_v36, val_main_v37, val_main_v38, val_main_v39, val_main_v40, val_main_v41, val_main_v42]
  simp only [zero_sub]
  rw [mul_comm]
  blk_point [iblk, V, idx t]

open Cert.ReferenceIdeal.Read in
/-- The array that window 9 leaves is the reference's gradient of the gating branch. -/
theorem arr9 (c : Dev nD) :
    (dats m 0 c).arrAt 9 cfg0.N = Cert.ReferenceIdeal.Read.val_main_v40 (F := Ideal) (m ((c.tc : Thread nD τ).loc main_arg0)) (m ((c.tc : Thread nD τ).loc main_arg3)) (m ((c.tc : Thread nD τ).loc main_arg6)) := by
  refine (dats m 0 c).arrAt_eq_of_covers 9 _ (by decide +kernel) fun t hf y => ?_
  blk_simp
  rw [after0_9]
  frame_out
  idx_vars y
  unfold_payloads
  pointwise [val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_cst_2, val_main_v19, val_main_v20, val_main_cst_3, val_main_v21, val_main_v22, val_main_cst_4, val_main_v23, val_main_v24, val_main_v25, val_main_v26, val_main_v27, val_main_v29, val_main_v30, val_main_v31, val_main_v32, val_main_v33, val_main_v34, val_main_v35, val_main_v36, val_main_v37, val_main_v38, val_main_v39, val_main_v40, val_main_v41, val_main_v42]
  simp only [zero_sub]
  rw [mul_comm]
  blk_point [iblk, V, idx t]

open Cert.ReferenceIdeal.Read in
/-- The array that window 10 leaves is the reference's gradient of the attention rows. -/
theorem arr10 (c : Dev nD) :
    (dats m 0 c).arrAt 10 cfg0.N = Cert.ReferenceIdeal.Read.val_main_v41 (F := Ideal) (m ((c.tc : Thread nD τ).loc main_arg0)) (m ((c.tc : Thread nD τ).loc main_arg3)) (m ((c.tc : Thread nD τ).loc main_arg4)) (m ((c.tc : Thread nD τ).loc main_arg6)) := by
  refine (dats m 0 c).arrAt_eq_of_covers 10 _ (by decide +kernel) fun t hf y => ?_
  blk_simp
  rw [after0_10]
  frame_out
  idx_vars y
  unfold_payloads
  pointwise [val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_cst_2, val_main_v19, val_main_v20, val_main_cst_3, val_main_v21, val_main_v22, val_main_cst_4, val_main_v23, val_main_v24, val_main_v25, val_main_v26, val_main_v27, val_main_v29, val_main_v30, val_main_v31, val_main_v32, val_main_v33, val_main_v34, val_main_v35, val_main_v36, val_main_v37, val_main_v38, val_main_v39, val_main_v40, val_main_v41, val_main_v42]
  simp only [zero_sub]
  blk_point [iblk, V, idx t]

open Cert.ReferenceIdeal.Read in
/-- The array that window 11 leaves is the reference's gradient of the gating rows. -/
theorem arr11 (c : Dev nD) :
    (dats m 0 c).arrAt 11 cfg0.N = Cert.ReferenceIdeal.Read.val_main_v42 (F := Ideal) (m ((c.tc : Thread nD τ).loc main_arg0)) (m ((c.tc : Thread nD τ).loc main_arg3)) (m ((c.tc : Thread nD τ).loc main_arg5)) (m ((c.tc : Thread nD τ).loc main_arg6)) := by
  refine (dats m 0 c).arrAt_eq_of_covers 11 _ (by decide +kernel) fun t hf y => ?_
  blk_simp
  rw [after0_11]
  frame_out
  idx_vars y
  unfold_payloads
  pointwise [val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_cst_2, val_main_v19, val_main_v20, val_main_cst_3, val_main_v21, val_main_v22, val_main_cst_4, val_main_v23, val_main_v24, val_main_v25, val_main_v26, val_main_v27, val_main_v29, val_main_v30, val_main_v31, val_main_v32, val_main_v33, val_main_v34, val_main_v35, val_main_v36, val_main_v37, val_main_v38, val_main_v39, val_main_v40, val_main_v41, val_main_v42]
  simp only [zero_sub]
  blk_point [iblk, V, idx t]

open Cert.ReferenceIdeal.Read in
/-- The array that window 12 leaves is the reference's gradient of the two gates. -/
theorem arr12 (c : Dev nD) :
    (dats m 0 c).arrAt 12 cfg0.N = val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 12 _ (by decide +kernel) fun t hf y => ?_
  blk_simp
  rw [after0_12]
  frame_out
  canon_tiles x h
  all_goals (idx_vars x; unfold_payloads; pointwise [val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_cst_2, val_main_v19, val_main_v20, val_main_cst_3, val_main_v21, val_main_v22, val_main_cst_4, val_main_v23, val_main_v24, val_main_v25, val_main_v26, val_main_v27, val_main_v29, val_main_v30, val_main_v31, val_main_v32, val_main_v33, val_main_v34, val_main_v35, val_main_v36, val_main_v37, val_main_v38, val_main_v39, val_main_v40, val_main_v41, val_main_v42, val_main_v43, val_main_v44, Cert.ReferenceIdeal.Value.fn_main_v43]; try simp only [zero_sub])

  · split
    · rename_i hh; blk_simp [idx t] at hh; omega
    · rw [mul_assoc]; blk_point [iblk, V, idx t]
  · split
    · rw [mul_assoc]; blk_point [iblk, V, idx t]
    · rename_i hh; blk_simp [idx t] at hh; omega
end Cert.Merge

end
-- ==== Proof.Alg.lean ====
/- Facts about finite sums of extended reals, and the gradient of a root-mean-square norm along one row. -/
module

public import Idealize.ShloMosaic.Lib.Pointwise
public import Idealize.ShloMosaic.Lib.IdealHost

@[expose] public section

noncomputable section

namespace Cert.Alg

open Idealize.ShloMosaic

/-- A finite sum of reals, taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A nonnegative real factor moves into a finite sum of extended reals. -/
theorem mul_sum_nonneg {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s h ih =>
    rw [Finset.sum_insert h, Finset.sum_insert h, ← ih]
    exact EReal.left_distrib_of_nonneg_of_ne_top (by exact_mod_cast hr) (EReal.coe_ne_top r) _ _

/-- A square is not negative. -/
theorem sq_nonneg' (x : EReal) : 0 ≤ x * x := by
  induction x with
  | bot => simp
  | top => simp
  | coe r => exact_mod_cast mul_self_nonneg r

/-- A family of extended reals is a family of reals, or the sum of its squares is infinite. -/
theorem real_or_top {ι : Type*} [Fintype ι] (x : ι → EReal) :
    (∃ y : ι → ℝ, x = fun i => (y i : EReal)) ∨ ∑ i, x i * x i = ⊤ := by
  classical
  by_cases h : ∀ i, x i ≠ ⊤ ∧ x i ≠ ⊥
  · exact .inl ⟨fun i => (x i).toReal, funext fun i => (EReal.coe_toReal (h i).1 (h i).2).symm⟩
  · right
    push Not at h
    obtain ⟨i, hi⟩ := h
    have h1 : x i * x i = ⊤ := by
      by_cases ht : x i = ⊤
      · rw [ht]; rfl
      · rw [hi ht]; rfl
    refine top_unique ?_
    calc (⊤ : EReal) = x i * x i := h1.symm
      _ ≤ ∑ i, x i * x i := Finset.single_le_sum (f := fun i => x i * x i) (fun i _ => sq_nonneg' _) (Finset.mem_univ i)

/-- Two equal summands, each minus one half of a number. -/
theorem two_halves (u v : EReal) (h : u = ((-(1/2) : ℝ) : EReal) * v) : u + u = -v := by
  subst h
  induction v with
  | bot => rw [EReal.coe_mul_bot_of_neg (by norm_num)]; rfl
  | top => rw [EReal.coe_mul_top_of_neg (by norm_num)]; rfl
  | coe r => norm_cast; ring_nf

/-- The row length as a float word. -/
theorem word_1024 : Ideal.ofBits .f32 1149239296#32 = ((1024 : ℝ) : EReal) := by
  simp [Ideal.ofBits, Ideal.ieee, -EReal.coe_mul]
  norm_num

/-- Minus one half as a float word. -/
theorem word_neg_half : Ideal.ofBits .f32 3204448256#32 = ((-(1/2) : ℝ) : EReal) := by
  simp [Ideal.ofBits, Ideal.ieee, -EReal.coe_mul, -EReal.coe_neg]
  norm_num

/-- The norm's small constant is a positive real. -/
theorem word_eps : ∃ e : ℝ, 0 < e ∧ Ideal.ofBits .f32 897988541#32 = (e : EReal) := by
  refine ⟨8796093 / 2 ^ 43, by norm_num, ?_⟩
  simp [Ideal.ofBits, Ideal.ieee, -EReal.coe_mul]
  norm_num

/-- The mean square of a row plus the small constant. -/
def ms (X : Fin 1024 → EReal) : EReal :=
  Ideal.div (∑ x, X x * X x) (Ideal.ofBits .f32 1149239296#32) + Ideal.ofBits .f32 897988541#32

/-- Along a row the mean square is a positive real and the row is real, or it is infinite. -/
theorem ms_cases (X : Fin 1024 → EReal) :
    (∃ (x : Fin 1024 → ℝ) (q : ℝ), 0 < q ∧ X = (fun i => (x i : EReal)) ∧ ms X = (q : EReal)) ∨ ms X = ⊤ := by
  obtain ⟨e, he, hw⟩ := word_eps
  unfold ms
  rw [hw, word_1024, Ideal.div_coe (by norm_num)]
  rcases real_or_top X with ⟨x, rfl⟩ | h
  · left
    refine ⟨x, (∑ i, x i * x i) * (1 / 1024) + e, ?_, rfl, ?_⟩
    · have : 0 ≤ ∑ i, x i * x i := Finset.sum_nonneg fun i _ => mul_self_nonneg _
      positivity
    · simp only [← EReal.coe_mul, ← coe_sum, ← EReal.coe_add]
  · right
    rw [h, EReal.top_mul_coe_of_pos (by norm_num), EReal.top_add_coe]

/-- The root of a positive mean square, inverted. -/
theorem rsqrt_pos {q : ℝ} (hq : 0 < q) : Ideal.rsqrt (q : EReal) = (((Real.sqrt q)⁻¹ : ℝ) : EReal) := by
  rw [Ideal.rsqrt_coe, if_neg (not_lt.mpr hq.le), if_neg hq.ne']

theorem div_inf : Ideal.div 0 ⊤ = 0 := by
  unfold Ideal.div
  simp

/-- The gradient of the norm along one row, in the kernel's form and as differentiation writes it. -/
theorem rms_dx (X H G : Fin 1024 → EReal) (j : Fin 1024) :
    Ideal.rsqrt (ms X) * (H j * G j - X j * Ideal.rsqrt (ms X) *
        Ideal.div (∑ x, H x * G x * (X x * Ideal.rsqrt (ms X))) (Ideal.ofBits .f32 1149239296#32))
      = H j * G j * Ideal.rsqrt (ms X)
        + X j * Ideal.div ((∑ x, X x * (H x * G x)) * (Ideal.ofBits .f32 3204448256#32 * Ideal.div (Ideal.rsqrt (ms X)) (ms X)))
            (Ideal.ofBits .f32 1149239296#32)
        + Ideal.div ((∑ x, X x * (H x * G x)) * (Ideal.ofBits .f32 3204448256#32 * Ideal.div (Ideal.rsqrt (ms X)) (ms X)))
            (Ideal.ofBits .f32 1149239296#32) * X j := by
  rw [word_1024, word_neg_half]
  rcases ms_cases X with ⟨x, q, hq, rfl, h⟩ | h
  · rw [h, rsqrt_pos hq]
    have hs : 0 < Real.sqrt q := Real.sqrt_pos.mpr hq
    set r : ℝ := (Real.sqrt q)⁻¹ with hr
    have hr0 : 0 < r := inv_pos.mpr hs
    have hq3 : r * (1 / q) = r * r * r := by
      have h2 : q = Real.sqrt q * Real.sqrt q := (Real.mul_self_sqrt hq.le).symm
      have h3 : 1 / q = r * r := by rw [hr, ← mul_inv, ← h2, one_div]
      rw [h3, mul_assoc]
    have hT : (∑ i, H i * G i * ((x i : EReal) * (r : EReal))) = (r : EReal) * ∑ i, (x i : EReal) * (H i * G i) := by
      rw [mul_sum_nonneg _ _ hr0.le]
      exact Finset.sum_congr rfl fun i _ => by rw [mul_comm, mul_comm (x i : EReal) (r : EReal), mul_assoc]
    rw [hT, Ideal.div_coe (by norm_num), Ideal.div_coe hq.ne', Ideal.div_coe (by norm_num)]
    generalize (∑ i, (x i : EReal) * (H i * G i)) = T
    generalize H j * G j = D
    beta_reduce
    generalize x j = a
    have hu : (a : EReal) * (T * (((-(1/2) : ℝ) : EReal) * ((r : EReal) * ((1 / q : ℝ) : EReal))) * ((1 / 1024 : ℝ) : EReal))
        = ((-(1/2) : ℝ) : EReal) * (((r * r * r * (1/1024) * a : ℝ) : EReal) * T) := by
      rw [← EReal.coe_mul, ← EReal.coe_mul, mul_comm T, ← mul_assoc, ← mul_assoc, ← EReal.coe_mul, mul_right_comm,
        ← EReal.coe_mul, ← mul_assoc ((-(1/2) : ℝ) : EReal), ← EReal.coe_mul]
      congr 2
      rw [hq3]; ring
    rw [mul_comm (T * _ * _) (a : EReal), add_assoc, two_halves _ _ hu]
    rw [sub_eq_add_neg, EReal.left_distrib_of_nonneg_of_ne_top (by exact_mod_cast hr0.le) (EReal.coe_ne_top r), mul_comm D]
    congr 1
    rw [mul_neg]
    congr 1
    rw [← EReal.coe_mul, mul_comm ((r : EReal) * T), ← mul_assoc, ← mul_assoc, ← mul_assoc, ← EReal.coe_mul, ← EReal.coe_mul, ← EReal.coe_mul]
    congr 2
    ring
  · rw [h, Ideal.rsqrt_top, div_inf]
    simp [Ideal.div]

end Cert.Alg

end
-- ==== Proof.In.lean ====
/- The gradient of the input projection and the norm before it: each output array of the kernel is the reference's. -/
module

public import proofs.«01_k».proof.Proof.Alg
public import proofs.«01_k».proof.Proof.Gen.InKernelIdeal.Value
public import proofs.«01_k».proof.Proof.Gen.InReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section
namespace Cert.In
open Cert.InKernelIdeal Cert.InKernelIdeal.Gen Idealize.ShloMosaic Idealize.ShloMosaic.TcCoe Idealize.SL.Sem
variable (m : (ℓ : Loc nD τ sig) → Buf (Elt Ideal) ℓ)

theorem idx : ∀ t : Fin cfg0.N,
    win0_0.index t = ![t.val, 0] ∧ win0_1.index t = ![t.val + 1, 0] ∧ win0_2.index t = ![t.val + 1, 0] ∧ win0_3.index t = ![t.val, 0]
    ∧ win0_4.index t = ![t.val, 0] ∧ win0_5.index t = ![t.val, 0] ∧ win0_6.index t = ![t.val, 0] ∧ win0_7.index t = ![0, 0] ∧ win0_8.index t = ![0, 0]
    ∧ win0_9.index t = ![t.val, 0] ∧ win0_10.index t = ![t.val, 0] ∧ win0_11.index t = ![0, 0] :=
  (by decide +kernel : ∀ t : Fin grid0.N, _)

/-- The block of the reference's projected gradient at grid point `t`. -/
def dzB (c : Dev nD) (t : Fin cfg0.N) : Vec Ideal S512x4608 .bf16 := fun y =>
  Cert.InReferenceIdeal.Read.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (((cfg0.win 10).blk t).view.emb y)

/-- What one grid point adds to the gradient of the gain, from the block's cotangent and its input rows. -/
def gainT (h : FVec Ideal S512x1024 .f32) (x : Vec Ideal S512x1024 .f32) (y : S1x1024.Idx) : EReal :=
  ∑ k : Fin 512, (show EReal from h (ix2 k (y 1))) * ((show EReal from x (ix2 k (y 1))) * Ideal.rsqrt (Cert.Alg.ms fun i => (show EReal from x (ix2 k i))))

/-- The five column pieces cover the block. -/
theorem cover_dz (c : Dev nD) (t : Fin cfg0.N) : ∀ y : S512x4608.Idx, ∃ p ∈ (([⟨Rect.unit ![0, 2560] ![512, 2048] inb_S512x4608_S512x2048_0_2560, iblk m c 4 t⟩,
        ⟨Rect.unit ![0, 1536] ![512, 1024] inb_S512x4608_S512x1024_0_1536, iblk m c 3 t⟩,
        ⟨Rect.unit ![0, 1024] ![512, 512] inb_S512x4608_S512x512_0_1024, k0_pay8 (iblk m c 2 t)⟩,
        ⟨Rect.unit ![0, 512] ![512, 512] inb_S512x4608_S512x512_0_512, k0_pay7 (iblk m c 1 t)⟩,
        ⟨Rect.unit ![0, 0] ![512, 512] inb_S512x4608_S512x512_0_0, k0_pay6 (iblk m c 0 t)⟩]) : List (View.Piece (Elt Ideal) S512x4608 .bf16)), y ∈ p.1.set :=
  View.cover_of_tiledBy _ ![512, 512] (by sl_kernel_rfl)

open Cert.InReferenceIdeal.Read in
/-- The five column pieces that a grid point stores are that block. -/
theorem canon_dz (c : Dev nD) (t : Fin cfg0.N) :
    View.canon (Val := Elt Ideal) (s := S512x4608) (e := .bf16)
      [⟨Rect.unit ![0, 2560] ![512, 2048] inb_S512x4608_S512x2048_0_2560, iblk m c 4 t⟩,
        ⟨Rect.unit ![0, 1536] ![512, 1024] inb_S512x4608_S512x1024_0_1536, iblk m c 3 t⟩,
        ⟨Rect.unit ![0, 1024] ![512, 512] inb_S512x4608_S512x512_0_1024, k0_pay8 (iblk m c 2 t)⟩,
        ⟨Rect.unit ![0, 512] ![512, 512] inb_S512x4608_S512x512_0_512, k0_pay7 (iblk m c 1 t)⟩,
        ⟨Rect.unit ![0, 0] ![512, 512] inb_S512x4608_S512x512_0_0, k0_pay6 (iblk m c 0 t)⟩] = dzB m c t := by
  have ht : t.val < 16 := t.isLt
  funext y
  unfold dzB
  have e1 : (((View.whole main_v3_1).slice (win0_10.rect t)).emb y 1).val = (y 1).val := by blk_simp [idx t]
  blk_simp
  canon_tiles x h using (cover_dz m c t y)
  all_goals (idx_vars x; unfold_payloads; pointwise [val_main_v17, val_main_v18, val_main_v19, val_main_v33, val_main_v35, val_main_v36, val_main_v37, val_main_v38, val_main_cst_7, val_main_v61, Cert.InReferenceIdeal.Value.fn_main_v38])
  · have hx1 := x1.isLt
    rw [dif_neg (by rw [e1]; omega), dif_neg (by rw [e1]; omega), dif_neg (by rw [e1]; omega), dif_neg (by rw [e1]; omega)]
    blk_point [iblk, V, idx t]
  · have hx1 := x1.isLt
    rw [dif_neg (by rw [e1]; omega), dif_neg (by rw [e1]; omega), dif_neg (by rw [e1]; omega), dif_pos (by rw [e1]; omega)]
    blk_point [iblk, V, idx t]
  · have hx1 := x1.isLt
    rw [dif_neg (by rw [e1]; omega), dif_neg (by rw [e1]; omega), dif_pos (by rw [e1]; omega)]
    blk_point [iblk, V, idx t]
  · have hx1 := x1.isLt
    rw [dif_neg (by rw [e1]; omega), dif_pos (by rw [e1]; omega)]
    blk_point [iblk, V, idx t]
  · have hx1 := x1.isLt
    rw [dif_pos (by rw [e1]; omega)]
    blk_point [iblk, V, idx t]

theorem readCov_dz (c : Dev nD) (t : Fin cfg0.N) :
    (ms0_10 t).view.readCov (Val := Elt Ideal)
      [⟨Rect.unit ![0, 2560] ![512, 2048] inb_S512x4608_S512x2048_0_2560, iblk m c 4 t⟩,
        ⟨Rect.unit ![0, 1536] ![512, 1024] inb_S512x4608_S512x1024_0_1536, iblk m c 3 t⟩,
        ⟨Rect.unit ![0, 1024] ![512, 512] inb_S512x4608_S512x512_0_1024, k0_pay8 (iblk m c 2 t)⟩,
        ⟨Rect.unit ![0, 512] ![512, 512] inb_S512x4608_S512x512_0_512, k0_pay7 (iblk m c 1 t)⟩,
        ⟨Rect.unit ![0, 0] ![512, 512] inb_S512x4608_S512x512_0_0, k0_pay6 (iblk m c 0 t)⟩]
      (Rect.unit ![0, 0] ![512, 4608] inb_S512x4608_S512x4608_0_0).toLoadRect = dzB m c t := by
  rw [View.readCov_eq_canon_ld _ _ _ (cover_dz m c t), canon_dz]
  exact View.ld_unit_lit _ _ (by decide)

open Cert.InReferenceIdeal.Read in
/-- The array that window 10 leaves is the reference's gradient of the projected row. -/
theorem arr10 (c : Dev nD) :
    (dats m 0 c).arrAt 10 cfg0.N = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 10 _ (by decide +kernel) fun t hf y => ?_
  by_cases h : t.val % 16 = 0
  · blk_simp
    rw [after0_10]
    rw [outsAt0_A m c t h]
    frame_out
    exact congrFun (canon_dz m c t) y
  · blk_simp
    rw [after0_10]
    rw [outsAt0_B m c t h]
    frame_out
    exact congrFun (canon_dz m c t) y

open Cert.InReferenceIdeal.Read in
/-- The array that window 9 leaves is the reference's gradient of the block's input. -/
theorem arr9 (c : Dev nD) :
    (dats m 0 c).arrAt 9 cfg0.N = val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dats m 0 c).arrAt_eq_of_covers 9 _ (by decide +kernel) fun t hf y => ?_
  blk_simp
  rw [after0_9]
  have e : (outsAt0 m c t.val t.isLt).1 = k0_pay3 (k0_pay9 (dzB m c t) (iblk m c 8 t)) (iblk m c 5 t) (k0_pay10 (iblk m c 5 t)) (iblk m c 7 t) (iblk m c 6 t) := by
    by_cases h : t.val % 16 = 0
    · rw [outsAt0_A m c t h]
      frame_out
      rw [readCov_dz]
    · rw [outsAt0_B m c t h]
      frame_out
      rw [readCov_dz]
  rw [e]
  idx_vars y
  unfold_payloads
  pointwise [dzB, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_v61, val_main_v62]
  have key := Cert.Alg.rms_dx (fun x => iblk m c 5 t (ix2 y0 x)) (fun j => ∑ x, dzB m c t (ix2 y0 x) * iblk m c 8 t (ix2 x j)) (fun x => iblk m c 7 t (ix2 0 x)) y1
  pointwise [Cert.Alg.ms, dzB, val_main_v61] at key
  rw [key]
  simp only [Finset.univ_unique, Finset.sum_singleton, add_assoc]
  blk_point [iblk, V, idx t]

open Cert.InReferenceIdeal.Read in
/-- The array that window 11 leaves is the reference's gradient of the norm's gain. -/
theorem arr11 (c : Dev nD) :
    (dats m 0 c).arrAt 11 cfg0.N = val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) := by
  refine (dats m 0 c).arrAt_eq_of_covers 11 _ (by decide +kernel) fun t hf y => ?_
  blk_simp
  rw [after0_11]
  have h1 : t.val % 16 = 15 := (flush0_11 t).mp hf
  rw [Pipeline.eq_sum_fin_of_reset_step_apply_of_flush (fun n h => (outsAt0 m c n h).2.2) 16 (fun _ => 0) (fun t => gainT (k0_pay9 (dzB m c t) (iblk m c 8 t)) (iblk m c 5 t)) ?_ ?_ t h1 y]
  · unfold gainT Cert.Alg.ms
    idx_vars y
    unfold_payloads
    pointwise [dzB, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_v61, val_main_v62]
    simp only [Finset.univ_unique, Finset.sum_singleton]
    refine Fin.sum_mul_add_congr fun s k hl => ?_
    rw [mul_comm]
    have hs := s.isLt
    have i0 := idx ⟨16 * (t.val / 16) + s.val, Pipeline.run_point_lt_of_flush t h1 s⟩
    blk_point [iblk, V, i0, idx t]
  · intro t h j
    rw [outsAt0_A m c t h]
    frame_out
    rw [readCov_dz]
    unfold gainT Cert.Alg.ms
    unfold_payloads
    idx_vars j
    pointwise []
  · intro t h j
    rw [outsAt0_B m c t h]
    frame_out
    rw [readCov_dz]
    unfold gainT Cert.Alg.ms
    unfold_payloads
    idx_vars j
    pointwise []
end Cert.In

end
-- ==== Proof.Reals.lean ====
/- Real values among the extended reals: what products, sums and the norm keep real, and the gate's derivative there. -/
module

public import proofs.«01_k».proof.Proof.Alg
public import Idealize.ShloMosaic.Lib.Pointwise
public import Idealize.ShloMosaic.Lib.ReduceAll
public import Idealize.ShloMosaic.Lib.Affine

@[expose] public section

set_option maxRecDepth 16384

noncomputable section
namespace Cert.Reals
open Idealize.ShloMosaic

/-- An extended real that is a real. -/
def R (x : EReal) : Prop := ∃ r : ℝ, x = (r : EReal)

theorem R.mul {x y : EReal} (hx : R x) (hy : R y) : R (x * y) := by
  obtain ⟨a, rfl⟩ := hx
  obtain ⟨b, rfl⟩ := hy
  exact ⟨a * b, (EReal.coe_mul a b).symm⟩

theorem R.add {x y : EReal} (hx : R x) (hy : R y) : R (x + y) := by
  obtain ⟨a, rfl⟩ := hx
  obtain ⟨b, rfl⟩ := hy
  exact ⟨a + b, (EReal.coe_add a b).symm⟩

theorem R.sum {ι : Type*} [Fintype ι] {f : ι → EReal} (h : ∀ i, R (f i)) : R (∑ i, f i) := by
  choose g hg using h
  exact ⟨∑ i, g i, by rw [Cert.Alg.coe_sum]; exact Finset.sum_congr rfl fun i _ => hg i⟩

theorem R.of_ne {x : EReal} (h1 : x ≠ ⊤) (h2 : x ≠ ⊥) : R x := ⟨x.toReal, (EReal.coe_toReal h1 h2).symm⟩

/-- A row times its inverse root mean square is real, whatever the row. -/
theorem norm_real (X : Fin 1024 → EReal) (j : Fin 1024) : R (X j * Ideal.rsqrt (Cert.Alg.ms X)) := by
  rcases Cert.Alg.ms_cases X with ⟨x, q, hq, rfl, h⟩ | h
  · rw [h, Cert.Alg.rsqrt_pos hq]
    exact R.mul ⟨_, rfl⟩ ⟨_, rfl⟩
  · rw [h]
    exact ⟨0, by simp⟩

/-- The word of infinity is the top. -/
theorem word_inf : Ideal.ofBits .f32 0x7F800000#32 = ⊤ := by
  simp [Ideal.ofBits, Ideal.ieee]

/-- An element whose size is below infinity is real. -/
theorem R.of_lt {x : EReal} (h : Ideal.cmp .olt (max x (-x)) (Ideal.ofBits .f32 0x7F800000#32) = 1#1) : R x := by
  rw [word_inf] at h
  induction x with
  | bot => simp [Ideal.cmp] at h
  | top => simp [Ideal.cmp] at h
  | coe r => exact ⟨r, rfl⟩

/-- The logistic function of a real is real. -/
theorem sig_real (g : ℝ) : Ideal.div 1 (1 + Ideal.exp (-(g : EReal))) = ((1 / (1 + Real.exp (-g)) : ℝ) : EReal) := by
  have hp : (1 + Real.exp (-g) : ℝ) ≠ 0 := by positivity
  rw [← EReal.coe_neg, Ideal.exp_coe, ← EReal.coe_one, ← EReal.coe_add, Ideal.div_coe hp, ← EReal.coe_mul, one_mul]

/-- The derivative of a gate `g · σ(g)`, factored as the kernel has it and as a sum of two terms. -/
theorem swi (d u g : EReal) (hd : R d) (hu : R u) (hg : R g) :
    d * u * (Ideal.div 1 (1 + Ideal.exp (-g)) * (1 + g * (1 - Ideal.div 1 (1 + Ideal.exp (-g)))))
      = d * u * Ideal.div 1 (1 + Ideal.exp (-g)) + g * (d * u) * (Ideal.div 1 (1 + Ideal.exp (-g)) * (1 - Ideal.div 1 (1 + Ideal.exp (-g)))) := by
  obtain ⟨d, rfl⟩ := hd
  obtain ⟨u, rfl⟩ := hu
  obtain ⟨g, rfl⟩ := hg
  rw [sig_real]
  generalize (1 / (1 + Real.exp (-g)) : ℝ) = s
  norm_cast
  ring

end Cert.Reals

end
-- ==== Proof.Ffn.lean ====
/- The gradient of the channel mixer and the norm before it: what the kernel leaves is what the reference computes. -/
module

public import proofs.«01_k».proof.Proof.Alg
public import proofs.«01_k».proof.Proof.Reals
public import proofs.«01_k».proof.Proof.Gen.FfnKernelIdeal.Value
public import proofs.«01_k».proof.Proof.Gen.FfnReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section
namespace Cert.Ffn
open Cert.FfnKernelIdeal Cert.FfnKernelIdeal.Gen Idealize.ShloMosaic Idealize.ShloMosaic.TcCoe Idealize.SL.Sem
open Cert.Reals (R)
variable (m : (ℓ : Loc nD τ sig) → Buf (Elt Ideal) ℓ)

/-- The blocks that a grid point takes of the nine windows. -/
theorem idx : ∀ t : Fin cfg0.N,
    win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0] ∧ win0_8.index t = ![0, 0] :=
  (by decide +kernel : ∀ t : Fin grid0.N, _)

open Cert.FfnReferenceIdeal.Read in
/-- The saved product of the forward pass is the reference's own. -/
theorem gu (c : Dev nD) (i : S8192x5632.Idx) :
    (V m c main_v14 i : EReal) = val_main_v16 (F := Ideal) (m ((c.tc : Thread nD τ).loc main_arg1)) (m ((c.tc : Thread nD τ).loc main_arg2)) (m ((c.tc : Thread nD τ).loc main_arg3)) i := by
  unfold_abbrev_sides
  after_results
  rfl

/-- The block of the reference's gradient of that product at grid point `t`. -/
def dguB (c : Dev nD) (t : Fin cfg0.N) : Vec Ideal S256x5632 .bf16 := fun y =>
  Cert.FfnReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (((cfg0.win 7).blk t).view.emb y)

/-- What one grid point adds to the gradient of the gain, from the block's cotangent and its input rows. -/
def gainT (h : FVec Ideal S256x1024 .f32) (x : Vec Ideal S256x1024 .f32) (y : S1x1024.Idx) : EReal :=
  ∑ k : Fin 256, (show EReal from h (ix2 k (y 1))) * ((show EReal from x (ix2 k (y 1))) * Ideal.rsqrt (Cert.Alg.ms fun i => (show EReal from x (ix2 k i))))

/-- The column pieces that a grid point stores into the second output's block, the last first. -/
abbrev pieces (c : Dev nD) (t : Fin cfg0.N) : List (View.Piece (Elt Ideal) S256x5632 .bf16) :=
    [⟨Rect.unit ![0, 5376] ![256, 256] inb_S256x5632_S256x256_0_5376,
      k0_pay69
      (k0_pay64 (k0_pay5 (iblk m c 0 t))
      (View.ld (iblk m c 4 t) (Rect.unit ![2560, 0] ![256, 1024] inb_S2816x1024_S256x1024_2560_0)))
      (k0_pay65 (View.ld (iblk m c 1 t) (Rect.unit ![0, 2560] ![256, 256] inb_S256x5632_S256x256_0_2560)))⟩,
      ⟨Rect.unit ![0, 2560] ![256, 256] inb_S256x5632_S256x256_0_2560,
      k0_pay68
      (k0_pay64 (k0_pay5 (iblk m c 0 t))
      (View.ld (iblk m c 4 t) (Rect.unit ![2560, 0] ![256, 1024] inb_S2816x1024_S256x1024_2560_0)))
      (k0_pay65 (View.ld (iblk m c 1 t) (Rect.unit ![0, 2560] ![256, 256] inb_S256x5632_S256x256_0_2560)))
      (k0_pay66 (View.ld (iblk m c 1 t) (Rect.unit ![0, 5376] ![256, 256] inb_S256x5632_S256x256_0_5376)))⟩,
      ⟨Rect.unit ![0, 5120] ![256, 256] inb_S256x5632_S256x256_0_5120,
      k0_pay63 (k0_pay5 (iblk m c 0 t))
      (View.ld (iblk m c 4 t) (Rect.unit ![2304, 0] ![256, 1024] inb_S2816x1024_S256x1024_2304_0))
      (View.ld (iblk m c 1 t) (Rect.unit ![0, 2304] ![256, 256] inb_S256x5632_S256x256_0_2304))⟩,
      ⟨Rect.unit ![0, 2304] ![256, 256] inb_S256x5632_S256x256_0_2304,
      k0_pay62 (k0_pay5 (iblk m c 0 t))
      (View.ld (iblk m c 4 t) (Rect.unit ![2304, 0] ![256, 1024] inb_S2816x1024_S256x1024_2304_0))
      (View.ld (iblk m c 1 t) (Rect.unit ![0, 2304] ![256, 256] inb_S256x5632_S256x256_0_2304))
      (View.ld (iblk m c 1 t) (Rect.unit ![0, 5120] ![256, 256] inb_S256x5632_S256x256_0_5120))⟩,
      ⟨Rect.unit ![0, 4864] ![256, 256] inb_S256x5632_S256x256_0_4864,
      k0_pay58 (k0_pay5 (iblk m c 0 t))
      (View.ld (iblk m c 4 t) (Rect.unit ![2048, 0] ![256, 1024] inb_S2816x1024_S256x1024_2048_0))
      (View.ld (iblk m c 1 t) (Rect.unit ![0, 2048] ![256, 256] inb_S256x5632_S256x256_0_2048))⟩,
      ⟨Rect.unit ![0, 2048] ![256, 256] inb_S256x5632_S256x256_0_2048,
      k0_pay57 (k0_pay5 (iblk m c 0 t))
      (View.ld (iblk m c 4 t) (Rect.unit ![2048, 0] ![256, 1024] inb_S2816x1024_S256x1024_2048_0))
      (View.ld (iblk m c 1 t) (Rect.unit ![0, 2048] ![256, 256] inb_S256x5632_S256x256_0_2048))
      (View.ld (iblk m c 1 t) (Rect.unit ![0, 4864] ![256, 256] inb_S256x5632_S256x256_0_4864))⟩,
      ⟨Rect.unit ![0, 4608] ![256, 256] inb_S256x5632_S256x256_0_4608,
      k0_pay53
      (k0_pay47 (k0_pay5 (iblk m c 0 t))
      (View.ld (iblk m c 4 t) (Rect.unit ![1792, 0] ![256, 1024] inb_S2816x1024_S256x1024_1792_0)))
      (k0_pay48 (View.ld (iblk m c 1 t) (Rect.unit ![0, 1792] ![256, 256] inb_S256x5632_S256x256_0_1792)))
      (k0_pay49 (View.ld (iblk m c 1 t) (Rect.unit ![0, 1792] ![256, 256] inb_S256x5632_S256x256_0_1792)))⟩,
      ⟨Rect.unit ![0, 1792] ![256, 256] inb_S256x5632_S256x256_0_1792,
      k0_pay52
      (k0_pay50 (k0_pay5 (iblk m c 0 t))
      (View.ld (iblk m c 4 t) (Rect.unit ![1792, 0] ![256, 1024] inb_S2816x1024_S256x1024_1792_0))
      (View.ld (iblk m c 1 t) (Rect.unit ![0, 4608] ![256, 256] inb_S256x5632_S256x256_0_4608)))
      (k0_pay51 (View.ld (iblk m c 1 t) (Rect.unit ![0, 1792] ![256, 256] inb_S256x5632_S256x256_0_1792)))⟩,
      ⟨Rect.unit ![0, 4352] ![256, 256] inb_S256x5632_S256x256_0_4352,
      k0_pay46
      (k0_pay40 (k0_pay5 (iblk m c 0 t))
      (View.ld (iblk m c 4 t) (Rect.unit ![1536, 0] ![256, 1024] inb_S2816x1024_S256x1024_1536_0)))
      (k0_pay41 (View.ld (iblk m c 1 t) (Rect.unit ![0, 1536] ![256, 256] inb_S256x5632_S256x256_0_1536)))
      (k0_pay43 (View.ld (iblk m c 1 t) (Rect.unit ![0, 1536] ![256, 256] inb_S256x5632_S256x256_0_1536)))⟩,
      ⟨Rect.unit ![0, 1536] ![256, 256] inb_S256x5632_S256x256_0_1536,
      k0_pay45
      (k0_pay40 (k0_pay5 (iblk m c 0 t))
      (View.ld (iblk m c 4 t) (Rect.unit ![1536, 0] ![256, 1024] inb_S2816x1024_S256x1024_1536_0)))
      (k0_pay41 (View.ld (iblk m c 1 t) (Rect.unit ![0, 1536] ![256, 256] inb_S256x5632_S256x256_0_1536)))
      (k0_pay42 (View.ld (iblk m c 1 t) (Rect.unit ![0, 4352] ![256, 256] inb_S256x5632_S256x256_0_4352)))
      (k0_pay43 (View.ld (iblk m c 1 t) (Rect.unit ![0, 1536] ![256, 256] inb_S256x5632_S256x256_0_1536)))⟩,
      ⟨Rect.unit ![0, 4096] ![256, 256] inb_S256x5632_S256x256_0_4096,
      k0_pay39 (k0_pay5 (iblk m c 0 t))
      (k0_pay34 (View.ld (iblk m c 4 t) (Rect.unit ![1280, 0] ![256, 1024] inb_S2816x1024_S256x1024_1280_0)))
      (constant S256x256 FTy.f32 0#32)
      (View.ld (iblk m c 1 t) (Rect.unit ![0, 1280] ![256, 256] inb_S256x5632_S256x256_0_1280))⟩,
      ⟨Rect.unit ![0, 1280] ![256, 256] inb_S256x5632_S256x256_0_1280,
      k0_pay38 (k0_pay5 (iblk m c 0 t))
      (k0_pay34 (View.ld (iblk m c 4 t) (Rect.unit ![1280, 0] ![256, 1024] inb_S2816x1024_S256x1024_1280_0)))
      (constant S256x256 FTy.f32 0#32)
      (View.ld (iblk m c 1 t) (Rect.unit ![0, 1280] ![256, 256] inb_S256x5632_S256x256_0_1280))
      (View.ld (iblk m c 1 t) (Rect.unit ![0, 4096] ![256, 256] inb_S256x5632_S256x256_0_4096))⟩,
      ⟨Rect.unit ![0, 3840] ![256, 256] inb_S256x5632_S256x256_0_3840,
      k0_pay33 (k0_pay5 (iblk m c 0 t))
      (View.ld (iblk m c 4 t) (Rect.unit ![1024, 0] ![256, 1024] inb_S2816x1024_S256x1024_1024_0))
      (View.ld (iblk m c 1 t) (Rect.unit ![0, 1024] ![256, 256] inb_S256x5632_S256x256_0_1024))⟩,
      ⟨Rect.unit ![0, 1024] ![256, 256] inb_S256x5632_S256x256_0_1024,
      k0_pay32 (k0_pay5 (iblk m c 0 t))
      (View.ld (iblk m c 4 t) (Rect.unit ![1024, 0] ![256, 1024] inb_S2816x1024_S256x1024_1024_0))
      (View.ld (iblk m c 1 t) (Rect.unit ![0, 1024] ![256, 256] inb_S256x5632_S256x256_0_1024))
      (View.ld (iblk m c 1 t) (Rect.unit ![0, 3840] ![256, 256] inb_S256x5632_S256x256_0_3840))⟩,
      ⟨Rect.unit ![0, 3584] ![256, 256] inb_S256x5632_S256x256_0_3584,
      k0_pay28
      (k0_pay27 (k0_pay5 (iblk m c 0 t))
      (View.ld (iblk m c 4 t) (Rect.unit ![768, 0] ![256, 1024] inb_S2816x1024_S256x1024_768_0))
      (View.ld (iblk m c 1 t) (Rect.unit ![0, 768] ![256, 256] inb_S256x5632_S256x256_0_768)))⟩,
      ⟨Rect.unit ![0, 768] ![256, 256] inb_S256x5632_S256x256_0_768,
      k0_pay26 (k0_pay5 (iblk m c 0 t))
      (View.ld (iblk m c 4 t) (Rect.unit ![768, 0] ![256, 1024] inb_S2816x1024_S256x1024_768_0))
      (View.ld (iblk m c 1 t) (Rect.unit ![0, 768] ![256, 256] inb_S256x5632_S256x256_0_768))
      (View.ld (iblk m c 1 t) (Rect.unit ![0, 3584] ![256, 256] inb_S256x5632_S256x256_0_3584))⟩,
      ⟨Rect.unit ![0, 3328] ![256, 256] inb_S256x5632_S256x256_0_3328,
      k0_pay22
      (k0_pay16 (k0_pay5 (iblk m c 0 t))
      (View.ld (iblk m c 4 t) (Rect.unit ![512, 0] ![256, 1024] inb_S2816x1024_S256x1024_512_0)))
      (k0_pay17 (View.ld (iblk m c 1 t) (Rect.unit ![0, 512] ![256, 256] inb_S256x5632_S256x256_0_512)))
      (k0_pay19 (View.ld (iblk m c 1 t) (Rect.unit ![0, 512] ![256, 256] inb_S256x5632_S256x256_0_512)))⟩,
      ⟨Rect.unit ![0, 512] ![256, 256] inb_S256x5632_S256x256_0_512,
      k0_pay21
      (k0_pay16 (k0_pay5 (iblk m c 0 t))
      (View.ld (iblk m c 4 t) (Rect.unit ![512, 0] ![256, 1024] inb_S2816x1024_S256x1024_512_0)))
      (k0_pay17 (View.ld (iblk m c 1 t) (Rect.unit ![0, 512] ![256, 256] inb_S256x5632_S256x256_0_512)))
      (k0_pay18 (View.ld (iblk m c 1 t) (Rect.unit ![0, 3328] ![256, 256] inb_S256x5632_S256x256_0_3328)))
      (k0_pay19 (View.ld (iblk m c 1 t) (Rect.unit ![0, 512] ![256, 256] inb_S256x5632_S256x256_0_512)))⟩,
      ⟨Rect.unit ![0, 3072] ![256, 256] inb_S256x5632_S256x256_0_3072,
      k0_pay15
      (k0_pay11 (iblk m c 0 t)
      (View.ld (iblk m c 4 t) (Rect.unit ![256, 0] ![256, 1024] inb_S2816x1024_S256x1024_256_0)))
      (View.ld (iblk m c 1 t) (Rect.unit ![0, 256] ![256, 256] inb_S256x5632_S256x256_0_256))⟩,
      ⟨Rect.unit ![0, 256] ![256, 256] inb_S256x5632_S256x256_0_256,
      k0_pay14
      (k0_pay11 (iblk m c 0 t)
      (View.ld (iblk m c 4 t) (Rect.unit ![256, 0] ![256, 1024] inb_S2816x1024_S256x1024_256_0)))
      (View.ld (iblk m c 1 t) (Rect.unit ![0, 256] ![256, 256] inb_S256x5632_S256x256_0_256))
      (View.ld (iblk m c 1 t) (Rect.unit ![0, 3072] ![256, 256] inb_S256x5632_S256x256_0_3072))⟩,
      ⟨Rect.unit ![0, 2816] ![256, 256] inb_S256x5632_S256x256_0_2816,
      k0_pay10 (iblk m c 0 t) (View.ld (iblk m c 4 t) (Rect.unit ![0, 0] ![256, 1024] inb_S2816x1024_S256x1024_0_0))
      (View.ld (iblk m c 1 t) (Rect.unit ![0, 0] ![256, 256] inb_S256x5632_S256x256_0_0))⟩,
      ⟨Rect.unit ![0, 0] ![256, 256] inb_S256x5632_S256x256_0_0,
      k0_pay9 (iblk m c 0 t) (View.ld (iblk m c 4 t) (Rect.unit ![0, 0] ![256, 1024] inb_S2816x1024_S256x1024_0_0))
      (View.ld (iblk m c 1 t) (Rect.unit ![0, 0] ![256, 256] inb_S256x5632_S256x256_0_0))
      (View.ld (iblk m c 1 t) (Rect.unit ![0, 2816] ![256, 256] inb_S256x5632_S256x256_0_2816))⟩]

/-- The four arrays whose elements have to be real. -/
structure Fin4 (c : Dev nD) : Prop where
  a0 : ∀ i, R ((m ((c.tc : Thread nD τ).loc main_arg0)) i)
  a2 : ∀ i, R ((m ((c.tc : Thread nD τ).loc main_arg2)) i)
  a3 : ∀ i, R ((m ((c.tc : Thread nD τ).loc main_arg3)) i)
  a4 : ∀ i, R ((m ((c.tc : Thread nD τ).loc main_arg4)) i)

open Cert.FfnReferenceIdeal.Read in
/-- That product is real. -/
theorem gu_real (c : Dev nD) (hf : Fin4 m c) (i : S8192x5632.Idx) :
    R (val_main_v16 (F := Ideal) (m ((c.tc : Thread nD τ).loc main_arg1)) (m ((c.tc : Thread nD τ).loc main_arg2)) (m ((c.tc : Thread nD τ).loc main_arg3)) i) := by
  idx_vars i
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16]
  refine R.sum fun x => R.mul (R.mul ?_ (hf.a2 _)) (hf.a3 _)
  have key := Cert.Reals.norm_real (fun x => (m ((c.tc : Thread nD τ).loc main_arg1)) (ix2 i0 x)) x
  unfold Cert.Alg.ms at key
  exact key

/-- The block of the incoming gradient is real. -/
theorem blk0 (c : Dev nD) (t : Fin cfg0.N) (hf : Fin4 m c) (y : S256x1024.Idx) : R (iblk m c 0 t y) := by
  have h : (iblk m c 0 t y : EReal) = (m ((c.tc : Thread nD τ).loc main_arg0)) (((cfg0.win 0).blk t).view.emb y) := by
    blk_point [iblk, V, idx t]
  rw [h]
  exact hf.a0 _

open Cert.FfnReferenceIdeal.Read in
/-- The block of the saved product, from the reference. -/
theorem blk1 (c : Dev nD) (t : Fin cfg0.N) (y : S256x5632.Idx) :
    (iblk m c 1 t y : EReal) = val_main_v16 (F := Ideal) (m ((c.tc : Thread nD τ).loc main_arg1)) (m ((c.tc : Thread nD τ).loc main_arg2)) (m ((c.tc : Thread nD τ).loc main_arg3)) (((cfg0.win 7).blk t).view.emb y) := by
  rw [← gu]
  blk_point [iblk, idx t]

/-- The block of the second weight is real. -/
theorem blk4 (c : Dev nD) (t : Fin cfg0.N) (hf : Fin4 m c) (y : S2816x1024.Idx) : R (iblk m c 4 t y) := by
  have h : (iblk m c 4 t y : EReal) = (m ((c.tc : Thread nD τ).loc main_arg4)) y := by
    blk_point [iblk, V, idx t]
  rw [h]
  exact hf.a4 _

/-- The column pieces cover the block. -/
theorem cover_dgu (c : Dev nD) (t : Fin cfg0.N) : ∀ y : S256x5632.Idx, ∃ p ∈ pieces m c t, y ∈ p.1.set :=
  View.cover_of_tiledBy _ ![256, 256] (by sl_kernel_rfl)

set_option maxHeartbeats 8000000 in
open Cert.FfnReferenceIdeal.Read in
/-- The column pieces that a grid point stores are that block. -/
theorem canon_dgu (c : Dev nD) (t : Fin cfg0.N) (hf : Fin4 m c) :
    View.canon (Val := Elt Ideal) (s := S256x5632) (e := .bf16) (pieces m c t) = dguB m c t := by
  have ht : t.val < 32 := t.isLt
  funext y
  unfold dguB
  have e1 : (((View.whole main_v19_1).slice (win0_7.rect t)).emb y 1).val = (y 1).val := by blk_simp [idx t]
  have hR : ∀ y, R (iblk m c 1 t y) := fun y => by rw [blk1]; exact gu_real m c hf _
  blk_simp
  unfold pieces
  canon_tiles x h
  all_goals (
    idx_vars x; have hx1 := x1.isLt; unfold_payloads; pointwise [val_main_cst, val_main_cst_0, val_main_cst_1, val_main_cst_2, val_main_v17, val_main_v18, val_main_call0_v0, val_main_call0_v1, val_main_call0_cst, val_main_call0_v2, val_main_call0_v3, val_main_call0_cst_0, val_main_call0_v4, val_main_v19_2, val_main_call0_cst_1, val_main_call0_v6, val_main_call0_v7, val_main_v19_1, val_main_v19_0, val_main_v20, val_main_v21, val_main_v22, val_main_v23, val_main_v24, val_main_call1_v0, val_main_call1_v1, val_main_call1_v2, val_main_v25, val_main_v26, val_main_v27, val_main_v28, val_main_cst_3, val_main_v29, val_main_v30, val_main_v31, val_main_v32, val_main_cst_4, val_main_v33, val_main_v34, val_main_cst_5, val_main_v35, val_main_v36, val_main_v37, val_main_v38, val_main_v39, val_main_cst_6, val_main_v40, val_main_v41, val_main_cst_7, val_main_v42, val_main_v43, val_main_v44, val_main_v45, val_main_v46, val_main_v47, val_main_v48, val_main_v49, val_main_v50, Cert.FfnReferenceIdeal.Value.fn_main_v26]
    simp only [zero_sub]
    first
      | rw [dif_pos (by rw [e1]; omega), Cert.Reals.swi _ _ _ (R.sum fun x => R.mul (blk0 m c t hf _) (blk4 m c t hf _)) (hR _) (hR _)]
      | rw [dif_neg (by rw [e1]; omega), mul_comm]
    simp only [blk1]
    blk_point [iblk, V, idx t])

/-- Read back whole, the pieces are that block. -/
theorem readCov_dgu (c : Dev nD) (t : Fin cfg0.N) (hf : Fin4 m c) :
    (ms0_7 t).view.readCov (Val := Elt Ideal) (pieces m c t)
      (Rect.unit ![0, 0] ![256, 5632] inb_S256x5632_S256x5632_0_0).toLoadRect = dguB m c t := by
  rw [View.readCov_eq_canon_ld _ _ _ (cover_dgu m c t), canon_dgu m c t hf]
  exact View.ld_unit_lit _ _ (by decide)

open Cert.FfnReferenceIdeal.Read in
/-- The array that window 7 leaves is the reference's gradient of the product with the first weight. -/
theorem arr7 (c : Dev nD) (hr : Fin4 m c) :
    (dats m 0 c).arrAt 7 cfg0.N = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  blk_simp
  rw [after0_7]
  by_cases h : t.val % 32 = 0
  · rw [outsAt0_A m c t h]
    frame_out
    exact congrFun (canon_dgu m c t hr) y
  · rw [outsAt0_B m c t h]
    frame_out
    exact congrFun (canon_dgu m c t hr) y

/-- The cotangent of the normed row at grid point `t`. -/
abbrev dh (c : Dev nD) (t : Fin cfg0.N) := k0_pay70 (dguB m c t) (iblk m c 5 t)

set_option maxHeartbeats 2000000 in
open Cert.FfnReferenceIdeal.Read in
/-- The array that window 6 leaves is the reference's gradient of the block's input. -/
theorem arr6 (c : Dev nD) (hr : Fin4 m c) :
    (dats m 0 c).arrAt 6 cfg0.N = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  blk_simp
  rw [after0_6]
  have e : (outsAt0 m c t.val t.isLt).1 = k0_pay2 (iblk m c 0 t) (dh m c t) (iblk m c 2 t) (k0_pay71 (iblk m c 2 t)) (k0_pay72 (iblk m c 3 t)) (k0_pay73 (iblk m c 2 t)) := by
    by_cases h : t.val % 32 = 0
    · rw [outsAt0_A m c t h]
      frame_out
      erw [readCov_dgu m c t hr]
    · rw [outsAt0_B m c t h]
      frame_out
      erw [readCov_dgu m c t hr]
  rw [e]
  unfold dh
  idx_vars y
  unfold_payloads
  pointwise [dguB, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_call0_v0, val_main_call0_v1, val_main_call0_cst, val_main_call0_v2, val_main_call0_v3, val_main_call0_cst_0, val_main_call0_v4, val_main_v19_2, val_main_call0_cst_1, val_main_call0_v6, val_main_call0_v7, val_main_v19_1, val_main_v19_0, val_main_v20, val_main_v21, val_main_v22, val_main_v23, val_main_v24, val_main_call1_v0, val_main_call1_v1, val_main_call1_v2, val_main_v25, val_main_v27, val_main_v28, val_main_cst_3, val_main_v29, val_main_v30, val_main_v31, val_main_v32, val_main_cst_4, val_main_v33, val_main_v34, val_main_cst_5, val_main_v35, val_main_v36, val_main_v37, val_main_v38, val_main_v39, val_main_cst_6, val_main_v40, val_main_v41, val_main_cst_7, val_main_v42, val_main_v43, val_main_v44, val_main_v45, val_main_v46, val_main_v47, val_main_v48, val_main_v49]
  have key := Cert.Alg.rms_dx (fun x => iblk m c 2 t (ix2 y0 x)) (fun j => ∑ x, dguB m c t (ix2 y0 x) * iblk m c 5 t (ix2 x j)) (fun x => iblk m c 3 t (ix2 0 x)) y1
  pointwise [Cert.Alg.ms, dguB, val_main_v49] at key
  rw [key]
  simp only [Finset.univ_unique, Finset.sum_singleton, add_assoc]
  blk_point [iblk, V, idx t]

open Cert.FfnReferenceIdeal.Read in
/-- The array that window 8 leaves is the reference's gradient of the norm's gain. -/
theorem arr8 (c : Dev nD) (hr : Fin4 m c) :
    (dats m 0 c).arrAt 8 cfg0.N = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 8 _ (by decide +kernel) fun t hf y => ?_
  blk_simp
  rw [after0_8]
  have h1 : t.val % 32 = 31 := (flush0_8 t).mp hf
  rw [Pipeline.eq_sum_fin_of_reset_step_apply_of_flush (fun n h => (outsAt0 m c n h).2.2) 32 (fun _ => 0) (fun t => gainT (dh m c t) (iblk m c 2 t)) ?_ ?_ t h1 y]
  · unfold gainT dh Cert.Alg.ms
    idx_vars y
    unfold_payloads
    pointwise [dguB, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_call0_v0, val_main_call0_v1, val_main_call0_cst, val_main_call0_v2, val_main_call0_v3, val_main_call0_cst_0, val_main_call0_v4, val_main_v19_2, val_main_call0_cst_1, val_main_call0_v6, val_main_call0_v7, val_main_v19_1, val_main_v19_0, val_main_v20, val_main_v21, val_main_v22, val_main_v23, val_main_v24, val_main_call1_v0, val_main_call1_v1, val_main_call1_v2, val_main_v25, val_main_v27, val_main_v28, val_main_cst_3, val_main_v29, val_main_v30, val_main_v31, val_main_v32, val_main_cst_4, val_main_v33, val_main_v34, val_main_cst_5, val_main_v35, val_main_v36, val_main_v37, val_main_v38, val_main_v39, val_main_cst_6, val_main_v40, val_main_v41, val_main_cst_7, val_main_v42, val_main_v43, val_main_v44, val_main_v45, val_main_v46, val_main_v47, val_main_v48, val_main_v49, val_main_v50]
    simp only [Finset.univ_unique, Finset.sum_singleton]
    refine Fin.sum_mul_add_congr fun s k hl => ?_
    rw [mul_comm]
    have hs := s.isLt
    have i0 := idx ⟨32 * (t.val / 32) + s.val, Pipeline.run_point_lt_of_flush t h1 s⟩
    blk_point [iblk, V, i0, idx t]
  · intro t h j
    rw [outsAt0_A m c t h]
    frame_out
    erw [readCov_dgu m c t hr]
    unfold gainT dh Cert.Alg.ms
    unfold_payloads
    idx_vars j
    pointwise []
  · intro t h j
    rw [outsAt0_B m c t h]
    frame_out
    erw [readCov_dgu m c t hr]
    unfold gainT dh Cert.Alg.ms
    unfold_payloads
    idx_vars j
    pointwise []

end Cert.Ffn

end
-- ==== Proof.FfnPre.lean ====
/- What the precondition of the channel mixer says of its arrays. -/
module

public import proofs.«01_k».proof.Proof.Reals
public import proofs.«01_k».proof.Pre_ffn_finite
public import Idealize.ShloMosaic.Lib.ReduceAll

@[expose] public section

set_option maxRecDepth 16384

noncomputable section
namespace Cert.Ffn
open Idealize.ShloMosaic Idealize.SL.Sem
open Cert.Reals (R R.of_lt)

open Cert.Pre_ffn_finite in
/-- What the precondition says of the four arrays it names. -/
theorem of_pre [Cert.Pre_ffn_finite.Facts] (x0 x1 : FVec Ideal S8192x1024 .f32) (x2 : FVec Ideal S1024 .f32) (x3 : FVec Ideal S1024x5632 .f32) (x4 : FVec Ideal S2816x1024 .f32)
    (h : (fn (F := Ideal) x0 x1 x2 x3 x4).1 = (fun _ => 1#1) ∧ (fn (F := Ideal) x0 x1 x2 x3 x4).2.1 = (fun _ => 1#1)
      ∧ (fn (F := Ideal) x0 x1 x2 x3 x4).2.2.1 = (fun _ => 1#1) ∧ (fn (F := Ideal) x0 x1 x2 x3 x4).2.2.2 = (fun _ => 1#1)) :
    (∀ i, R (x0 i)) ∧ (∀ i, R (x2 i)) ∧ (∀ i, R (x3 i)) ∧ (∀ i, R (x4 i)) := by
  haveI : Subsingleton S_.Idx := ⟨fun a b => funext fun k => k.elim0⟩
  dsimp only [fn] at h
  obtain ⟨h0, h2, h3, h4⟩ := h
  have j : S_.Idx := fun k => k.elim0
  exact ⟨fun i => R.of_lt (Host.reduce_andi_all _ _ _ _ j (congrFun h0 j) i), fun i => R.of_lt (Host.reduce_andi_all _ _ _ _ j (congrFun h2 j) i),
    fun i => R.of_lt (Host.reduce_andi_all _ _ _ _ j (congrFun h3 j) i), fun i => R.of_lt (Host.reduce_andi_all _ _ _ _ j (congrFun h4 j) i)⟩
end Cert.Ffn

end
-- ==== Proof.Soft.lean ====
/- The soft maximum of a row of real scores and its gradient. -/
module

public import proofs.«01_k».proof.Proof.Reals

@[expose] public section

set_option maxRecDepth 16384

noncomputable section
namespace Cert.Soft
open Idealize.ShloMosaic
open Cert.Reals (R)

/-- The largest of the scores of a row. -/
def mx (s : Fin 256 → EReal) : EReal := Finset.fold max (Ideal.ofBits .f32 0xFF800000#32) s Finset.univ

/-- The soft maximum of a row of scores. -/
def sm (s : Fin 256 → EReal) (j : Fin 256) : EReal :=
  Ideal.div (Ideal.exp (s j - mx s)) (∑ k, Ideal.exp (s k - mx s))

/-- The gradient of the soft maximum of a row, from the cotangents `p` of its values. -/
def ds (s p : Fin 256 → EReal) (j : Fin 256) : EReal := sm s j * (p j - ∑ k, p k * sm s k)

/-- The word of minus infinity is the bottom. -/
theorem word_ninf : Ideal.ofBits .f32 0xFF800000#32 = ⊥ := by
  simp [Ideal.ofBits, Ideal.ieee]

/-- The float word of one sixteenth is a real. -/
theorem word_sixteenth : R (Ideal.ofBits .f32 0x3D800000#32) := by
  refine ⟨1 / 16, ?_⟩
  simp [Ideal.ofBits, Ideal.ieee, -EReal.coe_mul]
  norm_num

/-- Taking the larger of minus infinity and the largest changes nothing. -/
theorem mx_idem (s : Fin 256 → EReal) : max (Ideal.ofBits .f32 0xFF800000#32) (mx s) = mx s := by
  rw [word_ninf]
  exact max_eq_right bot_le

/-- The largest of a row of reals is real. -/
theorem mx_real (s : Fin 256 → EReal) (h : ∀ k, R (s k)) : R (mx s) := by
  obtain ⟨k, hk⟩ := Finite.exists_max s
  have e : mx s = s k := by
    unfold mx
    rw [word_ninf]
    refine le_antisymm ?_ ?_
    · exact (Finset.fold_max_le _).mpr ⟨bot_le, fun j _ => hk j⟩
    · exact (Finset.le_fold_max _).mpr (Or.inr ⟨k, Finset.mem_univ _, le_refl _⟩)
  rw [e]
  exact h k

/-- The gradient of the soft maximum as differentiation of the quotient writes it, on real scores and cotangents. -/
theorem ds_eq (s p : Fin 256 → EReal) (hs : ∀ k, R (s k)) (hp : ∀ k, R (p k)) (j : Fin 256) :
    (Ideal.div (p j) (∑ k, Ideal.exp (s k - mx s))
        + -(∑ k, p k * Ideal.div 1 ((∑ k, Ideal.exp (s k - mx s)) * (∑ k, Ideal.exp (s k - mx s))) * Ideal.exp (s k - mx s)))
      * Ideal.exp (s j - mx s) = ds s p j := by
  unfold ds sm
  obtain ⟨M, hM⟩ := mx_real s hs
  rw [hM]
  choose y hy using hs
  choose z hz using hp
  have he : ∀ k, Ideal.exp (s k - (M : EReal)) = ((Real.exp (y k - M) : ℝ) : EReal) := fun k => by
    rw [hy, ← EReal.coe_sub, Ideal.exp_coe]
  simp only [he, hz]
  have hZ : (∑ k, ((Real.exp (y k - M) : ℝ) : EReal)) = ((∑ k, Real.exp (y k - M) : ℝ) : EReal) := (Cert.Alg.coe_sum _ _).symm
  rw [hZ]
  have hpos : 0 < ∑ k, Real.exp (y k - M) := Finset.sum_pos (fun k _ => Real.exp_pos _) ⟨j, Finset.mem_univ _⟩
  generalize (∑ k, Real.exp (y k - M)) = Z at hpos
  have h0 : Z ≠ 0 := hpos.ne'
  have h1 : Z * Z ≠ 0 := mul_ne_zero h0 h0
  simp only [← EReal.coe_mul, Ideal.div_coe h0, Ideal.div_coe h1, one_mul]
  simp only [← EReal.coe_mul, ← Cert.Alg.coe_sum, ← EReal.coe_neg, ← EReal.coe_sub, ← EReal.coe_add]
  congr 1
  have e1 : (∑ k, z k * (1 / (Z * Z)) * Real.exp (y k - M)) = (1 / Z) * ∑ k, z k * (Real.exp (y k - M) * (1 / Z)) := by
    rw [Finset.mul_sum]
    exact Finset.sum_congr rfl fun k _ => by field_simp
  rw [e1]
  ring
end Cert.Soft

end
-- ==== Proof.Xref.lean ====
/- What the reference's lines of the cross attention compute, head by head. -/
module

public import proofs.«01_k».proof.Proof.Soft
public import proofs.«01_k».proof.Proof.Gen.XattnReferenceIdeal.Read
public import Idealize.ShloMosaic.Lib.Pointwise

@[expose] public section

set_option maxRecDepth 16384

noncomputable section
namespace Cert.Xref
open Idealize.ShloMosaic Idealize.ShloMosaic.TcCoe Idealize.SL.Sem
open Cert.XattnReferenceIdeal Cert.XattnReferenceIdeal.Gen Cert.XattnReferenceIdeal.Read
open Cert.Reals (R)

/-- The scores of a head are the products of queries and keys. -/
theorem r25 (x1 : (⟨S8192x1024, .f32⟩ : BufTy).Contents (Elt Ideal)) (x2 : (⟨S1024, .f32⟩ : BufTy).Contents (Elt Ideal)) (x3 : (⟨S256x2048, .bf16⟩ : BufTy).Contents (Elt Ideal)) (x4 : (⟨S1024x1024, .f32⟩ : BufTy).Contents (Elt Ideal)) (h : Fin 4) (r : Fin 8192) (j : Fin 256) :
    val_main_v25 (F := Ideal) x1 x2 x3 x4 (ix3 h r j) = ∑ d : Fin 256, (val_main_v20 (F := Ideal) x1 x2 x4 (ix3 r h d)) * x3 (ix2 j ⟨h.val * 256 + d.val, by omega⟩) := by
  pointwise [val_main_v25, val_main_v23, val_main_v21, val_main_v17]

/-- The largest score of a row. -/
theorem r26 (x1 : (⟨S8192x1024, .f32⟩ : BufTy).Contents (Elt Ideal)) (x2 : (⟨S1024, .f32⟩ : BufTy).Contents (Elt Ideal)) (x3 : (⟨S256x2048, .bf16⟩ : BufTy).Contents (Elt Ideal)) (x4 : (⟨S1024x1024, .f32⟩ : BufTy).Contents (Elt Ideal)) (h : Fin 4) (r : Fin 8192) :
    val_main_v26 (F := Ideal) x1 x2 x3 x4 (ix2 h r) = Finset.fold max (Ideal.ofBits .f32 0xFF800000#32) (fun j => (val_main_v25 (F := Ideal) x1 x2 x3 x4 (ix3 h r j))) Finset.univ := by
  pointwise [val_main_v26, val_main_cst_4]

/-- The exponentials of a row of scores. -/
theorem r46 (x1 : (⟨S8192x1024, .f32⟩ : BufTy).Contents (Elt Ideal)) (x2 : (⟨S1024, .f32⟩ : BufTy).Contents (Elt Ideal)) (x3 : (⟨S256x2048, .bf16⟩ : BufTy).Contents (Elt Ideal)) (x4 : (⟨S1024x1024, .f32⟩ : BufTy).Contents (Elt Ideal)) (h : Fin 4) (r : Fin 8192) (j : Fin 256) :
    val_main_v46 (F := Ideal) x1 x2 x3 x4 (ix3 h r j) = Ideal.exp ((val_main_v25 (F := Ideal) x1 x2 x3 x4 (ix3 h r j)) - max (Ideal.ofBits .f32 0xFF800000#32) (val_main_v26 (F := Ideal) x1 x2 x3 x4 (ix2 h r))) := by
  rw [val_main_v46_apply, val_main_v45_apply, val_main_v44_apply, val_main_v43_apply, val_main_v33_apply, val_main_v32_apply, val_main_cst_6_apply]
  have e : idx_main_v43 (idx_main_v44 (ix3 h r j)) = ix2 h r := by
    funext a
    match a with
    | ⟨0, _⟩ => rfl
    | ⟨1, _⟩ => rfl
  rw [e]
  generalize (val_main_v25 (F := Ideal) x1 x2 x3 x4 (ix3 h r j)) = a
  generalize (val_main_v26 (F := Ideal) x1 x2 x3 x4 (ix2 h r)) = b
  rfl

/-- Their sum. -/
theorem r47 (x1 : (⟨S8192x1024, .f32⟩ : BufTy).Contents (Elt Ideal)) (x2 : (⟨S1024, .f32⟩ : BufTy).Contents (Elt Ideal)) (x3 : (⟨S256x2048, .bf16⟩ : BufTy).Contents (Elt Ideal)) (x4 : (⟨S1024x1024, .f32⟩ : BufTy).Contents (Elt Ideal)) (h : Fin 4) (r : Fin 8192) :
    val_main_v47 (F := Ideal) x1 x2 x3 x4 (ix2 h r) = ∑ k : Fin 256, (val_main_v46 (F := Ideal) x1 x2 x3 x4 (ix3 h r k)) := by
  pointwise [val_main_v47, val_main_cst_12]

/-- The attention weights of a row. -/
theorem r50 (x1 : (⟨S8192x1024, .f32⟩ : BufTy).Contents (Elt Ideal)) (x2 : (⟨S1024, .f32⟩ : BufTy).Contents (Elt Ideal)) (x3 : (⟨S256x2048, .bf16⟩ : BufTy).Contents (Elt Ideal)) (x4 : (⟨S1024x1024, .f32⟩ : BufTy).Contents (Elt Ideal)) (h : Fin 4) (r : Fin 8192) (j : Fin 256) :
    val_main_v50 (F := Ideal) x1 x2 x3 x4 (ix3 h r j) = Ideal.div (val_main_v46 (F := Ideal) x1 x2 x3 x4 (ix3 h r j)) (val_main_v47 (F := Ideal) x1 x2 x3 x4 (ix2 h r)) := by
  pointwise [val_main_v50, val_main_v49, val_main_v48]

/-- The cotangents of the attention weights. -/
theorem r61 (x0 : (⟨S8192x1024, .f32⟩ : BufTy).Contents (Elt Ideal)) (x3 : (⟨S256x2048, .bf16⟩ : BufTy).Contents (Elt Ideal)) (x5 : (⟨S1024x1024, .f32⟩ : BufTy).Contents (Elt Ideal)) (h : Fin 4) (r : Fin 8192) (j : Fin 256) :
    val_main_v61 (F := Ideal) x0 x3 x5 (ix3 h r j) = ∑ d : Fin 256, (val_main_v58 (F := Ideal) x0 x5 (ix2 r ⟨h.val * 256 + d.val, by omega⟩)) * x3 (ix2 j ⟨1024 + (h.val * 256 + d.val), by omega⟩) := by
  pointwise [val_main_v61, val_main_v60, val_main_v59, val_main_v24, val_main_v22, val_main_v17]

/-- The gradient of the scores, as differentiation writes it. -/
theorem r75 (x0 x1 : (⟨S8192x1024, .f32⟩ : BufTy).Contents (Elt Ideal)) (x2 : (⟨S1024, .f32⟩ : BufTy).Contents (Elt Ideal)) (x3 : (⟨S256x2048, .bf16⟩ : BufTy).Contents (Elt Ideal)) (x4 x5 : (⟨S1024x1024, .f32⟩ : BufTy).Contents (Elt Ideal)) (h : Fin 4) (r : Fin 8192) (j : Fin 256) :
    val_main_v75 (F := Ideal) x0 x1 x2 x3 x4 x5 (ix3 h r j) = (Ideal.div (val_main_v61 (F := Ideal) x0 x3 x5 (ix3 h r j)) (val_main_v47 (F := Ideal) x1 x2 x3 x4 (ix2 h r)) + -(∑ k : Fin 256, (val_main_v61 (F := Ideal) x0 x3 x5 (ix3 h r k)) * Ideal.div 1 ((val_main_v47 (F := Ideal) x1 x2 x3 x4 (ix2 h r)) * (val_main_v47 (F := Ideal) x1 x2 x3 x4 (ix2 h r))) * (val_main_v46 (F := Ideal) x1 x2 x3 x4 (ix3 h r k)))) * (val_main_v46 (F := Ideal) x1 x2 x3 x4 (ix3 h r j)) := by
  pointwise [val_main_v62, val_main_v63, val_main_v64, val_main_v65, val_main_v66, val_main_v67, val_main_v68, val_main_v69, val_main_v70, val_main_v71, val_main_v72, val_main_v73, val_main_v74, val_main_v75, val_main_v48, val_main_v51, val_main_v52, val_main_v53, val_main_cst_13, val_main_cst_14, val_main_cst_15]
  simp only [Finset.univ_unique, Finset.sum_singleton]

/-- The exponentials of a row, by the largest score. -/
theorem r46' (x1 : (⟨S8192x1024, .f32⟩ : BufTy).Contents (Elt Ideal)) (x2 : (⟨S1024, .f32⟩ : BufTy).Contents (Elt Ideal)) (x3 : (⟨S256x2048, .bf16⟩ : BufTy).Contents (Elt Ideal)) (x4 : (⟨S1024x1024, .f32⟩ : BufTy).Contents (Elt Ideal)) (h : Fin 4) (r : Fin 8192) (j : Fin 256) :
    val_main_v46 (F := Ideal) x1 x2 x3 x4 (ix3 h r j) = Ideal.exp ((val_main_v25 (F := Ideal) x1 x2 x3 x4 (ix3 h r j)) - Cert.Soft.mx (fun j => (val_main_v25 (F := Ideal) x1 x2 x3 x4 (ix3 h r j)))) := by
  rw [r46, r26]
  exact congrArg (fun z => Ideal.exp (val_main_v25 (F := Ideal) x1 x2 x3 x4 (ix3 h r j) - z)) (Cert.Soft.mx_idem _)

/-- The sum of the exponentials of a row. -/
theorem r47' (x1 : (⟨S8192x1024, .f32⟩ : BufTy).Contents (Elt Ideal)) (x2 : (⟨S1024, .f32⟩ : BufTy).Contents (Elt Ideal)) (x3 : (⟨S256x2048, .bf16⟩ : BufTy).Contents (Elt Ideal)) (x4 : (⟨S1024x1024, .f32⟩ : BufTy).Contents (Elt Ideal)) (h : Fin 4) (r : Fin 8192) :
    val_main_v47 (F := Ideal) x1 x2 x3 x4 (ix2 h r) = ∑ k : Fin 256, Ideal.exp ((val_main_v25 (F := Ideal) x1 x2 x3 x4 (ix3 h r k)) - Cert.Soft.mx (fun j => (val_main_v25 (F := Ideal) x1 x2 x3 x4 (ix3 h r j)))) := by
  rw [r47]
  exact Finset.sum_congr rfl fun k _ => r46' x1 x2 x3 x4 h r k

/-- The attention weights of a row are the soft maximum of its scores. -/
theorem rP (x1 : (⟨S8192x1024, .f32⟩ : BufTy).Contents (Elt Ideal)) (x2 : (⟨S1024, .f32⟩ : BufTy).Contents (Elt Ideal)) (x3 : (⟨S256x2048, .bf16⟩ : BufTy).Contents (Elt Ideal)) (x4 : (⟨S1024x1024, .f32⟩ : BufTy).Contents (Elt Ideal)) (h : Fin 4) (r : Fin 8192) (j : Fin 256) :
    val_main_v50 (F := Ideal) x1 x2 x3 x4 (ix3 h r j) = Cert.Soft.sm (fun j => (val_main_v25 (F := Ideal) x1 x2 x3 x4 (ix3 h r j))) j := by
  rw [r50, r46', r47']
  rfl

/-- The queries, from the product of the normed row. -/
theorem rq (x1 : (⟨S8192x1024, .f32⟩ : BufTy).Contents (Elt Ideal)) (x2 : (⟨S1024, .f32⟩ : BufTy).Contents (Elt Ideal)) (x4 : (⟨S1024x1024, .f32⟩ : BufTy).Contents (Elt Ideal)) (r : Fin 8192) (h : Fin 4) (d : Fin 256) :
    val_main_v20 (F := Ideal) x1 x2 x4 (ix3 r h d) = val_main_v16 (F := Ideal) x1 x2 x4 (ix2 r ⟨h.val * 256 + d.val, by omega⟩) * Ideal.ofBits .f32 0x3D800000#32 := by
  pointwise [val_main_v20, val_main_v18, val_main_v19, val_main_cst_3]

/-- The product of the normed row is real where the gain and the weight are. -/
theorem v16_real (x1 : (⟨S8192x1024, .f32⟩ : BufTy).Contents (Elt Ideal)) (x2 : (⟨S1024, .f32⟩ : BufTy).Contents (Elt Ideal)) (x4 : (⟨S1024x1024, .f32⟩ : BufTy).Contents (Elt Ideal)) (h2 : ∀ i, R (x2 i)) (h4 : ∀ i, R (x4 i)) (r : Fin 8192) (j : Fin 1024) :
    R (val_main_v16 (F := Ideal) x1 x2 x4 (ix2 r j)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_cst_2]
  refine R.sum fun x => R.mul (R.mul ?_ (h2 _)) (h4 _)
  have key := Cert.Reals.norm_real (fun x => x1 (ix2 r x)) x
  unfold Cert.Alg.ms at key
  exact key

/-- The scores are real where the gain, the weight and the keys are. -/
theorem v25_real (x1 : (⟨S8192x1024, .f32⟩ : BufTy).Contents (Elt Ideal)) (x2 : (⟨S1024, .f32⟩ : BufTy).Contents (Elt Ideal)) (x3 : (⟨S256x2048, .bf16⟩ : BufTy).Contents (Elt Ideal)) (x4 : (⟨S1024x1024, .f32⟩ : BufTy).Contents (Elt Ideal)) (h2 : ∀ i, R (x2 i)) (h3 : ∀ i, R (x3 i)) (h4 : ∀ i, R (x4 i)) (h : Fin 4) (r : Fin 8192) (j : Fin 256) :
    R (val_main_v25 (F := Ideal) x1 x2 x3 x4 (ix3 h r j)) := by
  rw [r25]
  refine R.sum fun d => R.mul ?_ (h3 _)
  rw [rq]
  exact R.mul (v16_real _ _ _ h2 h4 _ _) Cert.Soft.word_sixteenth

/-- The product of the incoming gradient with the output weight. -/
theorem r58 (x0 : (⟨S8192x1024, .f32⟩ : BufTy).Contents (Elt Ideal)) (x5 : (⟨S1024x1024, .f32⟩ : BufTy).Contents (Elt Ideal)) (r : Fin 8192) (j : Fin 1024) :
    val_main_v58 (F := Ideal) x0 x5 (ix2 r j) = ∑ k : Fin 1024, x0 (ix2 r k) * x5 (ix2 j k) := by
  pointwise [val_main_v58]

/-- The cotangents of the attention weights are real where the incoming gradient, the output weight and the values are. -/
theorem v61_real (x0 : (⟨S8192x1024, .f32⟩ : BufTy).Contents (Elt Ideal)) (x3 : (⟨S256x2048, .bf16⟩ : BufTy).Contents (Elt Ideal)) (x5 : (⟨S1024x1024, .f32⟩ : BufTy).Contents (Elt Ideal)) (h0 : ∀ i, R (x0 i)) (h3 : ∀ i, R (x3 i)) (h5 : ∀ i, R (x5 i)) (h : Fin 4) (r : Fin 8192) (j : Fin 256) :
    R (val_main_v61 (F := Ideal) x0 x3 x5 (ix3 h r j)) := by
  rw [r61]
  refine R.sum fun d => R.mul ?_ (h3 _)
  rw [r58]
  exact R.sum fun k => R.mul (h0 _) (h5 _)

/-- The gradient of the scores of a row is the gradient of the soft maximum, where what it is made of is real. -/
theorem rD (x0 x1 : (⟨S8192x1024, .f32⟩ : BufTy).Contents (Elt Ideal)) (x2 : (⟨S1024, .f32⟩ : BufTy).Contents (Elt Ideal)) (x3 : (⟨S256x2048, .bf16⟩ : BufTy).Contents (Elt Ideal)) (x4 x5 : (⟨S1024x1024, .f32⟩ : BufTy).Contents (Elt Ideal)) (h0 : ∀ i, R (x0 i)) (h2 : ∀ i, R (x2 i)) (h3 : ∀ i, R (x3 i)) (h4 : ∀ i, R (x4 i)) (h5 : ∀ i, R (x5 i)) (h : Fin 4) (r : Fin 8192) (j : Fin 256) :
    val_main_v75 (F := Ideal) x0 x1 x2 x3 x4 x5 (ix3 h r j) = Cert.Soft.ds (fun j => (val_main_v25 (F := Ideal) x1 x2 x3 x4 (ix3 h r j))) (fun j => (val_main_v61 (F := Ideal) x0 x3 x5 (ix3 h r j))) j := by
  rw [r75, r46', r47', ← Cert.Soft.ds_eq _ _ (fun k => v25_real _ _ _ _ h2 h3 h4 h r k) (fun k => v61_real _ _ _ h0 h3 h5 h r k) j]
  simp only [r46']

/-- The gradient of the queries' product, from the gradient of the scores. -/
theorem r108 (x0 x1 : (⟨S8192x1024, .f32⟩ : BufTy).Contents (Elt Ideal)) (x2 : (⟨S1024, .f32⟩ : BufTy).Contents (Elt Ideal)) (x3 : (⟨S256x2048, .bf16⟩ : BufTy).Contents (Elt Ideal)) (x4 x5 : (⟨S1024x1024, .f32⟩ : BufTy).Contents (Elt Ideal)) (h : Fin 4) (r : Fin 8192) (d : Fin 256) :
    val_main_v108 (F := Ideal) x0 x1 x2 x3 x4 x5 (ix2 r ⟨h.val * 256 + d.val, by omega⟩) = (∑ j : Fin 256, (val_main_v75 (F := Ideal) x0 x1 x2 x3 x4 x5 (ix3 h r j)) * x3 (ix2 j ⟨h.val * 256 + d.val, by omega⟩)) * Ideal.ofBits .f32 0x3D800000#32 := by
  pointwise [val_main_v108, val_main_v85, val_main_v84, val_main_v83, val_main_cst_16, val_main_v79, val_main_v78, val_main_v23, val_main_v21, val_main_v17]

/-- The gradient of the keys. -/
theorem r82k (x0 x1 : (⟨S8192x1024, .f32⟩ : BufTy).Contents (Elt Ideal)) (x2 : (⟨S1024, .f32⟩ : BufTy).Contents (Elt Ideal)) (x3 : (⟨S256x2048, .bf16⟩ : BufTy).Contents (Elt Ideal)) (x4 x5 : (⟨S1024x1024, .f32⟩ : BufTy).Contents (Elt Ideal)) (h : Fin 4) (j : Fin 256) (d : Fin 256) :
    val_main_v82 (F := Ideal) x0 x1 x2 x3 x4 x5 (ix2 j ⟨h.val * 256 + d.val, by omega⟩) = ∑ r : Fin 8192, (val_main_v75 (F := Ideal) x0 x1 x2 x3 x4 x5 (ix3 h r j)) * (val_main_v20 (F := Ideal) x1 x2 x4 (ix3 r h d)) := by
  pointwise [val_main_v82, val_main_v81, val_main_v77, val_main_v76]
  rw [dif_pos (by omega)]

/-- The gradient of the values. -/
theorem r82v (x0 x1 : (⟨S8192x1024, .f32⟩ : BufTy).Contents (Elt Ideal)) (x2 : (⟨S1024, .f32⟩ : BufTy).Contents (Elt Ideal)) (x3 : (⟨S256x2048, .bf16⟩ : BufTy).Contents (Elt Ideal)) (x4 x5 : (⟨S1024x1024, .f32⟩ : BufTy).Contents (Elt Ideal)) (h : Fin 4) (j : Fin 256) (d : Fin 256) :
    val_main_v82 (F := Ideal) x0 x1 x2 x3 x4 x5 (ix2 j ⟨1024 + (h.val * 256 + d.val), by omega⟩) = ∑ r : Fin 8192, (val_main_v58 (F := Ideal) x0 x5 (ix2 r ⟨h.val * 256 + d.val, by omega⟩)) * (val_main_v50 (F := Ideal) x1 x2 x3 x4 (ix3 h r j)) := by
  pointwise [val_main_v82, val_main_v80, val_main_v63, val_main_v62, val_main_v60, val_main_v59]
end Cert.Xref

end
-- ==== Proof.Xattn.lean ====
/- The gradient of the attention into the memory tokens and of the norm before it: the kernel's blocks as the reference's values. -/
module

public import proofs.«01_k».proof.Proof.Alg
public import proofs.«01_k».proof.Proof.Soft
public import proofs.«01_k».proof.Proof.Xref
public import proofs.«01_k».proof.Proof.Gen.XattnKernelIdeal.Value
public import proofs.«01_k».proof.Proof.Gen.XattnReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section
namespace Cert.Xattn
open Cert.XattnKernelIdeal Cert.XattnKernelIdeal.Gen Idealize.ShloMosaic Idealize.ShloMosaic.TcCoe Idealize.SL.Sem
open Cert.Reals (R)
variable (m : (ℓ : Loc nD τ sig) → Buf (Elt Ideal) ℓ)

/-- The blocks that a grid point takes of the eleven windows. -/
theorem idx : ∀ t : Fin cfg0.N,
    win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_7.index t = ![t.val, 0] ∧ win0_8.index t = ![t.val, 0]
    ∧ win0_9.index t = ![0, 0] ∧ win0_10.index t = ![0, 0] :=
  (by decide +kernel : ∀ t : Fin grid0.N, _)

/-- The row of the whole array that row `r` of block `t` is. -/
abbrev row (t : Fin cfg0.N) (r : Fin 512) : Fin 8192 :=
  ⟨512 * t.val + r.val, by have h : t.val < 16 := t.isLt; have := r.isLt; omega⟩

/-- The arrays whose elements have to be real. -/
structure Fin5 (c : Dev nD) : Prop where
  a0 : ∀ i, R ((m ((c.tc : Thread nD τ).loc main_arg0)) i)
  a2 : ∀ i, R ((m ((c.tc : Thread nD τ).loc main_arg2)) i)
  a3 : ∀ i, R ((m ((c.tc : Thread nD τ).loc main_arg3)) i)
  a4 : ∀ i, R ((m ((c.tc : Thread nD τ).loc main_arg4)) i)
  a5 : ∀ i, R ((m ((c.tc : Thread nD τ).loc main_arg5)) i)

/-- The scores of row `r` of block `t`, of the head whose columns begin at `o`. -/
def kS (c : Dev nD) (t : Fin cfg0.N) (r : Fin 512) (o : ℕ) (ho : o + 256 ≤ 1024) (j : Fin 256) : EReal :=
  ∑ d : Fin 256, (show EReal from iblk m c 2 t (ix2 r ⟨o + d.val, by omega⟩)) * (show EReal from iblk m c 6 t (ix2 j ⟨o + d.val, by omega⟩))

/-- The cotangents of the attention weights of row `r` of block `t`, of the head whose columns begin at `o`. -/
def kD (c : Dev nD) (t : Fin cfg0.N) (r : Fin 512) (o : ℕ) (ho : o + 256 ≤ 1024) (j : Fin 256) : EReal :=
  ∑ d : Fin 256, (show EReal from k0_pay4 (iblk m c 0 t) (iblk m c 5 t) (ix2 r ⟨o + d.val, by omega⟩)) * (show EReal from iblk m c 6 t (ix2 j ⟨1024 + o + d.val, by omega⟩))

/-- The attention weights of head 0 are the soft maximum of its scores. -/
theorem kP0 (c : Dev nD) (t : Fin cfg0.N) (r : Fin 512) (j : Fin 256) :
    (show EReal from (k0_pay5 (iblk m c 2 t) (View.ld (iblk m c 6 t) (Rect.unit ![0, 0] ![256, 256] inb_S256x2048_S256x256_0_0))) (ix2 r j)) = Cert.Soft.sm (kS m c t r 0 (by omega)) j := by
  unfold Cert.Soft.sm Cert.Soft.mx kS
  unfold_payloads
  pointwise []

/-- The gradient of the scores of head 0 is the gradient of the soft maximum. -/
theorem kD0 (c : Dev nD) (t : Fin cfg0.N) (r : Fin 512) (j : Fin 256) :
    (show EReal from (k0_pay6 (iblk m c 0 t) (iblk m c 2 t) (iblk m c 5 t) (View.ld (iblk m c 6 t) (Rect.unit ![0, 0] ![256, 256] inb_S256x2048_S256x256_0_0)) (View.ld (iblk m c 6 t) (Rect.unit ![0, 1024] ![256, 256] inb_S256x2048_S256x256_0_1024))) (ix2 r j)) = Cert.Soft.ds (kS m c t r 0 (by omega)) (kD m c t r 0 (by omega)) j := by
  unfold Cert.Soft.ds Cert.Soft.sm Cert.Soft.mx kS kD
  unfold_payloads
  pointwise []

/-- The attention weights of head 1 are the soft maximum of its scores. -/
theorem kP1 (c : Dev nD) (t : Fin cfg0.N) (r : Fin 512) (j : Fin 256) :
    (show EReal from (k0_pay12 (k0_pay3 (iblk m c 2 t)) (View.ld (iblk m c 6 t) (Rect.unit ![0, 256] ![256, 256] inb_S256x2048_S256x256_0_256))) (ix2 r j)) = Cert.Soft.sm (kS m c t r 256 (by omega)) j := by
  unfold Cert.Soft.sm Cert.Soft.mx kS
  unfold_payloads
  pointwise []

/-- The gradient of the scores of head 1 is the gradient of the soft maximum. -/
theorem kD1 (c : Dev nD) (t : Fin cfg0.N) (r : Fin 512) (j : Fin 256) :
    (show EReal from (k0_pay14 (k0_pay12 (k0_pay3 (iblk m c 2 t)) (View.ld (iblk m c 6 t) (Rect.unit ![0, 256] ![256, 256] inb_S256x2048_S256x256_0_256))) (k0_pay13 (k0_pay3 (iblk m c 2 t)) (k0_pay4 (iblk m c 0 t) (iblk m c 5 t)) (View.ld (iblk m c 6 t) (Rect.unit ![0, 256] ![256, 256] inb_S256x2048_S256x256_0_256)) (View.ld (iblk m c 6 t) (Rect.unit ![0, 1280] ![256, 256] inb_S256x2048_S256x256_0_1280)))) (ix2 r j)) = Cert.Soft.ds (kS m c t r 256 (by omega)) (kD m c t r 256 (by omega)) j := by
  unfold Cert.Soft.ds Cert.Soft.sm Cert.Soft.mx kS kD
  unfold_payloads
  pointwise []

/-- The attention weights of head 2 are the soft maximum of its scores. -/
theorem kP2 (c : Dev nD) (t : Fin cfg0.N) (r : Fin 512) (j : Fin 256) :
    (show EReal from (k0_pay18 (k0_pay3 (iblk m c 2 t)) (View.ld (iblk m c 6 t) (Rect.unit ![0, 512] ![256, 256] inb_S256x2048_S256x256_0_512))) (ix2 r j)) = Cert.Soft.sm (kS m c t r 512 (by omega)) j := by
  unfold Cert.Soft.sm Cert.Soft.mx kS
  unfold_payloads
  pointwise []

/-- The gradient of the scores of head 2 is the gradient of the soft maximum. -/
theorem kD2 (c : Dev nD) (t : Fin cfg0.N) (r : Fin 512) (j : Fin 256) :
    (show EReal from (k0_pay20 (k0_pay18 (k0_pay3 (iblk m c 2 t)) (View.ld (iblk m c 6 t) (Rect.unit ![0, 512] ![256, 256] inb_S256x2048_S256x256_0_512))) (k0_pay19 (k0_pay4 (iblk m c 0 t) (iblk m c 5 t))) (View.ld (iblk m c 6 t) (Rect.unit ![0, 1536] ![256, 256] inb_S256x2048_S256x256_0_1536))) (ix2 r j)) = Cert.Soft.ds (kS m c t r 512 (by omega)) (kD m c t r 512 (by omega)) j := by
  unfold Cert.Soft.ds Cert.Soft.sm Cert.Soft.mx kS kD
  unfold_payloads
  pointwise []

/-- The attention weights of head 3 are the soft maximum of its scores. -/
theorem kP3 (c : Dev nD) (t : Fin cfg0.N) (r : Fin 512) (j : Fin 256) :
    (show EReal from (k0_pay25 (k0_pay24 (k0_pay3 (iblk m c 2 t)) (View.ld (iblk m c 6 t) (Rect.unit ![0, 768] ![256, 256] inb_S256x2048_S256x256_0_768)))) (ix2 r j)) = Cert.Soft.sm (kS m c t r 768 (by omega)) j := by
  unfold Cert.Soft.sm Cert.Soft.mx kS
  unfold_payloads
  pointwise []

/-- The gradient of the scores of head 3 is the gradient of the soft maximum. -/
theorem kD3 (c : Dev nD) (t : Fin cfg0.N) (r : Fin 512) (j : Fin 256) :
    (show EReal from (k0_pay26 (k0_pay4 (iblk m c 0 t) (iblk m c 5 t)) (k0_pay24 (k0_pay3 (iblk m c 2 t)) (View.ld (iblk m c 6 t) (Rect.unit ![0, 768] ![256, 256] inb_S256x2048_S256x256_0_768))) (View.ld (iblk m c 6 t) (Rect.unit ![0, 1792] ![256, 256] inb_S256x2048_S256x256_0_1792))) (ix2 r j)) = Cert.Soft.ds (kS m c t r 768 (by omega)) (kD m c t r 768 (by omega)) j := by
  unfold Cert.Soft.ds Cert.Soft.sm Cert.Soft.mx kS kD
  unfold_payloads
  pointwise []

open Cert.XattnReferenceIdeal.Read in
/-- The saved queries are the reference's own. -/
theorem qx (c : Dev nD) (i : S8192x1024.Idx) :
    (V m c main_v16 i : EReal) = val_main_v16 (F := Ideal) (m ((c.tc : Thread nD τ).loc main_arg1)) (m ((c.tc : Thread nD τ).loc main_arg2)) (m ((c.tc : Thread nD τ).loc main_arg4)) i * Ideal.ofBits .f32 0x3D800000#32 := by
  unfold_abbrev_sides
  after_results
  rfl

open Cert.XattnReferenceIdeal.Read in
/-- The block of the saved queries, from the reference. -/
theorem blkq (c : Dev nD) (t : Fin cfg0.N) (r : Fin 512) (h : Fin 4) (d : Fin 256) :
    (show EReal from iblk m c 2 t (ix2 r ⟨h.val * 256 + d.val, by omega⟩)) = val_main_v20 (F := Ideal) (m ((c.tc : Thread nD τ).loc main_arg1)) (m ((c.tc : Thread nD τ).loc main_arg2)) (m ((c.tc : Thread nD τ).loc main_arg4)) (ix3 (row t r) h d) := by
  rw [Cert.Xref.rq, ← qx]
  blk_point [iblk, idx t]

/-- The block of the keys and values. -/
theorem blkkv (c : Dev nD) (t : Fin cfg0.N) (y : S256x2048.Idx) :
    (show EReal from iblk m c 6 t y) = (m ((c.tc : Thread nD τ).loc main_arg3)) y := by
  blk_point [iblk, V, idx t]

open Cert.XattnReferenceIdeal.Read in
/-- The cotangent of the attended values, from the reference. -/
theorem blkdo (c : Dev nD) (t : Fin cfg0.N) (r : Fin 512) (j : Fin 1024) :
    (show EReal from k0_pay4 (iblk m c 0 t) (iblk m c 5 t) (ix2 r j)) = val_main_v58 (F := Ideal) (m ((c.tc : Thread nD τ).loc main_arg0)) (m ((c.tc : Thread nD τ).loc main_arg5)) (ix2 (row t r) j) := by
  rw [Cert.Xref.r58]
  unfold_payloads
  pointwise []
  blk_point [iblk, V, idx t]

open Cert.XattnReferenceIdeal.Read in
/-- The scores, from the reference. -/
theorem kS_eq (c : Dev nD) (t : Fin cfg0.N) (r : Fin 512) (h : Fin 4) (o : ℕ) (ho : o + 256 ≤ 1024) (e : o = h.val * 256) :
    kS m c t r o ho = fun j => val_main_v25 (F := Ideal) (m ((c.tc : Thread nD τ).loc main_arg1)) (m ((c.tc : Thread nD τ).loc main_arg2)) (m ((c.tc : Thread nD τ).loc main_arg3)) (m ((c.tc : Thread nD τ).loc main_arg4)) (ix3 h (row t r) j) := by
  subst e
  funext j
  unfold kS
  rw [Cert.Xref.r25]
  refine Finset.sum_congr rfl fun d _ => ?_
  rw [blkq, blkkv]

open Cert.XattnReferenceIdeal.Read in
/-- The cotangents of the attention weights, from the reference. -/
theorem kD_eq (c : Dev nD) (t : Fin cfg0.N) (r : Fin 512) (h : Fin 4) (o : ℕ) (ho : o + 256 ≤ 1024) (e : o = h.val * 256) :
    kD m c t r o ho = fun j => val_main_v61 (F := Ideal) (m ((c.tc : Thread nD τ).loc main_arg0)) (m ((c.tc : Thread nD τ).loc main_arg3)) (m ((c.tc : Thread nD τ).loc main_arg5)) (ix3 h (row t r) j) := by
  subst e
  funext j
  unfold kD
  rw [Cert.Xref.r61]
  refine Finset.sum_congr rfl fun d _ => ?_
  rw [blkdo, blkkv]
  simp only [add_assoc]

open Cert.XattnReferenceIdeal.Read in
/-- The attention weights of head 0, from the reference. -/
theorem P0 (c : Dev nD) (t : Fin cfg0.N) :
    (k0_pay5 (iblk m c 2 t) (View.ld (iblk m c 6 t) (Rect.unit ![0, 0] ![256, 256] inb_S256x2048_S256x256_0_0))) = fun y => val_main_v50 (F := Ideal) (m ((c.tc : Thread nD τ).loc main_arg1)) (m ((c.tc : Thread nD τ).loc main_arg2)) (m ((c.tc : Thread nD τ).loc main_arg3)) (m ((c.tc : Thread nD τ).loc main_arg4)) (ix3 0 (row t (y 0)) (y 1)) := by
  funext y
  idx_vars y
  refine (kP0 m c t y0 y1).trans ?_
  rw [kS_eq m c t y0 0 0 (by omega) rfl]
  exact (Cert.Xref.rP _ _ _ _ 0 (row t y0) y1).symm

open Cert.XattnReferenceIdeal.Read in
/-- The gradient of the scores of head 0, from the reference. -/
theorem D0 (c : Dev nD) (t : Fin cfg0.N) (hf : Fin5 m c) :
    (k0_pay6 (iblk m c 0 t) (iblk m c 2 t) (iblk m c 5 t) (View.ld (iblk m c 6 t) (Rect.unit ![0, 0] ![256, 256] inb_S256x2048_S256x256_0_0)) (View.ld (iblk m c 6 t) (Rect.unit ![0, 1024] ![256, 256] inb_S256x2048_S256x256_0_1024))) = fun y => val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix3 0 (row t (y 0)) (y 1)) := by
  funext y
  idx_vars y
  refine (kD0 m c t y0 y1).trans ?_
  rw [kS_eq m c t y0 0 0 (by omega) rfl, kD_eq m c t y0 0 0 (by omega) rfl]
  exact (Cert.Xref.rD _ _ _ _ _ _ hf.a0 hf.a2 hf.a3 hf.a4 hf.a5 0 (row t y0) y1).symm

open Cert.XattnReferenceIdeal.Read in
/-- The attention weights of head 1, from the reference. -/
theorem P1 (c : Dev nD) (t : Fin cfg0.N) :
    (k0_pay12 (k0_pay3 (iblk m c 2 t)) (View.ld (iblk m c 6 t) (Rect.unit ![0, 256] ![256, 256] inb_S256x2048_S256x256_0_256))) = fun y => val_main_v50 (F := Ideal) (m ((c.tc : Thread nD τ).loc main_arg1)) (m ((c.tc : Thread nD τ).loc main_arg2)) (m ((c.tc : Thread nD τ).loc main_arg3)) (m ((c.tc : Thread nD τ).loc main_arg4)) (ix3 1 (row t (y 0)) (y 1)) := by
  funext y
  idx_vars y
  refine (kP1 m c t y0 y1).trans ?_
  rw [kS_eq m c t y0 1 256 (by omega) rfl]
  exact (Cert.Xref.rP _ _ _ _ 1 (row t y0) y1).symm

open Cert.XattnReferenceIdeal.Read in
/-- The gradient of the scores of head 1, from the reference. -/
theorem D1 (c : Dev nD) (t : Fin cfg0.N) (hf : Fin5 m c) :
    (k0_pay14 (k0_pay12 (k0_pay3 (iblk m c 2 t)) (View.ld (iblk m c 6 t) (Rect.unit ![0, 256] ![256, 256] inb_S256x2048_S256x256_0_256))) (k0_pay13 (k0_pay3 (iblk m c 2 t)) (k0_pay4 (iblk m c 0 t) (iblk m c 5 t)) (View.ld (iblk m c 6 t) (Rect.unit ![0, 256] ![256, 256] inb_S256x2048_S256x256_0_256)) (View.ld (iblk m c 6 t) (Rect.unit ![0, 1280] ![256, 256] inb_S256x2048_S256x256_0_1280)))) = fun y => val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix3 1 (row t (y 0)) (y 1)) := by
  funext y
  idx_vars y
  refine (kD1 m c t y0 y1).trans ?_
  rw [kS_eq m c t y0 1 256 (by omega) rfl, kD_eq m c t y0 1 256 (by omega) rfl]
  exact (Cert.Xref.rD _ _ _ _ _ _ hf.a0 hf.a2 hf.a3 hf.a4 hf.a5 1 (row t y0) y1).symm

open Cert.XattnReferenceIdeal.Read in
/-- The attention weights of head 2, from the reference. -/
theorem P2 (c : Dev nD) (t : Fin cfg0.N) :
    (k0_pay18 (k0_pay3 (iblk m c 2 t)) (View.ld (iblk m c 6 t) (Rect.unit ![0, 512] ![256, 256] inb_S256x2048_S256x256_0_512))) = fun y => val_main_v50 (F := Ideal) (m ((c.tc : Thread nD τ).loc main_arg1)) (m ((c.tc : Thread nD τ).loc main_arg2)) (m ((c.tc : Thread nD τ).loc main_arg3)) (m ((c.tc : Thread nD τ).loc main_arg4)) (ix3 2 (row t (y 0)) (y 1)) := by
  funext y
  idx_vars y
  refine (kP2 m c t y0 y1).trans ?_
  rw [kS_eq m c t y0 2 512 (by omega) rfl]
  exact (Cert.Xref.rP _ _ _ _ 2 (row t y0) y1).symm

open Cert.XattnReferenceIdeal.Read in
/-- The gradient of the scores of head 2, from the reference. -/
theorem D2 (c : Dev nD) (t : Fin cfg0.N) (hf : Fin5 m c) :
    (k0_pay20 (k0_pay18 (k0_pay3 (iblk m c 2 t)) (View.ld (iblk m c 6 t) (Rect.unit ![0, 512] ![256, 256] inb_S256x2048_S256x256_0_512))) (k0_pay19 (k0_pay4 (iblk m c 0 t) (iblk m c 5 t))) (View.ld (iblk m c 6 t) (Rect.unit ![0, 1536] ![256, 256] inb_S256x2048_S256x256_0_1536))) = fun y => val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix3 2 (row t (y 0)) (y 1)) := by
  funext y
  idx_vars y
  refine (kD2 m c t y0 y1).trans ?_
  rw [kS_eq m c t y0 2 512 (by omega) rfl, kD_eq m c t y0 2 512 (by omega) rfl]
  exact (Cert.Xref.rD _ _ _ _ _ _ hf.a0 hf.a2 hf.a3 hf.a4 hf.a5 2 (row t y0) y1).symm

open Cert.XattnReferenceIdeal.Read in
/-- The attention weights of head 3, from the reference. -/
theorem P3 (c : Dev nD) (t : Fin cfg0.N) :
    (k0_pay25 (k0_pay24 (k0_pay3 (iblk m c 2 t)) (View.ld (iblk m c 6 t) (Rect.unit ![0, 768] ![256, 256] inb_S256x2048_S256x256_0_768)))) = fun y => val_main_v50 (F := Ideal) (m ((c.tc : Thread nD τ).loc main_arg1)) (m ((c.tc : Thread nD τ).loc main_arg2)) (m ((c.tc : Thread nD τ).loc main_arg3)) (m ((c.tc : Thread nD τ).loc main_arg4)) (ix3 3 (row t (y 0)) (y 1)) := by
  funext y
  idx_vars y
  refine (kP3 m c t y0 y1).trans ?_
  rw [kS_eq m c t y0 3 768 (by omega) rfl]
  exact (Cert.Xref.rP _ _ _ _ 3 (row t y0) y1).symm

open Cert.XattnReferenceIdeal.Read in
/-- The gradient of the scores of head 3, from the reference. -/
theorem D3 (c : Dev nD) (t : Fin cfg0.N) (hf : Fin5 m c) :
    (k0_pay26 (k0_pay4 (iblk m c 0 t) (iblk m c 5 t)) (k0_pay24 (k0_pay3 (iblk m c 2 t)) (View.ld (iblk m c 6 t) (Rect.unit ![0, 768] ![256, 256] inb_S256x2048_S256x256_0_768))) (View.ld (iblk m c 6 t) (Rect.unit ![0, 1792] ![256, 256] inb_S256x2048_S256x256_0_1792))) = fun y => val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix3 3 (row t (y 0)) (y 1)) := by
  funext y
  idx_vars y
  refine (kD3 m c t y0 y1).trans ?_
  rw [kS_eq m c t y0 3 768 (by omega) rfl, kD_eq m c t y0 3 768 (by omega) rfl]
  exact (Cert.Xref.rD _ _ _ _ _ _ hf.a0 hf.a2 hf.a3 hf.a4 hf.a5 3 (row t y0) y1).symm

/-- The block of the reference's gradient of the queries' product at grid point `t`. -/
def dqB (c : Dev nD) (t : Fin cfg0.N) : Vec Ideal S512x1024 .bf16 := fun y =>
  Cert.XattnReferenceIdeal.Read.val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 (row t (y 0)) (y 1))

/-- The column pieces that a grid point stores into the second output's block, the last first. -/
abbrev pieces (c : Dev nD) (t : Fin cfg0.N) : List (View.Piece (Elt Ideal) S512x1024 .bf16) :=
    [⟨Rect.unit ![0, 768] ![512, 256] inb_S512x1024_S512x256_0_768,
        (k0_pay27 (k0_pay4 (iblk m c 0 t) (iblk m c 5 t)) (k0_pay24 (k0_pay3 (iblk m c 2 t)) (View.ld (iblk m c 6 t) (Rect.unit ![0, 768] ![256, 256] inb_S256x2048_S256x256_0_768))) (View.ld (iblk m c 6 t) (Rect.unit ![0, 1792] ![256, 256] inb_S256x2048_S256x256_0_1792)) (View.ld (iblk m c 6 t) (Rect.unit ![0, 768] ![256, 256] inb_S256x2048_S256x256_0_768)))⟩,
      ⟨Rect.unit ![0, 512] ![512, 256] inb_S512x1024_S512x256_0_512,
        (k0_pay21 (k0_pay18 (k0_pay3 (iblk m c 2 t)) (View.ld (iblk m c 6 t) (Rect.unit ![0, 512] ![256, 256] inb_S256x2048_S256x256_0_512))) (k0_pay19 (k0_pay4 (iblk m c 0 t) (iblk m c 5 t))) (View.ld (iblk m c 6 t) (Rect.unit ![0, 1536] ![256, 256] inb_S256x2048_S256x256_0_1536)) (View.ld (iblk m c 6 t) (Rect.unit ![0, 512] ![256, 256] inb_S256x2048_S256x256_0_512)))⟩,
      ⟨Rect.unit ![0, 256] ![512, 256] inb_S512x1024_S512x256_0_256,
        (k0_pay15 (k0_pay12 (k0_pay3 (iblk m c 2 t)) (View.ld (iblk m c 6 t) (Rect.unit ![0, 256] ![256, 256] inb_S256x2048_S256x256_0_256))) (k0_pay13 (k0_pay3 (iblk m c 2 t)) (k0_pay4 (iblk m c 0 t) (iblk m c 5 t)) (View.ld (iblk m c 6 t) (Rect.unit ![0, 256] ![256, 256] inb_S256x2048_S256x256_0_256)) (View.ld (iblk m c 6 t) (Rect.unit ![0, 1280] ![256, 256] inb_S256x2048_S256x256_0_1280))) (View.ld (iblk m c 6 t) (Rect.unit ![0, 256] ![256, 256] inb_S256x2048_S256x256_0_256)))⟩,
      ⟨Rect.unit ![0, 0] ![512, 256] inb_S512x1024_S512x256_0_0,
        (k0_pay9 (k0_pay7 (iblk m c 0 t) (iblk m c 2 t) (iblk m c 5 t) (View.ld (iblk m c 6 t) (Rect.unit ![0, 0] ![256, 256] inb_S256x2048_S256x256_0_0)) (View.ld (iblk m c 6 t) (Rect.unit ![0, 1024] ![256, 256] inb_S256x2048_S256x256_0_1024)) (View.ld (iblk m c 6 t) (Rect.unit ![0, 0] ![256, 256] inb_S256x2048_S256x256_0_0))) k0_pay8)⟩]

/-- The column pieces cover the block. -/
theorem cover_dq (c : Dev nD) (t : Fin cfg0.N) : ∀ y : S512x1024.Idx, ∃ p ∈ pieces m c t, y ∈ p.1.set :=
  View.cover_of_tiledBy _ ![512, 256] (by sl_kernel_rfl)

open Cert.XattnReferenceIdeal.Read in
/-- The reference's gradient of the queries' product, at a column named by its number. -/
theorem r108' (c : Dev nD) (h : Fin 4) (r : Fin 8192) (d : Fin 256) (x : Fin 1024) (hx : x.val = h.val * 256 + d.val) :
    val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 r x) = (∑ j : Fin 256, val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix3 h r j) * (m ((c.tc : Thread nD τ).loc main_arg3)) (ix2 j ⟨x.val, by omega⟩)) * Ideal.ofBits .f32 0x3D800000#32 := by
  obtain ⟨x, hb⟩ := x
  dsimp only at hx
  subst hx
  exact Cert.Xref.r108 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) h r d

open Cert.XattnReferenceIdeal.Read in
/-- The reference's gradient of the keys, at a column named by its number. -/
theorem r82k' (c : Dev nD) (h : Fin 4) (j : Fin 256) (d : Fin 256) (x : Fin 2048) (hx : x.val = h.val * 256 + d.val) :
    val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 j x) = ∑ r : Fin 8192, val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix3 h r j) * val_main_v20 (F := Ideal) (m ((c.tc : Thread nD τ).loc main_arg1)) (m ((c.tc : Thread nD τ).loc main_arg2)) (m ((c.tc : Thread nD τ).loc main_arg4)) (ix3 r h d) := by
  obtain ⟨x, hb⟩ := x
  dsimp only at hx
  subst hx
  exact Cert.Xref.r82k (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) h j d

open Cert.XattnReferenceIdeal.Read in
/-- The reference's gradient of the values, at a column named by its number. -/
theorem r82v' (c : Dev nD) (h : Fin 4) (j : Fin 256) (d : Fin 256) (x : Fin 2048) (hx : x.val = 1024 + (h.val * 256 + d.val)) :
    val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 j x) = ∑ r : Fin 8192, val_main_v58 (F := Ideal) (m ((c.tc : Thread nD τ).loc main_arg0)) (m ((c.tc : Thread nD τ).loc main_arg5)) (ix2 r ⟨h.val * 256 + d.val, by omega⟩) * val_main_v50 (F := Ideal) (m ((c.tc : Thread nD τ).loc main_arg1)) (m ((c.tc : Thread nD τ).loc main_arg2)) (m ((c.tc : Thread nD τ).loc main_arg3)) (m ((c.tc : Thread nD τ).loc main_arg4)) (ix3 h r j) := by
  obtain ⟨x, hb⟩ := x
  dsimp only at hx
  subst hx
  exact Cert.Xref.r82v (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) h j d

/-- The piece of head 0, as a product. -/
theorem dqk0 (c : Dev nD) (t : Fin cfg0.N) (r : Fin 512) (d : Fin 256) :
    (show EReal from (k0_pay9 (k0_pay7 (iblk m c 0 t) (iblk m c 2 t) (iblk m c 5 t) (View.ld (iblk m c 6 t) (Rect.unit ![0, 0] ![256, 256] inb_S256x2048_S256x256_0_0)) (View.ld (iblk m c 6 t) (Rect.unit ![0, 1024] ![256, 256] inb_S256x2048_S256x256_0_1024)) (View.ld (iblk m c 6 t) (Rect.unit ![0, 0] ![256, 256] inb_S256x2048_S256x256_0_0))) k0_pay8) (ix2 r d)) = (∑ j : Fin 256, (show EReal from (k0_pay6 (iblk m c 0 t) (iblk m c 2 t) (iblk m c 5 t) (View.ld (iblk m c 6 t) (Rect.unit ![0, 0] ![256, 256] inb_S256x2048_S256x256_0_0)) (View.ld (iblk m c 6 t) (Rect.unit ![0, 1024] ![256, 256] inb_S256x2048_S256x256_0_1024))) (ix2 r j)) * (show EReal from iblk m c 6 t (ix2 j ⟨0 + d.val, by omega⟩))) * Ideal.ofBits .f32 0x3D800000#32 := by
  unfold k0_pay9 k0_pay7 k0_pay8
  generalize (k0_pay6 (iblk m c 0 t) (iblk m c 2 t) (iblk m c 5 t) (View.ld (iblk m c 6 t) (Rect.unit ![0, 0] ![256, 256] inb_S256x2048_S256x256_0_0)) (View.ld (iblk m c 6 t) (Rect.unit ![0, 1024] ![256, 256] inb_S256x2048_S256x256_0_1024))) = D
  generalize iblk m c 6 t = kv
  pointwise []

open Cert.XattnReferenceIdeal.Read in
/-- The piece of head 0, from the reference. -/
theorem dq0 (c : Dev nD) (t : Fin cfg0.N) (hf : Fin5 m c) (r : Fin 512) (d : Fin 256) :
    (show EReal from (k0_pay9 (k0_pay7 (iblk m c 0 t) (iblk m c 2 t) (iblk m c 5 t) (View.ld (iblk m c 6 t) (Rect.unit ![0, 0] ![256, 256] inb_S256x2048_S256x256_0_0)) (View.ld (iblk m c 6 t) (Rect.unit ![0, 1024] ![256, 256] inb_S256x2048_S256x256_0_1024)) (View.ld (iblk m c 6 t) (Rect.unit ![0, 0] ![256, 256] inb_S256x2048_S256x256_0_0))) k0_pay8) (ix2 r d)) = val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 (row t r) ⟨0 + d.val, by omega⟩) := by
  rw [dqk0 m c t r d, r108' m c 0 (row t r) d ⟨0 + d.val, by omega⟩ (by simp), D0 m c t hf]
  simp only [blkkv]
  rfl

/-- The piece of head 1, as a product. -/
theorem dqk1 (c : Dev nD) (t : Fin cfg0.N) (r : Fin 512) (d : Fin 256) :
    (show EReal from (k0_pay15 (k0_pay12 (k0_pay3 (iblk m c 2 t)) (View.ld (iblk m c 6 t) (Rect.unit ![0, 256] ![256, 256] inb_S256x2048_S256x256_0_256))) (k0_pay13 (k0_pay3 (iblk m c 2 t)) (k0_pay4 (iblk m c 0 t) (iblk m c 5 t)) (View.ld (iblk m c 6 t) (Rect.unit ![0, 256] ![256, 256] inb_S256x2048_S256x256_0_256)) (View.ld (iblk m c 6 t) (Rect.unit ![0, 1280] ![256, 256] inb_S256x2048_S256x256_0_1280))) (View.ld (iblk m c 6 t) (Rect.unit ![0, 256] ![256, 256] inb_S256x2048_S256x256_0_256))) (ix2 r d)) = (∑ j : Fin 256, (show EReal from (k0_pay14 (k0_pay12 (k0_pay3 (iblk m c 2 t)) (View.ld (iblk m c 6 t) (Rect.unit ![0, 256] ![256, 256] inb_S256x2048_S256x256_0_256))) (k0_pay13 (k0_pay3 (iblk m c 2 t)) (k0_pay4 (iblk m c 0 t) (iblk m c 5 t)) (View.ld (iblk m c 6 t) (Rect.unit ![0, 256] ![256, 256] inb_S256x2048_S256x256_0_256)) (View.ld (iblk m c 6 t) (Rect.unit ![0, 1280] ![256, 256] inb_S256x2048_S256x256_0_1280)))) (ix2 r j)) * (show EReal from iblk m c 6 t (ix2 j ⟨256 + d.val, by omega⟩))) * Ideal.ofBits .f32 0x3D800000#32 := by
  unfold k0_pay15
  generalize (k0_pay14 (k0_pay12 (k0_pay3 (iblk m c 2 t)) (View.ld (iblk m c 6 t) (Rect.unit ![0, 256] ![256, 256] inb_S256x2048_S256x256_0_256))) (k0_pay13 (k0_pay3 (iblk m c 2 t)) (k0_pay4 (iblk m c 0 t) (iblk m c 5 t)) (View.ld (iblk m c 6 t) (Rect.unit ![0, 256] ![256, 256] inb_S256x2048_S256x256_0_256)) (View.ld (iblk m c 6 t) (Rect.unit ![0, 1280] ![256, 256] inb_S256x2048_S256x256_0_1280)))) = D
  generalize iblk m c 6 t = kv
  pointwise []

open Cert.XattnReferenceIdeal.Read in
/-- The piece of head 1, from the reference. -/
theorem dq1 (c : Dev nD) (t : Fin cfg0.N) (hf : Fin5 m c) (r : Fin 512) (d : Fin 256) :
    (show EReal from (k0_pay15 (k0_pay12 (k0_pay3 (iblk m c 2 t)) (View.ld (iblk m c 6 t) (Rect.unit ![0, 256] ![256, 256] inb_S256x2048_S256x256_0_256))) (k0_pay13 (k0_pay3 (iblk m c 2 t)) (k0_pay4 (iblk m c 0 t) (iblk m c 5 t)) (View.ld (iblk m c 6 t) (Rect.unit ![0, 256] ![256, 256] inb_S256x2048_S256x256_0_256)) (View.ld (iblk m c 6 t) (Rect.unit ![0, 1280] ![256, 256] inb_S256x2048_S256x256_0_1280))) (View.ld (iblk m c 6 t) (Rect.unit ![0, 256] ![256, 256] inb_S256x2048_S256x256_0_256))) (ix2 r d)) = val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 (row t r) ⟨256 + d.val, by omega⟩) := by
  rw [dqk1 m c t r d, r108' m c 1 (row t r) d ⟨256 + d.val, by omega⟩ (by simp), D1 m c t hf]
  simp only [blkkv]
  rfl

/-- The piece of head 2, as a product. -/
theorem dqk2 (c : Dev nD) (t : Fin cfg0.N) (r : Fin 512) (d : Fin 256) :
    (show EReal from (k0_pay21 (k0_pay18 (k0_pay3 (iblk m c 2 t)) (View.ld (iblk m c 6 t) (Rect.unit ![0, 512] ![256, 256] inb_S256x2048_S256x256_0_512))) (k0_pay19 (k0_pay4 (iblk m c 0 t) (iblk m c 5 t))) (View.ld (iblk m c 6 t) (Rect.unit ![0, 1536] ![256, 256] inb_S256x2048_S256x256_0_1536)) (View.ld (iblk m c 6 t) (Rect.unit ![0, 512] ![256, 256] inb_S256x2048_S256x256_0_512))) (ix2 r d)) = (∑ j : Fin 256, (show EReal from (k0_pay20 (k0_pay18 (k0_pay3 (iblk m c 2 t)) (View.ld (iblk m c 6 t) (Rect.unit ![0, 512] ![256, 256] inb_S256x2048_S256x256_0_512))) (k0_pay19 (k0_pay4 (iblk m c 0 t) (iblk m c 5 t))) (View.ld (iblk m c 6 t) (Rect.unit ![0, 1536] ![256, 256] inb_S256x2048_S256x256_0_1536))) (ix2 r j)) * (show EReal from iblk m c 6 t (ix2 j ⟨512 + d.val, by omega⟩))) * Ideal.ofBits .f32 0x3D800000#32 := by
  unfold k0_pay21
  generalize (k0_pay20 (k0_pay18 (k0_pay3 (iblk m c 2 t)) (View.ld (iblk m c 6 t) (Rect.unit ![0, 512] ![256, 256] inb_S256x2048_S256x256_0_512))) (k0_pay19 (k0_pay4 (iblk m c 0 t) (iblk m c 5 t))) (View.ld (iblk m c 6 t) (Rect.unit ![0, 1536] ![256, 256] inb_S256x2048_S256x256_0_1536))) = D
  generalize iblk m c 6 t = kv
  pointwise []

open Cert.XattnReferenceIdeal.Read in
/-- The piece of head 2, from the reference. -/
theorem dq2 (c : Dev nD) (t : Fin cfg0.N) (hf : Fin5 m c) (r : Fin 512) (d : Fin 256) :
    (show EReal from (k0_pay21 (k0_pay18 (k0_pay3 (iblk m c 2 t)) (View.ld (iblk m c 6 t) (Rect.unit ![0, 512] ![256, 256] inb_S256x2048_S256x256_0_512))) (k0_pay19 (k0_pay4 (iblk m c 0 t) (iblk m c 5 t))) (View.ld (iblk m c 6 t) (Rect.unit ![0, 1536] ![256, 256] inb_S256x2048_S256x256_0_1536)) (View.ld (iblk m c 6 t) (Rect.unit ![0, 512] ![256, 256] inb_S256x2048_S256x256_0_512))) (ix2 r d)) = val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 (row t r) ⟨512 + d.val, by omega⟩) := by
  rw [dqk2 m c t r d, r108' m c 2 (row t r) d ⟨512 + d.val, by omega⟩ (by simp), D2 m c t hf]
  simp only [blkkv]
  rfl

/-- The piece of head 3, as a product. -/
theorem dqk3 (c : Dev nD) (t : Fin cfg0.N) (r : Fin 512) (d : Fin 256) :
    (show EReal from (k0_pay27 (k0_pay4 (iblk m c 0 t) (iblk m c 5 t)) (k0_pay24 (k0_pay3 (iblk m c 2 t)) (View.ld (iblk m c 6 t) (Rect.unit ![0, 768] ![256, 256] inb_S256x2048_S256x256_0_768))) (View.ld (iblk m c 6 t) (Rect.unit ![0, 1792] ![256, 256] inb_S256x2048_S256x256_0_1792)) (View.ld (iblk m c 6 t) (Rect.unit ![0, 768] ![256, 256] inb_S256x2048_S256x256_0_768))) (ix2 r d)) = (∑ j : Fin 256, (show EReal from (k0_pay26 (k0_pay4 (iblk m c 0 t) (iblk m c 5 t)) (k0_pay24 (k0_pay3 (iblk m c 2 t)) (View.ld (iblk m c 6 t) (Rect.unit ![0, 768] ![256, 256] inb_S256x2048_S256x256_0_768))) (View.ld (iblk m c 6 t) (Rect.unit ![0, 1792] ![256, 256] inb_S256x2048_S256x256_0_1792))) (ix2 r j)) * (show EReal from iblk m c 6 t (ix2 j ⟨768 + d.val, by omega⟩))) * Ideal.ofBits .f32 0x3D800000#32 := by
  unfold k0_pay27
  generalize (k0_pay26 (k0_pay4 (iblk m c 0 t) (iblk m c 5 t)) (k0_pay24 (k0_pay3 (iblk m c 2 t)) (View.ld (iblk m c 6 t) (Rect.unit ![0, 768] ![256, 256] inb_S256x2048_S256x256_0_768))) (View.ld (iblk m c 6 t) (Rect.unit ![0, 1792] ![256, 256] inb_S256x2048_S256x256_0_1792))) = D
  generalize iblk m c 6 t = kv
  pointwise []

open Cert.XattnReferenceIdeal.Read in
/-- The piece of head 3, from the reference. -/
theorem dq3 (c : Dev nD) (t : Fin cfg0.N) (hf : Fin5 m c) (r : Fin 512) (d : Fin 256) :
    (show EReal from (k0_pay27 (k0_pay4 (iblk m c 0 t) (iblk m c 5 t)) (k0_pay24 (k0_pay3 (iblk m c 2 t)) (View.ld (iblk m c 6 t) (Rect.unit ![0, 768] ![256, 256] inb_S256x2048_S256x256_0_768))) (View.ld (iblk m c 6 t) (Rect.unit ![0, 1792] ![256, 256] inb_S256x2048_S256x256_0_1792)) (View.ld (iblk m c 6 t) (Rect.unit ![0, 768] ![256, 256] inb_S256x2048_S256x256_0_768))) (ix2 r d)) = val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 (row t r) ⟨768 + d.val, by omega⟩) := by
  rw [dqk3 m c t r d, r108' m c 3 (row t r) d ⟨768 + d.val, by omega⟩ (by simp), D3 m c t hf]
  simp only [blkkv]
  rfl

/-- The column pieces that a grid point stores are that block. -/
theorem canon_dq (c : Dev nD) (t : Fin cfg0.N) (hf : Fin5 m c) :
    View.canon (Val := Elt Ideal) (s := S512x1024) (e := .bf16) (pieces m c t) = dqB m c t := by
  funext y
  refine View.canon_append_of_piecesOf (dqB m c t) [] (pieces m c t) ⟨?_, ?_, ?_, ?_, trivial⟩ y (cover_dq m c t y)
  · intro (x : S512x256.Idx)
    idx_vars x
    refine (dq3 m c t hf x0 x1).trans ?_
    rw [show (Rect.unit (s := S512x1024) ![0, 768] ![512, 256] inb_S512x1024_S512x256_0_768).emb (ix2 x0 x1) = ix2 x0 ⟨768 + x1.val, by omega⟩ from by
      funext k
      refine Fin.ext ?_
      match k with
      | ⟨0, _⟩ => exact (by simp [Rect.emb, Rect.unit])
      | ⟨1, _⟩ => exact (by simp [Rect.emb, Rect.unit])]
    rfl
  · intro (x : S512x256.Idx)
    idx_vars x
    refine (dq2 m c t hf x0 x1).trans ?_
    rw [show (Rect.unit (s := S512x1024) ![0, 512] ![512, 256] inb_S512x1024_S512x256_0_512).emb (ix2 x0 x1) = ix2 x0 ⟨512 + x1.val, by omega⟩ from by
      funext k
      refine Fin.ext ?_
      match k with
      | ⟨0, _⟩ => exact (by simp [Rect.emb, Rect.unit])
      | ⟨1, _⟩ => exact (by simp [Rect.emb, Rect.unit])]
    rfl
  · intro (x : S512x256.Idx)
    idx_vars x
    refine (dq1 m c t hf x0 x1).trans ?_
    rw [show (Rect.unit (s := S512x1024) ![0, 256] ![512, 256] inb_S512x1024_S512x256_0_256).emb (ix2 x0 x1) = ix2 x0 ⟨256 + x1.val, by omega⟩ from by
      funext k
      refine Fin.ext ?_
      match k with
      | ⟨0, _⟩ => exact (by simp [Rect.emb, Rect.unit])
      | ⟨1, _⟩ => exact (by simp [Rect.emb, Rect.unit])]
    rfl
  · intro (x : S512x256.Idx)
    idx_vars x
    refine (dq0 m c t hf x0 x1).trans ?_
    rw [show (Rect.unit (s := S512x1024) ![0, 0] ![512, 256] inb_S512x1024_S512x256_0_0).emb (ix2 x0 x1) = ix2 x0 ⟨0 + x1.val, by omega⟩ from by
      funext k
      refine Fin.ext ?_
      match k with
      | ⟨0, _⟩ => exact (by simp [Rect.emb, Rect.unit])
      | ⟨1, _⟩ => exact (by simp [Rect.emb, Rect.unit])]
    rfl

open Cert.XattnReferenceIdeal.Read in
/-- What grid point `t` adds to the gradient of the keys and values. -/
def kvT (c : Dev nD) (t : Fin cfg0.N) (y : S256x2048.Idx) : EReal :=
  if (y 1).val < 1024 then
    ∑ r : Fin 512, val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix3 (⟨(y 1).val % 1024 / 256, by omega⟩ : Fin 4) (row t r) (y 0)) * val_main_v20 (F := Ideal) (m ((c.tc : Thread nD τ).loc main_arg1)) (m ((c.tc : Thread nD τ).loc main_arg2)) (m ((c.tc : Thread nD τ).loc main_arg4)) (ix3 (row t r) (⟨(y 1).val % 1024 / 256, by omega⟩ : Fin 4) (⟨(y 1).val % 256, by omega⟩ : Fin 256))
  else
    ∑ r : Fin 512, val_main_v58 (F := Ideal) (m ((c.tc : Thread nD τ).loc main_arg0)) (m ((c.tc : Thread nD τ).loc main_arg5)) (ix2 (row t r) ⟨(y 1).val % 1024, by omega⟩) * val_main_v50 (F := Ideal) (m ((c.tc : Thread nD τ).loc main_arg1)) (m ((c.tc : Thread nD τ).loc main_arg2)) (m ((c.tc : Thread nD τ).loc main_arg3)) (m ((c.tc : Thread nD τ).loc main_arg4)) (ix3 (⟨(y 1).val % 1024 / 256, by omega⟩ : Fin 4) (row t r) (y 0))

open Cert.XattnReferenceIdeal.Read in
/-- What a grid point adds to the gradient of the keys. -/
theorem kvT_k (c : Dev nD) (t : Fin cfg0.N) (h : Fin 4) (j d : Fin 256) (x : Fin 2048) (hx : x.val = h.val * 256 + d.val) :
    kvT m c t (ix2 j x) = ∑ r : Fin 512, val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix3 h (row t r) j) * val_main_v20 (F := Ideal) (m ((c.tc : Thread nD τ).loc main_arg1)) (m ((c.tc : Thread nD τ).loc main_arg2)) (m ((c.tc : Thread nD τ).loc main_arg4)) (ix3 (row t r) h d) := by
  have e1 : (⟨x.val % 1024 / 256, by omega⟩ : Fin 4) = h := Fin.ext (by simp only; omega)
  have e2 : (⟨x.val % 256, by omega⟩ : Fin 256) = d := Fin.ext (by simp only; omega)
  unfold kvT
  have i0 : (ix2 j x : S256x2048.Idx) 0 = j := rfl
  have i1 : (ix2 j x : S256x2048.Idx) 1 = x := rfl
  simp only [i0, i1]
  rw [if_pos (show x.val < 1024 by omega), e1, e2]

open Cert.XattnReferenceIdeal.Read in
/-- What a grid point adds to the gradient of the values. -/
theorem kvT_v (c : Dev nD) (t : Fin cfg0.N) (h : Fin 4) (j d : Fin 256) (x : Fin 2048) (hx : x.val = 1024 + (h.val * 256 + d.val)) :
    kvT m c t (ix2 j x) = ∑ r : Fin 512, val_main_v58 (F := Ideal) (m ((c.tc : Thread nD τ).loc main_arg0)) (m ((c.tc : Thread nD τ).loc main_arg5)) (ix2 (row t r) ⟨h.val * 256 + d.val, by omega⟩) * val_main_v50 (F := Ideal) (m ((c.tc : Thread nD τ).loc main_arg1)) (m ((c.tc : Thread nD τ).loc main_arg2)) (m ((c.tc : Thread nD τ).loc main_arg3)) (m ((c.tc : Thread nD τ).loc main_arg4)) (ix3 h (row t r) j) := by
  have e1 : (⟨x.val % 1024 / 256, by omega⟩ : Fin 4) = h := Fin.ext (by simp only; omega)
  have e2 : (⟨x.val % 1024, by omega⟩ : Fin 1024) = ⟨h.val * 256 + d.val, by omega⟩ := Fin.ext (by simp only; omega)
  unfold kvT
  have i0 : (ix2 j x : S256x2048.Idx) 0 = j := rfl
  have i1 : (ix2 j x : S256x2048.Idx) 1 = x := rfl
  simp only [i0, i1]
  rw [if_neg (show ¬ x.val < 1024 by omega), e1, e2]

open Cert.XattnReferenceIdeal.Read in
/-- The reference's gradient of the keys and values is the sum of what the grid points add. -/
theorem kvT_sum (c : Dev nD) (y : S256x2048.Idx) :
    val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) y = ∑ s : Fin 16, kvT m c ⟨s.val, s.isLt⟩ y := by
  idx_vars y
  by_cases hx : y1.val < 1024
  · rw [r82k' m c ⟨y1.val / 256, by omega⟩ y0 ⟨y1.val % 256, by omega⟩ y1 (by simp only; omega)]
    simp only [kvT_k m c _ ⟨y1.val / 256, by omega⟩ y0 ⟨y1.val % 256, by omega⟩ y1 (by simp only; omega)]
    exact (Fin.sum_mul_add_congr fun s k hl => by rw [show row ⟨s.val, s.isLt⟩ k = ⟨s.val * 512 + k.val, hl⟩ from Fin.ext (by simp only; omega)]).symm
  · rw [r82v' m c ⟨(y1.val - 1024) / 256, by omega⟩ y0 ⟨y1.val % 256, by omega⟩ y1 (by simp only; omega)]
    simp only [kvT_v m c _ ⟨(y1.val - 1024) / 256, by omega⟩ y0 ⟨y1.val % 256, by omega⟩ y1 (by simp only; omega)]
    exact (Fin.sum_mul_add_congr fun s k hl => by rw [show row ⟨s.val, s.isLt⟩ k = ⟨s.val * 512 + k.val, hl⟩ from Fin.ext (by simp only; omega)]).symm

/-- The gradient of head 0's keys at grid point `t`, over what stood there. -/
theorem dkk0 (c : Dev nD) (t : Fin cfg0.N) (w : Vec Ideal S256x256 .f32) (j d : Fin 256) :
    (show EReal from (k0_pay10 ((k0_pay3 (iblk m c 2 t))) ((k0_pay6 (iblk m c 0 t) (iblk m c 2 t) (iblk m c 5 t) (View.ld (iblk m c 6 t) (Rect.unit ![0, 0] ![256, 256] inb_S256x2048_S256x256_0_0)) (View.ld (iblk m c 6 t) (Rect.unit ![0, 1024] ![256, 256] inb_S256x2048_S256x256_0_1024)))) w) (ix2 j d)) = (show EReal from w (ix2 j d)) + ∑ r : Fin 512, (show EReal from (k0_pay6 (iblk m c 0 t) (iblk m c 2 t) (iblk m c 5 t) (View.ld (iblk m c 6 t) (Rect.unit ![0, 0] ![256, 256] inb_S256x2048_S256x256_0_0)) (View.ld (iblk m c 6 t) (Rect.unit ![0, 1024] ![256, 256] inb_S256x2048_S256x256_0_1024))) (ix2 r j)) * (show EReal from iblk m c 2 t (ix2 r ⟨0 + d.val, by omega⟩)) := by
  unfold k0_pay10
  generalize (k0_pay6 (iblk m c 0 t) (iblk m c 2 t) (iblk m c 5 t) (View.ld (iblk m c 6 t) (Rect.unit ![0, 0] ![256, 256] inb_S256x2048_S256x256_0_0)) (View.ld (iblk m c 6 t) (Rect.unit ![0, 1024] ![256, 256] inb_S256x2048_S256x256_0_1024))) = D
  unfold k0_pay3
  pointwise []

/-- The gradient of head 0's values at grid point `t`, over what stood there. -/
theorem dvk0 (c : Dev nD) (t : Fin cfg0.N) (w : Vec Ideal S256x256 .f32) (j d : Fin 256) :
    (show EReal from (k0_pay11 (k0_pay4 (iblk m c 0 t) (iblk m c 5 t)) ((k0_pay5 (iblk m c 2 t) (View.ld (iblk m c 6 t) (Rect.unit ![0, 0] ![256, 256] inb_S256x2048_S256x256_0_0)))) w) (ix2 j d)) = (show EReal from w (ix2 j d)) + ∑ r : Fin 512, (show EReal from (k0_pay5 (iblk m c 2 t) (View.ld (iblk m c 6 t) (Rect.unit ![0, 0] ![256, 256] inb_S256x2048_S256x256_0_0))) (ix2 r j)) * (show EReal from k0_pay4 (iblk m c 0 t) (iblk m c 5 t) (ix2 r ⟨0 + d.val, by omega⟩)) := by
  unfold k0_pay11
  generalize (k0_pay5 (iblk m c 2 t) (View.ld (iblk m c 6 t) (Rect.unit ![0, 0] ![256, 256] inb_S256x2048_S256x256_0_0))) = P
  generalize k0_pay4 (iblk m c 0 t) (iblk m c 5 t) = O
  pointwise []

/-- The gradient of head 0's keys at grid point `t`, from the reference. -/
theorem dk0 (c : Dev nD) (t : Fin cfg0.N) (hf : Fin5 m c) (w : Vec Ideal S256x256 .f32) (j d : Fin 256) :
    (show EReal from (k0_pay10 ((k0_pay3 (iblk m c 2 t))) ((k0_pay6 (iblk m c 0 t) (iblk m c 2 t) (iblk m c 5 t) (View.ld (iblk m c 6 t) (Rect.unit ![0, 0] ![256, 256] inb_S256x2048_S256x256_0_0)) (View.ld (iblk m c 6 t) (Rect.unit ![0, 1024] ![256, 256] inb_S256x2048_S256x256_0_1024)))) w) (ix2 j d)) = (show EReal from w (ix2 j d)) + kvT m c t (ix2 j ⟨0 + d.val, by omega⟩) := by
  rw [dkk0 m c t w j d, D0 m c t hf, kvT_k m c t 0 j d ⟨0 + d.val, by omega⟩ (by simp)]
  have e : (⟨0 + d.val, by omega⟩ : Fin 1024) = ⟨(0 : Fin 4).val * 256 + d.val, by simp; omega⟩ := Fin.ext (by simp)
  rw [e]
  simp only [blkq]
  rfl

/-- The gradient of head 0's values at grid point `t`, from the reference. -/
theorem dv0 (c : Dev nD) (t : Fin cfg0.N) (w : Vec Ideal S256x256 .f32) (j d : Fin 256) :
    (show EReal from (k0_pay11 (k0_pay4 (iblk m c 0 t) (iblk m c 5 t)) ((k0_pay5 (iblk m c 2 t) (View.ld (iblk m c 6 t) (Rect.unit ![0, 0] ![256, 256] inb_S256x2048_S256x256_0_0)))) w) (ix2 j d)) = (show EReal from w (ix2 j d)) + kvT m c t (ix2 j ⟨1024 + d.val, by omega⟩) := by
  rw [dvk0 m c t w j d, P0 m c t, kvT_v m c t 0 j d ⟨1024 + d.val, by omega⟩ (by simp)]
  have e : (⟨0 + d.val, by omega⟩ : Fin 1024) = ⟨(0 : Fin 4).val * 256 + d.val, by simp; omega⟩ := Fin.ext (by simp)
  rw [e]
  refine congrArg (_ + ·) (Finset.sum_congr rfl fun r _ => ?_)
  rw [blkdo, mul_comm]
  rfl

/-- The gradient of head 1's keys at grid point `t`, over what stood there. -/
theorem dkk1 (c : Dev nD) (t : Fin cfg0.N) (w : Vec Ideal S256x256 .f32) (j d : Fin 256) :
    (show EReal from (k0_pay16 (k0_pay3 (iblk m c 2 t)) ((k0_pay12 (k0_pay3 (iblk m c 2 t)) (View.ld (iblk m c 6 t) (Rect.unit ![0, 256] ![256, 256] inb_S256x2048_S256x256_0_256)))) (k0_pay13 (k0_pay3 (iblk m c 2 t)) (k0_pay4 (iblk m c 0 t) (iblk m c 5 t)) (View.ld (iblk m c 6 t) (Rect.unit ![0, 256] ![256, 256] inb_S256x2048_S256x256_0_256)) (View.ld (iblk m c 6 t) (Rect.unit ![0, 1280] ![256, 256] inb_S256x2048_S256x256_0_1280))) w) (ix2 j d)) = (show EReal from w (ix2 j d)) + ∑ r : Fin 512, (show EReal from (k0_pay14 (k0_pay12 (k0_pay3 (iblk m c 2 t)) (View.ld (iblk m c 6 t) (Rect.unit ![0, 256] ![256, 256] inb_S256x2048_S256x256_0_256))) (k0_pay13 (k0_pay3 (iblk m c 2 t)) (k0_pay4 (iblk m c 0 t) (iblk m c 5 t)) (View.ld (iblk m c 6 t) (Rect.unit ![0, 256] ![256, 256] inb_S256x2048_S256x256_0_256)) (View.ld (iblk m c 6 t) (Rect.unit ![0, 1280] ![256, 256] inb_S256x2048_S256x256_0_1280)))) (ix2 r j)) * (show EReal from iblk m c 2 t (ix2 r ⟨256 + d.val, by omega⟩)) := by
  unfold k0_pay16
  generalize (k0_pay14 (k0_pay12 (k0_pay3 (iblk m c 2 t)) (View.ld (iblk m c 6 t) (Rect.unit ![0, 256] ![256, 256] inb_S256x2048_S256x256_0_256))) (k0_pay13 (k0_pay3 (iblk m c 2 t)) (k0_pay4 (iblk m c 0 t) (iblk m c 5 t)) (View.ld (iblk m c 6 t) (Rect.unit ![0, 256] ![256, 256] inb_S256x2048_S256x256_0_256)) (View.ld (iblk m c 6 t) (Rect.unit ![0, 1280] ![256, 256] inb_S256x2048_S256x256_0_1280)))) = D
  unfold k0_pay3
  pointwise []

/-- The gradient of head 1's values at grid point `t`, over what stood there. -/
theorem dvk1 (c : Dev nD) (t : Fin cfg0.N) (w : Vec Ideal S256x256 .f32) (j d : Fin 256) :
    (show EReal from (k0_pay17 (k0_pay4 (iblk m c 0 t) (iblk m c 5 t)) ((k0_pay12 (k0_pay3 (iblk m c 2 t)) (View.ld (iblk m c 6 t) (Rect.unit ![0, 256] ![256, 256] inb_S256x2048_S256x256_0_256)))) w) (ix2 j d)) = (show EReal from w (ix2 j d)) + ∑ r : Fin 512, (show EReal from (k0_pay12 (k0_pay3 (iblk m c 2 t)) (View.ld (iblk m c 6 t) (Rect.unit ![0, 256] ![256, 256] inb_S256x2048_S256x256_0_256))) (ix2 r j)) * (show EReal from k0_pay4 (iblk m c 0 t) (iblk m c 5 t) (ix2 r ⟨256 + d.val, by omega⟩)) := by
  unfold k0_pay17
  generalize (k0_pay12 (k0_pay3 (iblk m c 2 t)) (View.ld (iblk m c 6 t) (Rect.unit ![0, 256] ![256, 256] inb_S256x2048_S256x256_0_256))) = P
  generalize k0_pay4 (iblk m c 0 t) (iblk m c 5 t) = O
  pointwise []

/-- The gradient of head 1's keys at grid point `t`, from the reference. -/
theorem dk1 (c : Dev nD) (t : Fin cfg0.N) (hf : Fin5 m c) (w : Vec Ideal S256x256 .f32) (j d : Fin 256) :
    (show EReal from (k0_pay16 (k0_pay3 (iblk m c 2 t)) ((k0_pay12 (k0_pay3 (iblk m c 2 t)) (View.ld (iblk m c 6 t) (Rect.unit ![0, 256] ![256, 256] inb_S256x2048_S256x256_0_256)))) (k0_pay13 (k0_pay3 (iblk m c 2 t)) (k0_pay4 (iblk m c 0 t) (iblk m c 5 t)) (View.ld (iblk m c 6 t) (Rect.unit ![0, 256] ![256, 256] inb_S256x2048_S256x256_0_256)) (View.ld (iblk m c 6 t) (Rect.unit ![0, 1280] ![256, 256] inb_S256x2048_S256x256_0_1280))) w) (ix2 j d)) = (show EReal from w (ix2 j d)) + kvT m c t (ix2 j ⟨256 + d.val, by omega⟩) := by
  rw [dkk1 m c t w j d, D1 m c t hf, kvT_k m c t 1 j d ⟨256 + d.val, by omega⟩ (by simp)]
  have e : (⟨256 + d.val, by omega⟩ : Fin 1024) = ⟨(1 : Fin 4).val * 256 + d.val, by simp; omega⟩ := Fin.ext (by simp)
  rw [e]
  simp only [blkq]
  rfl

/-- The gradient of head 1's values at grid point `t`, from the reference. -/
theorem dv1 (c : Dev nD) (t : Fin cfg0.N) (w : Vec Ideal S256x256 .f32) (j d : Fin 256) :
    (show EReal from (k0_pay17 (k0_pay4 (iblk m c 0 t) (iblk m c 5 t)) ((k0_pay12 (k0_pay3 (iblk m c 2 t)) (View.ld (iblk m c 6 t) (Rect.unit ![0, 256] ![256, 256] inb_S256x2048_S256x256_0_256)))) w) (ix2 j d)) = (show EReal from w (ix2 j d)) + kvT m c t (ix2 j ⟨1280 + d.val, by omega⟩) := by
  rw [dvk1 m c t w j d, P1 m c t, kvT_v m c t 1 j d ⟨1280 + d.val, by omega⟩ (by simp; omega)]
  have e : (⟨256 + d.val, by omega⟩ : Fin 1024) = ⟨(1 : Fin 4).val * 256 + d.val, by simp; omega⟩ := Fin.ext (by simp)
  rw [e]
  refine congrArg (_ + ·) (Finset.sum_congr rfl fun r _ => ?_)
  rw [blkdo, mul_comm]
  rfl

/-- The gradient of head 2's keys at grid point `t`, over what stood there. -/
theorem dkk2 (c : Dev nD) (t : Fin cfg0.N) (w : Vec Ideal S256x256 .f32) (j d : Fin 256) :
    (show EReal from (k0_pay22 (k0_pay3 (iblk m c 2 t)) ((k0_pay18 (k0_pay3 (iblk m c 2 t)) (View.ld (iblk m c 6 t) (Rect.unit ![0, 512] ![256, 256] inb_S256x2048_S256x256_0_512)))) (k0_pay19 (k0_pay4 (iblk m c 0 t) (iblk m c 5 t))) (View.ld (iblk m c 6 t) (Rect.unit ![0, 1536] ![256, 256] inb_S256x2048_S256x256_0_1536)) w) (ix2 j d)) = (show EReal from w (ix2 j d)) + ∑ r : Fin 512, (show EReal from (k0_pay20 (k0_pay18 (k0_pay3 (iblk m c 2 t)) (View.ld (iblk m c 6 t) (Rect.unit ![0, 512] ![256, 256] inb_S256x2048_S256x256_0_512))) (k0_pay19 (k0_pay4 (iblk m c 0 t) (iblk m c 5 t))) (View.ld (iblk m c 6 t) (Rect.unit ![0, 1536] ![256, 256] inb_S256x2048_S256x256_0_1536))) (ix2 r j)) * (show EReal from iblk m c 2 t (ix2 r ⟨512 + d.val, by omega⟩)) := by
  unfold k0_pay22
  generalize (k0_pay20 (k0_pay18 (k0_pay3 (iblk m c 2 t)) (View.ld (iblk m c 6 t) (Rect.unit ![0, 512] ![256, 256] inb_S256x2048_S256x256_0_512))) (k0_pay19 (k0_pay4 (iblk m c 0 t) (iblk m c 5 t))) (View.ld (iblk m c 6 t) (Rect.unit ![0, 1536] ![256, 256] inb_S256x2048_S256x256_0_1536))) = D
  unfold k0_pay3
  pointwise []

/-- The gradient of head 2's values at grid point `t`, over what stood there. -/
theorem dvk2 (c : Dev nD) (t : Fin cfg0.N) (w : Vec Ideal S256x256 .f32) (j d : Fin 256) :
    (show EReal from (k0_pay23 (k0_pay4 (iblk m c 0 t) (iblk m c 5 t)) ((k0_pay18 (k0_pay3 (iblk m c 2 t)) (View.ld (iblk m c 6 t) (Rect.unit ![0, 512] ![256, 256] inb_S256x2048_S256x256_0_512)))) w) (ix2 j d)) = (show EReal from w (ix2 j d)) + ∑ r : Fin 512, (show EReal from (k0_pay18 (k0_pay3 (iblk m c 2 t)) (View.ld (iblk m c 6 t) (Rect.unit ![0, 512] ![256, 256] inb_S256x2048_S256x256_0_512))) (ix2 r j)) * (show EReal from k0_pay4 (iblk m c 0 t) (iblk m c 5 t) (ix2 r ⟨512 + d.val, by omega⟩)) := by
  unfold k0_pay23
  generalize (k0_pay18 (k0_pay3 (iblk m c 2 t)) (View.ld (iblk m c 6 t) (Rect.unit ![0, 512] ![256, 256] inb_S256x2048_S256x256_0_512))) = P
  generalize k0_pay4 (iblk m c 0 t) (iblk m c 5 t) = O
  pointwise []

/-- The gradient of head 2's keys at grid point `t`, from the reference. -/
theorem dk2 (c : Dev nD) (t : Fin cfg0.N) (hf : Fin5 m c) (w : Vec Ideal S256x256 .f32) (j d : Fin 256) :
    (show EReal from (k0_pay22 (k0_pay3 (iblk m c 2 t)) ((k0_pay18 (k0_pay3 (iblk m c 2 t)) (View.ld (iblk m c 6 t) (Rect.unit ![0, 512] ![256, 256] inb_S256x2048_S256x256_0_512)))) (k0_pay19 (k0_pay4 (iblk m c 0 t) (iblk m c 5 t))) (View.ld (iblk m c 6 t) (Rect.unit ![0, 1536] ![256, 256] inb_S256x2048_S256x256_0_1536)) w) (ix2 j d)) = (show EReal from w (ix2 j d)) + kvT m c t (ix2 j ⟨512 + d.val, by omega⟩) := by
  rw [dkk2 m c t w j d, D2 m c t hf, kvT_k m c t 2 j d ⟨512 + d.val, by omega⟩ (by simp)]
  have e : (⟨512 + d.val, by omega⟩ : Fin 1024) = ⟨(2 : Fin 4).val * 256 + d.val, by simp; omega⟩ := Fin.ext (by simp)
  rw [e]
  simp only [blkq]
  rfl

/-- The gradient of head 2's values at grid point `t`, from the reference. -/
theorem dv2 (c : Dev nD) (t : Fin cfg0.N) (w : Vec Ideal S256x256 .f32) (j d : Fin 256) :
    (show EReal from (k0_pay23 (k0_pay4 (iblk m c 0 t) (iblk m c 5 t)) ((k0_pay18 (k0_pay3 (iblk m c 2 t)) (View.ld (iblk m c 6 t) (Rect.unit ![0, 512] ![256, 256] inb_S256x2048_S256x256_0_512)))) w) (ix2 j d)) = (show EReal from w (ix2 j d)) + kvT m c t (ix2 j ⟨1536 + d.val, by omega⟩) := by
  rw [dvk2 m c t w j d, P2 m c t, kvT_v m c t 2 j d ⟨1536 + d.val, by omega⟩ (by simp; omega)]
  have e : (⟨512 + d.val, by omega⟩ : Fin 1024) = ⟨(2 : Fin 4).val * 256 + d.val, by simp; omega⟩ := Fin.ext (by simp)
  rw [e]
  refine congrArg (_ + ·) (Finset.sum_congr rfl fun r _ => ?_)
  rw [blkdo, mul_comm]
  rfl

/-- The gradient of head 3's keys at grid point `t`, over what stood there. -/
theorem dkk3 (c : Dev nD) (t : Fin cfg0.N) (w : Vec Ideal S256x256 .f32) (j d : Fin 256) :
    (show EReal from (k0_pay28 (k0_pay3 (iblk m c 2 t)) (k0_pay4 (iblk m c 0 t) (iblk m c 5 t)) (k0_pay24 (k0_pay3 (iblk m c 2 t)) (View.ld (iblk m c 6 t) (Rect.unit ![0, 768] ![256, 256] inb_S256x2048_S256x256_0_768))) (View.ld (iblk m c 6 t) (Rect.unit ![0, 1792] ![256, 256] inb_S256x2048_S256x256_0_1792)) w) (ix2 j d)) = (show EReal from w (ix2 j d)) + ∑ r : Fin 512, (show EReal from (k0_pay26 (k0_pay4 (iblk m c 0 t) (iblk m c 5 t)) (k0_pay24 (k0_pay3 (iblk m c 2 t)) (View.ld (iblk m c 6 t) (Rect.unit ![0, 768] ![256, 256] inb_S256x2048_S256x256_0_768))) (View.ld (iblk m c 6 t) (Rect.unit ![0, 1792] ![256, 256] inb_S256x2048_S256x256_0_1792))) (ix2 r j)) * (show EReal from iblk m c 2 t (ix2 r ⟨768 + d.val, by omega⟩)) := by
  unfold k0_pay28
  generalize (k0_pay26 (k0_pay4 (iblk m c 0 t) (iblk m c 5 t)) (k0_pay24 (k0_pay3 (iblk m c 2 t)) (View.ld (iblk m c 6 t) (Rect.unit ![0, 768] ![256, 256] inb_S256x2048_S256x256_0_768))) (View.ld (iblk m c 6 t) (Rect.unit ![0, 1792] ![256, 256] inb_S256x2048_S256x256_0_1792))) = D
  unfold k0_pay3
  pointwise []

/-- The gradient of head 3's values at grid point `t`, over what stood there. -/
theorem dvk3 (c : Dev nD) (t : Fin cfg0.N) (w : Vec Ideal S256x256 .f32) (j d : Fin 256) :
    (show EReal from (k0_pay29 (k0_pay4 (iblk m c 0 t) (iblk m c 5 t)) (k0_pay24 (k0_pay3 (iblk m c 2 t)) (View.ld (iblk m c 6 t) (Rect.unit ![0, 768] ![256, 256] inb_S256x2048_S256x256_0_768))) w) (ix2 j d)) = (show EReal from w (ix2 j d)) + ∑ r : Fin 512, (show EReal from (k0_pay25 (k0_pay24 (k0_pay3 (iblk m c 2 t)) (View.ld (iblk m c 6 t) (Rect.unit ![0, 768] ![256, 256] inb_S256x2048_S256x256_0_768)))) (ix2 r j)) * (show EReal from k0_pay4 (iblk m c 0 t) (iblk m c 5 t) (ix2 r ⟨768 + d.val, by omega⟩)) := by
  unfold k0_pay29
  generalize (k0_pay25 (k0_pay24 (k0_pay3 (iblk m c 2 t)) (View.ld (iblk m c 6 t) (Rect.unit ![0, 768] ![256, 256] inb_S256x2048_S256x256_0_768)))) = P
  generalize k0_pay4 (iblk m c 0 t) (iblk m c 5 t) = O
  pointwise []

/-- The gradient of head 3's keys at grid point `t`, from the reference. -/
theorem dk3 (c : Dev nD) (t : Fin cfg0.N) (hf : Fin5 m c) (w : Vec Ideal S256x256 .f32) (j d : Fin 256) :
    (show EReal from (k0_pay28 (k0_pay3 (iblk m c 2 t)) (k0_pay4 (iblk m c 0 t) (iblk m c 5 t)) (k0_pay24 (k0_pay3 (iblk m c 2 t)) (View.ld (iblk m c 6 t) (Rect.unit ![0, 768] ![256, 256] inb_S256x2048_S256x256_0_768))) (View.ld (iblk m c 6 t) (Rect.unit ![0, 1792] ![256, 256] inb_S256x2048_S256x256_0_1792)) w) (ix2 j d)) = (show EReal from w (ix2 j d)) + kvT m c t (ix2 j ⟨768 + d.val, by omega⟩) := by
  rw [dkk3 m c t w j d, D3 m c t hf, kvT_k m c t 3 j d ⟨768 + d.val, by omega⟩ (by simp)]
  have e : (⟨768 + d.val, by omega⟩ : Fin 1024) = ⟨(3 : Fin 4).val * 256 + d.val, by simp; omega⟩ := Fin.ext (by simp)
  rw [e]
  simp only [blkq]
  rfl

/-- The gradient of head 3's values at grid point `t`, from the reference. -/
theorem dv3 (c : Dev nD) (t : Fin cfg0.N) (w : Vec Ideal S256x256 .f32) (j d : Fin 256) :
    (show EReal from (k0_pay29 (k0_pay4 (iblk m c 0 t) (iblk m c 5 t)) (k0_pay24 (k0_pay3 (iblk m c 2 t)) (View.ld (iblk m c 6 t) (Rect.unit ![0, 768] ![256, 256] inb_S256x2048_S256x256_0_768))) w) (ix2 j d)) = (show EReal from w (ix2 j d)) + kvT m c t (ix2 j ⟨1792 + d.val, by omega⟩) := by
  rw [dvk3 m c t w j d, P3 m c t, kvT_v m c t 3 j d ⟨1792 + d.val, by omega⟩ (by simp; omega)]
  have e : (⟨768 + d.val, by omega⟩ : Fin 1024) = ⟨(3 : Fin 4).val * 256 + d.val, by simp; omega⟩ := Fin.ext (by simp)
  rw [e]
  refine congrArg (_ + ·) (Finset.sum_congr rfl fun r _ => ?_)
  rw [blkdo, mul_comm]
  rfl

/-- The pieces that a grid point stores into the third output's block, the last first, `W` what stood there. -/
abbrev kvs (c : Dev nD) (t : Fin cfg0.N) (W : Vec Ideal S256x2048 .f32) : List (View.Piece (Elt Ideal) S256x2048 .f32) :=
    [⟨Rect.unit ![0, 1792] ![256, 256] inb_S256x2048_S256x256_0_1792,
        k0_pay29 (k0_pay4 (iblk m c 0 t) (iblk m c 5 t)) (k0_pay24 (k0_pay3 (iblk m c 2 t)) (View.ld (iblk m c 6 t) (Rect.unit ![0, 768] ![256, 256] inb_S256x2048_S256x256_0_768))) (View.ld W (Rect.unit ![0, 1792] ![256, 256] inb_S256x2048_S256x256_0_1792))⟩,
      ⟨Rect.unit ![0, 768] ![256, 256] inb_S256x2048_S256x256_0_768,
        k0_pay28 (k0_pay3 (iblk m c 2 t)) (k0_pay4 (iblk m c 0 t) (iblk m c 5 t)) (k0_pay24 (k0_pay3 (iblk m c 2 t)) (View.ld (iblk m c 6 t) (Rect.unit ![0, 768] ![256, 256] inb_S256x2048_S256x256_0_768))) (View.ld (iblk m c 6 t) (Rect.unit ![0, 1792] ![256, 256] inb_S256x2048_S256x256_0_1792)) (View.ld W (Rect.unit ![0, 768] ![256, 256] inb_S256x2048_S256x256_0_768))⟩,
      ⟨Rect.unit ![0, 1536] ![256, 256] inb_S256x2048_S256x256_0_1536,
        k0_pay23 (k0_pay4 (iblk m c 0 t) (iblk m c 5 t)) ((k0_pay18 (k0_pay3 (iblk m c 2 t)) (View.ld (iblk m c 6 t) (Rect.unit ![0, 512] ![256, 256] inb_S256x2048_S256x256_0_512)))) (View.ld W (Rect.unit ![0, 1536] ![256, 256] inb_S256x2048_S256x256_0_1536))⟩,
      ⟨Rect.unit ![0, 512] ![256, 256] inb_S256x2048_S256x256_0_512,
        k0_pay22 (k0_pay3 (iblk m c 2 t)) ((k0_pay18 (k0_pay3 (iblk m c 2 t)) (View.ld (iblk m c 6 t) (Rect.unit ![0, 512] ![256, 256] inb_S256x2048_S256x256_0_512)))) (k0_pay19 (k0_pay4 (iblk m c 0 t) (iblk m c 5 t))) (View.ld (iblk m c 6 t) (Rect.unit ![0, 1536] ![256, 256] inb_S256x2048_S256x256_0_1536)) (View.ld W (Rect.unit ![0, 512] ![256, 256] inb_S256x2048_S256x256_0_512))⟩,
      ⟨Rect.unit ![0, 1280] ![256, 256] inb_S256x2048_S256x256_0_1280,
        k0_pay17 (k0_pay4 (iblk m c 0 t) (iblk m c 5 t)) ((k0_pay12 (k0_pay3 (iblk m c 2 t)) (View.ld (iblk m c 6 t) (Rect.unit ![0, 256] ![256, 256] inb_S256x2048_S256x256_0_256)))) (View.ld W (Rect.unit ![0, 1280] ![256, 256] inb_S256x2048_S256x256_0_1280))⟩,
      ⟨Rect.unit ![0, 256] ![256, 256] inb_S256x2048_S256x256_0_256,
        k0_pay16 (k0_pay3 (iblk m c 2 t)) ((k0_pay12 (k0_pay3 (iblk m c 2 t)) (View.ld (iblk m c 6 t) (Rect.unit ![0, 256] ![256, 256] inb_S256x2048_S256x256_0_256)))) (k0_pay13 (k0_pay3 (iblk m c 2 t)) (k0_pay4 (iblk m c 0 t) (iblk m c 5 t)) (View.ld (iblk m c 6 t) (Rect.unit ![0, 256] ![256, 256] inb_S256x2048_S256x256_0_256)) (View.ld (iblk m c 6 t) (Rect.unit ![0, 1280] ![256, 256] inb_S256x2048_S256x256_0_1280))) (View.ld W (Rect.unit ![0, 256] ![256, 256] inb_S256x2048_S256x256_0_256))⟩,
      ⟨Rect.unit ![0, 1024] ![256, 256] inb_S256x2048_S256x256_0_1024,
        k0_pay11 (k0_pay4 (iblk m c 0 t) (iblk m c 5 t)) ((k0_pay5 (iblk m c 2 t) (View.ld (iblk m c 6 t) (Rect.unit ![0, 0] ![256, 256] inb_S256x2048_S256x256_0_0)))) (View.ld W (Rect.unit ![0, 1024] ![256, 256] inb_S256x2048_S256x256_0_1024))⟩,
      ⟨Rect.unit ![0, 0] ![256, 256] inb_S256x2048_S256x256_0_0,
        k0_pay10 ((k0_pay3 (iblk m c 2 t))) ((k0_pay6 (iblk m c 0 t) (iblk m c 2 t) (iblk m c 5 t) (View.ld (iblk m c 6 t) (Rect.unit ![0, 0] ![256, 256] inb_S256x2048_S256x256_0_0)) (View.ld (iblk m c 6 t) (Rect.unit ![0, 1024] ![256, 256] inb_S256x2048_S256x256_0_1024)))) (View.ld W (Rect.unit ![0, 0] ![256, 256] inb_S256x2048_S256x256_0_0))⟩]

/-- The pieces cover the block. -/
theorem cover_kv (c : Dev nD) (t : Fin cfg0.N) (W : Vec Ideal S256x2048 .f32) : ∀ y : S256x2048.Idx, ∃ p ∈ kvs m c t W, y ∈ p.1.set :=
  View.cover_of_tiledBy _ ![256, 256] (by sl_kernel_rfl)

/-- Over any earlier stores the pieces leave what stood there with the grid point's part added. -/
theorem canon_kv (c : Dev nD) (t : Fin cfg0.N) (hf : Fin5 m c) (W : Vec Ideal S256x2048 .f32) (L : List (View.Piece (Elt Ideal) S256x2048 .f32)) (y : S256x2048.Idx) :
    View.canon (Val := Elt Ideal) (s := S256x2048) (e := .f32) (kvs m c t W ++ L) y = (show EReal from W y) + kvT m c t y := by
  refine View.canon_append_of_piecesOf (fun y => (show EReal from W y) + kvT m c t y) L (kvs m c t W) ⟨?_, ?_, ?_, ?_, ?_, ?_, ?_, ?_, trivial⟩ y (cover_kv m c t W y)
  · intro (x : S256x256.Idx)
    idx_vars x
    refine (dv3 m c t (View.ld W (Rect.unit ![0, 1792] ![256, 256] inb_S256x2048_S256x256_0_1792)) x0 x1).trans ?_
    rw [show (Rect.unit (s := S256x2048) ![0, 1792] ![256, 256] inb_S256x2048_S256x256_0_1792).emb (ix2 x0 x1) = ix2 x0 ⟨1792 + x1.val, by omega⟩ from by
      funext k
      refine Fin.ext ?_
      match k with
      | ⟨0, _⟩ => exact (by simp [Rect.emb, Rect.unit])
      | ⟨1, _⟩ => exact (by simp [Rect.emb, Rect.unit])]
    exact congrArg (· + kvT m c t (ix2 x0 ⟨1792 + x1.val, by omega⟩)) (show View.ld W (Rect.unit ![0, 1792] ![256, 256] inb_S256x2048_S256x256_0_1792) (ix2 x0 x1) = _ from by pointwise [])
  · intro (x : S256x256.Idx)
    idx_vars x
    refine (dk3 m c t hf (View.ld W (Rect.unit ![0, 768] ![256, 256] inb_S256x2048_S256x256_0_768)) x0 x1).trans ?_
    rw [show (Rect.unit (s := S256x2048) ![0, 768] ![256, 256] inb_S256x2048_S256x256_0_768).emb (ix2 x0 x1) = ix2 x0 ⟨768 + x1.val, by omega⟩ from by
      funext k
      refine Fin.ext ?_
      match k with
      | ⟨0, _⟩ => exact (by simp [Rect.emb, Rect.unit])
      | ⟨1, _⟩ => exact (by simp [Rect.emb, Rect.unit])]
    exact congrArg (· + kvT m c t (ix2 x0 ⟨768 + x1.val, by omega⟩)) (show View.ld W (Rect.unit ![0, 768] ![256, 256] inb_S256x2048_S256x256_0_768) (ix2 x0 x1) = _ from by pointwise [])
  · intro (x : S256x256.Idx)
    idx_vars x
    refine (dv2 m c t (View.ld W (Rect.unit ![0, 1536] ![256, 256] inb_S256x2048_S256x256_0_1536)) x0 x1).trans ?_
    rw [show (Rect.unit (s := S256x2048) ![0, 1536] ![256, 256] inb_S256x2048_S256x256_0_1536).emb (ix2 x0 x1) = ix2 x0 ⟨1536 + x1.val, by omega⟩ from by
      funext k
      refine Fin.ext ?_
      match k with
      | ⟨0, _⟩ => exact (by simp [Rect.emb, Rect.unit])
      | ⟨1, _⟩ => exact (by simp [Rect.emb, Rect.unit])]
    exact congrArg (· + kvT m c t (ix2 x0 ⟨1536 + x1.val, by omega⟩)) (show View.ld W (Rect.unit ![0, 1536] ![256, 256] inb_S256x2048_S256x256_0_1536) (ix2 x0 x1) = _ from by pointwise [])
  · intro (x : S256x256.Idx)
    idx_vars x
    refine (dk2 m c t hf (View.ld W (Rect.unit ![0, 512] ![256, 256] inb_S256x2048_S256x256_0_512)) x0 x1).trans ?_
    rw [show (Rect.unit (s := S256x2048) ![0, 512] ![256, 256] inb_S256x2048_S256x256_0_512).emb (ix2 x0 x1) = ix2 x0 ⟨512 + x1.val, by omega⟩ from by
      funext k
      refine Fin.ext ?_
      match k with
      | ⟨0, _⟩ => exact (by simp [Rect.emb, Rect.unit])
      | ⟨1, _⟩ => exact (by simp [Rect.emb, Rect.unit])]
    exact congrArg (· + kvT m c t (ix2 x0 ⟨512 + x1.val, by omega⟩)) (show View.ld W (Rect.unit ![0, 512] ![256, 256] inb_S256x2048_S256x256_0_512) (ix2 x0 x1) = _ from by pointwise [])
  · intro (x : S256x256.Idx)
    idx_vars x
    refine (dv1 m c t (View.ld W (Rect.unit ![0, 1280] ![256, 256] inb_S256x2048_S256x256_0_1280)) x0 x1).trans ?_
    rw [show (Rect.unit (s := S256x2048) ![0, 1280] ![256, 256] inb_S256x2048_S256x256_0_1280).emb (ix2 x0 x1) = ix2 x0 ⟨1280 + x1.val, by omega⟩ from by
      funext k
      refine Fin.ext ?_
      match k with
      | ⟨0, _⟩ => exact (by simp [Rect.emb, Rect.unit])
      | ⟨1, _⟩ => exact (by simp [Rect.emb, Rect.unit])]
    exact congrArg (· + kvT m c t (ix2 x0 ⟨1280 + x1.val, by omega⟩)) (show View.ld W (Rect.unit ![0, 1280] ![256, 256] inb_S256x2048_S256x256_0_1280) (ix2 x0 x1) = _ from by pointwise [])
  · intro (x : S256x256.Idx)
    idx_vars x
    refine (dk1 m c t hf (View.ld W (Rect.unit ![0, 256] ![256, 256] inb_S256x2048_S256x256_0_256)) x0 x1).trans ?_
    rw [show (Rect.unit (s := S256x2048) ![0, 256] ![256, 256] inb_S256x2048_S256x256_0_256).emb (ix2 x0 x1) = ix2 x0 ⟨256 + x1.val, by omega⟩ from by
      funext k
      refine Fin.ext ?_
      match k with
      | ⟨0, _⟩ => exact (by simp [Rect.emb, Rect.unit])
      | ⟨1, _⟩ => exact (by simp [Rect.emb, Rect.unit])]
    exact congrArg (· + kvT m c t (ix2 x0 ⟨256 + x1.val, by omega⟩)) (show View.ld W (Rect.unit ![0, 256] ![256, 256] inb_S256x2048_S256x256_0_256) (ix2 x0 x1) = _ from by pointwise [])
  · intro (x : S256x256.Idx)
    idx_vars x
    refine (dv0 m c t (View.ld W (Rect.unit ![0, 1024] ![256, 256] inb_S256x2048_S256x256_0_1024)) x0 x1).trans ?_
    rw [show (Rect.unit (s := S256x2048) ![0, 1024] ![256, 256] inb_S256x2048_S256x256_0_1024).emb (ix2 x0 x1) = ix2 x0 ⟨1024 + x1.val, by omega⟩ from by
      funext k
      refine Fin.ext ?_
      match k with
      | ⟨0, _⟩ => exact (by simp [Rect.emb, Rect.unit])
      | ⟨1, _⟩ => exact (by simp [Rect.emb, Rect.unit])]
    exact congrArg (· + kvT m c t (ix2 x0 ⟨1024 + x1.val, by omega⟩)) (show View.ld W (Rect.unit ![0, 1024] ![256, 256] inb_S256x2048_S256x256_0_1024) (ix2 x0 x1) = _ from by pointwise [])
  · intro (x : S256x256.Idx)
    idx_vars x
    refine (dk0 m c t hf (View.ld W (Rect.unit ![0, 0] ![256, 256] inb_S256x2048_S256x256_0_0)) x0 x1).trans ?_
    rw [show (Rect.unit (s := S256x2048) ![0, 0] ![256, 256] inb_S256x2048_S256x256_0_0).emb (ix2 x0 x1) = ix2 x0 ⟨0 + x1.val, by omega⟩ from by
      funext k
      refine Fin.ext ?_
      match k with
      | ⟨0, _⟩ => exact (by simp [Rect.emb, Rect.unit])
      | ⟨1, _⟩ => exact (by simp [Rect.emb, Rect.unit])]
    exact congrArg (· + kvT m c t (ix2 x0 ⟨0 + x1.val, by omega⟩)) (show View.ld W (Rect.unit ![0, 0] ![256, 256] inb_S256x2048_S256x256_0_0) (ix2 x0 x1) = _ from by pointwise [])

/-- Read back whole, the pieces are that block. -/
theorem readCov_dq (c : Dev nD) (t : Fin cfg0.N) (hf : Fin5 m c) :
    (ms0_8 t).view.readCov (Val := Elt Ideal) (pieces m c t)
      (Rect.unit ![0, 0] ![512, 1024] inb_S512x1024_S512x1024_0_0).toLoadRect = dqB m c t := by
  rw [View.readCov_eq_canon_ld _ _ _ (cover_dq m c t), canon_dq m c t hf]
  exact View.ld_unit_lit _ _ (by decide)

open Cert.XattnReferenceIdeal.Read in
/-- The gradient of the queries' product before it is rounded. -/
theorem v85_eq (c : Dev nD) (i : S8192x1024.Idx) : val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) i = val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) i := rfl

open Cert.XattnReferenceIdeal.Read in
/-- The array that window 8 leaves is the reference's gradient of the queries' product. -/
theorem arr8 (c : Dev nD) (hr : Fin5 m c) :
    (dats m 0 c).arrAt 8 cfg0.N = val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 8 _ (by decide +kernel) fun t hf y => ?_
  blk_simp
  rw [after0_8]
  by_cases h : t.val % 16 = 0
  · rw [outsAt0_A m c t h]
    frame_out
    refine (congrFun (canon_dq m c t hr) y).trans ?_
    idx_vars y
    unfold dqB
    blk_point [iblk, idx t]
    change 512 * t.val + y0.val = _
    omega
  · rw [outsAt0_B m c t h]
    frame_out
    refine (congrFun (canon_dq m c t hr) y).trans ?_
    idx_vars y
    unfold dqB
    blk_point [iblk, idx t]
    change 512 * t.val + y0.val = _
    omega

open Cert.XattnReferenceIdeal.Read in
/-- The run of grid points that ends at the last one adds up the reference's gradient of the keys and values. -/
theorem kvT_run (c : Dev nD) (t : Fin cfg0.N) (h1 : t.val % 16 = 15) (y y' : S256x2048.Idx) (e : y' = y) :
    (0 : EReal) + ∑ s : Fin 16, kvT m c ⟨16 * (t.val / 16) + s.val, Pipeline.run_point_lt_of_flush t h1 s⟩ y = val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) y' := by
  have h2 : t.val < 16 := t.isLt
  rw [e, kvT_sum, zero_add]
  refine Finset.sum_congr rfl fun s _ => ?_
  have hs := s.isLt
  exact congrArg (kvT m c · y) (Fin.ext (by simp only; omega))

open Cert.XattnReferenceIdeal.Read in
/-- The array that window 9 leaves is the reference's gradient of the keys and values. -/
theorem arr9 (c : Dev nD) (hr : Fin5 m c) :
    (dats m 0 c).arrAt 9 cfg0.N = val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 9 _ (by decide +kernel) fun t hf y => ?_
  blk_simp
  rw [after0_9]
  have h1 : t.val % 16 = 15 := (flush0_9 t).mp hf
  have h2 : t.val < 16 := t.isLt
  rw [Pipeline.eq_sum_fin_of_reset_step_apply_of_flush (fun n h => (outsAt0 m c n h).2.2.1) 16 (fun _ => 0) (fun t => kvT m c t) ?_ ?_ t h1 y]
  · refine kvT_run m c t h1 y _ ?_
    idx_vars y
    blk_point [idx t]
  · intro t h j
    rw [outsAt0_A m c t h]
    frame_open
    simp (discharger := decide) only [↓View.readCov_skip, ↓View.readCov_fill]
    frame_out
    refine (canon_kv m c t hr (k0_pay1 (F := Ideal)) [⟨Rect.unit ![0, 0] ![256, 2048] inb_S256x2048_S256x2048_0_0, k0_pay1 (F := Ideal)⟩] j).trans ?_
    unfold k0_pay1
    idx_vars j
    pointwise []
  · intro t h j
    rw [outsAt0_B m c t h]
    frame_open
    simp (discharger := decide) only
    frame_out
    exact canon_kv m c t hr _ [] j

set_option maxHeartbeats 2000000 in
open Cert.XattnReferenceIdeal.Read in
/-- The array that window 7 leaves is the reference's gradient of the block's input. -/
theorem arr7 (c : Dev nD) (hr : Fin5 m c) :
    (dats m 0 c).arrAt 7 cfg0.N = val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 7 _ (by decide +kernel) fun t hf y => ?_
  blk_simp
  rw [after0_7]
  have e : (outsAt0 m c t.val t.isLt).1 = k0_pay33 (iblk m c 0 t) (dqB m c t) (iblk m c 4 t) (iblk m c 1 t) (iblk m c 3 t) := by
    by_cases h : t.val % 16 = 0
    · rw [outsAt0_A m c t h]
      frame_out
      erw [readCov_dq m c t hr]
    · rw [outsAt0_B m c t h]
      frame_out
      erw [readCov_dq m c t hr]
  rw [e]
  idx_vars y
  unfold k0_pay33 k0_pay32 k0_pay31 k0_pay30
  pointwise [dqB, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_v86, val_main_v87, val_main_cst_17, val_main_v88, val_main_v89, val_main_v90, val_main_v91, val_main_cst_18, val_main_v92, val_main_v93, val_main_cst_19, val_main_v94, val_main_v95, val_main_v96, val_main_v97, val_main_v98, val_main_cst_20, val_main_v99, val_main_v100, val_main_cst_21, val_main_v101, val_main_v102, val_main_v103, val_main_v104, val_main_v105, val_main_v106, val_main_v107, val_main_v109]
  have key := Cert.Alg.rms_dx (fun x => iblk m c 1 t (ix2 y0 x)) (fun j => ∑ x, dqB m c t (ix2 y0 x) * iblk m c 4 t (ix2 j x)) (fun x => iblk m c 3 t (ix2 0 x)) y1
  pointwise [Cert.Alg.ms, dqB] at key
  rw [key]
  simp only [Finset.univ_unique, Finset.sum_singleton, add_assoc, v85_eq]
  blk_point [iblk, V, idx t]

/-- What one grid point adds to the gradient of the gain, from the block's cotangent and its input rows. -/
def gainT (h : FVec Ideal S512x1024 .f32) (x : Vec Ideal S512x1024 .f32) (y : S1x1024.Idx) : EReal :=
  ∑ k : Fin 512, (show EReal from h (ix2 k (y 1))) * ((show EReal from x (ix2 k (y 1))) * Ideal.rsqrt (Cert.Alg.ms fun i => (show EReal from x (ix2 k i))))

set_option maxHeartbeats 2000000 in
open Cert.XattnReferenceIdeal.Read in
/-- The array that window 10 leaves is the reference's gradient of the norm's gain. -/
theorem arr10 (c : Dev nD) (hr : Fin5 m c) :
    (dats m 0 c).arrAt 10 cfg0.N = val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 10 _ (by decide +kernel) fun t hf y => ?_
  blk_simp
  rw [after0_10]
  have h1 : t.val % 16 = 15 := (flush0_10 t).mp hf
  rw [Pipeline.eq_sum_fin_of_reset_step_apply_of_flush (fun n h => (outsAt0 m c n h).2.2.2) 16 (fun _ => 0) (fun t => gainT (k0_pay30 (dqB m c t) (iblk m c 4 t)) (iblk m c 1 t)) ?_ ?_ t h1 y]
  · unfold gainT Cert.Alg.ms
    idx_vars y
    unfold k0_pay30
    pointwise [dqB, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_v86, val_main_v87, val_main_cst_17, val_main_v88, val_main_v89, val_main_v90, val_main_v91, val_main_cst_18, val_main_v92, val_main_v93, val_main_cst_19, val_main_v94, val_main_v95, val_main_v96, val_main_v97, val_main_v98, val_main_cst_20, val_main_v99, val_main_v100, val_main_cst_21, val_main_v101, val_main_v102, val_main_v103, val_main_v104, val_main_v105, val_main_v106, val_main_v107, val_main_v109]
    simp only [Finset.univ_unique, Finset.sum_singleton, v85_eq]
    refine Fin.sum_mul_add_congr fun s k hl => ?_
    rw [mul_comm]
    have hs := s.isLt
    have i0 := idx ⟨16 * (t.val / 16) + s.val, Pipeline.run_point_lt_of_flush t h1 s⟩
    blk_point [iblk, V, i0, idx t]
  · intro t h j
    rw [outsAt0_A m c t h]
    frame_out
    erw [readCov_dq m c t hr]
    unfold gainT Cert.Alg.ms
    unfold k0_pay34 k0_pay32 k0_pay31 k0_pay2
    idx_vars j
    pointwise []
  · intro t h j
    rw [outsAt0_B m c t h]
    frame_out
    erw [readCov_dq m c t hr]
    unfold gainT Cert.Alg.ms
    unfold k0_pay34 k0_pay32 k0_pay31
    idx_vars j
    pointwise []

end Cert.Xattn

end
-- ==== Proof.XattnPre.lean ====
/- What the precondition of the attention into the memory tokens says of its arrays. -/
module

public import proofs.«01_k».proof.Proof.Reals
public import proofs.«01_k».proof.Pre_xattn_finite
public import Idealize.ShloMosaic.Lib.ReduceAll

@[expose] public section

set_option maxRecDepth 16384

noncomputable section
namespace Cert.Xattn
open Idealize.ShloMosaic Idealize.SL.Sem
open Cert.Reals (R)

open Cert.Pre_xattn_finite in
/-- What the precondition says of the five arrays it names. -/
theorem of_pre [Cert.Pre_xattn_finite.Facts] (x0 x1 : FVec Ideal S8192x1024 .f32) (x2 : FVec Ideal S1024 .f32) (x3 : FVec Ideal S256x2048 .bf16) (x4 x5 : FVec Ideal S1024x1024 .f32)
    (h : (fn (F := Ideal) x0 x1 x2 x3 x4 x5).1 = (fun _ => 1#1) ∧ (fn (F := Ideal) x0 x1 x2 x3 x4 x5).2.1 = (fun _ => 1#1)
      ∧ (fn (F := Ideal) x0 x1 x2 x3 x4 x5).2.2.1 = (fun _ => 1#1) ∧ (fn (F := Ideal) x0 x1 x2 x3 x4 x5).2.2.2.1 = (fun _ => 1#1)
      ∧ (fn (F := Ideal) x0 x1 x2 x3 x4 x5).2.2.2.2 = (fun _ => 1#1)) :
    (∀ i, R (x0 i)) ∧ (∀ i, R (x2 i)) ∧ (∀ i, R (x3 i)) ∧ (∀ i, R (x4 i)) ∧ (∀ i, R (x5 i)) := by
  haveI : Subsingleton S_.Idx := ⟨fun a b => funext fun k => k.elim0⟩
  dsimp only [fn, fn_part1] at h
  obtain ⟨h0, h2, h3, h4, h5⟩ := h
  have j : S_.Idx := fun k => k.elim0
  exact ⟨fun i => Cert.Reals.R.of_lt (Host.reduce_andi_all _ _ _ _ j (congrFun h0 j) i), fun i => Cert.Reals.R.of_lt (Host.reduce_andi_all _ _ _ _ j (congrFun h2 j) i),
    fun i => Cert.Reals.R.of_lt (Host.reduce_andi_all _ _ _ _ j (congrFun h3 j) i), fun i => Cert.Reals.R.of_lt (Host.reduce_andi_all _ _ _ _ j (congrFun h4 j) i),
    fun i => Cert.Reals.R.of_lt (Host.reduce_andi_all _ _ _ _ j (congrFun h5 j) i)⟩
end Cert.Xattn

end
-- ==== Proof.Down.lean ====
/- The weight gradient of the channel mixer's second product: the tiled accumulation is the one contraction. -/
module

public import proofs.«01_k».proof.Proof.Gen.DownKernelIdeal.Value
public import proofs.«01_k».proof.Proof.Gen.DownReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Down

open Cert.DownKernelIdeal Cert.DownKernelIdeal.Gen Idealize.ShloMosaic Idealize.ShloMosaic.TcCoe Idealize.SL.Sem

variable (m : (ℓ : Loc nD τ sig) → Buf (Elt Ideal) ℓ)

theorem idx : ∀ t : Fin cfg0.N,
    win0_0.index t = ![t.val % 4, t.val / 4] ∧ win0_1.index t = ![t.val % 4, 0] ∧ win0_2.index t = ![t.val / 4, 0] :=
  (by decide +kernel : ∀ t : Fin grid0.N, _)

/-- What one grid point adds to the accumulator, from its two blocks. -/
def dotT (a : Vec Ideal S2048x1408 .bf16) (b : Vec Ideal S2048x1024 .f32) (y : S1408x1024.Idx) : EReal :=
  ∑ k : Fin 2048, (show EReal from a (ix2 k (y 0))) * (show EReal from b (ix2 k (y 1)))

open Cert.DownReferenceIdeal.Read in
theorem arr2 (c : Dev nD) :
    (dats m 0 c).arrAt 2 cfg0.N = Cert.DownReferenceIdeal.Read.val_main_v5 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  have h1 : t.val % 4 = 3 := (flush0_2 t).mp hf
  have h0 : ¬ t.val % 4 = 0 := by omega
  have e : ∀ y, (outsAt0 m c t.val t.isLt).1 y = (outsAt0 m c t.val t.isLt).2 y := by
    intro y
    rw [outsAt0_C m c t h0 h1]
    frame_out
    simp only [read_unread_whole]
    rfl
  rw [e]
  rw [Pipeline.eq_sum_fin_of_reset_step_apply_of_flush (fun n h => (outsAt0 m c n h).2) 4 (fun _ => 0) (fun t => dotT (iblk m c 0 t) (iblk m c 1 t)) ?_ ?_ t h1 y]
  · unfold dotT
    idx_vars y
    pointwise [val_main_v0, val_main_v1, val_main_v2, val_main_v3, val_main_v4, val_main_v5, val_main_cst]
    refine Fin.sum_mul_add_congr fun s k hl => ?_
    rw [mul_comm]
    have hs := s.isLt
    have i0 := idx ⟨4 * (t.val / 4) + s.val, Pipeline.run_point_lt_of_flush t h1 s⟩
    blk_point [iblk, V, i0, idx t]

  · intro t h j
    rw [outsAt0_A m c t h (by omega)]
    frame_out
    unfold dotT
    unfold_payloads
    idx_vars j
    pointwise []

  · intro t h j
    by_cases h1 : t.val % 4 = 3
    · rw [outsAt0_C m c t h h1]
      frame_out
      simp only [read_unread_whole]
      unfold dotT
      unfold_payloads
      idx_vars j
      pointwise []

    · rw [outsAt0_B m c t h h1]
      frame_out
      simp only [read_unread_whole]
      unfold dotT
      unfold_payloads
      idx_vars j
      pointwise []

end Cert.Down

end
-- ==== Proof.Up.lean ====
/- The weight gradient of the channel mixer's first product: the tiled accumulation is the one contraction. -/
module

public import proofs.«01_k».proof.Proof.Gen.UpKernelIdeal.Value
public import proofs.«01_k».proof.Proof.Gen.UpReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Up

open Cert.UpKernelIdeal Cert.UpKernelIdeal.Gen Idealize.ShloMosaic Idealize.ShloMosaic.TcCoe Idealize.SL.Sem

variable (m : (ℓ : Loc nD τ sig) → Buf (Elt Ideal) ℓ)

theorem idx : ∀ t : Fin cfg0.N,
    win0_0.index t = ![t.val % 4, t.val / 4] ∧ win0_1.index t = ![t.val % 4, 0] ∧ win0_2.index t = ![t.val / 4, 0] :=
  (by decide +kernel : ∀ t : Fin grid0.N, _)

/-- What one grid point adds to the accumulator, from its two blocks. -/
def dotT (a : Vec Ideal S2048x1408 .bf16) (b : Vec Ideal S2048x1024 .bf16) (y : S1408x1024.Idx) : EReal :=
  ∑ k : Fin 2048, (show EReal from a (ix2 k (y 0))) * (show EReal from b (ix2 k (y 1)))

open Cert.UpReferenceIdeal.Read in
theorem arr2 (c : Dev nD) :
    (dats m 0 c).arrAt 2 cfg0.N = Cert.UpReferenceIdeal.Read.val_main_v7 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  have h1 : t.val % 4 = 3 := (flush0_2 t).mp hf
  have h0 : ¬ t.val % 4 = 0 := by omega
  have e : ∀ y, (outsAt0 m c t.val t.isLt).1 y = (outsAt0 m c t.val t.isLt).2 y := by
    intro y
    rw [outsAt0_C m c t h0 h1]
    frame_out
    simp only [read_unread_whole]
    rfl
  rw [e]
  rw [Pipeline.eq_sum_fin_of_reset_step_apply_of_flush (fun n h => (outsAt0 m c n h).2) 4 (fun _ => 0) (fun t => dotT (iblk m c 0 t) (iblk m c 1 t)) ?_ ?_ t h1 y]
  · unfold dotT
    idx_vars y
    pointwise [val_main_v0, val_main_v1, val_main_v2, val_main_v3, val_main_v4, val_main_v5, val_main_v6, val_main_v7, val_main_cst]
    refine Fin.sum_mul_add_congr fun s k hl => ?_
    have hs := s.isLt
    have i0 := idx ⟨4 * (t.val / 4) + s.val, Pipeline.run_point_lt_of_flush t h1 s⟩
    blk_point [iblk, V, i0, idx t]

  · intro t h j
    rw [outsAt0_A m c t h (by omega)]
    frame_out
    unfold dotT
    unfold_payloads
    idx_vars j
    pointwise []

  · intro t h j
    by_cases h1 : t.val % 4 = 3
    · rw [outsAt0_C m c t h h1]
      frame_out
      simp only [read_unread_whole]
      unfold dotT
      unfold_payloads
      idx_vars j
      pointwise []

    · rw [outsAt0_B m c t h h1]
      frame_out
      simp only [read_unread_whole]
      unfold dotT
      unfold_payloads
      idx_vars j
      pointwise []

end Cert.Up

end
-- ==== Proof.Out.lean ====
/- The weight gradient of the output product: the tiled accumulation is the one contraction. -/
module

public import proofs.«01_k».proof.Proof.Gen.OutKernelIdeal.Value
public import proofs.«01_k».proof.Proof.Gen.OutReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Out

open Cert.OutKernelIdeal Cert.OutKernelIdeal.Gen Idealize.ShloMosaic Idealize.ShloMosaic.TcCoe Idealize.SL.Sem

variable (m : (ℓ : Loc nD τ sig) → Buf (Elt Ideal) ℓ)

theorem idx : ∀ t : Fin cfg0.N,
    win0_0.index t = ![t.val % 4, t.val / 4] ∧ win0_1.index t = ![t.val % 4, 0] ∧ win0_2.index t = ![t.val / 4, 0] :=
  (by decide +kernel : ∀ t : Fin grid0.N, _)

/-- What one grid point adds to the accumulator, from its two blocks. -/
def dotT (a : Vec Ideal S2048x1024 .bf16) (b : Vec Ideal S2048x1024 .f32) (y : S1024x1024.Idx) : EReal :=
  ∑ k : Fin 2048, (show EReal from a (ix2 k (y 0))) * (show EReal from b (ix2 k (y 1)))

open Cert.OutReferenceIdeal.Read in
theorem arr2 (c : Dev nD) :
    (dats m 0 c).arrAt 2 cfg0.N = Cert.OutReferenceIdeal.Read.val_main_v5 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  have h1 : t.val % 4 = 3 := (flush0_2 t).mp hf
  have h0 : ¬ t.val % 4 = 0 := by omega
  have e : ∀ y, (outsAt0 m c t.val t.isLt).1 y = (outsAt0 m c t.val t.isLt).2 y := by
    intro y
    rw [outsAt0_C m c t h0 h1]
    frame_out
    simp only [read_unread_whole]
    rfl
  rw [e]
  rw [Pipeline.eq_sum_fin_of_reset_step_apply_of_flush (fun n h => (outsAt0 m c n h).2) 4 (fun _ => 0) (fun t => dotT (iblk m c 0 t) (iblk m c 1 t)) ?_ ?_ t h1 y]
  · unfold dotT
    idx_vars y
    pointwise [val_main_v0, val_main_v1, val_main_v2, val_main_v3, val_main_v4, val_main_v5, val_main_cst]
    refine Fin.sum_mul_add_congr fun s k hl => ?_
    rw [mul_comm]
    have hs := s.isLt
    have i0 := idx ⟨4 * (t.val / 4) + s.val, Pipeline.run_point_lt_of_flush t h1 s⟩
    blk_point [iblk, V, i0, idx t]

  · intro t h j
    rw [outsAt0_A m c t h (by omega)]
    frame_out
    unfold dotT
    unfold_payloads
    idx_vars j
    pointwise []

  · intro t h j
    by_cases h1 : t.val % 4 = 3
    · rw [outsAt0_C m c t h h1]
      frame_out
      simp only [read_unread_whole]
      unfold dotT
      unfold_payloads
      idx_vars j
      pointwise []

    · rw [outsAt0_B m c t h h1]
      frame_out
      simp only [read_unread_whole]
      unfold dotT
      unfold_payloads
      idx_vars j
      pointwise []

end Cert.Out

end
-- ==== Proof.Query.lean ====
/- The weight gradient of the query product: the tiled accumulation is the one contraction. -/
module

public import proofs.«01_k».proof.Proof.Gen.QueryKernelIdeal.Value
public import proofs.«01_k».proof.Proof.Gen.QueryReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Query

open Cert.QueryKernelIdeal Cert.QueryKernelIdeal.Gen Idealize.ShloMosaic Idealize.ShloMosaic.TcCoe Idealize.SL.Sem

variable (m : (ℓ : Loc nD τ sig) → Buf (Elt Ideal) ℓ)

theorem idx : ∀ t : Fin cfg0.N,
    win0_0.index t = ![t.val % 4, t.val / 4] ∧ win0_1.index t = ![t.val % 4, 0] ∧ win0_2.index t = ![t.val / 4, 0] :=
  (by decide +kernel : ∀ t : Fin grid0.N, _)

/-- What one grid point adds to the accumulator, from its two blocks. -/
def dotT (a : Vec Ideal S2048x1024 .bf16) (b : Vec Ideal S2048x1024 .bf16) (y : S1024x1024.Idx) : EReal :=
  ∑ k : Fin 2048, (show EReal from a (ix2 k (y 0))) * (show EReal from b (ix2 k (y 1)))

open Cert.QueryReferenceIdeal.Read in
theorem arr2 (c : Dev nD) :
    (dats m 0 c).arrAt 2 cfg0.N = Cert.QueryReferenceIdeal.Read.val_main_v6 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  have h1 : t.val % 4 = 3 := (flush0_2 t).mp hf
  have h0 : ¬ t.val % 4 = 0 := by omega
  have e : ∀ y, (outsAt0 m c t.val t.isLt).1 y = (outsAt0 m c t.val t.isLt).2 y := by
    intro y
    rw [outsAt0_C m c t h0 h1]
    frame_out
    simp only [read_unread_whole]
    rfl
  rw [e]
  rw [Pipeline.eq_sum_fin_of_reset_step_apply_of_flush (fun n h => (outsAt0 m c n h).2) 4 (fun _ => 0) (fun t => dotT (iblk m c 0 t) (iblk m c 1 t)) ?_ ?_ t h1 y]
  · unfold dotT
    idx_vars y
    pointwise [val_main_v0, val_main_v1, val_main_v2, val_main_v3, val_main_v4, val_main_v5, val_main_v6, val_main_cst]
    refine Fin.sum_mul_add_congr fun s k hl => ?_
    rw [mul_comm]
    have hs := s.isLt
    have i0 := idx ⟨4 * (t.val / 4) + s.val, Pipeline.run_point_lt_of_flush t h1 s⟩
    blk_point [iblk, V, i0, idx t]

  · intro t h j
    rw [outsAt0_A m c t h (by omega)]
    frame_out
    unfold dotT
    unfold_payloads
    idx_vars j
    pointwise []

  · intro t h j
    by_cases h1 : t.val % 4 = 3
    · rw [outsAt0_C m c t h h1]
      frame_out
      simp only [read_unread_whole]
      unfold dotT
      unfold_payloads
      idx_vars j
      pointwise []

    · rw [outsAt0_B m c t h h1]
      frame_out
      simp only [read_unread_whole]
      unfold dotT
      unfold_payloads
      idx_vars j
      pointwise []

end Cert.Query

end
-- ==== Proof.Pair.lean ====
/- The weight gradients of the two branch products: each tiled accumulation is the one contraction. -/
module

public import proofs.«01_k».proof.Proof.Gen.PairKernelIdeal.Value
public import proofs.«01_k».proof.Proof.Gen.PairReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Pair

open Cert.PairKernelIdeal Cert.PairKernelIdeal.Gen Idealize.ShloMosaic Idealize.ShloMosaic.TcCoe Idealize.SL.Sem

variable (m : (ℓ : Loc nD τ sig) → Buf (Elt Ideal) ℓ)

theorem idx : ∀ t : Fin cfg0.N,
    win0_0.index t = ![t.val % 4, 0] ∧ win0_1.index t = ![t.val % 4, 0] ∧ win0_2.index t = ![t.val % 4, 0]
      ∧ win0_3.index t = ![t.val % 4, 0] ∧ win0_4.index t = ![0, 0] ∧ win0_5.index t = ![0, 0] :=
  (by decide +kernel : ∀ t : Fin grid0.N, _)

/-- What one grid point adds to the accumulator, from its two blocks. -/
def dotT (a : Vec Ideal S2048x1024 .bf16) (b : Vec Ideal S2048x512 .bf16) (y : S1024x512.Idx) : EReal :=
  ∑ k : Fin 2048, (show EReal from a (ix2 k (y 0))) * (show EReal from b (ix2 k (y 1)))

open Cert.PairReferenceIdeal.Read in
theorem arr4 (c : Dev nD) :
    (dats m 0 c).arrAt 4 cfg0.N = Cert.PairReferenceIdeal.Read.val_main_v7 (F := Ideal) (m ((c.tc : Thread nD τ).loc main_arg0)) (m ((c.tc : Thread nD τ).loc main_arg1)) := by
  refine (dats m 0 c).arrAt_eq_of_covers 4 _ (by decide +kernel) fun t hf y => ?_
  blk_simp
  rw [after0_4]
  have h1 : t.val % 4 = 3 := (flush0_4 t).mp hf
  have h0 : ¬ t.val % 4 = 0 := by omega
  have e : ∀ y, (outsAt0 m c t.val t.isLt).1 y = (outsAt0 m c t.val t.isLt).2.2.1 y := by
    intro y
    rw [outsAt0_C m c t h0 h1]
    frame_out
    simp only [read_unread_whole]
    rfl
  rw [e]
  rw [Pipeline.eq_sum_fin_of_reset_step_apply_of_flush (fun n h => (outsAt0 m c n h).2.2.1) 4 (fun _ => 0) (fun t => dotT (iblk m c 0 t) (iblk m c 1 t)) ?_ ?_ t h1 y]
  · unfold dotT
    idx_vars y
    pointwise [val_main_v0, val_main_v1, val_main_v2, val_main_v3, val_main_v4, val_main_v5, val_main_v6, val_main_v7, val_main_cst]
    refine Fin.sum_mul_add_congr fun s k hl => ?_
    have hs := s.isLt
    have i0 := idx ⟨4 * (t.val / 4) + s.val, Pipeline.run_point_lt_of_flush t h1 s⟩
    blk_point [iblk, V, i0, idx t]

  · intro t h j
    rw [outsAt0_A m c t h (by omega)]
    frame_out
    unfold dotT
    unfold_payloads
    idx_vars j
    pointwise []

  · intro t h j
    by_cases h1 : t.val % 4 = 3
    · rw [outsAt0_C m c t h h1]
      frame_out
      simp only [read_unread_whole]
      unfold dotT
      unfold_payloads
      idx_vars j
      pointwise []

    · rw [outsAt0_B m c t h h1]
      frame_out
      simp only [read_unread_whole]
      unfold dotT
      unfold_payloads
      idx_vars j
      pointwise []

open Cert.PairReferenceIdeal.Read in
theorem arr5 (c : Dev nD) :
    (dats m 0 c).arrAt 5 cfg0.N = Cert.PairReferenceIdeal.Read.val_main_v15 (F := Ideal) (m ((c.tc : Thread nD τ).loc main_arg2)) (m ((c.tc : Thread nD τ).loc main_arg3)) := by
  refine (dats m 0 c).arrAt_eq_of_covers 5 _ (by decide +kernel) fun t hf y => ?_
  blk_simp
  rw [after0_5]
  have h1 : t.val % 4 = 3 := (flush0_5 t).mp hf
  have h0 : ¬ t.val % 4 = 0 := by omega
  have e : ∀ y, (outsAt0 m c t.val t.isLt).2.1 y = (outsAt0 m c t.val t.isLt).2.2.2 y := by
    intro y
    rw [outsAt0_C m c t h0 h1]
    frame_out
    simp only [read_unread_whole]
    rfl
  rw [e]
  rw [Pipeline.eq_sum_fin_of_reset_step_apply_of_flush (fun n h => (outsAt0 m c n h).2.2.2) 4 (fun _ => 0) (fun t => dotT (iblk m c 2 t) (iblk m c 3 t)) ?_ ?_ t h1 y]
  · unfold dotT
    idx_vars y
    pointwise [val_main_v8, val_main_v9, val_main_v10, val_main_v11, val_main_v12, val_main_v13, val_main_v14, val_main_v15, val_main_cst_0]
    refine Fin.sum_mul_add_congr fun s k hl => ?_
    have hs := s.isLt
    have i0 := idx ⟨4 * (t.val / 4) + s.val, Pipeline.run_point_lt_of_flush t h1 s⟩
    blk_point [iblk, V, i0, idx t]

  · intro t h j
    rw [outsAt0_A m c t h (by omega)]
    frame_out
    unfold dotT
    unfold_payloads
    idx_vars j
    pointwise []

  · intro t h j
    by_cases h1 : t.val % 4 = 3
    · rw [outsAt0_C m c t h h1]
      frame_out
      simp only [read_unread_whole]
      unfold dotT
      unfold_payloads
      idx_vars j
      pointwise []

    · rw [outsAt0_B m c t h h1]
      frame_out
      simp only [read_unread_whole]
      unfold dotT
      unfold_payloads
      idx_vars j
      pointwise []

end Cert.Pair

end
-- ==== Proof.Proj.lean ====
/- The weight gradient of the input projection: the tiled accumulation is the one contraction. -/
module

public import proofs.«01_k».proof.Proof.Gen.ProjKernelIdeal.Value
public import proofs.«01_k».proof.Proof.Gen.ProjReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proj

open Cert.ProjKernelIdeal Cert.ProjKernelIdeal.Gen Idealize.ShloMosaic Idealize.ShloMosaic.TcCoe Idealize.SL.Sem

variable (m : (ℓ : Loc nD τ sig) → Buf (Elt Ideal) ℓ)

theorem idx : ∀ t : Fin cfg0.N,
    win0_0.index t = ![t.val % 4, t.val / 4] ∧ win0_1.index t = ![t.val % 4, 0] ∧ win0_2.index t = ![t.val / 4, 0] :=
  (by decide +kernel : ∀ t : Fin grid0.N, _)

/-- What one grid point adds to the accumulator, from its two blocks. -/
def dotT (a : Vec Ideal S2048x1152 .bf16) (b : Vec Ideal S2048x1024 .bf16) (y : S1152x1024.Idx) : EReal :=
  ∑ k : Fin 2048, (show EReal from a (ix2 k (y 0))) * (show EReal from b (ix2 k (y 1)))

open Cert.ProjReferenceIdeal.Read in
theorem arr2 (c : Dev nD) :
    (dats m 0 c).arrAt 2 cfg0.N = Cert.ProjReferenceIdeal.Read.val_main_v7 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  have h1 : t.val % 4 = 3 := (flush0_2 t).mp hf
  have h0 : ¬ t.val % 4 = 0 := by omega
  have e : ∀ y, (outsAt0 m c t.val t.isLt).1 y = (outsAt0 m c t.val t.isLt).2 y := by
    intro y
    rw [outsAt0_C m c t h0 h1]
    frame_out
    simp only [read_unread_whole]
    rfl
  rw [e]
  rw [Pipeline.eq_sum_fin_of_reset_step_apply_of_flush (fun n h => (outsAt0 m c n h).2) 4 (fun _ => 0) (fun t => dotT (iblk m c 0 t) (iblk m c 1 t)) ?_ ?_ t h1 y]
  · unfold dotT
    idx_vars y
    pointwise [val_main_v0, val_main_v1, val_main_v2, val_main_v3, val_main_v4, val_main_v5, val_main_v6, val_main_v7, val_main_cst]
    refine Fin.sum_mul_add_congr fun s k hl => ?_
    have hs := s.isLt
    have i0 := idx ⟨4 * (t.val / 4) + s.val, Pipeline.run_point_lt_of_flush t h1 s⟩
    blk_point [iblk, V, i0, idx t]

  · intro t h j
    rw [outsAt0_A m c t h (by omega)]
    frame_out
    unfold dotT
    unfold_payloads
    idx_vars j
    pointwise []

  · intro t h j
    by_cases h1 : t.val % 4 = 3
    · rw [outsAt0_C m c t h h1]
      frame_out
      simp only [read_unread_whole]
      unfold dotT
      unfold_payloads
      idx_vars j
      pointwise []

    · rw [outsAt0_B m c t h h1]
      frame_out
      simp only [read_unread_whole]
      unfold dotT
      unfold_payloads
      idx_vars j
      pointwise []

end Cert.Proj

end
-- ==== Proof.Xo.lean ====
/- The weight gradient of the cross-attention output product: the tiled accumulation is the one contraction. -/
module

public import proofs.«01_k».proof.Proof.Gen.XoKernelIdeal.Value
public import proofs.«01_k».proof.Proof.Gen.XoReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Xo

open Cert.XoKernelIdeal Cert.XoKernelIdeal.Gen Idealize.ShloMosaic Idealize.ShloMosaic.TcCoe Idealize.SL.Sem

variable (m : (ℓ : Loc nD τ sig) → Buf (Elt Ideal) ℓ)

theorem idx : ∀ t : Fin cfg0.N,
    win0_0.index t = ![t.val % 4, t.val / 4] ∧ win0_1.index t = ![t.val % 4, 0] ∧ win0_2.index t = ![t.val / 4, 0] :=
  (by decide +kernel : ∀ t : Fin grid0.N, _)

/-- What one grid point adds to the accumulator, from its two blocks. -/
def dotT (a : Vec Ideal S2048x1024 .bf16) (b : Vec Ideal S2048x1024 .f32) (y : S1024x1024.Idx) : EReal :=
  ∑ k : Fin 2048, (show EReal from a (ix2 k (y 0))) * (show EReal from b (ix2 k (y 1)))

open Cert.XoReferenceIdeal.Read in
theorem arr2 (c : Dev nD) :
    (dats m 0 c).arrAt 2 cfg0.N = Cert.XoReferenceIdeal.Read.val_main_v5 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  have h1 : t.val % 4 = 3 := (flush0_2 t).mp hf
  have h0 : ¬ t.val % 4 = 0 := by omega
  have e : ∀ y, (outsAt0 m c t.val t.isLt).1 y = (outsAt0 m c t.val t.isLt).2 y := by
    intro y
    rw [outsAt0_C m c t h0 h1]
    frame_out
    simp only [read_unread_whole]
    rfl
  rw [e]
  rw [Pipeline.eq_sum_fin_of_reset_step_apply_of_flush (fun n h => (outsAt0 m c n h).2) 4 (fun _ => 0) (fun t => dotT (iblk m c 0 t) (iblk m c 1 t)) ?_ ?_ t h1 y]
  · unfold dotT
    idx_vars y
    pointwise [val_main_v0, val_main_v1, val_main_v2, val_main_v3, val_main_v4, val_main_v5, val_main_cst]
    refine Fin.sum_mul_add_congr fun s k hl => ?_
    rw [mul_comm]
    have hs := s.isLt
    have i0 := idx ⟨4 * (t.val / 4) + s.val, Pipeline.run_point_lt_of_flush t h1 s⟩
    blk_point [iblk, V, i0, idx t]

  · intro t h j
    rw [outsAt0_A m c t h (by omega)]
    frame_out
    unfold dotT
    unfold_payloads
    idx_vars j
    pointwise []

  · intro t h j
    by_cases h1 : t.val % 4 = 3
    · rw [outsAt0_C m c t h h1]
      frame_out
      simp only [read_unread_whole]
      unfold dotT
      unfold_payloads
      idx_vars j
      pointwise []

    · rw [outsAt0_B m c t h h1]
      frame_out
      simp only [read_unread_whole]
      unfold dotT
      unfold_payloads
      idx_vars j
      pointwise []

end Cert.Xo

end
-- ==== Proof.Rows.lean ====
/- The forward input projection: each output array of the kernel, index by index, is the reference's. -/
module

public import proofs.«01_k».proof.Proof.Gen.RowsKernelIdeal.Value
public import proofs.«01_k».proof.Proof.Gen.RowsReferenceIdeal.Read
public import Idealize.ShloMosaic.Lib.Pipeline.ValueKit
public import Idealize.ShloMosaic.Lib.Pointwise

@[expose] public section

set_option maxRecDepth 16384

noncomputable section

namespace Cert.Rows

open Cert.RowsKernelIdeal Cert.RowsKernelIdeal.Gen Idealize.ShloMosaic Idealize.ShloMosaic.TcCoe Idealize.SL.Sem

variable (m : (ℓ : Loc nD τ sig) → Buf (Elt Ideal) ℓ)

/-- The block index of every window at each grid point. -/
theorem idx : ∀ t : Fin cfg0.N,
    win0_0.index t = ![t.val, 0] ∧ win0_1.index t = ![0, 0] ∧ win0_2.index t = ![t.val, 0] ∧ win0_3.index t = ![t.val, 0] ∧ win0_4.index t = ![t.val, 0] :=
  (by decide +kernel : ∀ t : Fin grid0.N, _)

open Cert.RowsReferenceIdeal.Read in
/-- The array that window 2 leaves is the reference's queries, keys and values. -/
theorem arr2 (c : Dev nD) :
    (dats m 0 c).arrAt 2 cfg0.N = val_main_v12 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  canon_tiles x h
  all_goals (idx_vars x; unfold_payloads; pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst])
  all_goals repeat' split
  all_goals first
    | (rename_i p q; blk_simp [idx t] at p q; omega)
    | (rename_i p; blk_simp [idx t] at p; omega)
    | blk_point [iblk, V, idx t]

open Cert.RowsReferenceIdeal.Read in
/-- The array that window 3 leaves is the reference's gating rows. -/
theorem arr3 (c : Dev nD) :
    (dats m 0 c).arrAt 3 cfg0.N = val_main_v14 (F := Ideal) (m ((c.tc : Thread nD τ).loc main_arg0)) (m ((c.tc : Thread nD τ).loc main_arg1)) := by
  refine (dats m 0 c).arrAt_eq_of_covers 3 _ (by decide +kernel) fun t hf y => ?_
  blk_simp
  rw [after0_3]
  frame_out
  canon_tiles x h
  all_goals (idx_vars x; unfold_payloads; pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst])
  all_goals repeat' split
  all_goals first
    | (rename_i p q; blk_simp [idx t] at p q; omega)
    | (rename_i p; blk_simp [idx t] at p; omega)
    | blk_point [iblk, V, idx t]

open Cert.RowsReferenceIdeal.Read in
/-- The array that window 4 leaves is the reference's gates. -/
theorem arr4 (c : Dev nD) :
    (dats m 0 c).arrAt 4 cfg0.N = val_main_v16 (F := Ideal) (m ((c.tc : Thread nD τ).loc main_arg0)) (m ((c.tc : Thread nD τ).loc main_arg1)) := by
  refine (dats m 0 c).arrAt_eq_of_covers 4 _ (by decide +kernel) fun t hf y => ?_
  blk_simp
  rw [after0_4]
  frame_out
  canon_tiles x h
  all_goals (idx_vars x; unfold_payloads; pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst])
  all_goals repeat' split
  all_goals first
    | (rename_i p q; blk_simp [idx t] at p q; omega)
    | (rename_i p; blk_simp [idx t] at p; omega)
    | blk_point [iblk, V, idx t]

end Cert.Rows

end
-- ==== Proof.Join.lean ====
/- The forward gated merge: the array of the kernel, index by index, is the reference's. -/
module

public import proofs.«01_k».proof.Proof.Gen.JoinKernelIdeal.Value
public import proofs.«01_k».proof.Proof.Gen.JoinReferenceIdeal.Read
public import Idealize.ShloMosaic.Lib.Pipeline.ValueKit
public import Idealize.ShloMosaic.Lib.Pointwise

@[expose] public section

set_option maxRecDepth 16384

noncomputable section

namespace Cert.Join

open Cert.JoinKernelIdeal Cert.JoinKernelIdeal.Gen Idealize.ShloMosaic Idealize.ShloMosaic.TcCoe Idealize.SL.Sem

variable (m : (ℓ : Loc nD τ sig) → Buf (Elt Ideal) ℓ)

/-- The block index of every window at each grid point. -/
theorem idx : ∀ t : Fin cfg0.N,
    win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![t.val, 0] :=
  (by decide +kernel : ∀ t : Fin grid0.N, _)

open Cert.JoinReferenceIdeal.Read in
/-- The array that window 7 leaves is the reference's merged residual. -/
theorem arr7 (c : Dev nD) :
    (dats m 0 c).arrAt 7 cfg0.N = val_main_v23 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 7 _ (by decide +kernel) fun t hf y => ?_
  blk_simp
  rw [after0_7]
  frame_out
  idx_vars y
  unfold_payloads
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2]
  simp only [zero_sub]
  blk_point [iblk, V, idx t]

end Cert.Join

end
-- ==== Proof.Square.lean ====
/- The optimiser of the output weights: gradient, step and moments of the kernel are the reference's. -/
module

public import proofs.«01_k».proof.Proof.Gen.SquareKernelIdeal.Value
public import proofs.«01_k».proof.Proof.Gen.SquareReferenceIdeal.Read
public import Idealize.ShloMosaic.Lib.Pipeline.ValueKit
public import Idealize.ShloMosaic.Lib.Pointwise

@[expose] public section

set_option maxRecDepth 16384

noncomputable section

namespace Cert.Square

open Cert.SquareKernelIdeal Cert.SquareKernelIdeal.Gen Idealize.ShloMosaic Idealize.ShloMosaic.TcCoe Idealize.SL.Sem

variable (m : (ℓ : Loc nD τ sig) → Buf (Elt Ideal) ℓ)

/-- The block index of every window. -/
theorem idx : ∀ t : Fin cfg0.N,
    win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

open Cert.SquareReferenceIdeal.Read in
/-- The array that window 4 leaves is the reference's gradient. -/
theorem arr4 (c : Dev nD) :
    (dats m 0 c).arrAt 4 cfg0.N = val_main_v1 (F := Ideal) (m ((c.tc : Thread nD τ).loc main_arg0)) := by
  refine (dats m 0 c).arrAt_eq_of_covers 4 _ (by decide +kernel) fun t hf y => ?_
  blk_simp
  rw [after0_4]
  frame_out
  idx_vars y
  unfold_payloads
  pointwise [val_main_v1, val_main_v0, val_main_cst]
  simp only [Fin.sum_univ_four]
  blk_point [iblk, V, idx t]

open Cert.SquareReferenceIdeal.Read in
/-- The array that window 5 leaves is the reference's step. -/
theorem arr5 (c : Dev nD) :
    (dats m 0 c).arrAt 5 cfg0.N = val_main_v25 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  frame_out
  idx_vars y
  unfold_payloads
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v12, val_main_v8, val_main_v7, val_main_cst_2, val_main_v11, val_main_v9, val_main_v1, val_main_v0, val_main_cst, val_main_v10, val_main_cst_3, val_main_v14, val_main_v6, val_main_v5, val_main_v4, val_main_cst_1, val_main_v3, val_main_v2, val_main_cst_0, val_main_v13, val_main_cst_4]
  simp only [Fin.sum_univ_four]
  blk_point [iblk, V, idx t]

open Cert.SquareReferenceIdeal.Read in
/-- The array that window 6 leaves is the reference's first moment. -/
theorem arr6 (c : Dev nD) :
    (dats m 0 c).arrAt 6 cfg0.N = val_main_v6 (F := Ideal) (m ((c.tc : Thread nD τ).loc main_arg0)) (m ((c.tc : Thread nD τ).loc main_arg2)) := by
  refine (dats m 0 c).arrAt_eq_of_covers 6 _ (by decide +kernel) fun t hf y => ?_
  blk_simp
  rw [after0_6]
  frame_out
  idx_vars y
  unfold_payloads
  pointwise [val_main_v6, val_main_v5, val_main_v4, val_main_cst_1, val_main_v1, val_main_v0, val_main_cst, val_main_v3, val_main_v2, val_main_cst_0]
  simp only [Fin.sum_univ_four]
  blk_point [iblk, V, idx t]

open Cert.SquareReferenceIdeal.Read in
/-- The array that window 7 leaves is the reference's second moment. -/
theorem arr7 (c : Dev nD) :
    (dats m 0 c).arrAt 7 cfg0.N = val_main_v12 (F := Ideal) (m ((c.tc : Thread nD τ).loc main_arg0)) (m ((c.tc : Thread nD τ).loc main_arg3)) := by
  refine (dats m 0 c).arrAt_eq_of_covers 7 _ (by decide +kernel) fun t hf y => ?_
  blk_simp
  rw [after0_7]
  frame_out
  idx_vars y
  unfold_payloads
  pointwise [val_main_v12, val_main_v8, val_main_v7, val_main_cst_2, val_main_v11, val_main_v9, val_main_v1, val_main_v0, val_main_cst, val_main_v10, val_main_cst_3]
  simp only [Fin.sum_univ_four]
  blk_point [iblk, V, idx t]

end Cert.Square

end
-- ==== Proof.Wide.lean ====
/- The optimiser of the channel mixer's output weight: gradient, step and moments of the kernel are the reference's. -/
module

public import proofs.«01_k».proof.Proof.Gen.WideKernelIdeal.Value
public import proofs.«01_k».proof.Proof.Gen.WideReferenceIdeal.Read
public import Idealize.ShloMosaic.Lib.Pipeline.ValueKit
public import Idealize.ShloMosaic.Lib.Pointwise

@[expose] public section

set_option maxRecDepth 16384

noncomputable section

namespace Cert.Wide

open Cert.WideKernelIdeal Cert.WideKernelIdeal.Gen Idealize.ShloMosaic Idealize.ShloMosaic.TcCoe Idealize.SL.Sem

variable (m : (ℓ : Loc nD τ sig) → Buf (Elt Ideal) ℓ)

/-- The block index of every window. -/
theorem idx : ∀ t : Fin cfg0.N,
    win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

open Cert.WideReferenceIdeal.Read in
/-- The array that window 4 leaves is the reference's gradient. -/
theorem arr4 (c : Dev nD) :
    (dats m 0 c).arrAt 4 cfg0.N = val_main_v1 (F := Ideal) (m ((c.tc : Thread nD τ).loc main_arg0)) := by
  refine (dats m 0 c).arrAt_eq_of_covers 4 _ (by decide +kernel) fun t hf y => ?_
  blk_simp
  rw [after0_4]
  frame_out
  idx_vars y
  unfold_payloads
  pointwise [val_main_v1, val_main_v0, val_main_cst]
  simp only [Fin.sum_univ_four]
  blk_point [iblk, V, idx t]

open Cert.WideReferenceIdeal.Read in
/-- The array that window 5 leaves is the reference's step. -/
theorem arr5 (c : Dev nD) :
    (dats m 0 c).arrAt 5 cfg0.N = val_main_v25 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  frame_out
  idx_vars y
  unfold_payloads
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v12, val_main_v8, val_main_v7, val_main_cst_2, val_main_v11, val_main_v9, val_main_v1, val_main_v0, val_main_cst, val_main_v10, val_main_cst_3, val_main_v14, val_main_v6, val_main_v5, val_main_v4, val_main_cst_1, val_main_v3, val_main_v2, val_main_cst_0, val_main_v13, val_main_cst_4]
  simp only [Fin.sum_univ_four]
  blk_point [iblk, V, idx t]

open Cert.WideReferenceIdeal.Read in
/-- The array that window 6 leaves is the reference's first moment. -/
theorem arr6 (c : Dev nD) :
    (dats m 0 c).arrAt 6 cfg0.N = val_main_v6 (F := Ideal) (m ((c.tc : Thread nD τ).loc main_arg0)) (m ((c.tc : Thread nD τ).loc main_arg2)) := by
  refine (dats m 0 c).arrAt_eq_of_covers 6 _ (by decide +kernel) fun t hf y => ?_
  blk_simp
  rw [after0_6]
  frame_out
  idx_vars y
  unfold_payloads
  pointwise [val_main_v6, val_main_v5, val_main_v4, val_main_cst_1, val_main_v1, val_main_v0, val_main_cst, val_main_v3, val_main_v2, val_main_cst_0]
  simp only [Fin.sum_univ_four]
  blk_point [iblk, V, idx t]

open Cert.WideReferenceIdeal.Read in
/-- The array that window 7 leaves is the reference's second moment. -/
theorem arr7 (c : Dev nD) :
    (dats m 0 c).arrAt 7 cfg0.N = val_main_v12 (F := Ideal) (m ((c.tc : Thread nD τ).loc main_arg0)) (m ((c.tc : Thread nD τ).loc main_arg3)) := by
  refine (dats m 0 c).arrAt_eq_of_covers 7 _ (by decide +kernel) fun t hf y => ?_
  blk_simp
  rw [after0_7]
  frame_out
  idx_vars y
  unfold_payloads
  pointwise [val_main_v12, val_main_v8, val_main_v7, val_main_cst_2, val_main_v11, val_main_v9, val_main_v1, val_main_v0, val_main_cst, val_main_v10, val_main_cst_3]
  simp only [Fin.sum_univ_four]
  blk_point [iblk, V, idx t]

end Cert.Wide

end
-- ==== Proof.InStep.lean ====
/- The optimiser of the input projection's weight, turned: gradient, step and moments of the kernel are the reference's. -/
module

public import proofs.«01_k».proof.Proof.Gen.InStepKernelIdeal.Value
public import proofs.«01_k».proof.Proof.Gen.InStepReferenceIdeal.Read
public import Idealize.ShloMosaic.Lib.Pipeline.ValueKit
public import Idealize.ShloMosaic.Lib.Pointwise

@[expose] public section

set_option maxRecDepth 16384

noncomputable section

namespace Cert.InStep

open Cert.InStepKernelIdeal Cert.InStepKernelIdeal.Gen Idealize.ShloMosaic Idealize.ShloMosaic.TcCoe Idealize.SL.Sem

variable (m : (ℓ : Loc nD τ sig) → Buf (Elt Ideal) ℓ)

/-- The block index of every window. -/
theorem idx : ∀ t : Fin cfg0.N,
    win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

open Cert.InStepReferenceIdeal.Read in
/-- The array that window 4 leaves is the reference's gradient. -/
theorem arr4 (c : Dev nD) :
    (dats m 0 c).arrAt 4 cfg0.N = val_main_v4 (F := Ideal) (m ((c.tc : Thread nD τ).loc main_arg0)) := by
  refine (dats m 0 c).arrAt_eq_of_covers 4 _ (by decide +kernel) fun t hf y => ?_
  blk_simp
  rw [after0_4]
  frame_out
  idx_vars y
  unfold_payloads
  pointwise [val_main_v4, val_main_v3, val_main_cst]
  simp only [Fin.sum_univ_four]
  blk_point [iblk, V, idx t]

open Cert.InStepReferenceIdeal.Read in
/-- The array that window 5 leaves is the reference's step. -/
theorem arr5 (c : Dev nD) :
    (dats m 0 c).arrAt 5 cfg0.N = val_main_v28 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  frame_out
  idx_vars y
  unfold_payloads
  pointwise [val_main_v28, val_main_v27, val_main_cst_8, val_main_v26, val_main_v25, val_main_v24, val_main_cst_7, val_main_v0, val_main_v23, val_main_v22, val_main_v21, val_main_cst_6, val_main_v20, val_main_v19, val_main_v18, val_main_cst_5, val_main_v15, val_main_v14, val_main_v13, val_main_cst_3, val_main_v12, val_main_v4, val_main_v3, val_main_cst, val_main_v11, val_main_v2, val_main_v10, val_main_cst_2, val_main_v17, val_main_v9, val_main_v8, val_main_v7, val_main_cst_1, val_main_v6, val_main_v5, val_main_cst_0, val_main_v1, val_main_v16, val_main_cst_4]
  simp only [Fin.sum_univ_four]
  blk_point [iblk, V, idx t]

open Cert.InStepReferenceIdeal.Read in
/-- The array that window 6 leaves is the reference's first moment. -/
theorem arr6 (c : Dev nD) :
    (dats m 0 c).arrAt 6 cfg0.N = val_main_v9 (F := Ideal) (m ((c.tc : Thread nD τ).loc main_arg0)) (m ((c.tc : Thread nD τ).loc main_arg2)) := by
  refine (dats m 0 c).arrAt_eq_of_covers 6 _ (by decide +kernel) fun t hf y => ?_
  blk_simp
  rw [after0_6]
  frame_out
  idx_vars y
  unfold_payloads
  pointwise [val_main_v9, val_main_v8, val_main_v7, val_main_cst_1, val_main_v4, val_main_v3, val_main_cst, val_main_v6, val_main_v5, val_main_cst_0, val_main_v1]
  simp only [Fin.sum_univ_four]
  blk_point [iblk, V, idx t]

open Cert.InStepReferenceIdeal.Read in
/-- The array that window 7 leaves is the reference's second moment. -/
theorem arr7 (c : Dev nD) :
    (dats m 0 c).arrAt 7 cfg0.N = val_main_v15 (F := Ideal) (m ((c.tc : Thread nD τ).loc main_arg0)) (m ((c.tc : Thread nD τ).loc main_arg3)) := by
  refine (dats m 0 c).arrAt_eq_of_covers 7 _ (by decide +kernel) fun t hf y => ?_
  blk_simp
  rw [after0_7]
  frame_out
  idx_vars y
  unfold_payloads
  pointwise [val_main_v15, val_main_v14, val_main_v13, val_main_cst_3, val_main_v12, val_main_v4, val_main_v3, val_main_cst, val_main_v11, val_main_v2, val_main_v10, val_main_cst_2]
  simp only [Fin.sum_univ_four]
  blk_point [iblk, V, idx t]

end Cert.InStep

end
-- ==== Proof.FfnStep.lean ====
/- The optimiser of the channel mixer's input weight, turned: gradient, step and moments of the kernel are the reference's. -/
module

public import proofs.«01_k».proof.Proof.Gen.FfnStepKernelIdeal.Value
public import proofs.«01_k».proof.Proof.Gen.FfnStepReferenceIdeal.Read
public import Idealize.ShloMosaic.Lib.Pipeline.ValueKit
public import Idealize.ShloMosaic.Lib.Pointwise

@[expose] public section

set_option maxRecDepth 16384

noncomputable section

namespace Cert.FfnStep

open Cert.FfnStepKernelIdeal Cert.FfnStepKernelIdeal.Gen Idealize.ShloMosaic Idealize.ShloMosaic.TcCoe Idealize.SL.Sem

variable (m : (ℓ : Loc nD τ sig) → Buf (Elt Ideal) ℓ)

/-- The block index of every window. -/
theorem idx : ∀ t : Fin cfg0.N,
    win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

open Cert.FfnStepReferenceIdeal.Read in
/-- The array that window 4 leaves is the reference's gradient. -/
theorem arr4 (c : Dev nD) :
    (dats m 0 c).arrAt 4 cfg0.N = val_main_v4 (F := Ideal) (m ((c.tc : Thread nD τ).loc main_arg0)) := by
  refine (dats m 0 c).arrAt_eq_of_covers 4 _ (by decide +kernel) fun t hf y => ?_
  blk_simp
  rw [after0_4]
  frame_out
  idx_vars y
  unfold_payloads
  pointwise [val_main_v4, val_main_v3, val_main_cst]
  simp only [Fin.sum_univ_four]
  blk_point [iblk, V, idx t]

open Cert.FfnStepReferenceIdeal.Read in
/-- The array that window 5 leaves is the reference's step. -/
theorem arr5 (c : Dev nD) :
    (dats m 0 c).arrAt 5 cfg0.N = val_main_v28 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  frame_out
  idx_vars y
  unfold_payloads
  pointwise [val_main_v28, val_main_v27, val_main_cst_8, val_main_v26, val_main_v25, val_main_v24, val_main_cst_7, val_main_v0, val_main_v23, val_main_v22, val_main_v21, val_main_cst_6, val_main_v20, val_main_v19, val_main_v18, val_main_cst_5, val_main_v15, val_main_v14, val_main_v13, val_main_cst_3, val_main_v12, val_main_v4, val_main_v3, val_main_cst, val_main_v11, val_main_v2, val_main_v10, val_main_cst_2, val_main_v17, val_main_v9, val_main_v8, val_main_v7, val_main_cst_1, val_main_v6, val_main_v5, val_main_cst_0, val_main_v1, val_main_v16, val_main_cst_4]
  simp only [Fin.sum_univ_four]
  blk_point [iblk, V, idx t]

open Cert.FfnStepReferenceIdeal.Read in
/-- The array that window 6 leaves is the reference's first moment. -/
theorem arr6 (c : Dev nD) :
    (dats m 0 c).arrAt 6 cfg0.N = val_main_v9 (F := Ideal) (m ((c.tc : Thread nD τ).loc main_arg0)) (m ((c.tc : Thread nD τ).loc main_arg2)) := by
  refine (dats m 0 c).arrAt_eq_of_covers 6 _ (by decide +kernel) fun t hf y => ?_
  blk_simp
  rw [after0_6]
  frame_out
  idx_vars y
  unfold_payloads
  pointwise [val_main_v9, val_main_v8, val_main_v7, val_main_cst_1, val_main_v4, val_main_v3, val_main_cst, val_main_v6, val_main_v5, val_main_cst_0, val_main_v1]
  simp only [Fin.sum_univ_four]
  blk_point [iblk, V, idx t]

open Cert.FfnStepReferenceIdeal.Read in
/-- The array that window 7 leaves is the reference's second moment. -/
theorem arr7 (c : Dev nD) :
    (dats m 0 c).arrAt 7 cfg0.N = val_main_v15 (F := Ideal) (m ((c.tc : Thread nD τ).loc main_arg0)) (m ((c.tc : Thread nD τ).loc main_arg3)) := by
  refine (dats m 0 c).arrAt_eq_of_covers 7 _ (by decide +kernel) fun t hf y => ?_
  blk_simp
  rw [after0_7]
  frame_out
  idx_vars y
  unfold_payloads
  pointwise [val_main_v15, val_main_v14, val_main_v13, val_main_cst_3, val_main_v12, val_main_v4, val_main_v3, val_main_cst, val_main_v11, val_main_v2, val_main_v10, val_main_cst_2]
  simp only [Fin.sum_univ_four]
  blk_point [iblk, V, idx t]

end Cert.FfnStep

end
-- ==== Proof.Eye.lean ====
/- A row of the identity matrix, built by comparing two counters, picks one element out of a sum. -/
module

public import Idealize.ShloMosaic.PureOps.Ideal.Laws
public import Idealize.ShloMosaic.Lib.Pointwise

@[expose] public section

noncomputable section
namespace Cert.Eye
open Idealize.ShloMosaic

/-- The comparison of two counters, as a float, is one where they agree and zero elsewhere. -/
theorem eye (n : ℕ) (hn : n < 2 ^ 32) (x y : Fin n) :
    FloatOps.sitofp (F := Ideal) .f32 (BitVec.setWidth 32 (IntOp.cmpi .eq (BitVec.ofNat 32 x.val) (BitVec.ofNat 32 y.val)))
      = (if x = y then (1 : EReal) else 0) := by
  have e : (BitVec.ofNat 32 x.val == BitVec.ofNat 32 y.val) = decide (x = y) := by
    rw [Bool.eq_iff_iff, beq_iff_eq, decide_eq_true_iff]
    constructor
    · intro h
      have h1 := congrArg BitVec.toNat h
      rw [BitVec.toNat_ofNat, BitVec.toNat_ofNat, Nat.mod_eq_of_lt (by omega), Nat.mod_eq_of_lt (by omega)] at h1
      exact Fin.ext h1
    · rintro rfl
      rfl
  simp only [FloatOps.sitofp, IntOp.cmpi, e]
  by_cases h : x = y
  · simp [h]
  · simp [h]

/-- A sum against a row of the identity matrix is the element that the row picks. -/
theorem sum_eye (n : ℕ) (hn : n < 2 ^ 32) (f : Fin n → EReal) (y : Fin n) :
    ∑ x : Fin n, f x * (show EReal from FloatOps.sitofp (F := Ideal) .f32 (BitVec.setWidth 32 (IntOp.cmpi .eq (BitVec.ofNat 32 x.val) (BitVec.ofNat 32 y.val))))
      = f y := by
  have h : ∀ x : Fin n, f x * (show EReal from FloatOps.sitofp (F := Ideal) .f32 (BitVec.setWidth 32 (IntOp.cmpi .eq (BitVec.ofNat 32 x.val) (BitVec.ofNat 32 y.val)))) = if x = y then f x else 0 := by
    intro x
    rw [eye n hn x y]
    by_cases h : x = y
    · simp [h]
    · simp [h]
  rw [Finset.sum_congr rfl fun x _ => h x, Finset.sum_ite_eq']
  exact if_pos (Finset.mem_univ y)

end Cert.Eye

end
-- ==== Proof.Branch.lean ====
/- The optimiser of the branch weights: gradient, step and moments of the kernel are the reference's. -/
module

public import proofs.«01_k».proof.Proof.Gen.BranchKernelIdeal.Value
public import proofs.«01_k».proof.Proof.Gen.BranchReferenceIdeal.Read
public import proofs.«01_k».proof.Proof.Eye
public import Idealize.ShloMosaic.Lib.Pipeline.ValueKit
public import Idealize.ShloMosaic.Lib.Pointwise

@[expose] public section

set_option maxRecDepth 16384

noncomputable section

namespace Cert.Branch

open Cert.BranchKernelIdeal Cert.BranchKernelIdeal.Gen Idealize.ShloMosaic Idealize.ShloMosaic.TcCoe Idealize.SL.Sem

variable (m : (ℓ : Loc nD τ sig) → Buf (Elt Ideal) ℓ)

/-- The block index of every window. -/
theorem idx : ∀ t : Fin cfg0.N,
    win0_0.index t = ![0, 0, t.val] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

open Cert.BranchReferenceIdeal.Read in
/-- The array that window 4 leaves is the reference's gradient. -/
theorem arr4 (c : Dev nD) :
    (dats m 0 c).arrAt 4 cfg0.N = val_main_v2 (F := Ideal) (m ((c.tc : Thread nD τ).loc main_arg0)) := by
  refine (dats m 0 c).arrAt_eq_of_covers 4 _ (by decide +kernel) fun t hf y => ?_
  blk_simp
  rw [after0_4]
  frame_out
  idx_vars y
  unfold_payloads
  pointwise [val_main_v2, val_main_v1, val_main_v0, val_main_cst]
  have key := fun z : Fin 4 => Cert.Eye.sum_eye 128 (by norm_num) (fun x => iblk m c 0 t (ix3 z x y0)) y1
  simp only [Fin.sum_univ_four]
  repeat rw [key]
  blk_point [iblk, V, idx t]

open Cert.BranchReferenceIdeal.Read in
/-- The array that window 5 leaves is the reference's step. -/
theorem arr5 (c : Dev nD) :
    (dats m 0 c).arrAt 5 cfg0.N = val_main_v26 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  frame_out
  idx_vars y
  unfold_payloads
  pointwise [val_main_v26, val_main_v25, val_main_cst_8, val_main_v24, val_main_v23, val_main_v22, val_main_cst_7, val_main_v21, val_main_v20, val_main_v19, val_main_cst_6, val_main_v18, val_main_v17, val_main_v16, val_main_cst_5, val_main_v13, val_main_v9, val_main_v8, val_main_cst_2, val_main_v12, val_main_v11, val_main_cst_3, val_main_v10, val_main_v2, val_main_v1, val_main_v0, val_main_cst, val_main_v15, val_main_v7, val_main_v6, val_main_v5, val_main_cst_1, val_main_v4, val_main_v3, val_main_cst_0, val_main_v14, val_main_cst_4]
  have key := fun z : Fin 4 => Cert.Eye.sum_eye 128 (by norm_num) (fun x => iblk m c 0 t (ix3 z x y0)) y1
  simp only [Fin.sum_univ_four]
  repeat rw [key]
  blk_point [iblk, V, idx t]

open Cert.BranchReferenceIdeal.Read in
/-- The array that window 6 leaves is the reference's first moment. -/
theorem arr6 (c : Dev nD) :
    (dats m 0 c).arrAt 6 cfg0.N = val_main_v7 (F := Ideal) (m ((c.tc : Thread nD τ).loc main_arg0)) (m ((c.tc : Thread nD τ).loc main_arg2)) := by
  refine (dats m 0 c).arrAt_eq_of_covers 6 _ (by decide +kernel) fun t hf y => ?_
  blk_simp
  rw [after0_6]
  frame_out
  idx_vars y
  unfold_payloads
  pointwise [val_main_v7, val_main_v6, val_main_v5, val_main_cst_1, val_main_v2, val_main_v1, val_main_v0, val_main_cst, val_main_v4, val_main_v3, val_main_cst_0]
  have key := fun z : Fin 4 => Cert.Eye.sum_eye 128 (by norm_num) (fun x => iblk m c 0 t (ix3 z x y0)) y1
  simp only [Fin.sum_univ_four]
  repeat rw [key]
  blk_point [iblk, V, idx t]

open Cert.BranchReferenceIdeal.Read in
/-- The array that window 7 leaves is the reference's second moment. -/
theorem arr7 (c : Dev nD) :
    (dats m 0 c).arrAt 7 cfg0.N = val_main_v13 (F := Ideal) (m ((c.tc : Thread nD τ).loc main_arg0)) (m ((c.tc : Thread nD τ).loc main_arg3)) := by
  refine (dats m 0 c).arrAt_eq_of_covers 7 _ (by decide +kernel) fun t hf y => ?_
  blk_simp
  rw [after0_7]
  frame_out
  idx_vars y
  unfold_payloads
  pointwise [val_main_v13, val_main_v9, val_main_v8, val_main_cst_2, val_main_v12, val_main_v11, val_main_cst_3, val_main_v10, val_main_v2, val_main_v1, val_main_v0, val_main_cst]
  have key := fun z : Fin 4 => Cert.Eye.sum_eye 128 (by norm_num) (fun x => iblk m c 0 t (ix3 z x y0)) y1
  simp only [Fin.sum_univ_four]
  repeat rw [key]
  blk_point [iblk, V, idx t]

end Cert.Branch

end
-- ==== Proof.Keys.lean ====
/- The optimiser of the keys' and values' weight: gradient, step and moments of the kernel are the reference's. -/
module

public import proofs.«01_k».proof.Proof.Gen.KeysKernelIdeal.Value
public import proofs.«01_k».proof.Proof.Gen.KeysReferenceIdeal.Read
public import proofs.«01_k».proof.Proof.Eye
public import Idealize.ShloMosaic.Lib.Pipeline.ValueKit
public import Idealize.ShloMosaic.Lib.Pointwise

@[expose] public section

set_option maxRecDepth 16384

noncomputable section

namespace Cert.Keys

open Cert.KeysKernelIdeal Cert.KeysKernelIdeal.Gen Idealize.ShloMosaic Idealize.ShloMosaic.TcCoe Idealize.SL.Sem

variable (m : (ℓ : Loc nD τ sig) → Buf (Elt Ideal) ℓ)

/-- The block index of every window. -/
theorem idx : ∀ t : Fin cfg0.N,
    win0_0.index t = ![0, 0, t.val] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

open Cert.KeysReferenceIdeal.Read in
/-- The array that window 4 leaves is the reference's gradient. -/
theorem arr4 (c : Dev nD) :
    (dats m 0 c).arrAt 4 cfg0.N = val_main_v2 (F := Ideal) (m ((c.tc : Thread nD τ).loc main_arg0)) := by
  refine (dats m 0 c).arrAt_eq_of_covers 4 _ (by decide +kernel) fun t hf y => ?_
  blk_simp
  rw [after0_4]
  frame_out
  idx_vars y
  unfold_payloads
  pointwise [val_main_v2, val_main_v1, val_main_v0, val_main_cst]
  have key := fun z : Fin 4 => Cert.Eye.sum_eye 256 (by norm_num) (fun x => iblk m c 0 t (ix3 z x y0)) y1
  simp only [Fin.sum_univ_four]
  repeat rw [key]
  blk_point [iblk, V, idx t]

open Cert.KeysReferenceIdeal.Read in
/-- The array that window 5 leaves is the reference's step. -/
theorem arr5 (c : Dev nD) :
    (dats m 0 c).arrAt 5 cfg0.N = val_main_v26 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  frame_out
  idx_vars y
  unfold_payloads
  pointwise [val_main_v26, val_main_v25, val_main_cst_8, val_main_v24, val_main_v23, val_main_v22, val_main_cst_7, val_main_v21, val_main_v20, val_main_v19, val_main_cst_6, val_main_v18, val_main_v17, val_main_v16, val_main_cst_5, val_main_v13, val_main_v9, val_main_v8, val_main_cst_2, val_main_v12, val_main_v11, val_main_cst_3, val_main_v10, val_main_v2, val_main_v1, val_main_v0, val_main_cst, val_main_v15, val_main_v7, val_main_v6, val_main_v5, val_main_cst_1, val_main_v4, val_main_v3, val_main_cst_0, val_main_v14, val_main_cst_4]
  have key := fun z : Fin 4 => Cert.Eye.sum_eye 256 (by norm_num) (fun x => iblk m c 0 t (ix3 z x y0)) y1
  simp only [Fin.sum_univ_four]
  repeat rw [key]
  blk_point [iblk, V, idx t]

open Cert.KeysReferenceIdeal.Read in
/-- The array that window 6 leaves is the reference's first moment. -/
theorem arr6 (c : Dev nD) :
    (dats m 0 c).arrAt 6 cfg0.N = val_main_v7 (F := Ideal) (m ((c.tc : Thread nD τ).loc main_arg0)) (m ((c.tc : Thread nD τ).loc main_arg2)) := by
  refine (dats m 0 c).arrAt_eq_of_covers 6 _ (by decide +kernel) fun t hf y => ?_
  blk_simp
  rw [after0_6]
  frame_out
  idx_vars y
  unfold_payloads
  pointwise [val_main_v7, val_main_v6, val_main_v5, val_main_cst_1, val_main_v2, val_main_v1, val_main_v0, val_main_cst, val_main_v4, val_main_v3, val_main_cst_0]
  have key := fun z : Fin 4 => Cert.Eye.sum_eye 256 (by norm_num) (fun x => iblk m c 0 t (ix3 z x y0)) y1
  simp only [Fin.sum_univ_four]
  repeat rw [key]
  blk_point [iblk, V, idx t]

open Cert.KeysReferenceIdeal.Read in
/-- The array that window 7 leaves is the reference's second moment. -/
theorem arr7 (c : Dev nD) :
    (dats m 0 c).arrAt 7 cfg0.N = val_main_v13 (F := Ideal) (m ((c.tc : Thread nD τ).loc main_arg0)) (m ((c.tc : Thread nD τ).loc main_arg3)) := by
  refine (dats m 0 c).arrAt_eq_of_covers 7 _ (by decide +kernel) fun t hf y => ?_
  blk_simp
  rw [after0_7]
  frame_out
  idx_vars y
  unfold_payloads
  pointwise [val_main_v13, val_main_v9, val_main_v8, val_main_cst_2, val_main_v12, val_main_v11, val_main_cst_3, val_main_v10, val_main_v2, val_main_v1, val_main_v0, val_main_cst]
  have key := fun z : Fin 4 => Cert.Eye.sum_eye 256 (by norm_num) (fun x => iblk m c 0 t (ix3 z x y0)) y1
  simp only [Fin.sum_univ_four]
  repeat rw [key]
  blk_point [iblk, V, idx t]

end Cert.Keys

end
-- ==== Proof.CrossRef.lean ====
/- What the reference's lines of the forward cross attention compute, head by head. -/
module

public import proofs.«01_k».proof.Proof.Soft
public import proofs.«01_k».proof.Proof.Gen.CrossReferenceIdeal.Read
public import Idealize.ShloMosaic.Lib.Pointwise

@[expose] public section

set_option maxRecDepth 16384

noncomputable section
namespace Cert.CrossRef
open Idealize.ShloMosaic Idealize.ShloMosaic.TcCoe Idealize.SL.Sem
open Cert.CrossReferenceIdeal Cert.CrossReferenceIdeal.Gen Cert.CrossReferenceIdeal.Read

/-- The scores of a head are the products of queries and keys. -/
theorem r24 (x0 : (⟨S8192x1024, .f32⟩ : BufTy).Contents (Elt Ideal)) (x1 : (⟨S1x1024, .f32⟩ : BufTy).Contents (Elt Ideal)) (x2 : (⟨S1024x1024, .f32⟩ : BufTy).Contents (Elt Ideal)) (x3 : (⟨S256x2048, .bf16⟩ : BufTy).Contents (Elt Ideal)) (h : Fin 4) (r : Fin 8192) (j : Fin 256) :
    val_main_v24 (F := Ideal) x0 x1 x2 x3 (ix3 h r j) = ∑ d : Fin 256, (val_main_v17 (F := Ideal) x0 x1 x2 (ix2 r ⟨h.val * 256 + d.val, by omega⟩)) * x3 (ix2 j ⟨h.val * 256 + d.val, by omega⟩) := by
  pointwise [val_main_v24, val_main_v23, val_main_v22, val_main_v21, val_main_v19, val_main_v18]

/-- The largest score of a row. -/
theorem r25 (x0 : (⟨S8192x1024, .f32⟩ : BufTy).Contents (Elt Ideal)) (x1 : (⟨S1x1024, .f32⟩ : BufTy).Contents (Elt Ideal)) (x2 : (⟨S1024x1024, .f32⟩ : BufTy).Contents (Elt Ideal)) (x3 : (⟨S256x2048, .bf16⟩ : BufTy).Contents (Elt Ideal)) (h : Fin 4) (r : Fin 8192) :
    val_main_v25 (F := Ideal) x0 x1 x2 x3 (ix2 h r) = Cert.Soft.mx (fun j => (val_main_v24 (F := Ideal) x0 x1 x2 x3 (ix3 h r j))) := by
  unfold Cert.Soft.mx
  pointwise [val_main_v25, val_main_cst_3]

/-- The exponentials of a row of scores. -/
theorem r31 (x0 : (⟨S8192x1024, .f32⟩ : BufTy).Contents (Elt Ideal)) (x1 : (⟨S1x1024, .f32⟩ : BufTy).Contents (Elt Ideal)) (x2 : (⟨S1024x1024, .f32⟩ : BufTy).Contents (Elt Ideal)) (x3 : (⟨S256x2048, .bf16⟩ : BufTy).Contents (Elt Ideal)) (h : Fin 4) (r : Fin 8192) (j : Fin 256) :
    val_main_v31 (F := Ideal) x0 x1 x2 x3 (ix3 h r j) = Ideal.exp ((val_main_v24 (F := Ideal) x0 x1 x2 x3 (ix3 h r j)) - Cert.Soft.mx (fun j => (val_main_v24 (F := Ideal) x0 x1 x2 x3 (ix3 h r j)))) := by
  rw [val_main_v31_apply, val_main_v30_apply, val_main_v29_apply, val_main_v28_apply, val_main_v27_apply, val_main_v26_apply, val_main_cst_4_apply]
  have e : idx_main_v28 (idx_main_v29 (ix3 h r j)) = ix2 h r := by
    funext a
    match a with
    | ⟨0, _⟩ => rfl
    | ⟨1, _⟩ => rfl
  rw [e, r25]
  exact congrArg (fun z => Ideal.exp (val_main_v24 (F := Ideal) x0 x1 x2 x3 (ix3 h r j) - z)) (Cert.Soft.mx_idem _)

/-- Their sum. -/
theorem r32 (x0 : (⟨S8192x1024, .f32⟩ : BufTy).Contents (Elt Ideal)) (x1 : (⟨S1x1024, .f32⟩ : BufTy).Contents (Elt Ideal)) (x2 : (⟨S1024x1024, .f32⟩ : BufTy).Contents (Elt Ideal)) (x3 : (⟨S256x2048, .bf16⟩ : BufTy).Contents (Elt Ideal)) (h : Fin 4) (r : Fin 8192) :
    val_main_v32 (F := Ideal) x0 x1 x2 x3 (ix2 h r) = ∑ k : Fin 256, (val_main_v31 (F := Ideal) x0 x1 x2 x3 (ix3 h r k)) := by
  pointwise [val_main_v32, val_main_cst_5]

/-- The attention weights of a row are the soft maximum of its scores. -/
theorem r35 (x0 : (⟨S8192x1024, .f32⟩ : BufTy).Contents (Elt Ideal)) (x1 : (⟨S1x1024, .f32⟩ : BufTy).Contents (Elt Ideal)) (x2 : (⟨S1024x1024, .f32⟩ : BufTy).Contents (Elt Ideal)) (x3 : (⟨S256x2048, .bf16⟩ : BufTy).Contents (Elt Ideal)) (h : Fin 4) (r : Fin 8192) (j : Fin 256) :
    val_main_v35 (F := Ideal) x0 x1 x2 x3 (ix3 h r j) = Cert.Soft.sm (fun j => (val_main_v24 (F := Ideal) x0 x1 x2 x3 (ix3 h r j))) j := by
  have e : val_main_v35 (F := Ideal) x0 x1 x2 x3 (ix3 h r j) = Ideal.div (val_main_v31 (F := Ideal) x0 x1 x2 x3 (ix3 h r j)) (val_main_v32 (F := Ideal) x0 x1 x2 x3 (ix2 h r)) := by
    pointwise [val_main_v35, val_main_v34, val_main_v33]
  rw [e, r31, r32]
  simp only [r31]
  rfl

/-- The attended values of a head. -/
theorem r40 (x0 : (⟨S8192x1024, .f32⟩ : BufTy).Contents (Elt Ideal)) (x1 : (⟨S1x1024, .f32⟩ : BufTy).Contents (Elt Ideal)) (x2 : (⟨S1024x1024, .f32⟩ : BufTy).Contents (Elt Ideal)) (x3 : (⟨S256x2048, .bf16⟩ : BufTy).Contents (Elt Ideal)) (h : Fin 4) (r : Fin 8192) (d : Fin 256) (x : Fin 1024) (hx : x.val = h.val * 256 + d.val) :
    val_main_v40 (F := Ideal) x0 x1 x2 x3 (ix2 r x) = ∑ j : Fin 256, (val_main_v35 (F := Ideal) x0 x1 x2 x3 (ix3 h r j)) * x3 (ix2 j ⟨1024 + x.val, by omega⟩) := by
  obtain ⟨x, hb⟩ := x
  dsimp only at hx
  subst hx
  pointwise [val_main_v40, val_main_v39, val_main_v38, val_main_v37, val_main_v36, val_main_v20, val_main_v18]
  exact Finset.sum_congr rfl fun j _ => mul_comm _ _

end Cert.CrossRef

end
-- ==== Proof.Cross.lean ====
/- The forward cross attention: the four arrays of the kernel, index by index, are the reference's. -/
module

public import proofs.«01_k».proof.Proof.Gen.CrossKernelIdeal.Value
public import proofs.«01_k».proof.Proof.Gen.CrossReferenceIdeal.Read
public import proofs.«01_k».proof.Proof.CrossRef
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Cross

open Cert.CrossKernelIdeal Cert.CrossKernelIdeal.Gen Idealize.ShloMosaic Idealize.ShloMosaic.TcCoe Idealize.SL.Sem

variable (m : (ℓ : Loc nD τ sig) → Buf (Elt Ideal) ℓ)

/-- The block index of every window. -/
theorem idx : ∀ t : Fin cfg0.N,
    win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![t.val, 0] :=
  (by decide +kernel : ∀ t : Fin grid0.N, _)

/-- The row of the whole array that row `r` of block `t` is. -/
abbrev row (t : Fin cfg0.N) (r : Fin 1024) : Fin 8192 :=
  ⟨1024 * t.val + r.val, by have h : t.val < 8 := t.isLt; have := r.isLt; omega⟩

/-- The scores of row `r`, of the head whose columns begin at `o`. -/
def kS (q : FVec Ideal S1024x1024 .bf16) (kv : Vec Ideal S256x2048 .bf16) (r : Fin 1024) (o : ℕ) (ho : o + 256 ≤ 1024) (j : Fin 256) : EReal :=
  ∑ d : Fin 256, (show EReal from q (ix2 r ⟨o + d.val, by omega⟩)) * (show EReal from kv (ix2 j ⟨o + d.val, by omega⟩))

/-- The attended values of head 0 are the values weighted by the soft maximum of its scores. -/
theorem kO0 (c : Dev nD) (t : Fin cfg0.N) (r : Fin 1024) (d : Fin 256) :
    (show EReal from (k0_pay7 (k0_pay6 (iblk m c 0 t) (iblk m c 1 t) (iblk m c 2 t) (View.ld (iblk m c 3 t) (Rect.unit ![0, 0] ![256, 256] inb_S256x2048_S256x256_0_0))) (View.ld (iblk m c 3 t) (Rect.unit ![0, 1024] ![256, 256] inb_S256x2048_S256x256_0_1024))) (ix2 r d)) = ∑ j : Fin 256, Cert.Soft.sm (kS (k0_pay5 (iblk m c 0 t) (iblk m c 1 t) (iblk m c 2 t)) (iblk m c 3 t) r 0 (by omega)) j * (show EReal from iblk m c 3 t (ix2 j ⟨1024 + d.val, by omega⟩)) := by
  unfold k0_pay7 k0_pay6
  generalize (k0_pay5 (iblk m c 0 t) (iblk m c 1 t) (iblk m c 2 t)) = q
  generalize iblk m c 3 t = kv
  unfold Cert.Soft.sm Cert.Soft.mx kS
  pointwise []

/-- The attended values of head 1 are the values weighted by the soft maximum of its scores. -/
theorem kO1 (c : Dev nD) (t : Fin cfg0.N) (r : Fin 1024) (d : Fin 256) :
    (show EReal from (k0_pay8 (k0_pay5 (iblk m c 0 t) (iblk m c 1 t) (iblk m c 2 t)) (View.ld (iblk m c 3 t) (Rect.unit ![0, 256] ![256, 256] inb_S256x2048_S256x256_0_256)) (View.ld (iblk m c 3 t) (Rect.unit ![0, 1280] ![256, 256] inb_S256x2048_S256x256_0_1280))) (ix2 r d)) = ∑ j : Fin 256, Cert.Soft.sm (kS (k0_pay5 (iblk m c 0 t) (iblk m c 1 t) (iblk m c 2 t)) (iblk m c 3 t) r 256 (by omega)) j * (show EReal from iblk m c 3 t (ix2 j ⟨1280 + d.val, by omega⟩)) := by
  unfold k0_pay8
  generalize (k0_pay5 (iblk m c 0 t) (iblk m c 1 t) (iblk m c 2 t)) = q
  generalize iblk m c 3 t = kv
  unfold Cert.Soft.sm Cert.Soft.mx kS
  pointwise []

/-- The attended values of head 2 are the values weighted by the soft maximum of its scores. -/
theorem kO2 (c : Dev nD) (t : Fin cfg0.N) (r : Fin 1024) (d : Fin 256) :
    (show EReal from (k0_pay1 (k0_pay9 (k0_pay5 (iblk m c 0 t) (iblk m c 1 t) (iblk m c 2 t)) (View.ld (iblk m c 3 t) (Rect.unit ![0, 512] ![256, 256] inb_S256x2048_S256x256_0_512)) (View.ld (iblk m c 3 t) (Rect.unit ![0, 1536] ![256, 256] inb_S256x2048_S256x256_0_1536)))) (ix2 r d)) = ∑ j : Fin 256, Cert.Soft.sm (kS (k0_pay5 (iblk m c 0 t) (iblk m c 1 t) (iblk m c 2 t)) (iblk m c 3 t) r 512 (by omega)) j * (show EReal from iblk m c 3 t (ix2 j ⟨1536 + d.val, by omega⟩)) := by
  unfold k0_pay1 k0_pay9
  generalize (k0_pay5 (iblk m c 0 t) (iblk m c 1 t) (iblk m c 2 t)) = q
  generalize iblk m c 3 t = kv
  unfold Cert.Soft.sm Cert.Soft.mx kS
  pointwise []

/-- The attended values of head 3 are the values weighted by the soft maximum of its scores. -/
theorem kO3 (c : Dev nD) (t : Fin cfg0.N) (r : Fin 1024) (d : Fin 256) :
    (show EReal from (k0_pay2 (k0_pay5 (iblk m c 0 t) (iblk m c 1 t) (iblk m c 2 t)) (View.ld (iblk m c 3 t) (Rect.unit ![0, 768] ![256, 256] inb_S256x2048_S256x256_0_768)) (View.ld (iblk m c 3 t) (Rect.unit ![0, 1792] ![256, 256] inb_S256x2048_S256x256_0_1792))) (ix2 r d)) = ∑ j : Fin 256, Cert.Soft.sm (kS (k0_pay5 (iblk m c 0 t) (iblk m c 1 t) (iblk m c 2 t)) (iblk m c 3 t) r 768 (by omega)) j * (show EReal from iblk m c 3 t (ix2 j ⟨1792 + d.val, by omega⟩)) := by
  unfold k0_pay2
  generalize (k0_pay5 (iblk m c 0 t) (iblk m c 1 t) (iblk m c 2 t)) = q
  generalize iblk m c 3 t = kv
  unfold Cert.Soft.sm Cert.Soft.mx kS
  pointwise []

open Cert.CrossReferenceIdeal.Read in
/-- The queries of a block, from the reference. -/
theorem blkq (c : Dev nD) (t : Fin cfg0.N) (r : Fin 1024) (j : Fin 1024) :
    (show EReal from (k0_pay5 (iblk m c 0 t) (iblk m c 1 t) (iblk m c 2 t)) (ix2 r j)) = val_main_v17 (F := Ideal) (m ((c.tc : Thread nD τ).loc main_arg0)) (m ((c.tc : Thread nD τ).loc main_arg1)) (m ((c.tc : Thread nD τ).loc main_arg2)) (ix2 (row t r) j) := by
  unfold_payloads
  pointwise [val_main_v17, val_main_v16, val_main_v15, val_main_cst_2, val_main_v14, val_main_v13, val_main_v12, val_main_v11, val_main_v9, val_main_v8, val_main_v7, val_main_v6, val_main_v5, val_main_cst_1, val_main_v4, val_main_v3, val_main_cst_0, val_main_v2, val_main_v1, val_main_v0, val_main_cst, val_main_v10]
  blk_point [iblk, V, idx t]

/-- The block of the keys and values. -/
theorem blkkv (c : Dev nD) (t : Fin cfg0.N) (y : S256x2048.Idx) :
    (show EReal from iblk m c 3 t y) = (m ((c.tc : Thread nD τ).loc main_arg3)) y := by
  blk_point [iblk, V, idx t]

open Cert.CrossReferenceIdeal.Read in
/-- The scores, from the reference. -/
theorem kS_eq (c : Dev nD) (t : Fin cfg0.N) (r : Fin 1024) (h : Fin 4) (o : ℕ) (ho : o + 256 ≤ 1024) (e : o = h.val * 256) :
    kS (k0_pay5 (iblk m c 0 t) (iblk m c 1 t) (iblk m c 2 t)) (iblk m c 3 t) r o ho = fun j => val_main_v24 (F := Ideal) (m ((c.tc : Thread nD τ).loc main_arg0)) (m ((c.tc : Thread nD τ).loc main_arg1)) (m ((c.tc : Thread nD τ).loc main_arg2)) (m ((c.tc : Thread nD τ).loc main_arg3)) (ix3 h (row t r) j) := by
  subst e
  funext j
  unfold kS
  rw [Cert.CrossRef.r24]
  refine Finset.sum_congr rfl fun d _ => ?_
  rw [blkq, blkkv]

/-- The attended values of a block, from the reference. -/
def oB (c : Dev nD) (t : Fin cfg0.N) : Vec Ideal S1024x1024 .bf16 := fun y =>
  Cert.CrossReferenceIdeal.Read.val_main_v40 (F := Ideal) (m ((c.tc : Thread nD τ).loc main_arg0)) (m ((c.tc : Thread nD τ).loc main_arg1)) (m ((c.tc : Thread nD τ).loc main_arg2)) (m ((c.tc : Thread nD τ).loc main_arg3)) (ix2 (row t (y 0)) (y 1))

/-- The column pieces that a grid point stores into the last output's block, the last first. -/
abbrev pieces (c : Dev nD) (t : Fin cfg0.N) : List (View.Piece (Elt Ideal) S1024x1024 .bf16) :=
    [⟨Rect.unit ![0, 768] ![1024, 256] inb_S1024x1024_S1024x256_0_768, (k0_pay2 (k0_pay5 (iblk m c 0 t) (iblk m c 1 t) (iblk m c 2 t)) (View.ld (iblk m c 3 t) (Rect.unit ![0, 768] ![256, 256] inb_S256x2048_S256x256_0_768)) (View.ld (iblk m c 3 t) (Rect.unit ![0, 1792] ![256, 256] inb_S256x2048_S256x256_0_1792)))⟩,
      ⟨Rect.unit ![0, 512] ![1024, 256] inb_S1024x1024_S1024x256_0_512, (k0_pay1 (k0_pay9 (k0_pay5 (iblk m c 0 t) (iblk m c 1 t) (iblk m c 2 t)) (View.ld (iblk m c 3 t) (Rect.unit ![0, 512] ![256, 256] inb_S256x2048_S256x256_0_512)) (View.ld (iblk m c 3 t) (Rect.unit ![0, 1536] ![256, 256] inb_S256x2048_S256x256_0_1536))))⟩,
      ⟨Rect.unit ![0, 256] ![1024, 256] inb_S1024x1024_S1024x256_0_256, (k0_pay8 (k0_pay5 (iblk m c 0 t) (iblk m c 1 t) (iblk m c 2 t)) (View.ld (iblk m c 3 t) (Rect.unit ![0, 256] ![256, 256] inb_S256x2048_S256x256_0_256)) (View.ld (iblk m c 3 t) (Rect.unit ![0, 1280] ![256, 256] inb_S256x2048_S256x256_0_1280)))⟩,
      ⟨Rect.unit ![0, 0] ![1024, 256] inb_S1024x1024_S1024x256_0_0, (k0_pay7 (k0_pay6 (iblk m c 0 t) (iblk m c 1 t) (iblk m c 2 t) (View.ld (iblk m c 3 t) (Rect.unit ![0, 0] ![256, 256] inb_S256x2048_S256x256_0_0))) (View.ld (iblk m c 3 t) (Rect.unit ![0, 1024] ![256, 256] inb_S256x2048_S256x256_0_1024)))⟩]

/-- The column pieces cover the block. -/
theorem cover_o (c : Dev nD) (t : Fin cfg0.N) : ∀ y : S1024x1024.Idx, ∃ p ∈ pieces m c t, y ∈ p.1.set :=
  View.cover_of_tiledBy _ ![1024, 256] (by sl_kernel_rfl)

open Cert.CrossReferenceIdeal.Read in
/-- The attended values of head 0, from the reference. -/
theorem o0 (c : Dev nD) (t : Fin cfg0.N) (r : Fin 1024) (d : Fin 256) :
    (show EReal from (k0_pay7 (k0_pay6 (iblk m c 0 t) (iblk m c 1 t) (iblk m c 2 t) (View.ld (iblk m c 3 t) (Rect.unit ![0, 0] ![256, 256] inb_S256x2048_S256x256_0_0))) (View.ld (iblk m c 3 t) (Rect.unit ![0, 1024] ![256, 256] inb_S256x2048_S256x256_0_1024))) (ix2 r d)) = val_main_v40 (F := Ideal) (m ((c.tc : Thread nD τ).loc main_arg0)) (m ((c.tc : Thread nD τ).loc main_arg1)) (m ((c.tc : Thread nD τ).loc main_arg2)) (m ((c.tc : Thread nD τ).loc main_arg3)) (ix2 (row t r) ⟨0 + d.val, by omega⟩) := by
  rw [kO0 m c t r d, Cert.CrossRef.r40 _ _ _ _ 0 (row t r) d ⟨0 + d.val, by omega⟩ (by simp), kS_eq m c t r 0 0 (by omega) rfl]
  refine Finset.sum_congr rfl fun j _ => ?_
  rw [Cert.CrossRef.r35, blkkv]
  simp only [← Nat.add_assoc, Nat.reduceAdd]

open Cert.CrossReferenceIdeal.Read in
/-- The attended values of head 1, from the reference. -/
theorem o1 (c : Dev nD) (t : Fin cfg0.N) (r : Fin 1024) (d : Fin 256) :
    (show EReal from (k0_pay8 (k0_pay5 (iblk m c 0 t) (iblk m c 1 t) (iblk m c 2 t)) (View.ld (iblk m c 3 t) (Rect.unit ![0, 256] ![256, 256] inb_S256x2048_S256x256_0_256)) (View.ld (iblk m c 3 t) (Rect.unit ![0, 1280] ![256, 256] inb_S256x2048_S256x256_0_1280))) (ix2 r d)) = val_main_v40 (F := Ideal) (m ((c.tc : Thread nD τ).loc main_arg0)) (m ((c.tc : Thread nD τ).loc main_arg1)) (m ((c.tc : Thread nD τ).loc main_arg2)) (m ((c.tc : Thread nD τ).loc main_arg3)) (ix2 (row t r) ⟨256 + d.val, by omega⟩) := by
  rw [kO1 m c t r d, Cert.CrossRef.r40 _ _ _ _ 1 (row t r) d ⟨256 + d.val, by omega⟩ (by simp), kS_eq m c t r 1 256 (by omega) rfl]
  refine Finset.sum_congr rfl fun j _ => ?_
  rw [Cert.CrossRef.r35, blkkv]
  simp only [← Nat.add_assoc, Nat.reduceAdd]

open Cert.CrossReferenceIdeal.Read in
/-- The attended values of head 2, from the reference. -/
theorem o2 (c : Dev nD) (t : Fin cfg0.N) (r : Fin 1024) (d : Fin 256) :
    (show EReal from (k0_pay1 (k0_pay9 (k0_pay5 (iblk m c 0 t) (iblk m c 1 t) (iblk m c 2 t)) (View.ld (iblk m c 3 t) (Rect.unit ![0, 512] ![256, 256] inb_S256x2048_S256x256_0_512)) (View.ld (iblk m c 3 t) (Rect.unit ![0, 1536] ![256, 256] inb_S256x2048_S256x256_0_1536)))) (ix2 r d)) = val_main_v40 (F := Ideal) (m ((c.tc : Thread nD τ).loc main_arg0)) (m ((c.tc : Thread nD τ).loc main_arg1)) (m ((c.tc : Thread nD τ).loc main_arg2)) (m ((c.tc : Thread nD τ).loc main_arg3)) (ix2 (row t r) ⟨512 + d.val, by omega⟩) := by
  rw [kO2 m c t r d, Cert.CrossRef.r40 _ _ _ _ 2 (row t r) d ⟨512 + d.val, by omega⟩ (by simp), kS_eq m c t r 2 512 (by omega) rfl]
  refine Finset.sum_congr rfl fun j _ => ?_
  rw [Cert.CrossRef.r35, blkkv]
  simp only [← Nat.add_assoc, Nat.reduceAdd]

open Cert.CrossReferenceIdeal.Read in
/-- The attended values of head 3, from the reference. -/
theorem o3 (c : Dev nD) (t : Fin cfg0.N) (r : Fin 1024) (d : Fin 256) :
    (show EReal from (k0_pay2 (k0_pay5 (iblk m c 0 t) (iblk m c 1 t) (iblk m c 2 t)) (View.ld (iblk m c 3 t) (Rect.unit ![0, 768] ![256, 256] inb_S256x2048_S256x256_0_768)) (View.ld (iblk m c 3 t) (Rect.unit ![0, 1792] ![256, 256] inb_S256x2048_S256x256_0_1792))) (ix2 r d)) = val_main_v40 (F := Ideal) (m ((c.tc : Thread nD τ).loc main_arg0)) (m ((c.tc : Thread nD τ).loc main_arg1)) (m ((c.tc : Thread nD τ).loc main_arg2)) (m ((c.tc : Thread nD τ).loc main_arg3)) (ix2 (row t r) ⟨768 + d.val, by omega⟩) := by
  rw [kO3 m c t r d, Cert.CrossRef.r40 _ _ _ _ 3 (row t r) d ⟨768 + d.val, by omega⟩ (by simp), kS_eq m c t r 3 768 (by omega) rfl]
  refine Finset.sum_congr rfl fun j _ => ?_
  rw [Cert.CrossRef.r35, blkkv]
  simp only [← Nat.add_assoc, Nat.reduceAdd]

/-- The column pieces that a grid point stores are that block. -/
theorem canon_o (c : Dev nD) (t : Fin cfg0.N) :
    View.canon (Val := Elt Ideal) (s := S1024x1024) (e := .bf16) (pieces m c t) = oB m c t := by
  funext y
  refine View.canon_append_of_piecesOf (oB m c t) [] (pieces m c t) ⟨?_, ?_, ?_, ?_, trivial⟩ y (cover_o m c t y)
  · intro (x : S1024x256.Idx)
    idx_vars x
    refine (o3 m c t x0 x1).trans ?_
    rw [show (Rect.unit (s := S1024x1024) ![0, 768] ![1024, 256] inb_S1024x1024_S1024x256_0_768).emb (ix2 x0 x1) = ix2 x0 ⟨768 + x1.val, by omega⟩ from by
      funext k
      refine Fin.ext ?_
      match k with
      | ⟨0, _⟩ => exact (by simp [Rect.emb, Rect.unit])
      | ⟨1, _⟩ => exact (by simp [Rect.emb, Rect.unit])]
    rfl
  · intro (x : S1024x256.Idx)
    idx_vars x
    refine (o2 m c t x0 x1).trans ?_
    rw [show (Rect.unit (s := S1024x1024) ![0, 512] ![1024, 256] inb_S1024x1024_S1024x256_0_512).emb (ix2 x0 x1) = ix2 x0 ⟨512 + x1.val, by omega⟩ from by
      funext k
      refine Fin.ext ?_
      match k with
      | ⟨0, _⟩ => exact (by simp [Rect.emb, Rect.unit])
      | ⟨1, _⟩ => exact (by simp [Rect.emb, Rect.unit])]
    rfl
  · intro (x : S1024x256.Idx)
    idx_vars x
    refine (o1 m c t x0 x1).trans ?_
    rw [show (Rect.unit (s := S1024x1024) ![0, 256] ![1024, 256] inb_S1024x1024_S1024x256_0_256).emb (ix2 x0 x1) = ix2 x0 ⟨256 + x1.val, by omega⟩ from by
      funext k
      refine Fin.ext ?_
      match k with
      | ⟨0, _⟩ => exact (by simp [Rect.emb, Rect.unit])
      | ⟨1, _⟩ => exact (by simp [Rect.emb, Rect.unit])]
    rfl
  · intro (x : S1024x256.Idx)
    idx_vars x
    refine (o0 m c t x0 x1).trans ?_
    rw [show (Rect.unit (s := S1024x1024) ![0, 0] ![1024, 256] inb_S1024x1024_S1024x256_0_0).emb (ix2 x0 x1) = ix2 x0 ⟨0 + x1.val, by omega⟩ from by
      funext k
      refine Fin.ext ?_
      match k with
      | ⟨0, _⟩ => exact (by simp [Rect.emb, Rect.unit])
      | ⟨1, _⟩ => exact (by simp [Rect.emb, Rect.unit])]
    rfl

/-- Reading the whole block back after the column pieces. -/
theorem readCov_o (c : Dev nD) (t : Fin cfg0.N) :
    (ms0_8 t).view.readCov (Val := Elt Ideal) (pieces m c t)
      (Rect.unit ![0, 0] ![1024, 1024] inb_S1024x1024_S1024x1024_0_0).toLoadRect = oB m c t := by
  rw [View.readCov_eq_canon_ld _ _ _ (cover_o m c t), canon_o m c t]
  exact View.ld_unit_lit _ _ (by decide)

open Cert.CrossReferenceIdeal.Read in
/-- The array that window 6 leaves is the reference's normed rows. -/
theorem arr6 (c : Dev nD) :
    (dats m 0 c).arrAt 6 cfg0.N = val_main_v12 (F := Ideal) (m ((c.tc : Thread nD τ).loc main_arg0)) (m ((c.tc : Thread nD τ).loc main_arg1)) := by
  refine (dats m 0 c).arrAt_eq_of_covers 6 _ (by decide +kernel) fun t hf y => ?_
  blk_simp
  rw [after0_6]
  frame_out
  idx_vars y
  unfold_payloads
  pointwise [val_main_v12, val_main_v11, val_main_v9, val_main_v8, val_main_v7, val_main_v6, val_main_v5, val_main_cst_1, val_main_v4, val_main_v3, val_main_cst_0, val_main_v2, val_main_v1, val_main_v0, val_main_cst, val_main_v10]
  blk_point [iblk, V, idx t]

open Cert.CrossReferenceIdeal.Read in
/-- The array that window 7 leaves is the reference's queries. -/
theorem arr7 (c : Dev nD) :
    (dats m 0 c).arrAt 7 cfg0.N = val_main_v17 (F := Ideal) (m ((c.tc : Thread nD τ).loc main_arg0)) (m ((c.tc : Thread nD τ).loc main_arg1)) (m ((c.tc : Thread nD τ).loc main_arg2)) := by
  refine (dats m 0 c).arrAt_eq_of_covers 7 _ (by decide +kernel) fun t hf y => ?_
  blk_simp
  rw [after0_7]
  frame_out
  idx_vars y
  unfold_payloads
  pointwise [val_main_v17, val_main_v16, val_main_v15, val_main_cst_2, val_main_v14, val_main_v13, val_main_v12, val_main_v11, val_main_v9, val_main_v8, val_main_v7, val_main_v6, val_main_v5, val_main_cst_1, val_main_v4, val_main_v3, val_main_cst_0, val_main_v2, val_main_v1, val_main_v0, val_main_cst, val_main_v10]
  blk_point [iblk, V, idx t]

open Cert.CrossReferenceIdeal.Read in
/-- The array that window 8 leaves is the reference's attended values. -/
theorem arr8 (c : Dev nD) :
    (dats m 0 c).arrAt 8 cfg0.N = val_main_v40 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 8 _ (by decide +kernel) fun t hf y => ?_
  blk_simp
  rw [after0_8]
  frame_out
  refine (congrFun (canon_o m c t) y).trans ?_
  idx_vars y
  unfold oB
  blk_point [iblk, idx t]
  change 1024 * t.val + y0.val = _
  omega

open Cert.CrossReferenceIdeal.Read in
/-- The array that window 5 leaves is the reference's residual stream. -/
theorem arr5 (c : Dev nD) :
    (dats m 0 c).arrAt 5 cfg0.N = val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5]
  have e : (outsAt0 m c t).1 = k0_pay3 (iblk m c 0 t) (oB m c t) (iblk m c 4 t) := by
    unfold outsAt0
    frame_out
    erw [readCov_o m c t]
  rw [e]
  idx_vars y
  unfold k0_pay3
  pointwise [oB, val_main_v43, val_main_v42, val_main_v41]
  blk_point [iblk, V, idx t]

end Cert.Cross

end
-- ==== Proof.Scale.lean ====
/- Constants of the loss: halves, the row length, and sums of halves. -/
module

public import proofs.«01_k».proof.Proof.Alg

@[expose] public section

noncomputable section
namespace Cert.Scale
open Idealize.ShloMosaic

/-- One half as a float word. -/
theorem word_half : Ideal.ofBits .f32 1056964608#32 = ((1/2 : ℝ) : EReal) := by
  simp [Ideal.ofBits, Ideal.ieee, -EReal.coe_mul, -EReal.coe_neg]
  norm_num

/-- Two as a float word. -/
theorem word_two : Ideal.ofBits .f32 1073741824#32 = ((2 : ℝ) : EReal) := by
  simp [Ideal.ofBits, Ideal.ieee, -EReal.coe_mul]
  norm_num

/-- The inverse of the row length as a float word. -/
theorem word_inv : Ideal.ofBits .f32 981467136#32 = ((1/1024 : ℝ) : EReal) := by
  simp [Ideal.ofBits, Ideal.ieee, -EReal.coe_mul]
  norm_num

/-- The gradient of half a mean square: the kernel's factor and what differentiation writes. -/
theorem grad (d : EReal) :
    Ideal.div (Ideal.ofBits .f32 1056964608#32) (Ideal.ofBits .f32 1149239296#32)
        * (Ideal.ofBits .f32 1073741824#32 * d) = d * Ideal.ofBits .f32 981467136#32 := by
  rw [word_half, word_two, word_inv, Cert.Alg.word_1024, Ideal.div_coe (by norm_num), ← mul_assoc, ← EReal.coe_mul,
    ← EReal.coe_mul, mul_comm d]
  norm_num

/-- Halves of sums are the half of the sum. -/
theorem half_sum {ι : Type*} (s : Finset ι) (f : ι → EReal) :
    ∑ i ∈ s, Ideal.ofBits .f32 1056964608#32 * f i = Ideal.ofBits .f32 1056964608#32 * ∑ i ∈ s, f i := by
  rw [word_half, Cert.Alg.mul_sum_nonneg _ _ (by norm_num)]

end Cert.Scale

end
-- ==== Proof.LossAct.lean ====
/- The forward channel mixer: the gated product that the kernel stores in column pieces. -/
module

public import proofs.«01_k».proof.Proof.Gen.LossKernelIdeal.Value
public import proofs.«01_k».proof.Proof.Gen.LossReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Loss

open Cert.LossKernelIdeal Cert.LossKernelIdeal.Gen Idealize.ShloMosaic Idealize.ShloMosaic.TcCoe Idealize.SL.Sem

variable (m : (ℓ : Loc nD τ sig) → Buf (Elt Ideal) ℓ)

/-- The block index of every window. -/
theorem idx : ∀ t : Fin cfg0.N,
    win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![t.val, 0] ∧ win0_7.index t = ![t.val, 0] ∧ win0_8.index t = ![t.val, 0] ∧ win0_9.index t = ![t.val, 0] ∧ win0_10.index t = ![0, 0] ∧ win0_11.index t = ![0, 0] :=
  (by decide +kernel : ∀ t : Fin grid0.N, _)

/-- The block of the reference's gated product at grid point `t`. -/
def actB (c : Dev nD) (t : Fin cfg0.N) : Vec Ideal S256x2816 .bf16 := fun y =>
  Cert.LossReferenceIdeal.Read.val_main_v73 (F := Ideal) (m ((c.tc : Thread nD τ).loc main_arg0)) (m ((c.tc : Thread nD τ).loc main_arg2)) (m ((c.tc : Thread nD τ).loc main_arg3)) (((cfg0.win 9).blk t).view.emb y)

/-- The column pieces that a grid point stores into the block of the gated product, the last first. -/
abbrev pieces (c : Dev nD) (t : Fin cfg0.N) : List (View.Piece (Elt Ideal) S256x2816 .bf16) :=
    [⟨Rect.unit ![0, 2560] ![256, 256] inb_S256x2816_S256x256_0_2560,
      k0_pay59
      (k0_pay55 (k0_pay1 (iblk m c 0 t) (iblk m c 2 t))
      (View.ld (iblk m c 3 t) (Rect.unit ![2560, 0] ![256, 1024] inb_S5632x1024_S256x1024_2560_0)))
      (k0_pay56 (k0_pay1 (iblk m c 0 t) (iblk m c 2 t))
      (View.ld (iblk m c 3 t) (Rect.unit ![5376, 0] ![256, 1024] inb_S5632x1024_S256x1024_5376_0)))⟩,
      ⟨Rect.unit ![0, 2304] ![256, 256] inb_S256x2816_S256x256_0_2304,
      k0_pay54 (k0_pay1 (iblk m c 0 t) (iblk m c 2 t))
      (View.ld (iblk m c 3 t) (Rect.unit ![2304, 0] ![256, 1024] inb_S5632x1024_S256x1024_2304_0))
      (View.ld (iblk m c 3 t) (Rect.unit ![5120, 0] ![256, 1024] inb_S5632x1024_S256x1024_5120_0))⟩,
      ⟨Rect.unit ![0, 2048] ![256, 256] inb_S256x2816_S256x256_0_2048,
      k0_pay49 (k0_pay1 (iblk m c 0 t) (iblk m c 2 t))
      (View.ld (iblk m c 3 t) (Rect.unit ![2048, 0] ![256, 1024] inb_S5632x1024_S256x1024_2048_0))
      (View.ld (iblk m c 3 t) (Rect.unit ![4864, 0] ![256, 1024] inb_S5632x1024_S256x1024_4864_0))⟩,
      ⟨Rect.unit ![0, 1792] ![256, 256] inb_S256x2816_S256x256_0_1792,
      k0_pay44
      (k0_pay40 (k0_pay1 (iblk m c 0 t) (iblk m c 2 t))
      (View.ld (iblk m c 3 t) (Rect.unit ![1792, 0] ![256, 1024] inb_S5632x1024_S256x1024_1792_0)))
      (k0_pay41 (k0_pay1 (iblk m c 0 t) (iblk m c 2 t))
      (View.ld (iblk m c 3 t) (Rect.unit ![4608, 0] ![256, 1024] inb_S5632x1024_S256x1024_4608_0)))⟩,
      ⟨Rect.unit ![0, 1536] ![256, 256] inb_S256x2816_S256x256_0_1536,
      k0_pay39 (k0_pay1 (iblk m c 0 t) (iblk m c 2 t))
      (View.ld (iblk m c 3 t) (Rect.unit ![1536, 0] ![256, 1024] inb_S5632x1024_S256x1024_1536_0))
      (View.ld (iblk m c 3 t) (Rect.unit ![4352, 0] ![256, 1024] inb_S5632x1024_S256x1024_4352_0))⟩,
      ⟨Rect.unit ![0, 1280] ![256, 256] inb_S256x2816_S256x256_0_1280,
      k0_pay34
      (k0_pay29 (k0_pay1 (iblk m c 0 t) (iblk m c 2 t))
      (View.ld (iblk m c 3 t) (Rect.unit ![1280, 0] ![256, 1024] inb_S5632x1024_S256x1024_1280_0)))
      (k0_pay30 (k0_pay1 (iblk m c 0 t) (iblk m c 2 t))
      (View.ld (iblk m c 3 t) (Rect.unit ![4096, 0] ![256, 1024] inb_S5632x1024_S256x1024_4096_0)))
      (k0_pay33 (k0_pay1 (iblk m c 0 t) (iblk m c 2 t))
      (View.ld (iblk m c 3 t) (Rect.unit ![1280, 0] ![256, 1024] inb_S5632x1024_S256x1024_1280_0)))
      (FloatOps.ofBits .f32 1065353216#32)⟩,
      ⟨Rect.unit ![0, 1024] ![256, 256] inb_S256x2816_S256x256_0_1024,
      k0_pay28 (k0_pay1 (iblk m c 0 t) (iblk m c 2 t))
      (k0_pay23 (View.ld (iblk m c 3 t) (Rect.unit ![1024, 0] ![256, 1024] inb_S5632x1024_S256x1024_1024_0)))
      (View.ld (iblk m c 3 t) (Rect.unit ![3840, 0] ![256, 1024] inb_S5632x1024_S256x1024_3840_0))⟩,
      ⟨Rect.unit ![0, 768] ![256, 256] inb_S256x2816_S256x256_0_768,
      k0_pay22 (k0_pay1 (iblk m c 0 t) (iblk m c 2 t))
      (View.ld (iblk m c 3 t) (Rect.unit ![768, 0] ![256, 1024] inb_S5632x1024_S256x1024_768_0))
      (View.ld (iblk m c 3 t) (Rect.unit ![3584, 0] ![256, 1024] inb_S5632x1024_S256x1024_3584_0))⟩,
      ⟨Rect.unit ![0, 512] ![256, 256] inb_S256x2816_S256x256_0_512,
      k0_pay17
      (k0_pay13 (k0_pay1 (iblk m c 0 t) (iblk m c 2 t))
      (View.ld (iblk m c 3 t) (Rect.unit ![512, 0] ![256, 1024] inb_S5632x1024_S256x1024_512_0)))
      (k0_pay14 (k0_pay1 (iblk m c 0 t) (iblk m c 2 t))
      (View.ld (iblk m c 3 t) (Rect.unit ![3328, 0] ![256, 1024] inb_S5632x1024_S256x1024_3328_0)))⟩,
      ⟨Rect.unit ![0, 256] ![256, 256] inb_S256x2816_S256x256_0_256,
      k0_pay12 (k0_pay1 (iblk m c 0 t) (iblk m c 2 t))
      (View.ld (iblk m c 3 t) (Rect.unit ![256, 0] ![256, 1024] inb_S5632x1024_S256x1024_256_0))
      (View.ld (iblk m c 3 t) (Rect.unit ![3072, 0] ![256, 1024] inb_S5632x1024_S256x1024_3072_0))⟩,
      ⟨Rect.unit ![0, 0] ![256, 256] inb_S256x2816_S256x256_0_0,
      k0_pay7
      (k0_pay6 (iblk m c 0 t) (iblk m c 2 t)
      (View.ld (iblk m c 3 t) (Rect.unit ![0, 0] ![256, 1024] inb_S5632x1024_S256x1024_0_0))
      (View.ld (iblk m c 3 t) (Rect.unit ![2816, 0] ![256, 1024] inb_S5632x1024_S256x1024_2816_0)))⟩]

/-- The column pieces cover the block. -/
theorem cover_act (c : Dev nD) (t : Fin cfg0.N) : ∀ y : S256x2816.Idx, ∃ p ∈ pieces m c t, y ∈ p.1.set :=
  View.cover_of_tiledBy _ ![256, 256] (by sl_kernel_rfl)

set_option maxHeartbeats 8000000 in
open Cert.LossReferenceIdeal.Read in
/-- The column pieces that a grid point stores are that block. -/
theorem canon_act (c : Dev nD) (t : Fin cfg0.N) :
    View.canon (Val := Elt Ideal) (s := S256x2816) (e := .bf16) (pieces m c t) = actB m c t := by
  have ht : t.val < 32 := t.isLt
  funext y
  unfold actB
  blk_simp
  unfold pieces
  canon_tiles x h
  all_goals (idx_vars x; have hx1 := x1.isLt; unfold_payloads; pointwise [val_main_v73, val_main_v17, val_main_v16, val_main_v14, val_main_v13, val_main_v12, val_main_v9, val_main_v8, val_main_v7, val_main_v6, val_main_v5, val_main_cst_1, val_main_v4, val_main_v3, val_main_cst_0, val_main_v2, val_main_v1, val_main_v0, val_main_cst, val_main_v11, val_main_v10, val_main_call0_v5, val_main_call0_v4, val_main_call0_cst_0, val_main_call0_v3, val_main_call0_v2, val_main_call0_cst, val_main_call0_v1, val_main_call0_v0, val_main_v15]; simp only [zero_sub]; blk_point [iblk, V, idx t])

/-- Read back whole, the pieces are that block. -/
theorem readCov_act (c : Dev nD) (t : Fin cfg0.N) :
    (ms0_9 t).view.readCov (Val := Elt Ideal) (pieces m c t)
      (Rect.unit ![0, 0] ![256, 2816] inb_S256x2816_S256x2816_0_0).toLoadRect = actB m c t := by
  rw [View.readCov_eq_canon_ld _ _ _ (cover_act m c t), canon_act m c t]
  exact View.ld_unit_lit _ _ (by decide)

open Cert.LossReferenceIdeal.Read in
/-- The array that window 9 leaves is the reference's gated product. -/
theorem arr9 (c : Dev nD) :
    (dats m 0 c).arrAt 9 cfg0.N = val_main_v73 (F := Ideal) (m ((c.tc : Thread nD τ).loc main_arg0)) (m ((c.tc : Thread nD τ).loc main_arg2)) (m ((c.tc : Thread nD τ).loc main_arg3)) := by
  refine (dats m 0 c).arrAt_eq_of_covers 9 _ (by decide +kernel) fun t hf y => ?_
  blk_simp
  rw [after0_9]
  by_cases h : t.val % 32 = 0
  · rw [outsAt0_A m c t h]
    frame_out
    exact congrFun (canon_act m c t) y
  · rw [outsAt0_B m c t h]
    frame_out
    exact congrFun (canon_act m c t) y

end Cert.Loss

end
-- ==== Proof.Loss.lean ====
/- The forward channel mixer, the final norm and the loss: each array of the kernel is the reference's. -/
module

public import proofs.«01_k».proof.Proof.Gen.LossKernelIdeal.Value
public import proofs.«01_k».proof.Proof.Gen.LossReferenceIdeal.Read
public import proofs.«01_k».proof.Proof.Scale
public import proofs.«01_k».proof.Proof.LossAct
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Loss

open Cert.LossKernelIdeal Cert.LossKernelIdeal.Gen Idealize.ShloMosaic Idealize.ShloMosaic.TcCoe Idealize.SL.Sem

variable (m : (ℓ : Loc nD τ sig) → Buf (Elt Ideal) ℓ)

open Cert.LossReferenceIdeal.Read in
/-- The array that window 8 leaves is the reference's normed rows. -/
theorem arr8 (c : Dev nD) :
    (dats m 0 c).arrAt 8 cfg0.N = val_main_v72 (F := Ideal) (m ((c.tc : Thread nD τ).loc main_arg0)) (m ((c.tc : Thread nD τ).loc main_arg2)) := by
  refine (dats m 0 c).arrAt_eq_of_covers 8 _ (by decide +kernel) fun t hf y => ?_
  blk_simp
  rw [after0_8]
  by_cases h : t.val % 32 = 0
  all_goals (first | rw [outsAt0_A m c t h] | rw [outsAt0_B m c t h])
  all_goals (frame_out; idx_vars y; unfold_payloads; pointwise [val_main_v72, val_main_v12, val_main_v9, val_main_v8, val_main_v7, val_main_v6, val_main_v5, val_main_cst_1, val_main_v4, val_main_v3, val_main_cst_0, val_main_v2, val_main_v1, val_main_v0, val_main_cst, val_main_v11, val_main_v10]; blk_point [iblk, V, idx t])

/-- The block of the reference's output of the channel mixer at grid point `t`. -/
def x3B (c : Dev nD) (t : Fin cfg0.N) : FVec Ideal S256x1024 .f32 := fun y =>
  Cert.LossReferenceIdeal.Read.val_main_v19 (F := Ideal) (m ((c.tc : Thread nD τ).loc main_arg0)) (m ((c.tc : Thread nD τ).loc main_arg2)) (m ((c.tc : Thread nD τ).loc main_arg3)) (m ((c.tc : Thread nD τ).loc main_arg4)) (((cfg0.win 6).blk t).view.emb y)

open Cert.LossReferenceIdeal.Read in
/-- The channel mixer's output of a block, from the reference. -/
theorem x3 (c : Dev nD) (t : Fin cfg0.N) : k0_pay60 (iblk m c 0 t) (actB m c t) (iblk m c 4 t) = x3B m c t := by
  funext y
  unfold x3B actB k0_pay60
  blk_simp
  idx_vars y
  pointwise [val_main_v19, val_main_v18, val_main_v73]
  blk_point [iblk, V, idx t]

set_option maxHeartbeats 2000000 in
open Cert.LossReferenceIdeal.Read in
/-- The array that window 6 leaves is the reference's gradient of the channel mixer's output. -/
theorem arr6 (c : Dev nD) :
    (dats m 0 c).arrAt 6 cfg0.N = val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  blk_simp
  rw [after0_6]
  have e : (outsAt0 m c t.val t.isLt).1 = k0_pay68 (k0_pay61 (iblk m c 0 t) (actB m c t) (iblk m c 4 t))
      (k0_pay65 (iblk m c 0 t) (actB m c t) (iblk m c 4 t)) (k0_pay66 (iblk m c 0 t) (actB m c t) (iblk m c 4 t) (iblk m c 5 t) (iblk m c 1 t))
      (k0_pay67 (iblk m c 0 t) (actB m c t) (iblk m c 4 t) (iblk m c 5 t) (iblk m c 1 t)) := by
    by_cases h : t.val % 32 = 0
    · rw [outsAt0_A m c t h]
      frame_out
      erw [readCov_act m c t]
    · rw [outsAt0_B m c t h]
      frame_out
      erw [readCov_act m c t]
  rw [e]
  unfold k0_pay68 k0_pay67 k0_pay66 k0_pay65 k0_pay64 k0_pay63 k0_pay62 k0_pay61
  rw [x3]
  idx_vars y
  pointwise [val_main_v70, val_main_v69, val_main_v66, val_main_v65, val_main_v64, val_main_v63, val_main_cst_17, val_main_v62, val_main_v59, val_main_v58, val_main_v57, val_main_v55, val_main_v54, val_main_v33, val_main_v50, val_main_v49, val_main_v48, val_main_v47, val_main_cst_13, val_main_v46, val_main_v45, val_main_cst_12, val_main_cst_11, val_main_v39, val_main_v38, val_main_cst_6, val_main_v36, val_main_v35, val_main_v34, val_main_v32, val_main_v31, val_main_v27, val_main_v26, val_main_v25, val_main_cst_4, val_main_v24, val_main_v23, val_main_cst_3, val_main_v22, val_main_v21, val_main_v20, val_main_cst_2, val_main_cst_16, val_main_v30, val_main_v29, val_main_cst_5, val_main_v28, val_main_cst_18, val_main_v68, val_main_v67, val_main_v61, val_main_v60]
  simp only [Cert.Scale.grad]
  have key := Cert.Alg.rms_dx (fun x => x3B m c t (ix2 y0 x)) (fun j => (x3B m c t (ix2 y0 j) * Ideal.rsqrt (Cert.Alg.ms fun x => x3B m c t (ix2 y0 x)) * iblk m c 5 t (ix2 0 j) - iblk m c 1 t (ix2 y0 j)) * Ideal.ofBits .f32 981467136#32) (fun x => iblk m c 5 t (ix2 0 x)) y1
  pointwise [Cert.Alg.ms, x3B] at key
  pointwise [x3B]
  rw [key]
  simp only [Finset.univ_unique, Finset.sum_singleton, add_assoc]
  blk_point [iblk, V, idx t]

/-- What one grid point adds to the gradient of the final gain. -/
def gainT (x t : FVec Ideal S256x1024 .f32) (g : Vec Ideal S1x1024 .f32) (y : S1x1024.Idx) : EReal :=
  ∑ k : Fin 256, ((show EReal from x (ix2 k (y 1))) * Ideal.rsqrt (Cert.Alg.ms fun i => (show EReal from x (ix2 k i))) * (show EReal from g (ix2 0 (y 1))) - (show EReal from t (ix2 k (y 1)))) * Ideal.ofBits .f32 981467136#32
    * ((show EReal from x (ix2 k (y 1))) * Ideal.rsqrt (Cert.Alg.ms fun i => (show EReal from x (ix2 k i))))

/-- What one grid point adds to the loss. -/
def lossT (x t : FVec Ideal S256x1024 .f32) (g : Vec Ideal S1x1024 .f32) (_ : S8x128.Idx) : EReal :=
  Ideal.ofBits .f32 1056964608#32 * ∑ k : Fin 256, Ideal.div (∑ j : Fin 1024,
    ((show EReal from x (ix2 k j)) * Ideal.rsqrt (Cert.Alg.ms fun i => (show EReal from x (ix2 k i))) * (show EReal from g (ix2 0 j)) - (show EReal from t (ix2 k j)))
      * ((show EReal from x (ix2 k j)) * Ideal.rsqrt (Cert.Alg.ms fun i => (show EReal from x (ix2 k i))) * (show EReal from g (ix2 0 j)) - (show EReal from t (ix2 k j)))) (Ideal.ofBits .f32 1149239296#32)

set_option maxHeartbeats 2000000 in
open Cert.LossReferenceIdeal.Read in
/-- The array that window 10 leaves is the reference's loss. -/
theorem arr10 (c : Dev nD) :
    (dats m 0 c).arrAt 10 cfg0.N = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 10 _ (by decide +kernel) fun t hf y => ?_
  blk_simp
  rw [after0_10]
  have h1 : t.val % 32 = 31 := (flush0_10 t).mp hf
  rw [Pipeline.eq_sum_fin_of_reset_step_apply_of_flush (fun n h => (outsAt0 m c n h).2.2.2.2.1) 32 (fun _ => 0) (fun t => lossT (x3B m c t) (iblk m c 1 t) (iblk m c 5 t)) ?_ ?_ t h1 y]
  · unfold lossT Cert.Alg.ms
    idx_vars y
    pointwise [x3B, val_main_v74, val_main_v44, val_main_v43, val_main_v42, val_main_v41, val_main_cst_8, val_main_v40, val_main_v37, val_main_v36, val_main_v35, val_main_v34, val_main_v33, val_main_v32, val_main_v31, val_main_v27, val_main_v26, val_main_v25, val_main_cst_4, val_main_v24, val_main_v23, val_main_cst_3, val_main_v22, val_main_v21, val_main_v20, val_main_cst_2, val_main_cst_7, val_main_cst_9, val_main_cst_10]
    rw [Cert.Scale.half_sum]
    congr 1
    refine Fin.sum_mul_add_congr fun s k hl => ?_
    have hs := s.isLt
    have i0 := idx ⟨32 * (t.val / 32) + s.val, Pipeline.run_point_lt_of_flush t h1 s⟩
    blk_point [iblk, V, i0, idx t]
  · intro t h j
    rw [outsAt0_A m c t h]
    frame_out
    erw [readCov_act m c t]
    unfold k0_pay71 k0_pay69 k0_pay63 k0_pay62 k0_pay61
    rw [x3]
    unfold lossT Cert.Alg.ms
    idx_vars j
    pointwise []
    simp only [Finset.univ_unique, Finset.sum_singleton]
  · intro t h j
    rw [outsAt0_B m c t h]
    frame_out
    erw [readCov_act m c t]
    unfold k0_pay71 k0_pay63 k0_pay62 k0_pay61
    rw [x3]
    unfold lossT Cert.Alg.ms
    idx_vars j
    pointwise []
    simp only [Finset.univ_unique, Finset.sum_singleton]

set_option maxHeartbeats 2000000 in
open Cert.LossReferenceIdeal.Read in
/-- The array that window 11 leaves is the reference's gradient of the final gain. -/
theorem arr11 (c : Dev nD) :
    (dats m 0 c).arrAt 11 cfg0.N = val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 11 _ (by decide +kernel) fun t hf y => ?_
  blk_simp
  rw [after0_11]
  have h1 : t.val % 32 = 31 := (flush0_11 t).mp hf
  rw [Pipeline.eq_sum_fin_of_reset_step_apply_of_flush (fun n h => (outsAt0 m c n h).2.2.2.2.2) 32 (fun _ => 0) (fun t => gainT (x3B m c t) (iblk m c 1 t) (iblk m c 5 t)) ?_ ?_ t h1 y]
  · unfold gainT Cert.Alg.ms
    idx_vars y
    pointwise [x3B, val_main_v75, val_main_v56, val_main_v53, val_main_v52, val_main_v51, val_main_v50, val_main_v49, val_main_v48, val_main_v47, val_main_cst_13, val_main_v46, val_main_v45, val_main_cst_12, val_main_cst_11, val_main_v39, val_main_v38, val_main_cst_6, val_main_v36, val_main_v35, val_main_v34, val_main_v33, val_main_v32, val_main_v31, val_main_v27, val_main_v26, val_main_v25, val_main_cst_4, val_main_v24, val_main_v23, val_main_cst_3, val_main_v22, val_main_v21, val_main_v20, val_main_cst_2, val_main_cst_14, val_main_cst_15]
    simp only [Finset.univ_unique, Finset.sum_singleton, Cert.Scale.grad]
    refine Fin.sum_mul_add_congr fun s k hl => ?_
    rw [mul_comm]
    have hs := s.isLt
    have i0 := idx ⟨32 * (t.val / 32) + s.val, Pipeline.run_point_lt_of_flush t h1 s⟩
    blk_point [iblk, V, i0, idx t]
  · intro t h j
    rw [outsAt0_A m c t h]
    frame_out
    erw [readCov_act m c t]
    unfold k0_pay72 k0_pay70 k0_pay65 k0_pay64 k0_pay63 k0_pay62 k0_pay61
    rw [x3]
    unfold gainT Cert.Alg.ms
    idx_vars j
    pointwise []
  · intro t h j
    rw [outsAt0_B m c t h]
    frame_out
    erw [readCov_act m c t]
    unfold k0_pay72 k0_pay65 k0_pay64 k0_pay63 k0_pay62 k0_pay61
    rw [x3]
    unfold gainT Cert.Alg.ms
    idx_vars j
    pointwise []

end Cert.Loss

end
-- ==== Proof.LossGu.lean ====
/- The forward channel mixer: the product of the normed rows with the first weight. -/
module

public import proofs.«01_k».proof.Proof.Gen.LossKernelIdeal.Value
public import proofs.«01_k».proof.Proof.Gen.LossReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.LossGu

open Cert.LossKernelIdeal Cert.LossKernelIdeal.Gen Idealize.ShloMosaic Idealize.ShloMosaic.TcCoe Idealize.SL.Sem

variable (m : (ℓ : Loc nD τ sig) → Buf (Elt Ideal) ℓ)

/-- The block index of every window. -/
theorem idx : ∀ t : Fin cfg0.N,
    win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![t.val, 0] ∧ win0_7.index t = ![t.val, 0] ∧ win0_8.index t = ![t.val, 0] ∧ win0_9.index t = ![t.val, 0] ∧ win0_10.index t = ![0, 0] ∧ win0_11.index t = ![0, 0] :=
  (by decide +kernel : ∀ t : Fin grid0.N, _)

/-- The block of the reference's product of the normed rows with the first weight at grid point `t`. -/
def guB (c : Dev nD) (t : Fin cfg0.N) : Vec Ideal S256x5632 .bf16 := fun y =>
  Cert.LossReferenceIdeal.Read.val_main_v71 (F := Ideal) (m ((c.tc : Thread nD τ).loc main_arg0)) (m ((c.tc : Thread nD τ).loc main_arg2)) (m ((c.tc : Thread nD τ).loc main_arg3)) (((cfg0.win 7).blk t).view.emb y)

/-- The column pieces that a grid point stores into the block of that product, the last first. -/
abbrev piecesGu (c : Dev nD) (t : Fin cfg0.N) : List (View.Piece (Elt Ideal) S256x5632 .bf16) :=
    [⟨Rect.unit ![0, 5376] ![256, 256] inb_S256x5632_S256x256_0_5376,
      k0_pay58 (k0_pay1 (iblk m c 0 t) (iblk m c 2 t))
      (View.ld (iblk m c 3 t) (Rect.unit ![5376, 0] ![256, 1024] inb_S5632x1024_S256x1024_5376_0))⟩,
      ⟨Rect.unit ![0, 2560] ![256, 256] inb_S256x5632_S256x256_0_2560,
      k0_pay57 (k0_pay1 (iblk m c 0 t) (iblk m c 2 t))
      (View.ld (iblk m c 3 t) (Rect.unit ![2560, 0] ![256, 1024] inb_S5632x1024_S256x1024_2560_0))⟩,
      ⟨Rect.unit ![0, 5120] ![256, 256] inb_S256x5632_S256x256_0_5120,
      k0_pay53 (k0_pay1 (iblk m c 0 t) (iblk m c 2 t))
      (View.ld (iblk m c 3 t) (Rect.unit ![5120, 0] ![256, 1024] inb_S5632x1024_S256x1024_5120_0))⟩,
      ⟨Rect.unit ![0, 2304] ![256, 256] inb_S256x5632_S256x256_0_2304,
      k0_pay52 (k0_pay1 (iblk m c 0 t) (iblk m c 2 t))
      (View.ld (iblk m c 3 t) (Rect.unit ![2304, 0] ![256, 1024] inb_S5632x1024_S256x1024_2304_0))⟩,
      ⟨Rect.unit ![0, 4864] ![256, 256] inb_S256x5632_S256x256_0_4864,
      k0_pay48 (k0_pay1 (iblk m c 0 t) (iblk m c 2 t))
      (View.ld (iblk m c 3 t) (Rect.unit ![4864, 0] ![256, 1024] inb_S5632x1024_S256x1024_4864_0))⟩,
      ⟨Rect.unit ![0, 2048] ![256, 256] inb_S256x5632_S256x256_0_2048,
      k0_pay47 (k0_pay1 (iblk m c 0 t) (iblk m c 2 t))
      (View.ld (iblk m c 3 t) (Rect.unit ![2048, 0] ![256, 1024] inb_S5632x1024_S256x1024_2048_0))⟩,
      ⟨Rect.unit ![0, 4608] ![256, 256] inb_S256x5632_S256x256_0_4608,
      k0_pay43
      (k0_pay41 (k0_pay1 (iblk m c 0 t) (iblk m c 2 t))
      (View.ld (iblk m c 3 t) (Rect.unit ![4608, 0] ![256, 1024] inb_S5632x1024_S256x1024_4608_0)))⟩,
      ⟨Rect.unit ![0, 1792] ![256, 256] inb_S256x5632_S256x256_0_1792,
      k0_pay42 (k0_pay1 (iblk m c 0 t) (iblk m c 2 t))
      (View.ld (iblk m c 3 t) (Rect.unit ![1792, 0] ![256, 1024] inb_S5632x1024_S256x1024_1792_0))⟩,
      ⟨Rect.unit ![0, 4352] ![256, 256] inb_S256x5632_S256x256_0_4352,
      k0_pay38 (k0_pay1 (iblk m c 0 t) (iblk m c 2 t))
      (View.ld (iblk m c 3 t) (Rect.unit ![4352, 0] ![256, 1024] inb_S5632x1024_S256x1024_4352_0))⟩,
      ⟨Rect.unit ![0, 1536] ![256, 256] inb_S256x5632_S256x256_0_1536,
      k0_pay37 (k0_pay1 (iblk m c 0 t) (iblk m c 2 t))
      (View.ld (iblk m c 3 t) (Rect.unit ![1536, 0] ![256, 1024] inb_S5632x1024_S256x1024_1536_0))⟩,
      ⟨Rect.unit ![0, 4096] ![256, 256] inb_S256x5632_S256x256_0_4096,
      k0_pay32 (k0_pay1 (iblk m c 0 t) (iblk m c 2 t))
      (View.ld (iblk m c 3 t) (Rect.unit ![4096, 0] ![256, 1024] inb_S5632x1024_S256x1024_4096_0))⟩,
      ⟨Rect.unit ![0, 1280] ![256, 256] inb_S256x5632_S256x256_0_1280,
      k0_pay31 (k0_pay1 (iblk m c 0 t) (iblk m c 2 t))
      (View.ld (iblk m c 3 t) (Rect.unit ![1280, 0] ![256, 1024] inb_S5632x1024_S256x1024_1280_0))⟩,
      ⟨Rect.unit ![0, 3840] ![256, 256] inb_S256x5632_S256x256_0_3840,
      k0_pay27 (k0_pay1 (iblk m c 0 t) (iblk m c 2 t))
      (View.ld (iblk m c 3 t) (Rect.unit ![3840, 0] ![256, 1024] inb_S5632x1024_S256x1024_3840_0))⟩,
      ⟨Rect.unit ![0, 1024] ![256, 256] inb_S256x5632_S256x256_0_1024,
      k0_pay26 (k0_pay1 (iblk m c 0 t) (iblk m c 2 t))
      (k0_pay23 (View.ld (iblk m c 3 t) (Rect.unit ![1024, 0] ![256, 1024] inb_S5632x1024_S256x1024_1024_0)))⟩,
      ⟨Rect.unit ![0, 3584] ![256, 256] inb_S256x5632_S256x256_0_3584,
      k0_pay21 (k0_pay1 (iblk m c 0 t) (iblk m c 2 t))
      (View.ld (iblk m c 3 t) (Rect.unit ![3584, 0] ![256, 1024] inb_S5632x1024_S256x1024_3584_0))⟩,
      ⟨Rect.unit ![0, 768] ![256, 256] inb_S256x5632_S256x256_0_768,
      k0_pay20 (k0_pay1 (iblk m c 0 t) (iblk m c 2 t))
      (View.ld (iblk m c 3 t) (Rect.unit ![768, 0] ![256, 1024] inb_S5632x1024_S256x1024_768_0))⟩,
      ⟨Rect.unit ![0, 3328] ![256, 256] inb_S256x5632_S256x256_0_3328,
      k0_pay16 (k0_pay1 (iblk m c 0 t) (iblk m c 2 t))
      (View.ld (iblk m c 3 t) (Rect.unit ![3328, 0] ![256, 1024] inb_S5632x1024_S256x1024_3328_0))⟩,
      ⟨Rect.unit ![0, 512] ![256, 256] inb_S256x5632_S256x256_0_512,
      k0_pay15 (k0_pay1 (iblk m c 0 t) (iblk m c 2 t))
      (View.ld (iblk m c 3 t) (Rect.unit ![512, 0] ![256, 1024] inb_S5632x1024_S256x1024_512_0))⟩,
      ⟨Rect.unit ![0, 3072] ![256, 256] inb_S256x5632_S256x256_0_3072,
      k0_pay11 (k0_pay1 (iblk m c 0 t) (iblk m c 2 t))
      (View.ld (iblk m c 3 t) (Rect.unit ![3072, 0] ![256, 1024] inb_S5632x1024_S256x1024_3072_0))⟩,
      ⟨Rect.unit ![0, 256] ![256, 256] inb_S256x5632_S256x256_0_256,
      k0_pay10 (k0_pay1 (iblk m c 0 t) (iblk m c 2 t))
      (View.ld (iblk m c 3 t) (Rect.unit ![256, 0] ![256, 1024] inb_S5632x1024_S256x1024_256_0))⟩,
      ⟨Rect.unit ![0, 2816] ![256, 256] inb_S256x5632_S256x256_0_2816,
      k0_pay5 (iblk m c 0 t) (iblk m c 2 t)
      (View.ld (iblk m c 3 t) (Rect.unit ![2816, 0] ![256, 1024] inb_S5632x1024_S256x1024_2816_0))⟩,
      ⟨Rect.unit ![0, 0] ![256, 256] inb_S256x5632_S256x256_0_0,
      k0_pay4 (iblk m c 0 t) (iblk m c 2 t)
      (View.ld (iblk m c 3 t) (Rect.unit ![0, 0] ![256, 1024] inb_S5632x1024_S256x1024_0_0))⟩]

set_option maxHeartbeats 8000000 in
open Cert.LossReferenceIdeal.Read in
/-- The column pieces that a grid point stores are that block. -/
theorem canon_gu (c : Dev nD) (t : Fin cfg0.N) :
    View.canon (Val := Elt Ideal) (s := S256x5632) (e := .bf16) (piecesGu m c t) = guB m c t := by
  have ht : t.val < 32 := t.isLt
  funext y
  unfold guB
  blk_simp
  unfold piecesGu
  canon_tiles x h
  all_goals (idx_vars x; have hx1 := x1.isLt; unfold_payloads; pointwise [val_main_v71, val_main_v13, val_main_v12, val_main_v9, val_main_v8, val_main_v7, val_main_v6, val_main_v5, val_main_cst_1, val_main_v4, val_main_v3, val_main_cst_0, val_main_v2, val_main_v1, val_main_v0, val_main_cst, val_main_v11, val_main_v10]; blk_point [iblk, V, idx t])

open Cert.LossReferenceIdeal.Read in
/-- The array that window 7 leaves is the reference's product of the normed rows with the first weight. -/
theorem arr7 (c : Dev nD) :
    (dats m 0 c).arrAt 7 cfg0.N = val_main_v71 (F := Ideal) (m ((c.tc : Thread nD τ).loc main_arg0)) (m ((c.tc : Thread nD τ).loc main_arg2)) (m ((c.tc : Thread nD τ).loc main_arg3)) := by
  refine (dats m 0 c).arrAt_eq_of_covers 7 _ (by decide +kernel) fun t hf y => ?_
  blk_simp
  rw [after0_7]
  by_cases h : t.val % 32 = 0
  · rw [outsAt0_A m c t h]
    frame_out
    exact congrFun (canon_gu m c t) y
  · rw [outsAt0_B m c t h]
    frame_out
    exact congrFun (canon_gu m c t) y

end Cert.LossGu

end
-- ==== Proof.Norm.lean ====
/- The forward norm before the input projection: the array of the kernel is the reference's. -/
module

public import proofs.«01_k».proof.Proof.Gen.NormKernelIdeal.Value
public import proofs.«01_k».proof.Proof.Gen.NormReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Norm

open Cert.NormKernelIdeal Cert.NormKernelIdeal.Gen Idealize.ShloMosaic Idealize.ShloMosaic.TcCoe Idealize.SL.Sem

variable (m : (ℓ : Loc nD τ sig) → Buf (Elt Ideal) ℓ)

/-- The block index of every window. -/
theorem idx : ∀ t : Fin cfg0.N,
    win0_0.index t = ![t.val, 0] ∧ win0_1.index t = ![0, 0] ∧ win0_2.index t = ![t.val, 0] :=
  (by decide +kernel : ∀ t : Fin grid0.N, _)

open Cert.NormReferenceIdeal.Read in
/-- The array that window 2 leaves is the reference's normed rows. -/
theorem arr2 (c : Dev nD) :
    (dats m 0 c).arrAt 2 cfg0.N = val_main_v13 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  idx_vars y
  unfold_payloads
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13]
  blk_point [iblk, V, idx t]

end Cert.Norm

end
-- ==== Proof.Memory.lean ====
/- The keys and values of the memory tokens: each array of the kernel is the reference's. -/
module

public import proofs.«01_k».proof.Proof.Gen.MemoryKernelIdeal.Value
public import proofs.«01_k».proof.Proof.Gen.MemoryReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Memory

open Cert.MemoryKernelIdeal Cert.MemoryKernelIdeal.Gen Idealize.ShloMosaic Idealize.ShloMosaic.TcCoe Idealize.SL.Sem

variable (m : (ℓ : Loc nD τ sig) → Buf (Elt Ideal) ℓ)

/-- The block index of every window. -/
theorem idx : ∀ t : Fin cfg0.N,
    win0_0.index t = ![0, 0] ∧ win0_1.index t = ![0, 0] ∧ win0_2.index t = ![0, 0] ∧ win0_3.index t = ![0, 0] ∧ win0_4.index t = ![0, 0] :=
  (by decide +kernel : ∀ t : Fin grid0.N, _)

open Cert.MemoryReferenceIdeal.Read in
/-- The array that window 3 leaves is the reference's keys and values. -/
theorem arr3 (c : Dev nD) :
    (dats m 0 c).arrAt 3 cfg0.N = val_main_v14 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  idx_vars y
  unfold_payloads
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15]
  blk_point [iblk, V, idx t]

open Cert.MemoryReferenceIdeal.Read in
/-- The array that window 4 leaves is the reference's normed memory tokens. -/
theorem arr4 (c : Dev nD) :
    (dats m 0 c).arrAt 4 cfg0.N = val_main_v15 (F := Ideal) (m ((c.tc : Thread nD τ).loc main_arg0)) (m ((c.tc : Thread nD τ).loc main_arg1)) := by
  refine (dats m 0 c).arrAt_eq_of_covers 4 _ (by decide +kernel) fun t hf y => ?_
  blk_simp
  rw [after0_4]
  frame_out
  idx_vars y
  unfold_payloads
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15]
  blk_point [iblk, V, idx t]

end Cert.Memory

end
-- ==== Proof.Recall.lean ====
/- The gradients of the keys' and values' weight and of the memory tokens' norm: each array of the kernel is the reference's. -/
module

public import proofs.«01_k».proof.Proof.Gen.RecallKernelIdeal.Value
public import proofs.«01_k».proof.Proof.Gen.RecallReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Recall

open Cert.RecallKernelIdeal Cert.RecallKernelIdeal.Gen Idealize.ShloMosaic Idealize.ShloMosaic.TcCoe Idealize.SL.Sem

variable (m : (ℓ : Loc nD τ sig) → Buf (Elt Ideal) ℓ)

/-- The block index of every window. -/
theorem idx : ∀ t : Fin cfg0.N,
    win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

open Cert.RecallReferenceIdeal.Read in
/-- The saved normed memory tokens are the reference's own. -/
theorem mn (c : Dev nD) (i : S256x1024.Idx) :
    (V m c main_v13 i : EReal) = val_main_v12 (F := Ideal) (m ((c.tc : Thread nD τ).loc main_arg1)) (m ((c.tc : Thread nD τ).loc main_arg2)) i := by
  unfold_abbrev_sides
  after_results
  rfl

open Cert.RecallReferenceIdeal.Read in
/-- The array that window 5 leaves is the reference's gradient of the weight, turned. -/
theorem arr5 (c : Dev nD) :
    (dats m 0 c).arrAt 5 cfg0.N = val_main_v22 (F := Ideal) (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  blk_simp
  rw [after0_5]
  frame_out
  idx_vars y
  unfold_payloads
  pointwise [val_main_v14, val_main_v15, val_main_v21, val_main_v22]
  refine Finset.sum_congr (M := EReal) rfl fun x _ => ?_
  have e : iblk m c 3 t (ix2 x y1) = V m c main_v13 (ix2 x y1) := by blk_point [iblk, idx t]
  rw [e, mn]
  blk_point [iblk, V, idx t]

open Cert.RecallReferenceIdeal.Read in
/-- The array that window 6 leaves is the reference's gradient of the norm's gain. -/
theorem arr6 (c : Dev nD) :
    (dats m 0 c).arrAt 6 cfg0.N = val_main_v23 (F := Ideal) (m ((c.tc : Thread nD τ).loc main_arg0)) (m ((c.tc : Thread nD τ).loc main_arg1)) (m ((c.tc : Thread nD τ).loc main_arg3)) := by
  refine (dats m 0 c).arrAt_eq_of_covers 6 _ (by decide +kernel) fun t hf y => ?_
  blk_simp
  rw [after0_6]
  frame_out
  idx_vars y
  unfold_payloads
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_v17, val_main_cst_2, val_main_v18, val_main_v19, val_main_cst_3, val_main_v20, val_main_v21, val_main_v22, val_main_v23]
  simp only [Finset.univ_unique, Finset.sum_singleton]
  refine Finset.sum_congr (M := EReal) rfl fun x _ => ?_
  rw [mul_comm]
  blk_point [iblk, V, idx t]

end Cert.Recall

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.InKernel
public import proofs.«01_k».proof.Proof.Gen.InKernel.Frame
public import proofs.«01_k».proof.Proof.Gen.InKernelIdeal
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.FfnKernel
public import proofs.«01_k».proof.Proof.Gen.FfnKernel.Frame
public import proofs.«01_k».proof.Proof.Gen.FfnKernelIdeal
public import proofs.«01_k».proof.Proof.Gen.FfnKernelIdeal.Frame
public import proofs.«01_k».proof.Proof.Gen.FfnKernelIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.XattnKernel
public import proofs.«01_k».proof.Proof.Gen.XattnKernel.Frame
public import proofs.«01_k».proof.Proof.Gen.XattnKernelIdeal
public import proofs.«01_k».proof.Proof.Gen.XattnKernelIdeal.Frame
public import proofs.«01_k».proof.Proof.Gen.XattnKernelIdeal.Value
public import proofs.«01_k».proof.Proof.Gen.XattnReferenceIdeal
public import proofs.«01_k».proof.Proof.Gen.XattnReferenceIdeal.Run
public import proofs.«01_k».proof.Proof.Gen.XattnReferenceIdeal.Read
public import proofs.«01_k».proof.Proof.Gen.DownKernel
public import proofs.«01_k».proof.Proof.Gen.DownKernel.Frame
public import proofs.«01_k».proof.Proof.Gen.DownKernelIdeal
public import proofs.«01_k».proof.Proof.Gen.DownKernelIdeal.Frame
public import proofs.«01_k».proof.Proof.Gen.DownKernelIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.UpKernel
public import proofs.«01_k».proof.Proof.Gen.UpKernel.Frame
public import proofs.«01_k».proof.Proof.Gen.UpKernelIdeal
public import proofs.«01_k».proof.Proof.Gen.UpKernelIdeal.Frame
public import proofs.«01_k».proof.Proof.Gen.UpKernelIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.OutKernel
public import proofs.«01_k».proof.Proof.Gen.OutKernel.Frame
public import proofs.«01_k».proof.Proof.Gen.OutKernelIdeal
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.QueryKernel
public import proofs.«01_k».proof.Proof.Gen.QueryKernel.Frame
public import proofs.«01_k».proof.Proof.Gen.QueryKernelIdeal
public import proofs.«01_k».proof.Proof.Gen.QueryKernelIdeal.Frame
public import proofs.«01_k».proof.Proof.Gen.QueryKernelIdeal.Value
public import proofs.«01_k».proof.Proof.Gen.QueryReferenceIdeal
public import proofs.«01_k».proof.Proof.Gen.QueryReferenceIdeal.Run
public import proofs.«01_k».proof.Proof.Gen.QueryReferenceIdeal.Read
public import proofs.«01_k».proof.Proof.Gen.PairKernel
public import proofs.«01_k».proof.Proof.Gen.PairKernel.Frame
public import proofs.«01_k».proof.Proof.Gen.PairKernelIdeal
public import proofs.«01_k».proof.Proof.Gen.PairKernelIdeal.Frame
public import proofs.«01_k».proof.Proof.Gen.PairKernelIdeal.Value
public import proofs.«01_k».proof.Proof.Gen.PairReferenceIdeal
public import proofs.«01_k».proof.Proof.Gen.PairReferenceIdeal.Run
public import proofs.«01_k».proof.Proof.Gen.PairReferenceIdeal.Read
public import proofs.«01_k».proof.Proof.Gen.ProjKernel
public import proofs.«01_k».proof.Proof.Gen.ProjKernel.Frame
public import proofs.«01_k».proof.Proof.Gen.ProjKernelIdeal
public import proofs.«01_k».proof.Proof.Gen.ProjKernelIdeal.Frame
public import proofs.«01_k».proof.Proof.Gen.ProjKernelIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.XoKernel
public import proofs.«01_k».proof.Proof.Gen.XoKernel.Frame
public import proofs.«01_k».proof.Proof.Gen.XoKernelIdeal
public import proofs.«01_k».proof.Proof.Gen.XoKernelIdeal.Frame
public import proofs.«01_k».proof.Proof.Gen.XoKernelIdeal.Value
public import proofs.«01_k».proof.Proof.Gen.XoReferenceIdeal
public import proofs.«01_k».proof.Proof.Gen.XoReferenceIdeal.Run
public import proofs.«01_k».proof.Proof.Gen.XoReferenceIdeal.Read
public import proofs.«01_k».proof.Proof.Gen.RowsKernel
public import proofs.«01_k».proof.Proof.Gen.RowsKernel.Frame
public import proofs.«01_k».proof.Proof.Gen.RowsKernelIdeal
public import proofs.«01_k».proof.Proof.Gen.RowsKernelIdeal.Frame
public import proofs.«01_k».proof.Proof.Gen.RowsKernelIdeal.Value
public import proofs.«01_k».proof.Proof.Gen.RowsReferenceIdeal
public import proofs.«01_k».proof.Proof.Gen.RowsReferenceIdeal.Run
public import proofs.«01_k».proof.Proof.Gen.RowsReferenceIdeal.Read
public import proofs.«01_k».proof.Proof.Gen.JoinKernel
public import proofs.«01_k».proof.Proof.Gen.JoinKernel.Frame
public import proofs.«01_k».proof.Proof.Gen.JoinKernelIdeal
public import proofs.«01_k».proof.Proof.Gen.JoinKernelIdeal.Frame
public import proofs.«01_k».proof.Proof.Gen.JoinKernelIdeal.Value
public import proofs.«01_k».proof.Proof.Gen.JoinReferenceIdeal
public import proofs.«01_k».proof.Proof.Gen.JoinReferenceIdeal.Run
public import proofs.«01_k».proof.Proof.Gen.JoinReferenceIdeal.Read
public import proofs.«01_k».proof.Proof.Gen.SquareKernel
public import proofs.«01_k».proof.Proof.Gen.SquareKernel.Frame
public import proofs.«01_k».proof.Proof.Gen.SquareKernelIdeal
public import proofs.«01_k».proof.Proof.Gen.SquareKernelIdeal.Frame
public import proofs.«01_k».proof.Proof.Gen.SquareKernelIdeal.Value
public import proofs.«01_k».proof.Proof.Gen.SquareReferenceIdeal
public import proofs.«01_k».proof.Proof.Gen.SquareReferenceIdeal.Run
public import proofs.«01_k».proof.Proof.Gen.SquareReferenceIdeal.Read
public import proofs.«01_k».proof.Proof.Gen.WideKernel
public import proofs.«01_k».proof.Proof.Gen.WideKernel.Frame
public import proofs.«01_k».proof.Proof.Gen.WideKernelIdeal
public import proofs.«01_k».proof.Proof.Gen.WideKernelIdeal.Frame
public import proofs.«01_k».proof.Proof.Gen.WideKernelIdeal.Value
public import proofs.«01_k».proof.Proof.Gen.WideReferenceIdeal
public import proofs.«01_k».proof.Proof.Gen.WideReferenceIdeal.Run
public import proofs.«01_k».proof.Proof.Gen.WideReferenceIdeal.Read
public import proofs.«01_k».proof.Proof.Gen.InStepKernel
public import proofs.«01_k».proof.Proof.Gen.InStepKernel.Frame
public import proofs.«01_k».proof.Proof.Gen.InStepKernelIdeal
public import proofs.«01_k».proof.Proof.Gen.InStepKernelIdeal.Frame
public import proofs.«01_k».proof.Proof.Gen.InStepKernelIdeal.Value
public import proofs.«01_k».proof.Proof.Gen.InStepReferenceIdeal
public import proofs.«01_k».proof.Proof.Gen.InStepReferenceIdeal.Run
public import proofs.«01_k».proof.Proof.Gen.InStepReferenceIdeal.Read
public import proofs.«01_k».proof.Proof.Gen.FfnStepKernel
public import proofs.«01_k».proof.Proof.Gen.FfnStepKernel.Frame
public import proofs.«01_k».proof.Proof.Gen.FfnStepKernelIdeal
public import proofs.«01_k».proof.Proof.Gen.FfnStepKernelIdeal.Frame
public import proofs.«01_k».proof.Proof.Gen.FfnStepKernelIdeal.Value
public import proofs.«01_k».proof.Proof.Gen.FfnStepReferenceIdeal
public import proofs.«01_k».proof.Proof.Gen.FfnStepReferenceIdeal.Run
public import proofs.«01_k».proof.Proof.Gen.FfnStepReferenceIdeal.Read
public import proofs.«01_k».proof.Proof.Gen.BranchKernel
public import proofs.«01_k».proof.Proof.Gen.BranchKernel.Frame
public import proofs.«01_k».proof.Proof.Gen.BranchKernelIdeal
public import proofs.«01_k».proof.Proof.Gen.BranchKernelIdeal.Frame
public import proofs.«01_k».proof.Proof.Gen.BranchKernelIdeal.Value
public import proofs.«01_k».proof.Proof.Gen.BranchReferenceIdeal
public import proofs.«01_k».proof.Proof.Gen.BranchReferenceIdeal.Run
public import proofs.«01_k».proof.Proof.Gen.BranchReferenceIdeal.Read
public import proofs.«01_k».proof.Proof.Gen.KeysKernel
public import proofs.«01_k».proof.Proof.Gen.KeysKernel.Frame
public import proofs.«01_k».proof.Proof.Gen.KeysKernelIdeal
public import proofs.«01_k».proof.Proof.Gen.KeysKernelIdeal.Frame
public import proofs.«01_k».proof.Proof.Gen.KeysKernelIdeal.Value
public import proofs.«01_k».proof.Proof.Gen.KeysReferenceIdeal
public import proofs.«01_k».proof.Proof.Gen.KeysReferenceIdeal.Run
public import proofs.«01_k».proof.Proof.Gen.KeysReferenceIdeal.Read
public import proofs.«01_k».proof.Proof.Gen.CrossKernel
public import proofs.«01_k».proof.Proof.Gen.CrossKernel.Frame
public import proofs.«01_k».proof.Proof.Gen.CrossKernelIdeal
public import proofs.«01_k».proof.Proof.Gen.CrossKernelIdeal.Frame
public import proofs.«01_k».proof.Proof.Gen.CrossKernelIdeal.Value
public import proofs.«01_k».proof.Proof.Gen.CrossReferenceIdeal
public import proofs.«01_k».proof.Proof.Gen.CrossReferenceIdeal.Run
public import proofs.«01_k».proof.Proof.Gen.CrossReferenceIdeal.Read
public import proofs.«01_k».proof.Proof.Gen.LossKernel
public import proofs.«01_k».proof.Proof.Gen.LossKernel.Frame
public import proofs.«01_k».proof.Proof.Gen.LossKernelIdeal
public import proofs.«01_k».proof.Proof.Gen.LossKernelIdeal.Frame
public import proofs.«01_k».proof.Proof.Gen.LossKernelIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.NormKernel
public import proofs.«01_k».proof.Proof.Gen.NormKernel.Frame
public import proofs.«01_k».proof.Proof.Gen.NormKernelIdeal
public import proofs.«01_k».proof.Proof.Gen.NormKernelIdeal.Frame
public import proofs.«01_k».proof.Proof.Gen.NormKernelIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.MemoryKernel
public import proofs.«01_k».proof.Proof.Gen.MemoryKernel.Frame
public import proofs.«01_k».proof.Proof.Gen.MemoryKernelIdeal
public import proofs.«01_k».proof.Proof.Gen.MemoryKernelIdeal.Frame
public import proofs.«01_k».proof.Proof.Gen.MemoryKernelIdeal.Value
public import proofs.«01_k».proof.Proof.Gen.MemoryReferenceIdeal
public import proofs.«01_k».proof.Proof.Gen.MemoryReferenceIdeal.Run
public import proofs.«01_k».proof.Proof.Gen.MemoryReferenceIdeal.Read
public import proofs.«01_k».proof.Proof.Gen.RecallKernel
public import proofs.«01_k».proof.Proof.Gen.RecallKernel.Frame
public import proofs.«01_k».proof.Proof.Gen.RecallKernelIdeal
public import proofs.«01_k».proof.Proof.Gen.RecallKernelIdeal.Frame
public import proofs.«01_k».proof.Proof.Gen.RecallKernelIdeal.Value
public import proofs.«01_k».proof.Proof.Gen.RecallReferenceIdeal
public import proofs.«01_k».proof.Proof.Gen.RecallReferenceIdeal.Run
public import proofs.«01_k».proof.Proof.Gen.RecallReferenceIdeal.Read
public import proofs.«01_k».proof.Proof.Gen.Pre_ffn_finite
public import proofs.«01_k».proof.Proof.Gen.Pre_xattn_finite
public import proofs.«01_k».proof.Proof.Merge
public import proofs.«01_k».proof.Proof.In
public import proofs.«01_k».proof.Proof.Ffn
public import proofs.«01_k».proof.Proof.FfnPre
public import proofs.«01_k».proof.Proof.Xattn
public import proofs.«01_k».proof.Proof.XattnPre
public import proofs.«01_k».proof.Proof.Down
public import proofs.«01_k».proof.Proof.Up
public import proofs.«01_k».proof.Proof.Out
public import proofs.«01_k».proof.Proof.Query
public import proofs.«01_k».proof.Proof.Pair
public import proofs.«01_k».proof.Proof.Proj
public import proofs.«01_k».proof.Proof.Xo
public import proofs.«01_k».proof.Proof.Rows
public import proofs.«01_k».proof.Proof.Join
public import proofs.«01_k».proof.Proof.Square
public import proofs.«01_k».proof.Proof.Wide
public import proofs.«01_k».proof.Proof.InStep
public import proofs.«01_k».proof.Proof.FfnStep
public import proofs.«01_k».proof.Proof.Branch
public import proofs.«01_k».proof.Proof.Keys
public import proofs.«01_k».proof.Proof.Cross
public import proofs.«01_k».proof.Proof.Loss
public import proofs.«01_k».proof.Proof.LossGu
public import proofs.«01_k».proof.Proof.Norm
public import proofs.«01_k».proof.Proof.Memory
public import proofs.«01_k».proof.Proof.Recall

@[expose] public section

noncomputable section

namespace Cert.Proof

open Idealize.ShloMosaic Idealize.SL.Sem

/-- The merge gradient: kernel and reference end with the same six arrays. -/
theorem merge_algebraic :
    Cert.algebraic_KernelIdeal_ReferenceIdeal (hKernelIdeal := Cert.KernelIdeal.Gen.facts) (hReferenceIdeal := Cert.ReferenceIdeal.Gen.facts) := by
  intro m g m' g' _ hagree
  refine ⟨_, _, _, _, _, _, Cert.KernelIdeal.Value.run_blocks m g, ?_⟩
  refine (θ_run _ _ _).mono (fun r h c => ?_) (Cert.ReferenceIdeal.Value.run m' g')
  obtain ⟨a0, a1, a2, a3, a4, a5, a6⟩ := hagree c
  obtain ⟨h0, h1, h2, h3, h4, h5, hk⟩ := h c
  refine ⟨?_, ?_, ?_, ?_, ?_, ?_, hk⟩
  · rw [h0, a1, a2, a3, a4, a5]; exact (Cert.Merge.arr7 m c).symm
  · rw [h1, a0, a3, a6]; exact (Cert.Merge.arr8 m c).symm
  · rw [h2, a0, a3, a6]; exact (Cert.Merge.arr9 m c).symm
  · rw [h3, a0, a3, a4, a6]; exact (Cert.Merge.arr10 m c).symm
  · rw [h4, a0, a3, a5, a6]; exact (Cert.Merge.arr11 m c).symm
  · rw [h5, a0, a1, a2, a3, a4, a5, a6]; exact (Cert.Merge.arr12 m c).symm

/-- The gradient of the input projection and the norm before it: kernel and reference end with the same three arrays. -/
theorem in_algebraic :
    Cert.algebraic_InKernelIdeal_InReferenceIdeal (hInKernelIdeal := Cert.InKernelIdeal.Gen.facts) (hInReferenceIdeal := Cert.InReferenceIdeal.Gen.facts) := by
  intro m g m' g' _ hagree
  refine ⟨_, _, _, Cert.InKernelIdeal.Value.run_blocks m g, ?_⟩
  refine (θ_run _ _ _).mono (fun r h c => ?_) (Cert.InReferenceIdeal.Value.run m' g')
  obtain ⟨a0, a1, a2, a3, a4, a5, a6, a7, a8⟩ := hagree c
  obtain ⟨h0, h1, h2, hk⟩ := h c
  refine ⟨?_, ?_, ?_, hk⟩
  · rw [h0, Cert.InReferenceIdeal.Read.val_main_v60_eq, a0, a1, a2, a3, a4, a5, a6, a7, a8]; exact (Cert.In.arr9 m c).symm
  · rw [h1, a0, a1, a2, a3, a4]; exact (Cert.In.arr10 m c).symm
  · rw [h2, a0, a1, a2, a3, a4, a5, a8]; exact (Cert.In.arr11 m c).symm

/-- The gradient of the channel mixer and the norm before it: kernel and reference end with the same three arrays. -/
theorem ffn_algebraic :
    Cert.algebraic_FfnKernelIdeal_FfnReferenceIdeal_pre_ffn_finite (hFfnKernelIdeal := Cert.FfnKernelIdeal.Gen.facts) (hFfnReferenceIdeal := Cert.FfnReferenceIdeal.Gen.facts) (hPre_ffn_finite := Cert.Pre_ffn_finite.Gen.facts) := by
  intro m g m' g' hpre hagree
  have hf : ∀ c, Cert.Ffn.Fin4 m c := fun c => by
    obtain ⟨p0, p2, p3, p4⟩ := @Cert.Ffn.of_pre Cert.Pre_ffn_finite.Gen.facts _ _ _ _ _ (hpre c)
    exact ⟨p0, p2, p3, p4⟩
  refine ⟨_, _, _, Cert.FfnKernelIdeal.Value.run_blocks m g, ?_⟩
  refine (θ_run _ _ _).mono (fun r h c => ?_) (Cert.FfnReferenceIdeal.Value.run m' g')
  obtain ⟨a0, a1, a2, a3, a4⟩ := hagree c
  obtain ⟨h0, h1, h2, hk⟩ := h c
  refine ⟨?_, ?_, ?_, hk⟩
  · rw [h0, Cert.FfnReferenceIdeal.Read.val_main_v48_eq, a0, a1, a2, a3, a4]; exact (Cert.Ffn.arr6 m c (hf c)).symm
  · rw [h1, Cert.FfnReferenceIdeal.Read.val_main_v49_eq, a0, a1, a2, a3, a4]; exact (Cert.Ffn.arr7 m c (hf c)).symm
  · rw [h2, Cert.FfnReferenceIdeal.Read.val_main_v50_eq, a0, a1, a2, a3, a4]; exact (Cert.Ffn.arr8 m c (hf c)).symm

/-- The gradient of the attention into the memory tokens and the norm before it: kernel and reference end with the same four arrays. -/
theorem xattn_algebraic :
    Cert.algebraic_XattnKernelIdeal_XattnReferenceIdeal_pre_xattn_finite (hXattnKernelIdeal := Cert.XattnKernelIdeal.Gen.facts) (hXattnReferenceIdeal := Cert.XattnReferenceIdeal.Gen.facts) (hPre_xattn_finite := Cert.Pre_xattn_finite.Gen.facts) := by
  intro m g m' g' hpre hagree
  have hf : ∀ c, Cert.Xattn.Fin5 m c := fun c => by
    obtain ⟨p0, p2, p3, p4, p5⟩ := @Cert.Xattn.of_pre Cert.Pre_xattn_finite.Gen.facts _ _ _ _ _ _ (hpre c)
    exact ⟨p0, p2, p3, p4, p5⟩
  refine ⟨_, _, _, _, Cert.XattnKernelIdeal.Value.run_blocks m g, ?_⟩
  refine (θ_run _ _ _).mono (fun r h c => ?_) (Cert.XattnReferenceIdeal.Value.run m' g')
  obtain ⟨a0, a1, a2, a3, a4, a5⟩ := hagree c
  obtain ⟨h0, h1, h2, h3, hk⟩ := h c
  refine ⟨?_, ?_, ?_, ?_, hk⟩
  · rw [h0, Cert.XattnReferenceIdeal.Read.val_main_v107_eq, a0, a1, a2, a3, a4, a5]; exact (Cert.Xattn.arr7 m c (hf c)).symm
  · rw [h1, Cert.XattnReferenceIdeal.Read.val_main_v108_eq, a0, a1, a2, a3, a4, a5]; exact (Cert.Xattn.arr8 m c (hf c)).symm
  · rw [h2, Cert.XattnReferenceIdeal.Read.val_main_v82_eq, a0, a1, a2, a3, a4, a5]; exact (Cert.Xattn.arr9 m c (hf c)).symm
  · rw [h3, Cert.XattnReferenceIdeal.Read.val_main_v109_eq, a0, a1, a2, a3, a4, a5]; exact (Cert.Xattn.arr10 m c (hf c)).symm

/-- The weight gradient of the channel mixer's second product: kernel and reference end with the same array. -/
theorem down_algebraic :
    Cert.algebraic_DownKernelIdeal_DownReferenceIdeal (hDownKernelIdeal := Cert.DownKernelIdeal.Gen.facts) (hDownReferenceIdeal := Cert.DownReferenceIdeal.Gen.facts) := by
  intro m g m' g' _ hagree
  refine ⟨_, Cert.DownKernelIdeal.Value.run_blocks m g, ?_⟩
  refine (θ_run _ _ _).mono (fun r h c => ?_) (Cert.DownReferenceIdeal.Value.run m' g')
  obtain ⟨a0, a1⟩ := hagree c
  obtain ⟨h0, hk⟩ := h c
  refine ⟨?_, hk⟩
  rw [h0, a0, a1]; exact (Cert.Down.arr2 m c).symm

/-- The weight gradient of the channel mixer's first product: kernel and reference end with the same array. -/
theorem up_algebraic :
    Cert.algebraic_UpKernelIdeal_UpReferenceIdeal (hUpKernelIdeal := Cert.UpKernelIdeal.Gen.facts) (hUpReferenceIdeal := Cert.UpReferenceIdeal.Gen.facts) := by
  intro m g m' g' _ hagree
  refine ⟨_, Cert.UpKernelIdeal.Value.run_blocks m g, ?_⟩
  refine (θ_run _ _ _).mono (fun r h c => ?_) (Cert.UpReferenceIdeal.Value.run m' g')
  obtain ⟨a0, a1⟩ := hagree c
  obtain ⟨h0, hk⟩ := h c
  refine ⟨?_, hk⟩
  rw [h0, a0, a1]; exact (Cert.Up.arr2 m c).symm

/-- The weight gradient of the output product: kernel and reference end with the same array. -/
theorem out_algebraic :
    Cert.algebraic_OutKernelIdeal_OutReferenceIdeal (hOutKernelIdeal := Cert.OutKernelIdeal.Gen.facts) (hOutReferenceIdeal := Cert.OutReferenceIdeal.Gen.facts) := by
  intro m g m' g' _ hagree
  refine ⟨_, Cert.OutKernelIdeal.Value.run_blocks m g, ?_⟩
  refine (θ_run _ _ _).mono (fun r h c => ?_) (Cert.OutReferenceIdeal.Value.run m' g')
  obtain ⟨a0, a1⟩ := hagree c
  obtain ⟨h0, hk⟩ := h c
  refine ⟨?_, hk⟩
  rw [h0, a0, a1]; exact (Cert.Out.arr2 m c).symm

/-- The weight gradient of the query product: kernel and reference end with the same array. -/
theorem query_algebraic :
    Cert.algebraic_QueryKernelIdeal_QueryReferenceIdeal (hQueryKernelIdeal := Cert.QueryKernelIdeal.Gen.facts) (hQueryReferenceIdeal := Cert.QueryReferenceIdeal.Gen.facts) := by
  intro m g m' g' _ hagree
  refine ⟨_, Cert.QueryKernelIdeal.Value.run_blocks m g, ?_⟩
  refine (θ_run _ _ _).mono (fun r h c => ?_) (Cert.QueryReferenceIdeal.Value.run m' g')
  obtain ⟨a0, a1⟩ := hagree c
  obtain ⟨h0, hk⟩ := h c
  refine ⟨?_, hk⟩
  rw [h0, a0, a1]; exact (Cert.Query.arr2 m c).symm

/-- The weight gradients of the two branch products: kernel and reference end with the same two arrays. -/
theorem pair_algebraic :
    Cert.algebraic_PairKernelIdeal_PairReferenceIdeal (hPairKernelIdeal := Cert.PairKernelIdeal.Gen.facts) (hPairReferenceIdeal := Cert.PairReferenceIdeal.Gen.facts) := by
  intro m g m' g' _ hagree
  refine ⟨_, _, Cert.PairKernelIdeal.Value.run_blocks m g, ?_⟩
  refine (θ_run _ _ _).mono (fun r h c => ?_) (Cert.PairReferenceIdeal.Value.run m' g')
  obtain ⟨a0, a1, a2, a3⟩ := hagree c
  obtain ⟨h0, h1, hk⟩ := h c
  refine ⟨?_, ?_, hk⟩
  · rw [h0, a0, a1]; exact (Cert.Pair.arr4 m c).symm
  · rw [h1, a2, a3]; exact (Cert.Pair.arr5 m c).symm

/-- The weight gradient of the input projection: kernel and reference end with the same array. -/
theorem proj_algebraic :
    Cert.algebraic_ProjKernelIdeal_ProjReferenceIdeal (hProjKernelIdeal := Cert.ProjKernelIdeal.Gen.facts) (hProjReferenceIdeal := Cert.ProjReferenceIdeal.Gen.facts) := by
  intro m g m' g' _ hagree
  refine ⟨_, Cert.ProjKernelIdeal.Value.run_blocks m g, ?_⟩
  refine (θ_run _ _ _).mono (fun r h c => ?_) (Cert.ProjReferenceIdeal.Value.run m' g')
  obtain ⟨a0, a1⟩ := hagree c
  obtain ⟨h0, hk⟩ := h c
  refine ⟨?_, hk⟩
  rw [h0, a0, a1]; exact (Cert.Proj.arr2 m c).symm

/-- The weight gradient of the cross-attention's output product: kernel and reference end with the same array. -/
theorem xo_algebraic :
    Cert.algebraic_XoKernelIdeal_XoReferenceIdeal (hXoKernelIdeal := Cert.XoKernelIdeal.Gen.facts) (hXoReferenceIdeal := Cert.XoReferenceIdeal.Gen.facts) := by
  intro m g m' g' _ hagree
  refine ⟨_, Cert.XoKernelIdeal.Value.run_blocks m g, ?_⟩
  refine (θ_run _ _ _).mono (fun r h c => ?_) (Cert.XoReferenceIdeal.Value.run m' g')
  obtain ⟨a0, a1⟩ := hagree c
  obtain ⟨h0, hk⟩ := h c
  refine ⟨?_, hk⟩
  · rw [h0, a0, a1]; exact (Cert.Xo.arr2 m c).symm

/-- The forward input projection: kernel and reference end with the same three arrays. -/
theorem rows_algebraic :
    Cert.algebraic_RowsKernelIdeal_RowsReferenceIdeal (hRowsKernelIdeal := Cert.RowsKernelIdeal.Gen.facts) (hRowsReferenceIdeal := Cert.RowsReferenceIdeal.Gen.facts) := by
  intro m g m' g' _ hagree
  refine ⟨_, _, _, Cert.RowsKernelIdeal.Value.run_blocks m g, ?_⟩
  refine (θ_run _ _ _).mono (fun r h c => ?_) (Cert.RowsReferenceIdeal.Value.run m' g')
  obtain ⟨a0, a1⟩ := hagree c
  obtain ⟨h0, h1, h2, hk⟩ := h c
  refine ⟨?_, ?_, ?_, hk⟩
  · rw [h0, a0, a1]; exact (Cert.Rows.arr2 m c).symm
  · rw [h1, a0, a1]; exact (Cert.Rows.arr3 m c).symm
  · rw [h2, a0, a1]; exact (Cert.Rows.arr4 m c).symm

/-- The forward gated merge: kernel and reference end with the same array. -/
theorem join_algebraic :
    Cert.algebraic_JoinKernelIdeal_JoinReferenceIdeal (hJoinKernelIdeal := Cert.JoinKernelIdeal.Gen.facts) (hJoinReferenceIdeal := Cert.JoinReferenceIdeal.Gen.facts) := by
  intro m g m' g' _ hagree
  refine ⟨_, Cert.JoinKernelIdeal.Value.run_blocks m g, ?_⟩
  refine (θ_run _ _ _).mono (fun r h c => ?_) (Cert.JoinReferenceIdeal.Value.run m' g')
  obtain ⟨a0, a1, a2, a3, a4, a5, a6⟩ := hagree c
  obtain ⟨h0, hk⟩ := h c
  refine ⟨?_, hk⟩
  · rw [h0, a0, a1, a2, a3, a4, a5, a6]; exact (Cert.Join.arr7 m c).symm

/-- The optimiser of the output weights: kernel and reference end with the same four arrays. -/
theorem square_algebraic :
    Cert.algebraic_SquareKernelIdeal_SquareReferenceIdeal (hSquareKernelIdeal := Cert.SquareKernelIdeal.Gen.facts) (hSquareReferenceIdeal := Cert.SquareReferenceIdeal.Gen.facts) := by
  intro m g m' g' _ hagree
  refine ⟨_, _, _, _, Cert.SquareKernelIdeal.Value.run_blocks m g, ?_⟩
  refine (θ_run _ _ _).mono (fun r h c => ?_) (Cert.SquareReferenceIdeal.Value.run m' g')
  obtain ⟨a0, a1, a2, a3⟩ := hagree c
  obtain ⟨h0, h1, h2, h3, hk⟩ := h c
  refine ⟨?_, ?_, ?_, ?_, hk⟩
  · rw [h0, a0]; exact (Cert.Square.arr4 m c).symm
  · rw [h1, a0, a1, a2, a3]; exact (Cert.Square.arr5 m c).symm
  · rw [h2, a0, a2]; exact (Cert.Square.arr6 m c).symm
  · rw [h3, a0, a3]; exact (Cert.Square.arr7 m c).symm

/-- The optimiser of the channel mixer's output weight: kernel and reference end with the same four arrays. -/
theorem wide_algebraic :
    Cert.algebraic_WideKernelIdeal_WideReferenceIdeal (hWideKernelIdeal := Cert.WideKernelIdeal.Gen.facts) (hWideReferenceIdeal := Cert.WideReferenceIdeal.Gen.facts) := by
  intro m g m' g' _ hagree
  refine ⟨_, _, _, _, Cert.WideKernelIdeal.Value.run_blocks m g, ?_⟩
  refine (θ_run _ _ _).mono (fun r h c => ?_) (Cert.WideReferenceIdeal.Value.run m' g')
  obtain ⟨a0, a1, a2, a3⟩ := hagree c
  obtain ⟨h0, h1, h2, h3, hk⟩ := h c
  refine ⟨?_, ?_, ?_, ?_, hk⟩
  · rw [h0, a0]; exact (Cert.Wide.arr4 m c).symm
  · rw [h1, a0, a1, a2, a3]; exact (Cert.Wide.arr5 m c).symm
  · rw [h2, a0, a2]; exact (Cert.Wide.arr6 m c).symm
  · rw [h3, a0, a3]; exact (Cert.Wide.arr7 m c).symm

/-- The optimiser of the input projection's weight, turned: kernel and reference end with the same four arrays. -/
theorem instep_algebraic :
    Cert.algebraic_InStepKernelIdeal_InStepReferenceIdeal (hInStepKernelIdeal := Cert.InStepKernelIdeal.Gen.facts) (hInStepReferenceIdeal := Cert.InStepReferenceIdeal.Gen.facts) := by
  intro m g m' g' _ hagree
  refine ⟨_, _, _, _, Cert.InStepKernelIdeal.Value.run_blocks m g, ?_⟩
  refine (θ_run _ _ _).mono (fun r h c => ?_) (Cert.InStepReferenceIdeal.Value.run m' g')
  obtain ⟨a0, a1, a2, a3⟩ := hagree c
  obtain ⟨h0, h1, h2, h3, hk⟩ := h c
  refine ⟨?_, ?_, ?_, ?_, hk⟩
  · rw [h0, a0]; exact (Cert.InStep.arr4 m c).symm
  · rw [h1, a0, a1, a2, a3]; exact (Cert.InStep.arr5 m c).symm
  · rw [h2, a0, a2]; exact (Cert.InStep.arr6 m c).symm
  · rw [h3, a0, a3]; exact (Cert.InStep.arr7 m c).symm

/-- The optimiser of the channel mixer's input weight, turned: kernel and reference end with the same four arrays. -/
theorem ffnstep_algebraic :
    Cert.algebraic_FfnStepKernelIdeal_FfnStepReferenceIdeal (hFfnStepKernelIdeal := Cert.FfnStepKernelIdeal.Gen.facts) (hFfnStepReferenceIdeal := Cert.FfnStepReferenceIdeal.Gen.facts) := by
  intro m g m' g' _ hagree
  refine ⟨_, _, _, _, Cert.FfnStepKernelIdeal.Value.run_blocks m g, ?_⟩
  refine (θ_run _ _ _).mono (fun r h c => ?_) (Cert.FfnStepReferenceIdeal.Value.run m' g')
  obtain ⟨a0, a1, a2, a3⟩ := hagree c
  obtain ⟨h0, h1, h2, h3, hk⟩ := h c
  refine ⟨?_, ?_, ?_, ?_, hk⟩
  · rw [h0, a0]; exact (Cert.FfnStep.arr4 m c).symm
  · rw [h1, a0, a1, a2, a3]; exact (Cert.FfnStep.arr5 m c).symm
  · rw [h2, a0, a2]; exact (Cert.FfnStep.arr6 m c).symm
  · rw [h3, a0, a3]; exact (Cert.FfnStep.arr7 m c).symm

/-- The optimiser of the branch weights: kernel and reference end with the same four arrays. -/
theorem branch_algebraic :
    Cert.algebraic_BranchKernelIdeal_BranchReferenceIdeal (hBranchKernelIdeal := Cert.BranchKernelIdeal.Gen.facts) (hBranchReferenceIdeal := Cert.BranchReferenceIdeal.Gen.facts) := by
  intro m g m' g' _ hagree
  refine ⟨_, _, _, _, Cert.BranchKernelIdeal.Value.run_blocks m g, ?_⟩
  refine (θ_run _ _ _).mono (fun r h c => ?_) (Cert.BranchReferenceIdeal.Value.run m' g')
  obtain ⟨a0, a1, a2, a3⟩ := hagree c
  obtain ⟨h0, h1, h2, h3, hk⟩ := h c
  refine ⟨?_, ?_, ?_, ?_, hk⟩
  · rw [h0, a0]; exact (Cert.Branch.arr4 m c).symm
  · rw [h1, a0, a1, a2, a3]; exact (Cert.Branch.arr5 m c).symm
  · rw [h2, a0, a2]; exact (Cert.Branch.arr6 m c).symm
  · rw [h3, a0, a3]; exact (Cert.Branch.arr7 m c).symm

/-- The optimiser of the keys' and values' weight: kernel and reference end with the same four arrays. -/
theorem keys_algebraic :
    Cert.algebraic_KeysKernelIdeal_KeysReferenceIdeal (hKeysKernelIdeal := Cert.KeysKernelIdeal.Gen.facts) (hKeysReferenceIdeal := Cert.KeysReferenceIdeal.Gen.facts) := by
  intro m g m' g' _ hagree
  refine ⟨_, _, _, _, Cert.KeysKernelIdeal.Value.run_blocks m g, ?_⟩
  refine (θ_run _ _ _).mono (fun r h c => ?_) (Cert.KeysReferenceIdeal.Value.run m' g')
  obtain ⟨a0, a1, a2, a3⟩ := hagree c
  obtain ⟨h0, h1, h2, h3, hk⟩ := h c
  refine ⟨?_, ?_, ?_, ?_, hk⟩
  · rw [h0, a0]; exact (Cert.Keys.arr4 m c).symm
  · rw [h1, a0, a1, a2, a3]; exact (Cert.Keys.arr5 m c).symm
  · rw [h2, a0, a2]; exact (Cert.Keys.arr6 m c).symm
  · rw [h3, a0, a3]; exact (Cert.Keys.arr7 m c).symm

/-- The forward cross attention: kernel and reference end with the same four arrays. -/
theorem cross_algebraic :
    Cert.algebraic_CrossKernelIdeal_CrossReferenceIdeal (hCrossKernelIdeal := Cert.CrossKernelIdeal.Gen.facts) (hCrossReferenceIdeal := Cert.CrossReferenceIdeal.Gen.facts) := by
  intro m g m' g' _ hagree
  refine ⟨_, _, _, _, Cert.CrossKernelIdeal.Value.run_blocks m g, ?_⟩
  refine (θ_run _ _ _).mono (fun r h c => ?_) (Cert.CrossReferenceIdeal.Value.run m' g')
  obtain ⟨a0, a1, a2, a3, a4⟩ := hagree c
  obtain ⟨h0, h1, h2, h3, hk⟩ := h c
  refine ⟨?_, ?_, ?_, ?_, hk⟩
  · rw [h0, Cert.CrossReferenceIdeal.Read.val_main_v43_eq, a0, a1, a2, a3, a4]; exact (Cert.Cross.arr5 m c).symm
  · rw [h1, a0, a1]; exact (Cert.Cross.arr6 m c).symm
  · rw [h2, a0, a1, a2]; exact (Cert.Cross.arr7 m c).symm
  · rw [h3, Cert.CrossReferenceIdeal.Read.val_main_v40_eq, a0, a1, a2, a3]; exact (Cert.Cross.arr8 m c).symm

/-- The forward channel mixer, the final norm and the loss: kernel and reference end with the same six arrays. -/
theorem loss_algebraic :
    Cert.algebraic_LossKernelIdeal_LossReferenceIdeal (hLossKernelIdeal := Cert.LossKernelIdeal.Gen.facts) (hLossReferenceIdeal := Cert.LossReferenceIdeal.Gen.facts) := by
  intro m g m' g' _ hagree
  refine ⟨_, _, _, _, _, _, Cert.LossKernelIdeal.Value.run_blocks m g, ?_⟩
  refine (θ_run _ _ _).mono (fun r h c => ?_) (Cert.LossReferenceIdeal.Value.run m' g')
  obtain ⟨a0, a1, a2, a3, a4, a5⟩ := hagree c
  obtain ⟨h0, h1, h2, h3, h4, h5, hk⟩ := h c
  refine ⟨?_, ?_, ?_, ?_, ?_, ?_, hk⟩
  · rw [h0, Cert.LossReferenceIdeal.Read.val_main_v70_eq, a0, a1, a2, a3, a4, a5]; exact (Cert.Loss.arr6 m c).symm
  · rw [h1, a0, a2, a3]; exact (Cert.LossGu.arr7 m c).symm
  · rw [h2, a0, a2]; exact (Cert.Loss.arr8 m c).symm
  · rw [h3, a0, a2, a3]; exact (Cert.Loss.arr9 m c).symm
  · rw [h4, Cert.LossReferenceIdeal.Read.val_main_v74_eq, a0, a1, a2, a3, a4, a5]; exact (Cert.Loss.arr10 m c).symm
  · rw [h5, Cert.LossReferenceIdeal.Read.val_main_v75_eq, a0, a1, a2, a3, a4, a5]; exact (Cert.Loss.arr11 m c).symm

/-- The forward norm before the input projection: kernel and reference end with the same array. -/
theorem norm_algebraic :
    Cert.algebraic_NormKernelIdeal_NormReferenceIdeal (hNormKernelIdeal := Cert.NormKernelIdeal.Gen.facts) (hNormReferenceIdeal := Cert.NormReferenceIdeal.Gen.facts) := by
  intro m g m' g' _ hagree
  refine ⟨_, Cert.NormKernelIdeal.Value.run_blocks m g, ?_⟩
  refine (θ_run _ _ _).mono (fun r h c => ?_) (Cert.NormReferenceIdeal.Value.run m' g')
  obtain ⟨a0, a1⟩ := hagree c
  obtain ⟨h0, hk⟩ := h c
  refine ⟨?_, hk⟩
  · rw [h0, a0, a1]; exact (Cert.Norm.arr2 m c).symm

/-- The keys and values of the memory tokens: kernel and reference end with the same two arrays. -/
theorem memory_algebraic :
    Cert.algebraic_MemoryKernelIdeal_MemoryReferenceIdeal (hMemoryKernelIdeal := Cert.MemoryKernelIdeal.Gen.facts) (hMemoryReferenceIdeal := Cert.MemoryReferenceIdeal.Gen.facts) := by
  intro m g m' g' _ hagree
  refine ⟨_, _, Cert.MemoryKernelIdeal.Value.run_blocks m g, ?_⟩
  refine (θ_run _ _ _).mono (fun r h c => ?_) (Cert.MemoryReferenceIdeal.Value.run m' g')
  obtain ⟨a0, a1, a2⟩ := hagree c
  obtain ⟨h0, h1, hk⟩ := h c
  refine ⟨?_, ?_, hk⟩
  · rw [h0, a0, a1, a2]; exact (Cert.Memory.arr3 m c).symm
  · rw [h1, a0, a1]; exact (Cert.Memory.arr4 m c).symm

/-- The gradients of the keys' and values' weight and of the memory tokens' norm: kernel and reference end with the same two arrays. -/
theorem recall_algebraic :
    Cert.algebraic_RecallKernelIdeal_RecallReferenceIdeal (hRecallKernelIdeal := Cert.RecallKernelIdeal.Gen.facts) (hRecallReferenceIdeal := Cert.RecallReferenceIdeal.Gen.facts) := by
  intro m g m' g' _ hagree
  refine ⟨_, _, Cert.RecallKernelIdeal.Value.run_blocks m g, ?_⟩
  refine (θ_run _ _ _).mono (fun r h c => ?_) (Cert.RecallReferenceIdeal.Value.run m' g')
  obtain ⟨a0, a1, a2, a3⟩ := hagree c
  obtain ⟨h0, h1, hk⟩ := h c
  refine ⟨?_, ?_, hk⟩
  · rw [h0, a0, a1, a2]; exact (Cert.Recall.arr5 m c).symm
  · rw [h1, a0, a1, a3]; exact (Cert.Recall.arr6 m c).symm

theorem claim : Cert.Claim :=
  ⟨Cert.Kernel.Gen.facts, Cert.KernelIdeal.Gen.facts, Cert.ReferenceIdeal.Gen.facts, Cert.InKernel.Gen.facts, Cert.InKernelIdeal.Gen.facts, Cert.InReferenceIdeal.Gen.facts, Cert.FfnKernel.Gen.facts, Cert.FfnKernelIdeal.Gen.facts, Cert.FfnReferenceIdeal.Gen.facts, Cert.XattnKernel.Gen.facts, Cert.XattnKernelIdeal.Gen.facts, Cert.XattnReferenceIdeal.Gen.facts, Cert.DownKernel.Gen.facts, Cert.DownKernelIdeal.Gen.facts, Cert.DownReferenceIdeal.Gen.facts, Cert.UpKernel.Gen.facts, Cert.UpKernelIdeal.Gen.facts, Cert.UpReferenceIdeal.Gen.facts, Cert.OutKernel.Gen.facts, Cert.OutKernelIdeal.Gen.facts, Cert.OutReferenceIdeal.Gen.facts, Cert.QueryKernel.Gen.facts, Cert.QueryKernelIdeal.Gen.facts, Cert.QueryReferenceIdeal.Gen.facts, Cert.PairKernel.Gen.facts, Cert.PairKernelIdeal.Gen.facts, Cert.PairReferenceIdeal.Gen.facts, Cert.ProjKernel.Gen.facts, Cert.ProjKernelIdeal.Gen.facts, Cert.ProjReferenceIdeal.Gen.facts, Cert.XoKernel.Gen.facts, Cert.XoKernelIdeal.Gen.facts, Cert.XoReferenceIdeal.Gen.facts, Cert.RowsKernel.Gen.facts, Cert.RowsKernelIdeal.Gen.facts, Cert.RowsReferenceIdeal.Gen.facts, Cert.JoinKernel.Gen.facts, Cert.JoinKernelIdeal.Gen.facts, Cert.JoinReferenceIdeal.Gen.facts, Cert.SquareKernel.Gen.facts, Cert.SquareKernelIdeal.Gen.facts, Cert.SquareReferenceIdeal.Gen.facts, Cert.WideKernel.Gen.facts, Cert.WideKernelIdeal.Gen.facts, Cert.WideReferenceIdeal.Gen.facts, Cert.InStepKernel.Gen.facts, Cert.InStepKernelIdeal.Gen.facts, Cert.InStepReferenceIdeal.Gen.facts, Cert.FfnStepKernel.Gen.facts, Cert.FfnStepKernelIdeal.Gen.facts, Cert.FfnStepReferenceIdeal.Gen.facts, Cert.BranchKernel.Gen.facts, Cert.BranchKernelIdeal.Gen.facts, Cert.BranchReferenceIdeal.Gen.facts, Cert.KeysKernel.Gen.facts, Cert.KeysKernelIdeal.Gen.facts, Cert.KeysReferenceIdeal.Gen.facts, Cert.CrossKernel.Gen.facts, Cert.CrossKernelIdeal.Gen.facts, Cert.CrossReferenceIdeal.Gen.facts, Cert.LossKernel.Gen.facts, Cert.LossKernelIdeal.Gen.facts, Cert.LossReferenceIdeal.Gen.facts, Cert.NormKernel.Gen.facts, Cert.NormKernelIdeal.Gen.facts, Cert.NormReferenceIdeal.Gen.facts, Cert.MemoryKernel.Gen.facts, Cert.MemoryKernelIdeal.Gen.facts, Cert.MemoryReferenceIdeal.Gen.facts, Cert.RecallKernel.Gen.facts, Cert.RecallKernelIdeal.Gen.facts, Cert.RecallReferenceIdeal.Gen.facts, Cert.Pre_ffn_finite.Gen.facts, Cert.Pre_xattn_finite.Gen.facts,
    fun m g _ => Cert.Kernel.Gen.frame m g,
    fun m g _ => Cert.KernelIdeal.Gen.frame m g,
    fun m g _ => (θ_run _ _ _).mono (fun _ h => ⟨fun c => (h c).2.2.2.2.2.2, sem_eq_zero_of_no_sems rfl _⟩) (Cert.ReferenceIdeal.Value.run m g),
    fun m g _ => Cert.InKernel.Gen.frame m g,
    fun m g _ => Cert.InKernelIdeal.Gen.frame m g,
    fun m g _ => (θ_run _ _ _).mono (fun _ h => ⟨fun c => (h c).2.2.2, sem_eq_zero_of_no_sems rfl _⟩) (Cert.InReferenceIdeal.Value.run m g),
    fun m g _ => Cert.FfnKernel.Gen.frame m g,
    fun m g _ => Cert.FfnKernelIdeal.Gen.frame m g,
    fun m g _ => Cert.FfnKernelIdeal.Gen.frame m g,
    fun m g _ => (θ_run _ _ _).mono (fun _ h => ⟨fun c => (h c).2.2.2, sem_eq_zero_of_no_sems rfl _⟩) (Cert.FfnReferenceIdeal.Value.run m g),
    fun m g _ => (θ_run _ _ _).mono (fun _ h => ⟨fun c => (h c).2.2.2, sem_eq_zero_of_no_sems rfl _⟩) (Cert.FfnReferenceIdeal.Value.run m g),
    fun m g _ => Cert.XattnKernel.Gen.frame m g,
    fun m g _ => Cert.XattnKernelIdeal.Gen.frame m g,
    fun m g _ => Cert.XattnKernelIdeal.Gen.frame m g,
    fun m g _ => (θ_run _ _ _).mono (fun _ h => ⟨fun c => (h c).2.2.2.2, sem_eq_zero_of_no_sems rfl _⟩) (Cert.XattnReferenceIdeal.Value.run m g),
    fun m g _ => (θ_run _ _ _).mono (fun _ h => ⟨fun c => (h c).2.2.2.2, sem_eq_zero_of_no_sems rfl _⟩) (Cert.XattnReferenceIdeal.Value.run m g),
    fun m g _ => Cert.DownKernel.Gen.frame m g,
    fun m g _ => Cert.DownKernelIdeal.Gen.frame m g,
    fun m g _ => (θ_run _ _ _).mono (fun _ h => ⟨fun c => (h c).2, sem_eq_zero_of_no_sems rfl _⟩) (Cert.DownReferenceIdeal.Value.run m g),
    fun m g _ => Cert.UpKernel.Gen.frame m g,
    fun m g _ => Cert.UpKernelIdeal.Gen.frame m g,
    fun m g _ => (θ_run _ _ _).mono (fun _ h => ⟨fun c => (h c).2, sem_eq_zero_of_no_sems rfl _⟩) (Cert.UpReferenceIdeal.Value.run m g),
    fun m g _ => Cert.OutKernel.Gen.frame m g,
    fun m g _ => Cert.OutKernelIdeal.Gen.frame m g,
    fun m g _ => (θ_run _ _ _).mono (fun _ h => ⟨fun c => (h c).2, sem_eq_zero_of_no_sems rfl _⟩) (Cert.OutReferenceIdeal.Value.run m g),
    fun m g _ => Cert.QueryKernel.Gen.frame m g,
    fun m g _ => Cert.QueryKernelIdeal.Gen.frame m g,
    fun m g _ => (θ_run _ _ _).mono (fun _ h => ⟨fun c => (h c).2, sem_eq_zero_of_no_sems rfl _⟩) (Cert.QueryReferenceIdeal.Value.run m g),
    fun m g _ => Cert.PairKernel.Gen.frame m g,
    fun m g _ => Cert.PairKernelIdeal.Gen.frame m g,
    fun m g _ => (θ_run _ _ _).mono (fun _ h => ⟨fun c => (h c).2.2, sem_eq_zero_of_no_sems rfl _⟩) (Cert.PairReferenceIdeal.Value.run m g),
    fun m g _ => Cert.ProjKernel.Gen.frame m g,
    fun m g _ => Cert.ProjKernelIdeal.Gen.frame m g,
    fun m g _ => (θ_run _ _ _).mono (fun _ h => ⟨fun c => (h c).2, sem_eq_zero_of_no_sems rfl _⟩) (Cert.ProjReferenceIdeal.Value.run m g),
    fun m g _ => Cert.XoKernel.Gen.frame m g,
    fun m g _ => Cert.XoKernelIdeal.Gen.frame m g,
    fun m g _ => (θ_run _ _ _).mono (fun _ h => ⟨fun c => (h c).2, sem_eq_zero_of_no_sems rfl _⟩) (Cert.XoReferenceIdeal.Value.run m g),
    fun m g _ => Cert.RowsKernel.Gen.frame m g,
    fun m g _ => Cert.RowsKernelIdeal.Gen.frame m g,
    fun m g _ => (θ_run _ _ _).mono (fun _ h => ⟨fun c => (h c).2.2.2, sem_eq_zero_of_no_sems rfl _⟩) (Cert.RowsReferenceIdeal.Value.run m g),
    fun m g _ => Cert.JoinKernel.Gen.frame m g,
    fun m g _ => Cert.JoinKernelIdeal.Gen.frame m g,
    fun m g _ => (θ_run _ _ _).mono (fun _ h => ⟨fun c => (h c).2, sem_eq_zero_of_no_sems rfl _⟩) (Cert.JoinReferenceIdeal.Value.run m g),
    fun m g _ => Cert.SquareKernel.Gen.frame m g,
    fun m g _ => Cert.SquareKernelIdeal.Gen.frame m g,
    fun m g _ => (θ_run _ _ _).mono (fun _ h => ⟨fun c => (h c).2.2.2.2, sem_eq_zero_of_no_sems rfl _⟩) (Cert.SquareReferenceIdeal.Value.run m g),
    fun m g _ => Cert.WideKernel.Gen.frame m g,
    fun m g _ => Cert.WideKernelIdeal.Gen.frame m g,
    fun m g _ => (θ_run _ _ _).mono (fun _ h => ⟨fun c => (h c).2.2.2.2, sem_eq_zero_of_no_sems rfl _⟩) (Cert.WideReferenceIdeal.Value.run m g),
    fun m g _ => Cert.InStepKernel.Gen.frame m g,
    fun m g _ => Cert.InStepKernelIdeal.Gen.frame m g,
    fun m g _ => (θ_run _ _ _).mono (fun _ h => ⟨fun c => (h c).2.2.2.2, sem_eq_zero_of_no_sems rfl _⟩) (Cert.InStepReferenceIdeal.Value.run m g),
    fun m g _ => Cert.FfnStepKernel.Gen.frame m g,
    fun m g _ => Cert.FfnStepKernelIdeal.Gen.frame m g,
    fun m g _ => (θ_run _ _ _).mono (fun _ h => ⟨fun c => (h c).2.2.2.2, sem_eq_zero_of_no_sems rfl _⟩) (Cert.FfnStepReferenceIdeal.Value.run m g),
    fun m g _ => Cert.BranchKernel.Gen.frame m g,
    fun m g _ => Cert.BranchKernelIdeal.Gen.frame m g,
    fun m g _ => (θ_run _ _ _).mono (fun _ h => ⟨fun c => (h c).2.2.2.2, sem_eq_zero_of_no_sems rfl _⟩) (Cert.BranchReferenceIdeal.Value.run m g),
    fun m g _ => Cert.KeysKernel.Gen.frame m g,
    fun m g _ => Cert.KeysKernelIdeal.Gen.frame m g,
    fun m g _ => (θ_run _ _ _).mono (fun _ h => ⟨fun c => (h c).2.2.2.2, sem_eq_zero_of_no_sems rfl _⟩) (Cert.KeysReferenceIdeal.Value.run m g),
    fun m g _ => Cert.CrossKernel.Gen.frame m g,
    fun m g _ => Cert.CrossKernelIdeal.Gen.frame m g,
    fun m g _ => (θ_run _ _ _).mono (fun _ h => ⟨fun c => (h c).2.2.2.2, sem_eq_zero_of_no_sems rfl _⟩) (Cert.CrossReferenceIdeal.Value.run m g),
    fun m g _ => Cert.LossKernel.Gen.frame m g,
    fun m g _ => Cert.LossKernelIdeal.Gen.frame m g,
    fun m g _ => (θ_run _ _ _).mono (fun _ h => ⟨fun c => (h c).2.2.2.2.2.2, sem_eq_zero_of_no_sems rfl _⟩) (Cert.LossReferenceIdeal.Value.run m g),
    fun m g _ => Cert.NormKernel.Gen.frame m g,
    fun m g _ => Cert.NormKernelIdeal.Gen.frame m g,
    fun m g _ => (θ_run _ _ _).mono (fun _ h => ⟨fun c => (h c).2, sem_eq_zero_of_no_sems rfl _⟩) (Cert.NormReferenceIdeal.Value.run m g),
    fun m g _ => Cert.MemoryKernel.Gen.frame m g,
    fun m g _ => Cert.MemoryKernelIdeal.Gen.frame m g,
    fun m g _ => (θ_run _ _ _).mono (fun _ h => ⟨fun c => (h c).2.2, sem_eq_zero_of_no_sems rfl _⟩) (Cert.MemoryReferenceIdeal.Value.run m g),
    fun m g _ => Cert.RecallKernel.Gen.frame m g,
    fun m g _ => Cert.RecallKernelIdeal.Gen.frame m g,
    fun m g _ => (θ_run _ _ _).mono (fun _ h => ⟨fun c => (h c).2.2, sem_eq_zero_of_no_sems rfl _⟩) (Cert.RecallReferenceIdeal.Value.run m g),
    trivial,
    merge_algebraic,
    trivial,
    in_algebraic,
    trivial,
    ffn_algebraic,
    trivial,
    xattn_algebraic,
    trivial,
    down_algebraic,
    trivial,
    up_algebraic,
    trivial,
    out_algebraic,
    trivial,
    query_algebraic,
    trivial,
    pair_algebraic,
    trivial,
    proj_algebraic,
    trivial,
    xo_algebraic,
    trivial,
    rows_algebraic,
    trivial,
    join_algebraic,
    trivial,
    square_algebraic,
    trivial,
    wide_algebraic,
    trivial,
    instep_algebraic,
    trivial,
    ffnstep_algebraic,
    trivial,
    branch_algebraic,
    trivial,
    keys_algebraic,
    trivial,
    cross_algebraic,
    trivial,
    loss_algebraic,
    trivial,
    norm_algebraic,
    trivial,
    memory_algebraic,
    trivial,
    recall_algebraic⟩

end Cert.Proof

end
